-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Combine [hPre_in_rows : Cert.Pre_in_rows.Facts] (m : (ℓ : Loc Cert.Combine.nD Cert.Combine.τ Cert.Combine.sig) → Buf (Elt Bits) ℓ) : Prop :=
  ∀ c : Dev Cert.Combine.nD,
    (Cert.Pre_in_rows.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2))) = (fun _ => 1#1)

def Pre_CombineIdeal [hPre_in_rows : Cert.Pre_in_rows.Facts] (m : (ℓ : Loc Cert.CombineIdeal.nD Cert.CombineIdeal.τ Cert.CombineIdeal.sig) → Buf (Elt Ideal) ℓ) : Prop :=
  ∀ c : Dev Cert.CombineIdeal.nD,
    (Cert.Pre_in_rows.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2))) = (fun _ => 1#1)

def Pre_GatedSumIdeal (m : (ℓ : Loc Cert.GatedSumIdeal.nD Cert.GatedSumIdeal.τ Cert.GatedSumIdeal.sig) → Buf (Elt Ideal) ℓ) : Prop :=
  True

def Pre_GatedSumIdeal_in_rows [hPre_in_rows : Cert.Pre_in_rows.Facts] (m : (ℓ : Loc Cert.GatedSumIdeal.nD Cert.GatedSumIdeal.τ Cert.GatedSumIdeal.sig) → Buf (Elt Ideal) ℓ) : Prop :=
  ∀ c : Dev Cert.GatedSumIdeal.nD,
    (Cert.Pre_in_rows.fn (F := Ideal) (m ((c.tc : Thread Cert.GatedSumIdeal.nD Cert.GatedSumIdeal.τ).loc Cert.GatedSumIdeal.main_arg0)) (m ((c.tc : Thread Cert.GatedSumIdeal.nD Cert.GatedSumIdeal.τ).loc Cert.GatedSumIdeal.main_arg1)) (m ((c.tc : Thread Cert.GatedSumIdeal.nD Cert.GatedSumIdeal.τ).loc Cert.GatedSumIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Combine [hCombine : Cert.Combine.Facts] [hPre_in_rows : Cert.Pre_in_rows.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] [hPre_in_rows : Cert.Pre_in_rows.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_GatedSumIdeal [hGatedSumIdeal : Cert.GatedSumIdeal.Facts] : Prop :=
  ∀ (m : (ℓ : Loc Cert.GatedSumIdeal.nD Cert.GatedSumIdeal.τ Cert.GatedSumIdeal.sig) → Buf (Elt Ideal) ℓ) (g : Dev Cert.GatedSumIdeal.nD → PrngReg), Pre_GatedSumIdeal m →
    θ_run (Cert.GatedSumIdeal.defs (F := Ideal)) (onTc (τ := Cert.GatedSumIdeal.τ) (Cert.GatedSumIdeal.main (F := Ideal))) ⟨m, fun _ => 0, g⟩ (fun r => (∀ c : Dev Cert.GatedSumIdeal.nD,
      r.2.mem ((c.tc : Thread Cert.GatedSumIdeal.nD Cert.GatedSumIdeal.τ).loc Cert.GatedSumIdeal.main_arg0) = m ((c.tc : Thread Cert.GatedSumIdeal.nD Cert.GatedSumIdeal.τ).loc Cert.GatedSumIdeal.main_arg0)
      ∧ r.2.mem ((c.tc : Thread Cert.GatedSumIdeal.nD Cert.GatedSumIdeal.τ).loc Cert.GatedSumIdeal.main_arg1) = m ((c.tc : Thread Cert.GatedSumIdeal.nD Cert.GatedSumIdeal.τ).loc Cert.GatedSumIdeal.main_arg1)
      ∧ r.2.mem ((c.tc : Thread Cert.GatedSumIdeal.nD Cert.GatedSumIdeal.τ).loc Cert.GatedSumIdeal.main_arg2) = m ((c.tc : Thread Cert.GatedSumIdeal.nD Cert.GatedSumIdeal.τ).loc Cert.GatedSumIdeal.main_arg2))
      ∧ r.2.sem = fun _ => 0)

def quiescent_GatedSumIdeal_pre_in_rows [hGatedSumIdeal : Cert.GatedSumIdeal.Facts] [hPre_in_rows : Cert.Pre_in_rows.Facts] : Prop :=
  ∀ (m : (ℓ : Loc Cert.GatedSumIdeal.nD Cert.GatedSumIdeal.τ Cert.GatedSumIdeal.sig) → Buf (Elt Ideal) ℓ) (g : Dev Cert.GatedSumIdeal.nD → PrngReg), Pre_GatedSumIdeal_in_rows m →
    θ_run (Cert.GatedSumIdeal.defs (F := Ideal)) (onTc (τ := Cert.GatedSumIdeal.τ) (Cert.GatedSumIdeal.main (F := Ideal))) ⟨m, fun _ => 0, g⟩ (fun r => (∀ c : Dev Cert.GatedSumIdeal.nD,
      r.2.mem ((c.tc : Thread Cert.GatedSumIdeal.nD Cert.GatedSumIdeal.τ).loc Cert.GatedSumIdeal.main_arg0) = m ((c.tc : Thread Cert.GatedSumIdeal.nD Cert.GatedSumIdeal.τ).loc Cert.GatedSumIdeal.main_arg0)
      ∧ r.2.mem ((c.tc : Thread Cert.GatedSumIdeal.nD Cert.GatedSumIdeal.τ).loc Cert.GatedSumIdeal.main_arg1) = m ((c.tc : Thread Cert.GatedSumIdeal.nD Cert.GatedSumIdeal.τ).loc Cert.GatedSumIdeal.main_arg1)
      ∧ r.2.mem ((c.tc : Thread Cert.GatedSumIdeal.nD Cert.GatedSumIdeal.τ).loc Cert.GatedSumIdeal.main_arg2) = m ((c.tc : Thread Cert.GatedSumIdeal.nD Cert.GatedSumIdeal.τ).loc Cert.GatedSumIdeal.main_arg2))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Combine_CombineIdeal : Prop :=
  True

def algebraic_CombineIdeal_GatedSumIdeal [hCombineIdeal : Cert.CombineIdeal.Facts] [hGatedSumIdeal : Cert.GatedSumIdeal.Facts] [hPre_in_rows : Cert.Pre_in_rows.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.GatedSumIdeal.nD Cert.GatedSumIdeal.τ Cert.GatedSumIdeal.sig) → Buf (Elt Ideal) ℓ) (g' : Dev Cert.GatedSumIdeal.nD → PrngReg), Pre_CombineIdeal m →
    (∀ c : Dev Cert.CombineIdeal.nD,
      m' ((c.tc : Thread Cert.GatedSumIdeal.nD Cert.GatedSumIdeal.τ).loc Cert.GatedSumIdeal.main_arg0) = m ((c.tc : Thread Cert.CombineIdeal.nD Cert.CombineIdeal.τ).loc Cert.CombineIdeal.main_arg0)
      ∧ m' ((c.tc : Thread Cert.GatedSumIdeal.nD Cert.GatedSumIdeal.τ).loc Cert.GatedSumIdeal.main_arg1) = m ((c.tc : Thread Cert.CombineIdeal.nD Cert.CombineIdeal.τ).loc Cert.CombineIdeal.main_arg1)
      ∧ m' ((c.tc : Thread Cert.GatedSumIdeal.nD Cert.GatedSumIdeal.τ).loc Cert.GatedSumIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.GatedSumIdeal.defs (F := Ideal)) (onTc (τ := Cert.GatedSumIdeal.τ) (Cert.GatedSumIdeal.main (F := Ideal))) ⟨m', fun _ => 0, g'⟩ (fun r => ∀ c : Dev Cert.GatedSumIdeal.nD,
          r.2.mem ((c.tc : Thread Cert.GatedSumIdeal.nD Cert.GatedSumIdeal.τ).loc Cert.GatedSumIdeal.main_v39) = v0 c
          ∧ r.2.mem ((c.tc : Thread Cert.GatedSumIdeal.nD Cert.GatedSumIdeal.τ).loc Cert.GatedSumIdeal.main_arg0) = m' ((c.tc : Thread Cert.GatedSumIdeal.nD Cert.GatedSumIdeal.τ).loc Cert.GatedSumIdeal.main_arg0)
          ∧ r.2.mem ((c.tc : Thread Cert.GatedSumIdeal.nD Cert.GatedSumIdeal.τ).loc Cert.GatedSumIdeal.main_arg1) = m' ((c.tc : Thread Cert.GatedSumIdeal.nD Cert.GatedSumIdeal.τ).loc Cert.GatedSumIdeal.main_arg1)
          ∧ r.2.mem ((c.tc : Thread Cert.GatedSumIdeal.nD Cert.GatedSumIdeal.τ).loc Cert.GatedSumIdeal.main_arg2) = m' ((c.tc : Thread Cert.GatedSumIdeal.nD Cert.GatedSumIdeal.τ).loc Cert.GatedSumIdeal.main_arg2))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hGatedSumIdeal : Cert.GatedSumIdeal.Facts) (hPre_in_range : Cert.Pre_in_range.Facts) (hPre_routed : Cert.Pre_routed.Facts) (hPre_in_rows : Cert.Pre_in_rows.Facts),
    quiescent_Kernel (hKernel := hKernel) (hPre_in_range := hPre_in_range)
    ∧ quiescent_KernelIdeal (hKernelIdeal := hKernelIdeal) (hPre_in_range := hPre_in_range)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Combine (hCombine := hCombine) (hPre_in_rows := hPre_in_rows)
    ∧ quiescent_CombineIdeal (hCombineIdeal := hCombineIdeal) (hPre_in_rows := hPre_in_rows)
    ∧ quiescent_GatedSumIdeal (hGatedSumIdeal := hGatedSumIdeal)
    ∧ quiescent_GatedSumIdeal_pre_in_rows (hGatedSumIdeal := hGatedSumIdeal) (hPre_in_rows := hPre_in_rows)
    ∧ preserves_Kernel_KernelIdeal
    ∧ algebraic_KernelIdeal_ReferenceIdeal_pre_routed (hKernelIdeal := hKernelIdeal) (hReferenceIdeal := hReferenceIdeal) (hPre_routed := hPre_routed)
    ∧ preserves_Combine_CombineIdeal
    ∧ algebraic_CombineIdeal_GatedSumIdeal (hCombineIdeal := hCombineIdeal) (hGatedSumIdeal := hGatedSumIdeal) (hPre_in_rows := hPre_in_rows)
-- ==== Pre_in_range.lean ====
abbrev S8x144 : Shape := ⟨2, ![8, 144]⟩
abbrev S294912x128 : Shape := ⟨2, ![294912, 128]⟩
abbrev S16x2816x5632 : Shape := ⟨3, ![16, 2816, 5632]⟩
abbrev S16x5632 : Shape := ⟨2, ![16, 5632]⟩
abbrev S16x2816x2816 : Shape := ⟨3, ![16, 2816, 2816]⟩
abbrev S16x2816 : Shape := ⟨2, ![16, 2816]⟩
abbrev S1x144 : Shape := ⟨2, ![1, 144]⟩
abbrev S144 : Shape := ⟨1, ![144]⟩
abbrev S_ : Shape := ⟨0, ![]⟩

class Facts : Prop where
  slices_S8x144_S1x144_0_0 : S8x144.Slices ![0, 0] S1x144
  shapeCasts_S1x144_S144 : S1x144.ShapeCasts S144
  bcast_S_S144 : S_.BroadcastsInDim S144 (![] : Fin 0 → Fin S144.rank)
  slices_S8x144_S1x144_1_0 : S8x144.Slices ![1, 0] S1x144

variable [Facts]

def fn {F : FTy → Type} [FloatOps F] (main_arg0 : IVec S8x144 32) (main_arg1 : IVec S294912x128 32) (main_arg2 : FVec F S16x2816x5632 .fp8e4m3) (main_arg3 : FVec F S16x5632 .f32) (main_arg4 : FVec F S16x2816x2816 .fp8e4m3) (main_arg5 : FVec F S16x2816 .f32) : IVec S144 1 × IVec S144 1 :=
  let main_v0 : IVec S1x144 32 := (extractStridedSlice S1x144 ![0, 0] · slices_S8x144_S1x144_0_0) main_arg0
  let main_v1 : IVec S144 32 := shapeCast S144 main_v0 shapeCasts_S1x144_S144
  let main_c : IVec S_ 32 := constantI S_ 32 0#32
  let main_v2 : IVec S144 32 := broadcastInDim S144 ![] bcast_S_S144 main_c
  let main_v3 : IVec S144 1 := cmpi .sge main_v1 main_v2
  let main_v4 : IVec S1x144 32 := (extractStridedSlice S1x144 ![0, 0] · slices_S8x144_S1x144_0_0) main_arg0
  let main_v5 : IVec S144 32 := shapeCast S144 main_v4 shapeCasts_S1x144_S144
  let main_c_0 : IVec S_ 32 := constantI S_ 32 16#32
  let main_v6 : IVec S144 32 := broadcastInDim S144 ![] bcast_S_S144 main_c_0
  let main_v7 : IVec S144 1 := cmpi .slt main_v5 main_v6
  let main_v8 : IVec S144 1 := andi main_v3 main_v7
  let main_v9 : IVec S1x144 32 := (extractStridedSlice S1x144 ![1, 0] · slices_S8x144_S1x144_1_0) main_arg0
  let main_v10 : IVec S144 32 := shapeCast S144 main_v9 shapeCasts_S1x144_S144
  let main_c_1 : IVec S_ 32 := constantI S_ 32 0#32
  let main_v11 : IVec S144 32 := broadcastInDim S144 ![] bcast_S_S144 main_c_1
  let main_v12 : IVec S144 1 := cmpi .sge main_v10 main_v11
  let main_v13 : IVec S1x144 32 := (extractStridedSlice S1x144 ![1, 0] · slices_S8x144_S1x144_1_0) main_arg0
  let main_v14 : IVec S144 32 := shapeCast S144 main_v13 shapeCasts_S1x144_S144
  let main_c_2 : IVec S_ 32 := constantI S_ 32 144#32
  let main_v15 : IVec S144 32 := broadcastInDim S144 ![] bcast_S_S144 main_c_2
  let main_v16 : IVec S144 1 := cmpi .slt main_v14 main_v15
  let main_v17 : IVec S144 1 := andi main_v12 main_v16
  (main_v8, main_v17)
-- ==== Pre_in_rows.lean ====
abbrev S4x8192 : Shape := ⟨2, ![4, 8192]⟩
abbrev S8x8192 : Shape := ⟨2, ![8, 8192]⟩
abbrev S884736x128 : Shape := ⟨2, ![884736, 128]⟩
abbrev S_ : Shape := ⟨0, ![]⟩

class Facts : Prop where
  bcast_S_S4x8192 : S_.BroadcastsInDim S4x8192 (![] : Fin 0 → Fin S4x8192.rank)

variable [Facts]

def fn {F : FTy → Type} [FloatOps F] (main_arg0 : IVec S4x8192 32) (main_arg1 : FVec F S8x8192 .f32) (main_arg2 : FVec F S884736x128 .f32) : IVec S4x8192 1 :=
  let main_c : IVec S_ 32 := constantI S_ 32 0#32
  let main_v0 : IVec S4x8192 32 := broadcastInDim S4x8192 ![] bcast_S_S4x8192 main_c
  let main_v1 : IVec S4x8192 1 := cmpi .sge main_arg0 main_v0
  let main_c_0 : IVec S_ 32 := constantI S_ 32 36864#32
  let main_v2 : IVec S4x8192 32 := broadcastInDim S4x8192 ![] bcast_S_S4x8192 main_c_0
  let main_v3 : IVec S4x8192 1 := cmpi .slt main_arg0 main_v2
  let main_v4 : IVec S4x8192 1 := andi main_v1 main_v3
  main_v4
-- ==== Pre_routed.lean ====
abbrev S8x144 : Shape := ⟨2, ![8, 144]⟩
abbrev S294912x128 : Shape := ⟨2, ![294912, 128]⟩
abbrev S16x2816x5632 : Shape := ⟨3, ![16, 2816, 5632]⟩
abbrev S16x5632 : Shape := ⟨2, ![16, 5632]⟩
abbrev S16x2816x2816 : Shape := ⟨3, ![16, 2816, 2816]⟩
abbrev S16x2816 : Shape := ⟨2, ![16, 2816]⟩
abbrev S144 : Shape := ⟨1, ![144]⟩
abbrev S1x144 : Shape := ⟨2, ![1, 144]⟩
abbrev S_ : Shape := ⟨0, ![]⟩
abbrev S1x1 : Shape := ⟨2, ![1, 1]⟩

class Facts : Prop where
  slices_S8x144_S1x144_0_0 : S8x144.Slices ![0, 0] S1x144
  shapeCasts_S1x144_S144 : S1x144.ShapeCasts S144
  bcast_S_S144 : S_.BroadcastsInDim S144 (![] : Fin 0 → Fin S144.rank)
  slices_S8x144_S1x144_1_0 : S8x144.Slices ![1, 0] S1x144
  slices_S8x144_S1x1_2_0 : S8x144.Slices ![2, 0] S1x1
  shapeCasts_S1x1_S_ : S1x1.ShapeCasts S_

variable [Facts]

def fn_part1 {F : FTy → Type} [FloatOps F] (main_arg0 : IVec S8x144 32) (main_v0 : IVec S144 32) (main_v9 : IVec S144 1) (main_v18 : IVec S144 1) (main_v19 : IVec S1x144 32) : IVec S144 1 × IVec S144 1 × IVec S144 1 :=
  let main_v20 : IVec S144 32 := shapeCast S144 main_v19 shapeCasts_S1x144_S144
  let main_v21 : IVec S144 1 := cmpi .eq main_v20 main_v0
  let main_v22 : IVec S1x1 32 := (extractStridedSlice S1x1 ![2, 0] · slices_S8x144_S1x1_2_0) main_arg0
  let main_v23 : IVec S_ 32 := shapeCast S_ main_v22 shapeCasts_S1x1_S_
  let main_v24 : IVec S144 32 := broadcastInDim S144 ![] bcast_S_S144 main_v23
  let main_v25 : IVec S144 1 := cmpi .sge main_v0 main_v24
  let main_v26 : IVec S144 1 := ori main_v21 main_v25
  (main_v9, main_v18, main_v26)

def fn {F : FTy → Type} [FloatOps F] (main_arg0 : IVec S8x144 32) (main_arg1 : IVec S294912x128 32) (main_arg2 : FVec F S16x2816x5632 .fp8e4m3) (main_arg3 : FVec F S16x5632 .f32) (main_arg4 : FVec F S16x2816x2816 .fp8e4m3) (main_arg5 : FVec F S16x2816 .f32) : IVec S144 1 × IVec S144 1 × IVec S144 1 :=
  let main_v0 : IVec S144 32 := iotaInDim S144 32 0
  let main_v1 : IVec S1x144 32 := (extractStridedSlice S1x144 ![0, 0] · slices_S8x144_S1x144_0_0) main_arg0
  let main_v2 : IVec S144 32 := shapeCast S144 main_v1 shapeCasts_S1x144_S144
  let main_c : IVec S_ 32 := constantI S_ 32 0#32
  let main_v3 : IVec S144 32 := broadcastInDim S144 ![] bcast_S_S144 main_c
  let main_v4 : IVec S144 1 := cmpi .sge main_v2 main_v3
  let main_v5 : IVec S1x144 32 := (extractStridedSlice S1x144 ![0, 0] · slices_S8x144_S1x144_0_0) main_arg0
  let main_v6 : IVec S144 32 := shapeCast S144 main_v5 shapeCasts_S1x144_S144
  let main_c_0 : IVec S_ 32 := constantI S_ 32 16#32
  let main_v7 : IVec S144 32 := broadcastInDim S144 ![] bcast_S_S144 main_c_0
  let main_v8 : IVec S144 1 := cmpi .slt main_v6 main_v7
  let main_v9 : IVec S144 1 := andi main_v4 main_v8
  let main_v10 : IVec S1x144 32 := (extractStridedSlice S1x144 ![1, 0] · slices_S8x144_S1x144_1_0) main_arg0
  let main_v11 : IVec S144 32 := shapeCast S144 main_v10 shapeCasts_S1x144_S144
  let main_c_1 : IVec S_ 32 := constantI S_ 32 0#32
  let main_v12 : IVec S144 32 := broadcastInDim S144 ![] bcast_S_S144 main_c_1
  let main_v13 : IVec S144 1 := cmpi .sge main_v11 main_v12
  let main_v14 : IVec S1x144 32 := (extractStridedSlice S1x144 ![1, 0] · slices_S8x144_S1x144_1_0) main_arg0
  let main_v15 : IVec S144 32 := shapeCast S144 main_v14 shapeCasts_S1x144_S144
  let main_c_2 : IVec S_ 32 := constantI S_ 32 144#32
  let main_v16 : IVec S144 32 := broadcastInDim S144 ![] bcast_S_S144 main_c_2
  let main_v17 : IVec S144 1 := cmpi .slt main_v15 main_v16
  let main_v18 : IVec S144 1 := andi main_v13 main_v17
  let main_v19 : IVec S1x144 32 := (extractStridedSlice S1x144 ![1, 0] · slices_S8x144_S1x144_1_0) main_arg0
  fn_part1 (F := F) main_arg0 main_v0 main_v9 main_v18 main_v19
-- ==== Kernel.lean ====
abbrev S8x144 : Shape := ⟨2, ![8, 144]⟩
abbrev S294912x128 : Shape := ⟨2, ![294912, 128]⟩
abbrev S16x2816x5632 : Shape := ⟨3, ![16, 2816, 5632]⟩
abbrev S16x5632 : Shape := ⟨2, ![16, 5632]⟩
abbrev S16x2816x2816 : Shape := ⟨3, ![16, 2816, 2816]⟩
abbrev S16x2816 : Shape := ⟨2, ![16, 2816]⟩
abbrev S16x1x5632 : Shape := ⟨3, ![16, 1, 5632]⟩
abbrev S16x1x2816 : Shape := ⟨3, ![16, 1, 2816]⟩
abbrev S884736x128 : Shape := ⟨2, ![884736, 128]⟩
abbrev S2048x128 : Shape := ⟨2, ![2048, 128]⟩
abbrev S1x1 : Shape := ⟨2, ![1, 1]⟩
abbrev S1x2816x5632 : Shape := ⟨3, ![1, 2816, 5632]⟩
abbrev S1x1x5632 : Shape := ⟨3, ![1, 1, 5632]⟩
abbrev S1x2816x2816 : Shape := ⟨3, ![1, 2816, 2816]⟩
abbrev S1x1x2816 : Shape := ⟨3, ![1, 1, 2816]⟩
abbrev S6144x128 : Shape := ⟨2, ![6144, 128]⟩
abbrev S256x2816 : Shape := ⟨2, ![256, 2816]⟩
abbrev S256x128 : Shape := ⟨2, ![256, 128]⟩
abbrev S256x256 : Shape := ⟨2, ![256, 256]⟩
abbrev S1x2816x256 : Shape := ⟨3, ![1, 2816, 256]⟩
abbrev S2816x256 : Shape := ⟨2, ![2816, 256]⟩
abbrev S1x1x256 : Shape := ⟨3, ![1, 1, 256]⟩
abbrev S1x256 : Shape := ⟨2, ![1, 256]⟩
abbrev S256 : Shape := ⟨1, ![256]⟩
abbrev S256x1 : Shape := ⟨2, ![256, 1]⟩

abbrev nBuf : Space → Nat
  | .hbm => 8
  | .vmem => 17
  | .smem => 1
  | _ => 0

abbrev bufTy : (tb : Table) → Fin (tcTables nBuf tb) → BufTy
  | .hbm, ⟨0, _⟩ => ⟨S294912x128, .i32⟩
  | .hbm, ⟨1, _⟩ => ⟨S16x2816x5632, .fp8e4m3⟩
  | .hbm, ⟨2, _⟩ => ⟨S16x5632, .f32⟩
  | .hbm, ⟨3, _⟩ => ⟨S16x2816x2816, .fp8e4m3⟩
  | .hbm, ⟨4, _⟩ => ⟨S16x2816, .f32⟩
  | .hbm, ⟨5, _⟩ => ⟨S16x1x5632, .f32⟩
  | .hbm, ⟨6, _⟩ => ⟨S16x1x2816, .f32⟩
  | .hbm, ⟨7, _⟩ => ⟨S884736x128, .f32⟩
  | .local _ .vmem, ⟨0, _⟩ => ⟨S2048x128, .i32⟩
  | .local _ .vmem, ⟨1, _⟩ => ⟨S2048x128, .i32⟩
  | .local _ .vmem, ⟨2, _⟩ => ⟨S1x2816x5632, .fp8e4m3⟩
  | .local _ .vmem, ⟨3, _⟩ => ⟨S1x2816x5632, .fp8e4m3⟩
  | .local _ .vmem, ⟨4, _⟩ => ⟨S1x1x5632, .f32⟩
  | .local _ .vmem, ⟨5, _⟩ => ⟨S1x1x5632, .f32⟩
  | .local _ .vmem, ⟨6, _⟩ => ⟨S1x2816x2816, .fp8e4m3⟩
  | .local _ .vmem, ⟨7, _⟩ => ⟨S1x2816x2816, .fp8e4m3⟩
  | .local _ .vmem, ⟨8, _⟩ => ⟨S1x1x2816, .f32⟩
  | .local _ .vmem, ⟨9, _⟩ => ⟨S1x1x2816, .f32⟩
  | .local _ .vmem, ⟨10, _⟩ => ⟨S6144x128, .f32⟩
  | .local _ .vmem, ⟨11, _⟩ => ⟨S6144x128, .f32⟩
  | .local _ .vmem, ⟨12, _⟩ => ⟨S256x2816, .fp8e4m3⟩
  | .local _ .vmem, ⟨13, _⟩ => ⟨S256x128, .f32⟩
  | .local _ .vmem, ⟨14, _⟩ => ⟨S256x2816, .f32⟩
  | .local _ .vmem, ⟨15, _⟩ => ⟨S256x2816, .fp8e4m3⟩
  | .local _ .vmem, ⟨16, _⟩ => ⟨S256x128, .f32⟩
  | .local _ .smem, ⟨0, _⟩ => ⟨S8x144, .i32⟩
  | _, _ => ⟨S294912x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![144], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c1 : Index := 1#32
  let arg0 : BitVec 32 := BitVec.ofNat 32 (i 0).val
  let v0 : Index := Scalar.indexCast arg0
  ![1, v0.toNat]
def k0_off2 (i : grid0.Coords) : Fin 2 → Nat :=
  let c0 : Index := 0#32
  let arg0 : BitVec 32 := BitVec.ofNat 32 (i 0).val
  let v0 : Index := Scalar.indexCast arg0
  ![0, v0.toNat]
def k0_cond1 (i : grid0.Coords) (v0 : BitVec 32) : BitVec 1 :=
  let arg0 : BitVec 32 := BitVec.ofNat 32 (i 0).val
  let v1 : BitVec 1 := Scalar.cmpi .sge arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .slt arg0 v4
  let v6 : BitVec 32 := Scalar.extui v5
  let c0_i32_2 : BitVec 32 := 0#32
  let v7 : BitVec 1 := Scalar.cmpi .ne v6 c0_i32_2
  v7

def cc0_transform_0 (k0_off1_inb : ∀ i : grid0.Coords, ∀ a, (k0_off1 i) a + S1x1.size a ≤ S8x144.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S8x144) ![1, v0.toNat] S1x1.size (k0_off1_inb i)) numel1_S1x1
  let c0_i32 : BitVec 32 := 0#32
  let c0_i32_0 : BitVec 32 := 0#32
  ![v1.toNat, c0_i32.toNat]

def cc0_transform_1 (k0_off2_inb : ∀ i : grid0.Coords, ∀ a, (k0_off2 i) a + S1x1.size a ≤ S8x144.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S8x144) ![0, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off2_inb : ∀ i : grid0.Coords, ∀ a, (k0_off2 i) a + S1x1.size a ≤ S8x144.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S8x144) ![0, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off2_inb : ∀ i : grid0.Coords, ∀ a, (k0_off2 i) a + S1x1.size a ≤ S8x144.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S8x144) ![0, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off2_inb : ∀ i : grid0.Coords, ∀ a, (k0_off2 i) a + S1x1.size a ≤ S8x144.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S8x144) ![0, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2816x5632 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x2816 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6144x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x144 : Shape := ⟨2, ![8, 144]⟩
abbrev S294912x128 : Shape := ⟨2, ![294912, 128]⟩
abbrev S16x2816x5632 : Shape := ⟨3, ![16, 2816, 5632]⟩
abbrev S16x5632 : Shape := ⟨2, ![16, 5632]⟩
abbrev S16x2816x2816 : Shape := ⟨3, ![16, 2816, 2816]⟩
abbrev S16x2816 : Shape := ⟨2, ![16, 2816]⟩
abbrev S36864x8x1x128 : Shape := ⟨4, ![36864, 8, 1, 128]⟩
abbrev S1x1x4x1 : Shape := ⟨4, ![1, 1, 4, 1]⟩
abbrev S_ : Shape := ⟨0, ![]⟩
abbrev S36864x8x4x128 : Shape := ⟨4, ![36864, 8, 4, 128]⟩
abbrev S36864x4096 : Shape := ⟨2, ![36864, 4096]⟩
abbrev S36864x2816 : Shape := ⟨2, ![36864, 2816]⟩
abbrev S36864x128 : Shape := ⟨2, ![36864, 128]⟩
abbrev S36864x1x128 : Shape := ⟨3, ![36864, 1, 128]⟩
abbrev S36864x44x128 : Shape := ⟨3, ![36864, 44, 128]⟩
abbrev S36864x5632 : Shape := ⟨2, ![36864, 5632]⟩
abbrev S144x256 : Shape := ⟨2, ![144, 256]⟩
abbrev S1x1 : Shape := ⟨2, ![1, 1]⟩
abbrev S1x144 : Shape := ⟨2, ![1, 144]⟩
abbrev S144 : Shape := ⟨1, ![144]⟩
abbrev S144x1 : Shape := ⟨2, ![144, 1]⟩
abbrev S36864x1 : Shape := ⟨2, ![36864, 1]⟩
abbrev S884736x128 : Shape := ⟨2, ![884736, 128]⟩
abbrev S1x2816x5632 : Shape := ⟨3, ![1, 2816, 5632]⟩
abbrev S2816x5632 : Shape := ⟨2, ![2816, 5632]⟩
abbrev S1x5632 : Shape := ⟨2, ![1, 5632]⟩
abbrev S36864 : Shape := ⟨1, ![36864]⟩
abbrev S1x2816x2816 : Shape := ⟨3, ![1, 2816, 2816]⟩
abbrev S2816x2816 : Shape := ⟨2, ![2816, 2816]⟩
abbrev S1x2816 : Shape := ⟨2, ![1, 2816]⟩
abbrev S36864x256 : Shape := ⟨2, ![36864, 256]⟩
abbrev S36864x3072 : Shape := ⟨2, ![36864, 3072]⟩

abbrev nBuf : Space → Nat
  | .hbm => 42
  | .vmem => 8
  | .smem => 0
  | _ => 0

abbrev bufTy : (tb : Table) → Fin (tcTables nBuf tb) → BufTy
  | .hbm, ⟨0, _⟩ => ⟨S8x144, .i32⟩
  | .hbm, ⟨1, _⟩ => ⟨S294912x128, .i32⟩
  | .hbm, ⟨2, _⟩ => ⟨S16x2816x5632, .fp8e4m3⟩
  | .hbm, ⟨3, _⟩ => ⟨S16x5632, .f32⟩
  | .hbm, ⟨4, _⟩ => ⟨S16x2816x2816, .fp8e4m3⟩
  | .hbm, ⟨5, _⟩ => ⟨S16x2816, .f32⟩
  | .hbm, ⟨6, _⟩ => ⟨S36864x8x1x128, .i32⟩
  | .hbm, ⟨7, _⟩ => ⟨S1x1x4x1, .i32⟩
  | .hbm, ⟨8, _⟩ => ⟨S_, .i32⟩
  | .hbm, ⟨9, _⟩ => ⟨S1x1x4x1, .i32⟩
  | .hbm, ⟨10, _⟩ => ⟨S1x1x4x1, .i32⟩
  | .hbm, ⟨11, _⟩ => ⟨S36864x8x4x128, .i32⟩
  | .hbm, ⟨12, _⟩ => ⟨S36864x8x4x128, .i32⟩
  | .hbm, ⟨13, _⟩ => ⟨S36864x8x4x128, .i32⟩
  | .hbm, ⟨14, _⟩ => ⟨S_, .i32⟩
  | .hbm, ⟨15, _⟩ => ⟨S36864x8x4x128, .i32⟩
  | .hbm, ⟨16, _⟩ => ⟨S36864x8x4x128, .i32⟩
  | .hbm, ⟨17, _⟩ => ⟨S36864x4096, .i32⟩
  | .hbm, ⟨18, _⟩ => ⟨S36864x2816, .i32⟩
  | .hbm, ⟨19, _⟩ => ⟨S36864x2816, .i8⟩
  | .hbm, ⟨20, _⟩ => ⟨S36864x128, .i32⟩
  | .hbm, ⟨21, _⟩ => ⟨S_, .i32⟩
  | .hbm, ⟨22, _⟩ => ⟨S36864x128, .i32⟩
  | .hbm, ⟨23, _⟩ => ⟨S36864x128, .i32⟩
  | .hbm, ⟨24, _⟩ => ⟨S36864x1x128, .i32⟩
  | .hbm, ⟨25, _⟩ => ⟨S36864x44x128, .i32⟩
  | .hbm, ⟨26, _⟩ => ⟨S36864x5632, .i32⟩
  | .hbm, ⟨27, _⟩ => ⟨S144x256, .i32⟩
  | .hbm, ⟨28, _⟩ => ⟨S1x1, .i32⟩
  | .hbm, ⟨29, _⟩ => ⟨S_, .i32⟩
  | .hbm, ⟨30, _⟩ => ⟨S144x256, .i32⟩
  | .hbm, ⟨31, _⟩ => ⟨S144x256, .i1⟩
  | .hbm, ⟨32, _⟩ => ⟨S1x144, .i32⟩
  | .hbm, ⟨33, _⟩ => ⟨S144, .i32⟩
  | .hbm, ⟨34, _⟩ => ⟨S144x1, .i32⟩
  | .hbm, ⟨35, _⟩ => ⟨S144x256, .i32⟩
  | .hbm, ⟨36, _⟩ => ⟨S_, .i32⟩
  | .hbm, ⟨37, _⟩ => ⟨S_, .i32⟩
  | .hbm, ⟨38, _⟩ => ⟨S144x256, .i32⟩
  | .hbm, ⟨39, _⟩ => ⟨S144x256, .i32⟩
  | .hbm, ⟨40, _⟩ => ⟨S36864x1, .i32⟩
  | .hbm, ⟨41, _⟩ => ⟨S884736x128, .f32⟩
  | .local _ .vmem, ⟨0, _⟩ => ⟨S36864x2816, .i8⟩
  | .local _ .vmem, ⟨1, _⟩ => ⟨S36864x5632, .i32⟩
  | .local _ .vmem, ⟨2, _⟩ => ⟨S36864x1, .i32⟩
  | .local _ .vmem, ⟨3, _⟩ => ⟨S16x2816x5632, .fp8e4m3⟩
  | .local _ .vmem, ⟨4, _⟩ => ⟨S16x5632, .f32⟩
  | .local _ .vmem, ⟨5, _⟩ => ⟨S16x2816x2816, .fp8e4m3⟩
  | .local _ .vmem, ⟨6, _⟩ => ⟨S16x2816, .f32⟩
  | .local _ .vmem, ⟨7, _⟩ => ⟨S884736x128, .f32⟩
  | _, _ => ⟨S8x144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_call0_v0 : Ref sig .tc := ⟨.hbm, 37, rfl⟩
abbrev main_call0_v1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S36864x2816 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36864x5632 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36864x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2816x5632 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x2816x2816 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S884736x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Combine.lean ====
abbrev S4x8192 : Shape := ⟨2, ![4, 8192]⟩
abbrev S8x8192 : Shape := ⟨2, ![8, 8192]⟩
abbrev S884736x128 : Shape := ⟨2, ![884736, 128]⟩
abbrev S8192x2816 : Shape := ⟨2, ![8192, 2816]⟩
abbrev S8x128 : Shape := ⟨2, ![8, 128]⟩
abbrev S128x2816 : Shape := ⟨2, ![128, 2816]⟩
abbrev S24576x128 : Shape := ⟨2, ![24576, 128]⟩
abbrev S2 : Shape := ⟨1, ![2]⟩
abbrev S1x1 : Shape := ⟨2, ![1, 1]⟩
abbrev S1 : Shape := ⟨1, ![1]⟩
abbrev S_ : Shape := ⟨0, ![]⟩
abbrev S24x128 : Shape := ⟨2, ![24, 128]⟩
abbrev S12288x128 : Shape := ⟨2, ![12288, 128]⟩
abbrev S128x8 : Shape := ⟨2, ![128, 8]⟩
abbrev S128x1 : Shape := ⟨2, ![128, 1]⟩
abbrev S128x128 : Shape := ⟨2, ![128, 128]⟩

abbrev nBuf : Space → Nat
  | .hbm => 3
  | .vmem => 5
  | .smem => 1
  | _ => 0

abbrev bufTy : (tb : Table) → Fin (tcTables nBuf tb) → BufTy
  | .hbm, ⟨0, _⟩ => ⟨S8x8192, .f32⟩
  | .hbm, ⟨1, _⟩ => ⟨S884736x128, .f32⟩
  | .hbm, ⟨2, _⟩ => ⟨S8192x2816, .bf16⟩
  | .local _ .vmem, ⟨0, _⟩ => ⟨S8x128, .f32⟩
  | .local _ .vmem, ⟨1, _⟩ => ⟨S8x128, .f32⟩
  | .local _ .vmem, ⟨2, _⟩ => ⟨S128x2816, .bf16⟩
  | .local _ .vmem, ⟨3, _⟩ => ⟨S128x2816, .bf16⟩
  | .local _ .vmem, ⟨4, _⟩ => ⟨S24576x128, .f32⟩
  | .local _ .smem, ⟨0, _⟩ => ⟨S4x8192, .i32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_272 : BitVec 32 := 0#32
  let c128_i32 : BitVec 32 := 128#32
  let v578 : BitVec 32 := Scalar.addi c0_i32_272 c128_i32
  let c1_i32_273 : BitVec 32 := 1#32
  ⟨c0_i32_272, v578, c1_i32_273⟩
def k0_off1 (i : grid0.Coords) (k0_t1 : Fin k0_t1_loop.trips) : Fin 2 → Nat :=
  let c0_278 : Index := 0#32
  let arg0 : BitVec 32 := BitVec.ofNat 32 (i 0).val
  let c128_i32_277 : BitVec 32 := 128#32
  let v581 : BitVec 32 := Scalar.muli arg0 c128_i32_277
  let c0_i32_276 : BitVec 32 := 0#32
  let c0_i32_272 : BitVec 32 := 0#32
  let c1_i32_273 : BitVec 32 := 1#32
  let arg7 : BitVec 32 := Scf.iv c0_i32_272 c1_i32_273 k0_t1
  let c1_i32_275 : BitVec 32 := 1#32
  let v579 : BitVec 32 := Scalar.muli arg7 c1_i32_275
  let v580 : BitVec 32 := Scalar.addi c0_i32_276 v579
  let v582 : BitVec 32 := Scalar.addi v581 v580
  let v583 : Index := Scalar.indexCast v582
  ![0, v583.toNat]
def k0_off2 (i : grid0.Coords) : Fin 1 → Nat :=
  let arg0 : BitVec 32 := BitVec.ofNat 32 (i 0).val
  let c2_i32_271 : BitVec 32 := 2#32
  let v577 : BitVec 32 := Scalar.remsi arg0 c2_i32_271
  ![v577.toNat]
def k0_off3 (i : grid0.Coords) (k0_t1 : Fin k0_t1_loop.trips) : Fin 2 → Nat :=
  let arg0 : BitVec 32 := BitVec.ofNat 32 (i 0).val
  let c2_i32_271 : BitVec 32 := 2#32
  let v577 : BitVec 32 := Scalar.remsi arg0 c2_i32_271
  let c12288_i32_279 : BitVec 32 := 12288#32
  let v586 : BitVec 32 := Scalar.muli v577 c12288_i32_279
  let c0_i32_280 : BitVec 32 := 0#32
  let c0_i32_276 : BitVec 32 := 0#32
  let c0_i32_272 : BitVec 32 := 0#32
  let c1_i32_273 : BitVec 32 := 1#32
  let arg7 : BitVec 32 := Scf.iv c0_i32_272 c1_i32_273 k0_t1
  let c1_i32_275 : BitVec 32 := 1#32
  let v579 : BitVec 32 := Scalar.muli arg7 c1_i32_275
  let v580 : BitVec 32 := Scalar.addi c0_i32_276 v579
  let v587 : BitVec 32 := Scalar.addi c0_i32_280 v580
  let c24_i32_281 : BitVec 32 := 24#32
  let v588 : BitVec 32 := Scalar.muli v587 c24_i32_281
  let v589 : BitVec 32 := Scalar.addi v586 v588
  let c0_i32_282 : BitVec 32 := 0#32
  ![v589.toNat, 0]
def k0_off4 (v584 : BitVec 32) : Fin 2 → Nat :=
  let c24_i32 : BitVec 32 := 24#32
  let v585 : BitVec 32 := Scalar.muli v584 c24_i32
  let c0_i32_283 : BitVec 32 := 0#32
  ![v585.toNat, 0]

def k0_chk1 (i : grid0.Coords) (v584 : BitVec 32) : Prop :=
  (∀ (k0_h1 : k0_cond1 i = 1#1), ∀ a, (k0_off4 v584) a + S24x128.size a ≤ S884736x128.size a)
theorem k0_off4_inb : ∀ (i : grid0.Coords) (v584 : BitVec 32) (k0_hw1 : k0_chk1 i v584), ∀ (k0_h1 : k0_cond1 i = 1#1), ∀ a, (k0_off4 v584) a + S24x128.size a ≤ S884736x128.size a := fun i v584 k0_hw1 k0_h1 => k0_hw1 k0_h1

def k0_off5 (i : grid0.Coords) (k0_t1 : Fin k0_t1_loop.trips) : Fin 2 → Nat :=
  let c1 : Index := 1#32
  let arg0 : BitVec 32 := BitVec.ofNat 32 (i 0).val
  let c128_i32_284 : BitVec 32 := 128#32
  let v594 : BitVec 32 := Scalar.muli arg0 c128_i32_284
  let c0_i32_276 : BitVec 32 := 0#32
  let c0_i32_272 : BitVec 32 := 0#32
  let c1_i32_273 : BitVec 32 := 1#32
  let arg7 : BitVec 32 := Scf.iv c0_i32_272 c1_i32_273 k0_t1
  let c1_i32_275 : BitVec 32 := 1#32
  let v579 : BitVec 32 := Scalar.muli arg7 c1_i32_275
  let v580 : BitVec 32 := Scalar.addi c0_i32_276 v579
  let v595 : BitVec 32 := Scalar.addi v594 v580
  let v596 : Index := Scalar.indexCast v595
  ![1, v596.toNat]
def k0_off6 (i : grid0.Coords) : Fin 1 → Nat :=
  let arg0 : BitVec 32 := BitVec.ofNat 32 (i 0).val
  let c2_i32_271 : BitVec 32 := 2#32
  let v577 : BitVec 32 := Scalar.remsi arg0 c2_i32_271
  ![v577.toNat]
def k0_off7 (i : grid0.Coords) (k0_t1 : Fin k0_t1_loop.trips) : Fin 2 → Nat :=
  let arg0 : BitVec 32 := BitVec.ofNat 32 (i 0).val
  let c2_i32_271 : BitVec 32 := 2#32
  let v577 : BitVec 32 := Scalar.remsi arg0 c2_i32_271
  let c12288_i32_286 : BitVec 32 := 12288#32
  let v599 : BitVec 32 := Scalar.muli v577 c12288_i32_286
  let c128_i32_287 : BitVec 32 := 128#32
  let c0_i32_276 : BitVec 32 := 0#32
  let c0_i32_272 : BitVec 32 := 0#32
  let c1_i32_273 : BitVec 32 := 1#32
  let arg7 : BitVec 32 := Scf.iv c0_i32_272 c1_i32_273 k0_t1
  let c1_i32_275 : BitVec 32 := 1#32
  let v579 : BitVec 32 := Scalar.muli arg7 c1_i32_275
  let v580 : BitVec 32 := Scalar.addi c0_i32_276 v579
  let v600 : BitVec 32 := Scalar.addi c128_i32_287 v580
  let c24_i32_288 : BitVec 32 := 24#32
  let v601 : BitVec 32 := Scalar.muli v600 c24_i32_288
  let v602 : BitVec 32 := Scalar.addi v599 v601
  let c0_i32_289 : BitVec 32 := 0#32
  ![v602.toNat, 0]
def k0_off8 (v597 : BitVec 32) : Fin 2 → Nat :=
  let c24_i32_285 : BitVec 32 := 24#32
  let v598 : BitVec 32 := Scalar.muli v597 c24_i32_285
  let c0_i32_290 : BitVec 32 := 0#32
  ![v598.toNat, 0]

def k0_chk2 (i : grid0.Coords) (v597 : BitVec 32) : Prop :=
  (∀ (k0_h1 : k0_cond1 i = 1#1), ∀ a, (k0_off8 v597) a + S24x128.size a ≤ S884736x128.size a)
theorem k0_off8_inb : ∀ (i : grid0.Coords) (v597 : BitVec 32) (k0_hw2 : k0_chk2 i v597), ∀ (k0_h1 : k0_cond1 i = 1#1), ∀ a, (k0_off8 v597) a + S24x128.size a ≤ S884736x128.size a := fun i v597 k0_hw2 k0_h1 => k0_hw2 k0_h1

def k0_off9 (i : grid0.Coords) (k0_t1 : Fin k0_t1_loop.trips) : Fin 2 → Nat :=
  let c2 : Index := 2#32
  let arg0 : BitVec 32 := BitVec.ofNat 32 (i 0).val
  let c128_i32_291 : BitVec 32 := 128#32
  let v607 : BitVec 32 := Scalar.muli arg0 c128_i32_291
  let c0_i32_276 : BitVec 32 := 0#32
  let c0_i32_272 : BitVec 32 := 0#32
  let c1_i32_273 : BitVec 32 := 1#32
  let arg7 : BitVec 32 := Scf.iv c0_i32_272 c1_i32_273 k0_t1
  let c1_i32_275 : BitVec 32 := 1#32
  let v579 : BitVec 32 := Scalar.muli arg7 c1_i32_275
  let v580 : BitVec 32 := Scalar.addi c0_i32_276 v579
  let v608 : BitVec 32 := Scalar.addi v607 v580
  let v609 : Index := Scalar.indexCast v608
  ![2, v609.toNat]
def k0_off10 (i : grid0.Coords) : Fin 1 → Nat :=
  let arg0 : BitVec 32 := BitVec.ofNat 32 (i 0).val
  let c2_i32_271 : BitVec 32 := 2#32
  let v577 : BitVec 32 := Scalar.remsi arg0 c2_i32_271
  ![v577.toNat]
def k0_off11 (i : grid0.Coords) (k0_t1 : Fin k0_t1_loop.trips) : Fin 2 → Nat :=
  let arg0 : BitVec 32 := BitVec.ofNat 32 (i 0).val
  let c2_i32_271 : BitVec 32 := 2#32
  let v577 : BitVec 32 := Scalar.remsi arg0 c2_i32_271
  let c12288_i32_293 : BitVec 32 := 12288#32
  let v612 : BitVec 32 := Scalar.muli v577 c12288_i32_293
  let c256_i32 : BitVec 32 := 256#32
  let c0_i32_276 : BitVec 32 := 0#32
  let c0_i32_272 : BitVec 32 := 0#32
  let c1_i32_273 : BitVec 32 := 1#32
  let arg7 : BitVec 32 := Scf.iv c0_i32_272 c1_i32_273 k0_t1
  let c1_i32_275 : BitVec 32 := 1#32
  let v579 : BitVec 32 := Scalar.muli arg7 c1_i32_275
  let v580 : BitVec 32 := Scalar.addi c0_i32_276 v579
  let v613 : BitVec 32 := Scalar.addi c256_i32 v580
  let c24_i32_294 : BitVec 32 := 24#32
  let v614 : BitVec 32 := Scalar.muli v613 c24_i32_294
  let v615 : BitVec 32 := Scalar.addi v612 v614
  let c0_i32_295 : BitVec 32 := 0#32
  ![v615.toNat, 0]
def k0_off12 (v610 : BitVec 32) : Fin 2 → Nat :=
  let c24_i32_292 : BitVec 32 := 24#32
  let v611 : BitVec 32 := Scalar.muli v610 c24_i32_292
  let c0_i32_296 : BitVec 32 := 0#32
  ![v611.toNat, 0]

def k0_chk3 (i : grid0.Coords) (v610 : BitVec 32) : Prop :=
  (∀ (k0_h1 : k0_cond1 i = 1#1), ∀ a, (k0_off12 v610) a + S24x128.size a ≤ S884736x128.size a)
theorem k0_off12_inb : ∀ (i : grid0.Coords) (v610 : BitVec 32) (k0_hw3 : k0_chk3 i v610), ∀ (k0_h1 : k0_cond1 i = 1#1), ∀ a, (k0_off12 v610) a + S24x128.size a ≤ S884736x128.size a := fun i v610 k0_hw3 k0_h1 => k0_hw3 k0_h1

def k0_off13 (i : grid0.Coords) (k0_t1 : Fin k0_t1_loop.trips) : Fin 2 → Nat :=
  let c3 : Index := 3#32
  let arg0 : BitVec 32 := BitVec.ofNat 32 (i 0).val
  let c128_i32_297 : BitVec 32 := 128#32
  let v620 : BitVec 32 := Scalar.muli arg0 c128_i32_297
  let c0_i32_276 : BitVec 32 := 0#32
  let c0_i32_272 : BitVec 32 := 0#32
  let c1_i32_273 : BitVec 32 := 1#32
  let arg7 : BitVec 32 := Scf.iv c0_i32_272 c1_i32_273 k0_t1
  let c1_i32_275 : BitVec 32 := 1#32
  let v579 : BitVec 32 := Scalar.muli arg7 c1_i32_275
  let v580 : BitVec 32 := Scalar.addi c0_i32_276 v579
  let v621 : BitVec 32 := Scalar.addi v620 v580
  let v622 : Index := Scalar.indexCast v621
  ![3, v622.toNat]
def k0_off14 (i : grid0.Coords) : Fin 1 → Nat :=
  let arg0 : BitVec 32 := BitVec.ofNat 32 (i 0).val
  let c2_i32_271 : BitVec 32 := 2#32
  let v577 : BitVec 32 := Scalar.remsi arg0 c2_i32_271
  ![v577.toNat]
def k0_off15 (i : grid0.Coords) (k0_t1 : Fin k0_t1_loop.trips) : Fin 2 → Nat :=
  let arg0 : BitVec 32 := BitVec.ofNat 32 (i 0).val
  let c2_i32_271 : BitVec 32 := 2#32
  let v577 : BitVec 32 := Scalar.remsi arg0 c2_i32_271
  let c12288_i32_299 : BitVec 32 := 12288#32
  let v625 : BitVec 32 := Scalar.muli v577 c12288_i32_299
  let c384_i32 : BitVec 32 := 384#32
  let c0_i32_276 : BitVec 32 := 0#32
  let c0_i32_272 : BitVec 32 := 0#32
  let c1_i32_273 : BitVec 32 := 1#32
  let arg7 : BitVec 32 := Scf.iv c0_i32_272 c1_i32_273 k0_t1
  let c1_i32_275 : BitVec 32 := 1#32
  let v579 : BitVec 32 := Scalar.muli arg7 c1_i32_275
  let v580 : BitVec 32 := Scalar.addi c0_i32_276 v579
  let v626 : BitVec 32 := Scalar.addi c384_i32 v580
  let c24_i32_300 : BitVec 32 := 24#32
  let v627 : BitVec 32 := Scalar.muli v626 c24_i32_300
  let v628 : BitVec 32 := Scalar.addi v625 v627
  let c0_i32_301 : BitVec 32 := 0#32
  ![v628.toNat, 0]
def k0_off16 (v623 : BitVec 32) : Fin 2 → Nat :=
  let c24_i32_298 : BitVec 32 := 24#32
  let v624 : BitVec 32 := Scalar.muli v623 c24_i32_298
  let c0_i32_302 : BitVec 32 := 0#32
  ![v624.toNat, 0]

def k0_chk4 (i : grid0.Coords) (v623 : BitVec 32) : Prop :=
  (∀ (k0_h1 : k0_cond1 i = 1#1), ∀ a, (k0_off16 v623) a + S24x128.size a ≤ S884736x128.size a)
theorem k0_off16_inb : ∀ (i : grid0.Coords) (v623 : BitVec 32) (k0_hw4 : k0_chk4 i v623), ∀ (k0_h1 : k0_cond1 i = 1#1), ∀ a, (k0_off16 v623) a + S24x128.size a ≤ S884736x128.size a := fun i v623 k0_hw4 k0_h1 => k0_hw4 k0_h1

def k0_cond2 (i : grid0.Coords) : BitVec 1 :=
  let arg0 : BitVec 32 := BitVec.ofNat 32 (i 0).val
  let c1_i32 : BitVec 32 := 1#32
  let v3 : BitVec 32 := Scalar.addi arg0 c1_i32
  let c64_i32 : BitVec 32 := 64#32
  let v4 : BitVec 1 := Scalar.cmpi .slt v3 c64_i32
  let v5 : BitVec 32 := Scalar.extui v4
  let c0_i32_1 : BitVec 32 := 0#32
  let v6 : BitVec 1 := Scalar.cmpi .ne v5 c0_i32_1
  v6

@[reducible] def k0_t2_loop : Scf.Loop 32 :=
  let c0_i32_273 : BitVec 32 := 0#32
  let c128_i32 : BitVec 32 := 128#32
  let v579 : BitVec 32 := Scalar.addi c0_i32_273 c128_i32
  let c1_i32_274 : BitVec 32 := 1#32
  ⟨c0_i32_273, v579, c1_i32_274⟩
def k0_off17 (i : grid0.Coords) (k0_t2 : Fin k0_t2_loop.trips) : Fin 2 → Nat :=
  let c0_279 : Index := 0#32
  let arg0 : BitVec 32 := BitVec.ofNat 32 (i 0).val
  let c1_i32_271 : BitVec 32 := 1#32
  let v577 : BitVec 32 := Scalar.addi arg0 c1_i32_271
  let c128_i32_278 : BitVec 32 := 128#32
  let v582 : BitVec 32 := Scalar.muli v577 c128_i32_278
  let c0_i32_277 : BitVec 32 := 0#32
  let c0_i32_273 : BitVec 32 := 0#32
  let c1_i32_274 : BitVec 32 := 1#32
  let arg7 : BitVec 32 := Scf.iv c0_i32_273 c1_i32_274 k0_t2
  let c1_i32_276 : BitVec 32 := 1#32
  let v580 : BitVec 32 := Scalar.muli arg7 c1_i32_276
  let v581 : BitVec 32 := Scalar.addi c0_i32_277 v580
  let v583 : BitVec 32 := Scalar.addi v582 v581
  let v584 : Index := Scalar.indexCast v583
  ![0, v584.toNat]
def k0_off18 (i : grid0.Coords) : Fin 1 → Nat :=
  let arg0 : BitVec 32 := BitVec.ofNat 32 (i 0).val
  let c1_i32_271 : BitVec 32 := 1#32
  let v577 : BitVec 32 := Scalar.addi arg0 c1_i32_271
  let c2_i32_272 : BitVec 32 := 2#32
  let v578 : BitVec 32 := Scalar.remsi v577 c2_i32_272
  ![v578.toNat]
def k0_off19 (i : grid0.Coords) (k0_t2 : Fin k0_t2_loop.trips) : Fin 2 → Nat :=
  let arg0 : BitVec 32 := BitVec.ofNat 32 (i 0).val
  let c1_i32_271 : BitVec 32 := 1#32
  let v577 : BitVec 32 := Scalar.addi arg0 c1_i32_271
  let c2_i32_272 : BitVec 32 := 2#32
  let v578 : BitVec 32 := Scalar.remsi v577 c2_i32_272
  let c12288_i32_280 : BitVec 32 := 12288#32
  let v587 : BitVec 32 := Scalar.muli v578 c12288_i32_280
  let c0_i32_281 : BitVec 32 := 0#32
  let c0_i32_277 : BitVec 32 := 0#32
  let c0_i32_273 : BitVec 32 := 0#32
  let c1_i32_274 : BitVec 32 := 1#32
  let arg7 : BitVec 32 := Scf.iv c0_i32_273 c1_i32_274 k0_t2
  let c1_i32_276 : BitVec 32 := 1#32
  let v580 : BitVec 32 := Scalar.muli arg7 c1_i32_276
  let v581 : BitVec 32 := Scalar.addi c0_i32_277 v580
  let v588 : BitVec 32 := Scalar.addi c0_i32_281 v581
  let c24_i32_282 : BitVec 32 := 24#32
  let v589 : BitVec 32 := Scalar.muli v588 c24_i32_282
  let v590 : BitVec 32 := Scalar.addi v587 v589
  let c0_i32_283 : BitVec 32 := 0#32
  ![v590.toNat, 0]
def k0_off20 (v585 : BitVec 32) : Fin 2 → Nat :=
  let c24_i32 : BitVec 32 := 24#32
  let v586 : BitVec 32 := Scalar.muli v585 c24_i32
  let c0_i32_284 : BitVec 32 := 0#32
  ![v586.toNat, 0]

def k0_chk5 (i : grid0.Coords) (v585 : BitVec 32) : Prop :=
  (∀ (k0_h2 : k0_cond2 i = 1#1), ∀ a, (k0_off20 v585) a + S24x128.size a ≤ S884736x128.size a)
theorem k0_off20_inb : ∀ (i : grid0.Coords) (v585 : BitVec 32) (k0_hw5 : k0_chk5 i v585), ∀ (k0_h2 : k0_cond2 i = 1#1), ∀ a, (k0_off20 v585) a + S24x128.size a ≤ S884736x128.size a := fun i v585 k0_hw5 k0_h2 => k0_hw5 k0_h2

def k0_off21 (i : grid0.Coords) (k0_t2 : Fin k0_t2_loop.trips) : Fin 2 → Nat :=
  let c1 : Index := 1#32
  let arg0 : BitVec 32 := BitVec.ofNat 32 (i 0).val
  let c1_i32_271 : BitVec 32 := 1#32
  let v577 : BitVec 32 := Scalar.addi arg0 c1_i32_271
  let c128_i32_285 : BitVec 32 := 128#32
  let v595 : BitVec 32 := Scalar.muli v577 c128_i32_285
  let c0_i32_277 : BitVec 32 := 0#32
  let c0_i32_273 : BitVec 32 := 0#32
  let c1_i32_274 : BitVec 32 := 1#32
  let arg7 : BitVec 32 := Scf.iv c0_i32_273 c1_i32_274 k0_t2
  let c1_i32_276 : BitVec 32 := 1#32
  let v580 : BitVec 32 := Scalar.muli arg7 c1_i32_276
  let v581 : BitVec 32 := Scalar.addi c0_i32_277 v580
  let v596 : BitVec 32 := Scalar.addi v595 v581
  let v597 : Index := Scalar.indexCast v596
  ![1, v597.toNat]
def k0_off22 (i : grid0.Coords) : Fin 1 → Nat :=
  let arg0 : BitVec 32 := BitVec.ofNat 32 (i 0).val
  let c1_i32_271 : BitVec 32 := 1#32
  let v577 : BitVec 32 := Scalar.addi arg0 c1_i32_271
  let c2_i32_272 : BitVec 32 := 2#32
  let v578 : BitVec 32 := Scalar.remsi v577 c2_i32_272
  ![v578.toNat]
def k0_off23 (i : grid0.Coords) (k0_t2 : Fin k0_t2_loop.trips) : Fin 2 → Nat :=
  let arg0 : BitVec 32 := BitVec.ofNat 32 (i 0).val
  let c1_i32_271 : BitVec 32 := 1#32
  let v577 : BitVec 32 := Scalar.addi arg0 c1_i32_271
  let c2_i32_272 : BitVec 32 := 2#32
  let v578 : BitVec 32 := Scalar.remsi v577 c2_i32_272
  let c12288_i32_287 : BitVec 32 := 12288#32
  let v600 : BitVec 32 := Scalar.muli v578 c12288_i32_287
  let c128_i32_288 : BitVec 32 := 128#32
  let c0_i32_277 : BitVec 32 := 0#32
  let c0_i32_273 : BitVec 32 := 0#32
  let c1_i32_274 : BitVec 32 := 1#32
  let arg7 : BitVec 32 := Scf.iv c0_i32_273 c1_i32_274 k0_t2
  let c1_i32_276 : BitVec 32 := 1#32
  let v580 : BitVec 32 := Scalar.muli arg7 c1_i32_276
  let v581 : BitVec 32 := Scalar.addi c0_i32_277 v580
  let v601 : BitVec 32 := Scalar.addi c128_i32_288 v581
  let c24_i32_289 : BitVec 32 := 24#32
  let v602 : BitVec 32 := Scalar.muli v601 c24_i32_289
  let v603 : BitVec 32 := Scalar.addi v600 v602
  let c0_i32_290 : BitVec 32 := 0#32
  ![v603.toNat, 0]
def k0_off24 (v598 : BitVec 32) : Fin 2 → Nat :=
  let c24_i32_286 : BitVec 32 := 24#32
  let v599 : BitVec 32 := Scalar.muli v598 c24_i32_286
  let c0_i32_291 : BitVec 32 := 0#32
  ![v599.toNat, 0]

def k0_chk6 (i : grid0.Coords) (v598 : BitVec 32) : Prop :=
  (∀ (k0_h2 : k0_cond2 i = 1#1), ∀ a, (k0_off24 v598) a + S24x128.size a ≤ S884736x128.size a)
theorem k0_off24_inb : ∀ (i : grid0.Coords) (v598 : BitVec 32) (k0_hw6 : k0_chk6 i v598), ∀ (k0_h2 : k0_cond2 i = 1#1), ∀ a, (k0_off24 v598) a + S24x128.size a ≤ S884736x128.size a := fun i v598 k0_hw6 k0_h2 => k0_hw6 k0_h2

def k0_off25 (i : grid0.Coords) (k0_t2 : Fin k0_t2_loop.trips) : Fin 2 → Nat :=
  let c2 : Index := 2#32
  let arg0 : BitVec 32 := BitVec.ofNat 32 (i 0).val
  let c1_i32_271 : BitVec 32 := 1#32
  let v577 : BitVec 32 := Scalar.addi arg0 c1_i32_271
  let c128_i32_292 : BitVec 32 := 128#32
  let v608 : BitVec 32 := Scalar.muli v577 c128_i32_292
  let c0_i32_277 : BitVec 32 := 0#32
  let c0_i32_273 : BitVec 32 := 0#32
  let c1_i32_274 : BitVec 32 := 1#32
  let arg7 : BitVec 32 := Scf.iv c0_i32_273 c1_i32_274 k0_t2
  let c1_i32_276 : BitVec 32 := 1#32
  let v580 : BitVec 32 := Scalar.muli arg7 c1_i32_276
  let v581 : BitVec 32 := Scalar.addi c0_i32_277 v580
  let v609 : BitVec 32 := Scalar.addi v608 v581
  let v610 : Index := Scalar.indexCast v609
  ![2, v610.toNat]
def k0_off26 (i : grid0.Coords) : Fin 1 → Nat :=
  let arg0 : BitVec 32 := BitVec.ofNat 32 (i 0).val
  let c1_i32_271 : BitVec 32 := 1#32
  let v577 : BitVec 32 := Scalar.addi arg0 c1_i32_271
  let c2_i32_272 : BitVec 32 := 2#32
  let v578 : BitVec 32 := Scalar.remsi v577 c2_i32_272
  ![v578.toNat]
def k0_off27 (i : grid0.Coords) (k0_t2 : Fin k0_t2_loop.trips) : Fin 2 → Nat :=
  let arg0 : BitVec 32 := BitVec.ofNat 32 (i 0).val
  let c1_i32_271 : BitVec 32 := 1#32
  let v577 : BitVec 32 := Scalar.addi arg0 c1_i32_271
  let c2_i32_272 : BitVec 32 := 2#32
  let v578 : BitVec 32 := Scalar.remsi v577 c2_i32_272
  let c12288_i32_294 : BitVec 32 := 12288#32
  let v613 : BitVec 32 := Scalar.muli v578 c12288_i32_294
  let c256_i32 : BitVec 32 := 256#32
  let c0_i32_277 : BitVec 32 := 0#32
  let c0_i32_273 : BitVec 32 := 0#32
  let c1_i32_274 : BitVec 32 := 1#32
  let arg7 : BitVec 32 := Scf.iv c0_i32_273 c1_i32_274 k0_t2
  let c1_i32_276 : BitVec 32 := 1#32
  let v580 : BitVec 32 := Scalar.muli arg7 c1_i32_276
  let v581 : BitVec 32 := Scalar.addi c0_i32_277 v580
  let v614 : BitVec 32 := Scalar.addi c256_i32 v581
  let c24_i32_295 : BitVec 32 := 24#32
  let v615 : BitVec 32 := Scalar.muli v614 c24_i32_295
  let v616 : BitVec 32 := Scalar.addi v613 v615
  let c0_i32_296 : BitVec 32 := 0#32
  ![v616.toNat, 0]
def k0_off28 (v611 : BitVec 32) : Fin 2 → Nat :=
  let c24_i32_293 : BitVec 32 := 24#32
  let v612 : BitVec 32 := Scalar.muli v611 c24_i32_293
  let c0_i32_297 : BitVec 32 := 0#32
  ![v612.toNat, 0]

def k0_chk7 (i : grid0.Coords) (v611 : BitVec 32) : Prop :=
  (∀ (k0_h2 : k0_cond2 i = 1#1), ∀ a, (k0_off28 v611) a + S24x128.size a ≤ S884736x128.size a)
theorem k0_off28_inb : ∀ (i : grid0.Coords) (v611 : BitVec 32) (k0_hw7 : k0_chk7 i v611), ∀ (k0_h2 : k0_cond2 i = 1#1), ∀ a, (k0_off28 v611) a + S24x128.size a ≤ S884736x128.size a := fun i v611 k0_hw7 k0_h2 => k0_hw7 k0_h2

def k0_off29 (i : grid0.Coords) (k0_t2 : Fin k0_t2_loop.trips) : Fin 2 → Nat :=
  let c3 : Index := 3#32
  let arg0 : BitVec 32 := BitVec.ofNat 32 (i 0).val
  let c1_i32_271 : BitVec 32 := 1#32
  let v577 : BitVec 32 := Scalar.addi arg0 c1_i32_271
  let c128_i32_298 : BitVec 32 := 128#32
  let v621 : BitVec 32 := Scalar.muli v577 c128_i32_298
  let c0_i32_277 : BitVec 32 := 0#32
  let c0_i32_273 : BitVec 32 := 0#32
  let c1_i32_274 : BitVec 32 := 1#32
  let arg7 : BitVec 32 := Scf.iv c0_i32_273 c1_i32_274 k0_t2
  let c1_i32_276 : BitVec 32 := 1#32
  let v580 : BitVec 32 := Scalar.muli arg7 c1_i32_276
  let v581 : BitVec 32 := Scalar.addi c0_i32_277 v580
  let v622 : BitVec 32 := Scalar.addi v621 v581
  let v623 : Index := Scalar.indexCast v622
  ![3, v623.toNat]
def k0_off30 (i : grid0.Coords) : Fin 1 → Nat :=
  let arg0 : BitVec 32 := BitVec.ofNat 32 (i 0).val
  let c1_i32_271 : BitVec 32 := 1#32
  let v577 : BitVec 32 := Scalar.addi arg0 c1_i32_271
  let c2_i32_272 : BitVec 32 := 2#32
  let v578 : BitVec 32 := Scalar.remsi v577 c2_i32_272
  ![v578.toNat]
def k0_off31 (i : grid0.Coords) (k0_t2 : Fin k0_t2_loop.trips) : Fin 2 → Nat :=
  let arg0 : BitVec 32 := BitVec.ofNat 32 (i 0).val
  let c1_i32_271 : BitVec 32 := 1#32
  let v577 : BitVec 32 := Scalar.addi arg0 c1_i32_271
  let c2_i32_272 : BitVec 32 := 2#32
  let v578 : BitVec 32 := Scalar.remsi v577 c2_i32_272
  let c12288_i32_300 : BitVec 32 := 12288#32
  let v626 : BitVec 32 := Scalar.muli v578 c12288_i32_300
  let c384_i32 : BitVec 32 := 384#32
  let c0_i32_277 : BitVec 32 := 0#32
  let c0_i32_273 : BitVec 32 := 0#32
  let c1_i32_274 : BitVec 32 := 1#32
  let arg7 : BitVec 32 := Scf.iv c0_i32_273 c1_i32_274 k0_t2
  let c1_i32_276 : BitVec 32 := 1#32
  let v580 : BitVec 32 := Scalar.muli arg7 c1_i32_276
  let v581 : BitVec 32 := Scalar.addi c0_i32_277 v580
  let v627 : BitVec 32 := Scalar.addi c384_i32 v581
  let c24_i32_301 : BitVec 32 := 24#32
  let v628 : BitVec 32 := Scalar.muli v627 c24_i32_301
  let v629 : BitVec 32 := Scalar.addi v626 v628
  let c0_i32_302 : BitVec 32 := 0#32
  ![v629.toNat, 0]
def k0_off32 (v624 : BitVec 32) : Fin 2 → Nat :=
  let c24_i32_299 : BitVec 32 := 24#32
  let v625 : BitVec 32 := Scalar.muli v624 c24_i32_299
  let c0_i32_303 : BitVec 32 := 0#32
  ![v625.toNat, 0]

def k0_chk8 (i : grid0.Coords) (v624 : BitVec 32) : Prop :=
  (∀ (k0_h2 : k0_cond2 i = 1#1), ∀ a, (k0_off32 v624) a + S24x128.size a ≤ S884736x128.size a)
theorem k0_off32_inb : ∀ (i : grid0.Coords) (v624 : BitVec 32) (k0_hw8 : k0_chk8 i v624), ∀ (k0_h2 : k0_cond2 i = 1#1), ∀ a, (k0_off32 v624) a + S24x128.size a ≤ S884736x128.size a := fun i v624 k0_hw8 k0_h2 => k0_hw8 k0_h2

def k0_off33 (i : grid0.Coords) : Fin 1 → Nat :=
  let arg0 : BitVec 32 := BitVec.ofNat 32 (i 0).val
  let c2_i32 : BitVec 32 := 2#32
  let v7 : BitVec 32 := Scalar.remsi arg0 c2_i32
  ![v7.toNat]
def k0_off34 (i : grid0.Coords) : Fin 2 → Nat :=
  let arg0 : BitVec 32 := BitVec.ofNat 32 (i 0).val
  let c2_i32 : BitVec 32 := 2#32
  let v7 : BitVec 32 := Scalar.remsi arg0 c2_i32
  let c12288_i32 : BitVec 32 := 12288#32
  let v8 : BitVec 32 := Scalar.muli v7 c12288_i32
  let c0_i32_2 : BitVec 32 := 0#32
  ![v8.toNat, 0]
def k0_off35 (i : grid0.Coords) (c0_i32_6 : BitVec 32) (c0_i32_7 : BitVec 32) : Fin 2 → Nat :=
  let arg0 : BitVec 32 := BitVec.ofNat 32 (i 0).val
  let c2_i32 : BitVec 32 := 2#32
  let v7 : BitVec 32 := Scalar.remsi arg0 c2_i32
  let c12288_i32 : BitVec 32 := 12288#32
  let v8 : BitVec 32 := Scalar.muli v7 c12288_i32
  let v27 : BitVec 32 := Scalar.addi v8 c0_i32_6
  let v28 : BitVec 32 := Scalar.addi v27 c0_i32_7
  let v29 : Index := Scalar.indexCast v28
  let c0_8 : Index := 0#32
  ![v29.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GatedSumIdeal.lean ====
abbrev S4x8192 : Shape := ⟨2, ![4, 8192]⟩
abbrev S8x8192 : Shape := ⟨2, ![8, 8192]⟩
abbrev S884736x128 : Shape := ⟨2, ![884736, 128]⟩
abbrev S36864x3072 : Shape := ⟨2, ![36864, 3072]⟩
abbrev S36864x2816 : Shape := ⟨2, ![36864, 2816]⟩
abbrev S1x8192 : Shape := ⟨2, ![1, 8192]⟩
abbrev S8192 : Shape := ⟨1, ![8192]⟩
abbrev S8192x1 : Shape := ⟨2, ![8192, 1]⟩
abbrev S8192x2816 : Shape := ⟨2, ![8192, 2816]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8x8192, .f32⟩
  | .hbm, ⟨2, _⟩ => ⟨S884736x128, .f32⟩
  | .hbm, ⟨3, _⟩ => ⟨S36864x3072, .f32⟩
  | .hbm, ⟨4, _⟩ => ⟨S36864x2816, .f32⟩
  | .hbm, ⟨5, _⟩ => ⟨S1x8192, .f32⟩
  | .hbm, ⟨6, _⟩ => ⟨S8192, .f32⟩
  | .hbm, ⟨7, _⟩ => ⟨S8192x1, .f32⟩
  | .hbm, ⟨8, _⟩ => ⟨S1x8192, .i32⟩
  | .hbm, ⟨9, _⟩ => ⟨S8192, .i32⟩
  | .hbm, ⟨10, _⟩ => ⟨S8192x1, .i32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S1x8192, .f32⟩
  | .hbm, ⟨18, _⟩ => ⟨S8192, .f32⟩
  | .hbm, ⟨19, _⟩ => ⟨S8192x1, .f32⟩
  | .hbm, ⟨20, _⟩ => ⟨S1x8192, .i32⟩
  | .hbm, ⟨21, _⟩ => ⟨S8192, .i32⟩
  | .hbm, ⟨22, _⟩ => ⟨S8192x1, .i32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S1x8192, .f32⟩
  | .hbm, ⟨28, _⟩ => ⟨S8192, .f32⟩
  | .hbm, ⟨29, _⟩ => ⟨S8192x1, .f32⟩
  | .hbm, ⟨30, _⟩ => ⟨S1x8192, .i32⟩
  | .hbm, ⟨31, _⟩ => ⟨S8192, .i32⟩
  | .hbm, ⟨32, _⟩ => ⟨S8192x1, .i32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S1x8192, .f32⟩
  | .hbm, ⟨38, _⟩ => ⟨S8192, .f32⟩
  | .hbm, ⟨39, _⟩ => ⟨S8192x1, .f32⟩
  | .hbm, ⟨40, _⟩ => ⟨S1x8192, .i32⟩
  | .hbm, ⟨41, _⟩ => ⟨S8192, .i32⟩
  | .hbm, ⟨42, _⟩ => ⟨S8192x1, .i32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .bf16⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call1_v0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_call2_v0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call3_v0 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Proof.KFrame.Runs.lean ====
/- What the runs of the expert kernel's body share: the state the pipeline is entered in, the tables read off the launch
   memory, the windows' blocks, the body's two conditions (a tile is in use, or it is not), and the memrefs the body is
   called with. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Window 5 (result 0 (%2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8x144 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      ((h c).2 main_arg3 (by decide : main_arg3 ∈ Pipeline.restRefs sig spec0)).trans (V_main_arg3 m c),
      (Pipeline.RDat.FramePost.arr_in h c 3 rfl).trans ((hA c 3).trans (V_main_arg4 m c)),
      ((h c).2 main_arg5 (by decide : main_arg5 ∈ Pipeline.restRefs sig spec0)).trans (V_main_arg5 m c)⟩) h

/-! ## The body's conditions -/

/-- The word the body compares the tile's number with: the number of tiles in use. -/
abbrev word (t : Fin grid0.N) : BitVec 32 :=
  (tbM0_0.view.readAt (Elt F) (Rect.unit (s := S8x144) ![2, 0] S1x1.size inb_S8x144_S1x1_2_0).toLoadRect (tbl m 0) (Shape.Idx.first (numel1_S1x1.symm ▸ Nat.one_pos)))

/-- The tile of point `t` is in use. -/
def Used (t : Fin grid0.N) : Prop := k0_cond2 (grid0.coords t) (word m t) = 1#1

instance (t : Fin grid0.N) : Decidable (Used m t) := inferInstanceAs (Decidable (_ = _))

/-- The second condition says that the tile's number is below the word, -/
theorem cond2_iff (i : grid0.Coords) (w : BitVec 32) : k0_cond2 i w = 1#1 ↔ (BitVec.ofNat 32 (i 0).val).toInt < w.toInt := by
  unfold k0_cond2
  change IntOp.cmpi .ne (BitVec.setWidth 32 (IntOp.cmpi .slt (BitVec.ofNat 32 (i 0).val) w)) 0#32 = 1#1 ↔ _
  rw [WordCmp.cmpi_slt_eq]
  by_cases h : (BitVec.ofNat 32 (i 0).val).toInt < w.toInt
  · simp only [h, decide_true, iff_true]; decide
  · simp only [h, decide_false, iff_false]; decide

/-- and the first that it is not: the two are complementary. -/
theorem cond1_iff (i : grid0.Coords) (w : BitVec 32) : k0_cond1 i w = 1#1 ↔ ¬ k0_cond2 i w = 1#1 := by
  rw [cond2_iff, not_lt]
  unfold k0_cond1
  change IntOp.cmpi .ne (BitVec.setWidth 32 (IntOp.cmpi .sge (BitVec.ofNat 32 (i 0).val) w)) 0#32 = 1#1 ↔ _
  rw [WordCmp.cmpi_sge_eq]
  by_cases h : w.toInt ≤ (BitVec.ofNat 32 (i 0).val).toInt
  · simp only [h, decide_true, iff_true]; decide
  · simp only [h, decide_false, iff_false]; decide

variable {m} in
theorem zero_of_used {t : Fin grid0.N} (h : Used m t) : ¬ k0_cond1 (grid0.coords t) (word m t) = 1#1 :=
  fun hz => (cond1_iff _ _).mp hz h

variable {m} in
theorem zero_of_not_used {t : Fin grid0.N} (h : ¬ Used m t) : k0_cond1 (grid0.coords t) (word m t) = 1#1 :=
  (cond1_iff _ _).mpr h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S2048x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2816x5632 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x5632 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2816x2816 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x2816 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S6144x128 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S256x2816 .fp8e4m3 := Memref.whole cc0_scratch0
abbrev scM0_1 : Memref sig .tc .vmem S256x128 .f32 := Memref.whole cc0_scratch1
abbrev scM0_2 : Memref sig .tc .vmem S256x2816 .f32 := Memref.whole cc0_scratch2
abbrev scM0_3 : Memref sig .tc .vmem S256x2816 .fp8e4m3 := Memref.whole cc0_scratch3
abbrev scM0_4 : Memref sig .tc .vmem S256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.KFrame.RunUsed.lean ====
/- The body's run at a tile that is in use. -/
module

public import proofs.«01_k».proof.Proof.KFrame.Runs

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1160000 in
/-- The body's triple IN CASE A (`scf.if` 0 taken: points all): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_used (c : Dev nD) (i : grid0.Coords) (arg2 : Memref sig .tc .vmem S2048x128 .i32) (harg2 : arg2.IsWhole) (arg3 : Memref sig .tc .vmem S1x2816x5632 .fp8e4m3) (harg3 : arg3.IsWhole) (arg4 : Memref sig .tc .vmem S1x1x5632 .f32) (harg4 : arg4.IsWhole) (arg5 : Memref sig .tc .vmem S1x2816x2816 .fp8e4m3) (harg5 : arg5.IsWhole) (arg6 : Memref sig .tc .vmem S1x1x2816 .f32) (harg6 : arg6.IsWhole) (arg7 : Memref sig .tc .vmem S6144x128 .f32) (harg7 : arg7.IsWhole) (arg8 : Memref sig .tc .vmem S256x2816 .fp8e4m3) (harg8 : arg8.IsWhole) (arg9 : Memref sig .tc .vmem S256x128 .f32) (harg9 : arg9.IsWhole) (arg10 : Memref sig .tc .vmem S256x2816 .f32) (harg10 : arg10.IsWhole) (arg11 : Memref sig .tc .vmem S256x2816 .fp8e4m3) (harg11 : arg11.IsWhole) (arg12 : Memref sig .tc .vmem S256x128 .f32) (harg12 : arg12.IsWhole)
    (x0 : Vec F S2048x128 .i32) (x1 : Vec F S1x2816x5632 .fp8e4m3) (x2 : Vec F S1x1x5632 .f32) (x3 : Vec F S1x2816x2816 .fp8e4m3) (x4 : Vec F S1x1x2816 .f32) (xt0 : TbBuf0 (F := F) c tbM0_0) (hz : ¬ k0_cond1 i (tbM0_0.view.readAt (Elt F) (Rect.unit (s := S8x144) ![2, 0] S1x1.size inb_S8x144_S1x1_2_0).toLoadRect xt0 (Shape.Idx.first (numel1_S1x1.symm ▸ Nat.one_pos))) = 1#1) (hu : k0_cond2 i (tbM0_0.view.readAt (Elt F) (Rect.unit (s := S8x144) ![2, 0] S1x1.size inb_S8x144_S1x1_2_0).toLoadRect xt0 (Shape.Idx.first (numel1_S1x1.symm ▸ Nat.one_pos))) = 1#1) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_experts i tbM0_0 htbM0_0 arg2 harg2 arg3 harg3 arg4 harg4 arg5 harg5 arg6 harg6 arg7 harg7 arg8 harg8 arg9 harg9 arg10 harg10 arg11 harg11 arg12 harg12) K := by
    intro E K
    simp only [cc0_experts_eq_skeleton]; unfold cc0_experts_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hz | sl_exact hu)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexact HT0

end Cert.Kernel.Hand

end
-- ==== Proof.KFrame.RunZero.lean ====
/- The body's run at a tile that is not in use: it stores zeros. -/
module

public import proofs.«01_k».proof.Proof.KFrame.RunUsed

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 4000000 in
/-- The body's triple IN CASE B (`scf.if` 0 not taken: points all): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_zero (c : Dev nD) (i : grid0.Coords) (arg2 : Memref sig .tc .vmem S2048x128 .i32) (harg2 : arg2.IsWhole) (arg3 : Memref sig .tc .vmem S1x2816x5632 .fp8e4m3) (harg3 : arg3.IsWhole) (arg4 : Memref sig .tc .vmem S1x1x5632 .f32) (harg4 : arg4.IsWhole) (arg5 : Memref sig .tc .vmem S1x2816x2816 .fp8e4m3) (harg5 : arg5.IsWhole) (arg6 : Memref sig .tc .vmem S1x1x2816 .f32) (harg6 : arg6.IsWhole) (arg7 : Memref sig .tc .vmem S6144x128 .f32) (harg7 : arg7.IsWhole) (arg8 : Memref sig .tc .vmem S256x2816 .fp8e4m3) (harg8 : arg8.IsWhole) (arg9 : Memref sig .tc .vmem S256x128 .f32) (harg9 : arg9.IsWhole) (arg10 : Memref sig .tc .vmem S256x2816 .f32) (harg10 : arg10.IsWhole) (arg11 : Memref sig .tc .vmem S256x2816 .fp8e4m3) (harg11 : arg11.IsWhole) (arg12 : Memref sig .tc .vmem S256x128 .f32) (harg12 : arg12.IsWhole)
    (x0 : Vec F S2048x128 .i32) (x1 : Vec F S1x2816x5632 .fp8e4m3) (x2 : Vec F S1x1x5632 .f32) (x3 : Vec F S1x2816x2816 .fp8e4m3) (x4 : Vec F S1x1x2816 .f32) (xt0 : TbBuf0 (F := F) c tbM0_0) (hz : k0_cond1 i (tbM0_0.view.readAt (Elt F) (Rect.unit (s := S8x144) ![2, 0] S1x1.size inb_S8x144_S1x1_2_0).toLoadRect xt0 (Shape.Idx.first (numel1_S1x1.symm ▸ Nat.one_pos))) = 1#1) (hu : ¬ k0_cond2 i (tbM0_0.view.readAt (Elt F) (Rect.unit (s := S8x144) ![2, 0] S1x1.size inb_S8x144_S1x1_2_0).toLoadRect xt0 (Shape.Idx.first (numel1_S1x1.symm ▸ Nat.one_pos))) = 1#1) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_experts i tbM0_0 htbM0_0 arg2 harg2 arg3 harg3 arg4 harg4 arg5 harg5 arg6 harg6 arg7 harg7 arg8 harg8 arg9 harg9 arg10 harg10 arg11 harg11 arg12 harg12) K := by
    intro E K
    simp only [cc0_experts_eq_skeleton]; unfold cc0_experts_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hz | sl_exact hu)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexact HT0

end Cert.Kernel.Hand

end
-- ==== Proof.KFrame.Frame.lean ====
/- The pipeline's proof data, the body's obligation, the launch and the frame. -/
module

public import proofs.«01_k».proof.Proof.KFrame.RunZero
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare d))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (∃ d, owns (c : Thread nD τ) (ms0_5 m hO t) fullShare d))

set_option maxHeartbeats 4000000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq, PhiA0_eq]
  by_cases h0 : Used m t
  · iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩⟩
    iapply ((kernelRun0_used c (grid0.coords t) _ _ _ _ _ _ _ _ _ _ _ _ _ _ _ _ _ _ _ _ _ _ (iblk m hO c 0 t) (iblk m hO c 1 t) (iblk m hO c 2 t) (iblk m hO c 3 t) (iblk m hO c 4 t) (tbl m 0) (zero_of_used h0) h0) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HT0]; · iexact HT0
    iintro ⟨H0, H1, H2, H3, H4, H5, HS0, HS1, HS2, HS3, HS4, HT0⟩
    isplitl [HS0 HS1 HS2 HS3 HS4 Hg HT0]
    · isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      iexact HT0
    isplitl [Ho]; · iexact Ho
    isplitl [H0]; · iexact H0
    isplitl [H1]; · iexact H1
    isplitl [H2]; · iexact H2
    isplitl [H3]; · iexact H3
    isplitl [H4]; · iexact H4
    iexact H5
  · iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩⟩
    iapply ((kernelRun0_zero c (grid0.coords t) _ _ _ _ _ _ _ _ _ _ _ _ _ _ _ _ _ _ _ _ _ _ (iblk m hO c 0 t) (iblk m hO c 1 t) (iblk m hO c 2 t) (iblk m hO c 3 t) (iblk m hO c 4 t) (tbl m 0) (zero_of_not_used h0) h0) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HT0]; · iexact HT0
    iintro ⟨H0, H1, H2, H3, H4, H5, HS0, HS1, HS2, HS3, HS4, HT0⟩
    isplitl [HS0 HS1 HS2 HS3 HS4 Hg HT0]
    · isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      iexact HT0
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO 0 c).toRForget forgets0) (A_eq m hO) (run_main m ρ hO)

/-- The frame: every argument array ends unchanged, and every semaphore counter ends at zero, where the tables' words
    put every block inside its array (`Ok`). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel.Hand

end
-- ==== Proof.Routed.lean ====
/- The preconditions `in_range` and `routed`, decoded: what the rows of the table say, tile by tile. -/
module

public import proofs.«01_k».proof.Proof.Gen.Pre_in_range
public import proofs.«01_k».proof.Proof.Gen.Pre_routed
public import Idealize.ShloMosaic.Lib.Pipeline.Value
public import Idealize.ShloMosaic.Lib.ValueLayout
public import Idealize.ShloMosaic.Lib.WordCmp

@[expose] public section

noncomputable section

namespace Cert.Routed

open Idealize.ShloMosaic Idealize.ShloMosaic.ValueIdx

/-- The table's word in row `k`, column `t`. -/
abbrev at2 (w : IVec Cert.Pre_routed.S8x144 32) (k : Fin 8) (t : Fin 144) : BitVec 32 := w (ix2 k t)

/-- What `in_range` says of the table: each tile's expert and input block are ones there are. -/
structure InRange (w : IVec Cert.Pre_routed.S8x144 32) : Prop where
  expert : ∀ t : Fin 144, (at2 w 0 t).toNat < 16
  tile : ∀ t : Fin 144, (at2 w 1 t).toNat < 144

/-- What `routed` says of the table: besides, each tile in use reads its own block. -/
structure Decoded (w : IVec Cert.Pre_routed.S8x144 32) : Prop extends InRange w where
  used : ∀ t : Fin 144, (t.val : Int) < (at2 w 2 0).toInt → (at2 w 1 t).toNat = t.val

open Cert.Pre_routed Cert.Pre_routed.Gen

/-- Row `k` of the table as the predicate reads it. -/
theorem row_apply (w : IVec S8x144 32) (o : Fin 2 → ℕ) (k : Fin 8) (hk : o 0 = k.val) (h1 : o 1 = 0) (h : S8x144.Slices o S1x144)
    (h' : S1x144.ShapeCasts S144) (t : Fin 144) :
    shapeCast S144 (extractStridedSlice S1x144 o w h) h' (ix1 t) = at2 w k t := by
  refine (shapeCast_1a_a_apply _ _ t).trans (extractStridedSlice_apply _ _ _ _ _ fun a => ?_)
  match a with
  | ⟨0, _⟩ => exact (by rw [hk]; rfl : k.val = o 0 + 0)
  | ⟨1, _⟩ => exact (by rw [h1]; omega : t.val = o 1 + t.val)

theorem two_apply (w : IVec S8x144 32) (h : S8x144.Slices ![2, 0] S1x1) (h' : S1x1.ShapeCasts S_) (j : S_.Idx) :
    shapeCast S_ (extractStridedSlice S1x1 ![2, 0] w h) h' j = at2 w 2 0 := by
  refine (shapeCast_apply _ _ _ (ix2 (0 : Fin 1) (0 : Fin 1)) (by
    rw [Shape.rowMajor_val_two]; exact (Nat.lt_one_iff.mp (Shape.rowMajor S_ j).isLt).symm)).trans
    (extractStridedSlice_apply _ _ _ _ _ fun a => ?_)
  match a with
  | ⟨0, _⟩ => rfl
  | ⟨1, _⟩ => rfl

theorem range (x : BitVec 32) (k : ℕ) (hk : k < 2 ^ 31) (h : IntOp.andi (IntOp.cmpi .sge x 0#32) (IntOp.cmpi .slt x (BitVec.ofNat 32 k)) = 1#1) :
    x.toNat < k := by
  rw [WordCmp.cmpi_sge_eq, WordCmp.cmpi_slt_eq, WordCmp.andi_ofBool, WordCmp.ofBool_eq_one_iff, Bool.and_eq_true,
    decide_eq_true_eq, decide_eq_true_eq] at h
  obtain ⟨h0, h1⟩ := h
  have h0' : 0 ≤ x.toInt := by simpa using h0
  have := (WordCmp.toInt_nonneg_iff_lt_half x).mp h0'
  rw [WordCmp.toInt_eq_toNat_of_lt_half this, WordCmp.toInt_ofNat_of_lt (by exact hk)] at h1
  exact_mod_cast h1

/-- The precondition `in_range` gives it. -/
theorem in_range {F : FTy → Type} [FloatOps F] (w : IVec S8x144 32) (a1 : IVec S294912x128 32) (a2 : FVec F S16x2816x5632 .fp8e4m3)
    (a3 : FVec F S16x5632 .f32) (a4 : FVec F S16x2816x2816 .fp8e4m3) (a5 : FVec F S16x2816 .f32)
    (h : (Cert.Pre_in_range.fn (F := F) w a1 a2 a3 a4 a5).1 = (fun _ => 1#1)
      ∧ (Cert.Pre_in_range.fn (F := F) w a1 a2 a3 a4 a5).2 = (fun _ => 1#1)) : InRange w := by
  obtain ⟨e1, e2⟩ := h
  simp only [Cert.Pre_in_range.fn] at e1 e2
  refine ⟨fun t => ?_, fun t => ?_⟩
  · have e := congrFun e1 (ix1 t)
    simp only [andi, cmpi] at e
    rw [row_apply w ![0, 0] 0 rfl rfl] at e
    exact range _ 16 (by decide) e
  · have e := congrFun e2 (ix1 t)
    simp only [andi, cmpi] at e
    rw [row_apply w ![1, 0] 1 rfl rfl] at e
    exact range _ 144 (by decide) e

/-- The precondition `routed` gives it. -/
theorem decoded {F : FTy → Type} [FloatOps F] (w : IVec S8x144 32) (a1 : IVec S294912x128 32) (a2 : FVec F S16x2816x5632 .fp8e4m3)
    (a3 : FVec F S16x5632 .f32) (a4 : FVec F S16x2816x2816 .fp8e4m3) (a5 : FVec F S16x2816 .f32)
    (h : (Cert.Pre_routed.fn (F := F) w a1 a2 a3 a4 a5).1 = (fun _ => 1#1)
      ∧ (Cert.Pre_routed.fn (F := F) w a1 a2 a3 a4 a5).2.1 = (fun _ => 1#1)
      ∧ (Cert.Pre_routed.fn (F := F) w a1 a2 a3 a4 a5).2.2 = (fun _ => 1#1)) : Decoded w := by
  obtain ⟨e1, e2, e3⟩ := h
  simp only [Cert.Pre_routed.fn, Cert.Pre_routed.fn_part1] at e1 e2 e3
  refine ⟨⟨fun t => ?_, fun t => ?_⟩, fun t ht => ?_⟩
  · have e := congrFun e1 (ix1 t)
    simp only [andi, cmpi] at e
    rw [row_apply w ![0, 0] 0 rfl rfl] at e
    exact range _ 16 (by decide) e
  · have e := congrFun e2 (ix1 t)
    simp only [andi, cmpi] at e
    rw [row_apply w ![1, 0] 1 rfl rfl] at e
    exact range _ 144 (by decide) e
  · have e := congrFun e3 (ix1 t)
    simp only [ori, cmpi, broadcastInDim] at e
    rw [row_apply w ![1, 0] 1 rfl rfl, two_apply, WordCmp.cmpi_sge_eq, WordCmp.cmpi_eq_eq, WordCmp.ori_ofBool,
      WordCmp.ofBool_eq_one_iff, Bool.or_eq_true, decide_eq_true_eq, decide_eq_true_eq] at e
    have ht' := t.isLt
    have hi : (iotaInDim S144 32 0 (ix1 t)) = BitVec.ofNat 32 t.val := rfl
    rw [hi, WordCmp.toInt_ofNat_of_lt (by show t.val < 2 ^ 31; omega)] at e
    rcases e with e | e
    · rw [e, WordCmp.toNat_ofNat_of_lt (by omega)]
    · exact absurd ht (by omega)

end Cert.Routed

end
-- ==== Proof.KFrame.Words.lean ====
/- The words of the table as the pipeline reads them, and the side condition of its contents under the precondition. -/
module

public import proofs.«01_k».proof.Proof.KFrame.Runs
public import proofs.«01_k».proof.Proof.Routed
public import Idealize.ShloMosaic.Lib.PairWhole

@[expose] public section

noncomputable section

namespace Cert.Kernel.Hand

open Cert.Kernel.Gen Cert.Routed
open Idealize.ShloMosaic Idealize.ShloMosaic.TcCoe Idealize.ShloMosaic.ValueIdx

variable {F : FTy → Type} [FloatOps F]
variable (m : (ℓ : Loc nD τ sig) → Buf (Elt F) ℓ)

/-- The table as launched. -/
abbrev meta0 : IVec S8x144 32 := m ((0 : Dev nD).tc.loc main_arg0)

theorem tbl_eq : tbl m 0 = meta0 m := V_main_arg0 m 0

/-- Grid coordinates as a tile number. -/
abbrev tileOf (i : grid0.Coords) : Fin 144 := i 0

/-- A word of row `k` read at a grid point's column. -/
theorem at_row (w : pre0.Contents (Elt F)) (i : grid0.Coords) (k : Fin 8) (o : Fin 2 → ℕ) (h0 : o 0 = k.val) (h1 : o 1 = (i 0).val)
    (inb : ∀ a, o a + S1x1.size a ≤ S8x144.size a) (h : S1x1.numel = 1) :
    w.at 0 (Rect.unit (s := S8x144) o S1x1.size inb) h = w 0 (ix2 k (tileOf i)) := by
  refine congrArg (w 0) (funext fun a => Fin.ext ?_)
  refine (Rect.emb_apply (Rect.unit (s := S8x144) o S1x1.size inb) _ a).trans ?_
  match a with
  | ⟨0, _⟩ => exact (by rw [h0]; rfl : o 0 + 1 * 0 = k.val)
  | ⟨1, _⟩ => exact (by rw [h1]; rfl : o 1 + 1 * 0 = (i 0).val)

theorem coord_word (i : grid0.Coords) : (BitVec.ofNat 32 (i 0).val).toNat = (i 0).val :=
  WordCmp.toNat_ofNat_of_lt (Nat.lt_trans (i 0).isLt (by decide))

/-- The weights' and scales' index maps name the tile's expert; the words' names the tile's block. -/
theorem transform_0_eq (w : pre0.Contents (Elt F)) (i : grid0.Coords) :
    cc0_transform_0 k0_off1_inb numel1_S1x1 w i = ![(at2 (w 0) 1 (tileOf i)).toNat, 0] := by
  exact congrArg (fun x : BitVec 32 => (![x.toNat, 0] : Fin 2 → ℕ)) (at_row w i 1 _ rfl (coord_word i) _ _)
theorem transform_1_eq (w : pre0.Contents (Elt F)) (i : grid0.Coords) :
    cc0_transform_1 k0_off2_inb numel1_S1x1 w i = ![(at2 (w 0) 0 (tileOf i)).toNat, 0, 0] := by
  exact congrArg (fun x : BitVec 32 => (![x.toNat, 0, 0] : Fin 3 → ℕ)) (at_row w i 0 _ rfl (coord_word i) _ _)
theorem transform_2_eq (w : pre0.Contents (Elt F)) (i : grid0.Coords) :
    cc0_transform_2 k0_off2_inb numel1_S1x1 w i = ![(at2 (w 0) 0 (tileOf i)).toNat, 0, 0] := by
  exact congrArg (fun x : BitVec 32 => (![x.toNat, 0, 0] : Fin 3 → ℕ)) (at_row w i 0 _ rfl (coord_word i) _ _)
theorem transform_3_eq (w : pre0.Contents (Elt F)) (i : grid0.Coords) :
    cc0_transform_3 k0_off2_inb numel1_S1x1 w i = ![(at2 (w 0) 0 (tileOf i)).toNat, 0, 0] := by
  exact congrArg (fun x : BitVec 32 => (![x.toNat, 0, 0] : Fin 3 → ℕ)) (at_row w i 0 _ rfl (coord_word i) _ _)
theorem transform_4_eq (w : pre0.Contents (Elt F)) (i : grid0.Coords) :
    cc0_transform_4 k0_off2_inb numel1_S1x1 w i = ![(at2 (w 0) 0 (tileOf i)).toNat, 0, 0] := by
  exact congrArg (fun x : BitVec 32 => (![x.toNat, 0, 0] : Fin 3 → ℕ)) (at_row w i 0 _ rfl (coord_word i) _ _)

/-- A block of whole rows named by its leading index, inside its array. -/
theorem inb3 {a b c : ℕ} (e : ℕ) (he : e < a) (ix : Fin 3 → ℕ) (hix : ix = ![e, 0, 0]) (d : Fin 3) :
    (ix d + 1) * (![1, b, c] : Fin 3 → ℕ) d ≤ (![a, b, c] : Fin 3 → ℕ) d := by
  subst hix
  match d with
  | ⟨0, _⟩ => show (e + 1) * 1 ≤ a; omega
  | ⟨1, _⟩ => show (0 + 1) * b ≤ b; omega
  | ⟨2, _⟩ => show (0 + 1) * c ≤ c; omega

/-- A block at index zero of an axis starts at zero there. -/
theorem block_off_zero {s : Shape} (size ix : Fin s.rank → ℕ) (h : ∀ a, (ix a + 1) * size a ≤ s.size a) (a : Fin s.rank) (h0 : ix a = 0) :
    (Rect.block size ix h).off a = 0 := by
  show ix a * size a = 0
  rw [h0, Nat.zero_mul]

/-- The side condition of the table's contents, from the decoded precondition. -/
theorem ok_of_decoded (w : pre0.Contents (Elt F)) (h : InRange (w 0)) : ok0 w := by
  refine ⟨fun i => ⟨fun a => ?_, .inl rfl⟩, fun i => ⟨inb3 _ (h.expert (tileOf i)) _ (transform_1_eq w i), .inr (.inr ⟨by decide, rfl, ?_, rfl⟩)⟩,
    fun i => ⟨inb3 _ (h.expert (tileOf i)) _ (transform_2_eq w i), .inl rfl⟩, fun i => ⟨inb3 _ (h.expert (tileOf i)) _ (transform_3_eq w i), .inr (.inr ⟨by decide, rfl, ?_, rfl⟩)⟩,
    fun i => ⟨inb3 _ (h.expert (tileOf i)) _ (transform_4_eq w i), .inl rfl⟩⟩
  · rw [transform_0_eq]
    have := h.tile (tileOf i)
    match a with
    | ⟨0, _⟩ => show ((at2 (w 0) 1 (tileOf i)).toNat + 1) * 2048 ≤ 294912; omega
    | ⟨1, _⟩ => show (0 + 1) * 128 ≤ 128; omega
  · exact block_off_zero _ _ _ _ (congrFun (transform_1_eq w i) 1)
  · exact block_off_zero _ _ _ _ (congrFun (transform_3_eq w i) 1)

end Cert.Kernel.Hand

end
-- ==== Proof.KIdeal.Runs.lean ====
/- What the runs of the expert kernel's body share: the state the pipeline is entered in, the tables read off the launch
   memory, the windows' blocks, the body's two conditions (a tile is in use, or it is not), and the memrefs the body is
   called with. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Window 5 (result 0 (%2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8x144 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).2 main_arg3 (by decide : main_arg3 ∈ Pipeline.restRefs sig spec0)).trans (V_main_arg3 m c),
      ((h c).1 3).trans (((dats 0 c).arrAt_in 3 rfl _).trans ((hA c 3).trans (V_main_arg4 m c))),
      ((h c).2 main_arg5 (by decide : main_arg5 ∈ Pipeline.restRefs sig spec0)).trans (V_main_arg5 m c)⟩) h

/-! ## The body's conditions -/

/-- The word the body compares the tile's number with: the number of tiles in use. -/
abbrev word (t : Fin grid0.N) : BitVec 32 :=
  (tbM0_0.view.readAt (Elt F) (Rect.unit (s := S8x144) ![2, 0] S1x1.size inb_S8x144_S1x1_2_0).toLoadRect (tbl m 0) (Shape.Idx.first (numel1_S1x1.symm ▸ Nat.one_pos)))

/-- The tile of point `t` is in use. -/
def Used (t : Fin grid0.N) : Prop := k0_cond2 (grid0.coords t) (word m t) = 1#1

instance (t : Fin grid0.N) : Decidable (Used m t) := inferInstanceAs (Decidable (_ = _))

/-- The second condition says that the tile's number is below the word, -/
theorem cond2_iff (i : grid0.Coords) (w : BitVec 32) : k0_cond2 i w = 1#1 ↔ (BitVec.ofNat 32 (i 0).val).toInt < w.toInt := by
  unfold k0_cond2
  change IntOp.cmpi .ne (BitVec.setWidth 32 (IntOp.cmpi .slt (BitVec.ofNat 32 (i 0).val) w)) 0#32 = 1#1 ↔ _
  rw [WordCmp.cmpi_slt_eq]
  by_cases h : (BitVec.ofNat 32 (i 0).val).toInt < w.toInt
  · simp only [h, decide_true, iff_true]; decide
  · simp only [h, decide_false, iff_false]; decide

/-- and the first that it is not: the two are complementary. -/
theorem cond1_iff (i : grid0.Coords) (w : BitVec 32) : k0_cond1 i w = 1#1 ↔ ¬ k0_cond2 i w = 1#1 := by
  rw [cond2_iff, not_lt]
  unfold k0_cond1
  change IntOp.cmpi .ne (BitVec.setWidth 32 (IntOp.cmpi .sge (BitVec.ofNat 32 (i 0).val) w)) 0#32 = 1#1 ↔ _
  rw [WordCmp.cmpi_sge_eq]
  by_cases h : w.toInt ≤ (BitVec.ofNat 32 (i 0).val).toInt
  · simp only [h, decide_true, iff_true]; decide
  · simp only [h, decide_false, iff_false]; decide

variable {m} in
theorem zero_of_used {t : Fin grid0.N} (h : Used m t) : ¬ k0_cond1 (grid0.coords t) (word m t) = 1#1 :=
  fun hz => (cond1_iff _ _).mp hz h

variable {m} in
theorem zero_of_not_used {t : Fin grid0.N} (h : ¬ Used m t) : k0_cond1 (grid0.coords t) (word m t) = 1#1 :=
  (cond1_iff _ _).mpr h

/-! ## The kernel body on any staging memrefs: a subtype the run finds -/

/-- One staging buffer of output window 5, through which its contents are stated (`View.read_writes_of_cover`: the
    choice does not matter). -/
abbrev VO0_5 : View sig .tc .vmem S6144x128 .f32 := (Memref.whole cc0_stg5_0 : Memref sig .tc .vmem S6144x128 .f32).view
/-- Each window's current staging memref at point `t`, spelled as the pipeline passes it (`bodyAt0`), and its wholeness. -/
abbrev ms0_0 (hO : Ok m) (t : Fin (cfgM m hO).N) : Memref sig .tc .vmem S2048x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2816x5632 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x5632 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2816x2816 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x2816 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S6144x128 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S256x2816 .fp8e4m3 := Memref.whole cc0_scratch0
abbrev scM0_1 : Memref sig .tc .vmem S256x128 .f32 := Memref.whole cc0_scratch1
abbrev scM0_2 : Memref sig .tc .vmem S256x2816 .f32 := Memref.whole cc0_scratch2
abbrev scM0_3 : Memref sig .tc .vmem S256x2816 .fp8e4m3 := Memref.whole cc0_scratch3
abbrev scM0_4 : Memref sig .tc .vmem S256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.KIdeal.RunUsed.lean ====
/- The body's run at a tile that is in use. -/
module

public import proofs.«01_k».proof.Proof.KIdeal.Runs

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1160000 in
/-- What the body's stores leave in each output's staging memref, as pieces (last first) IN CASE A (`scf.if` 0 taken: points all), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_used (c : Dev nD) (i : grid0.Coords) (arg2 : Memref sig .tc .vmem S2048x128 .i32) (harg2 : arg2.IsWhole) (arg3 : Memref sig .tc .vmem S1x2816x5632 .fp8e4m3) (harg3 : arg3.IsWhole) (arg4 : Memref sig .tc .vmem S1x1x5632 .f32) (harg4 : arg4.IsWhole) (arg5 : Memref sig .tc .vmem S1x2816x2816 .fp8e4m3) (harg5 : arg5.IsWhole) (arg6 : Memref sig .tc .vmem S1x1x2816 .f32) (harg6 : arg6.IsWhole) (arg7 : Memref sig .tc .vmem S6144x128 .f32) (harg7 : arg7.IsWhole) (arg8 : Memref sig .tc .vmem S256x2816 .fp8e4m3) (harg8 : arg8.IsWhole) (arg9 : Memref sig .tc .vmem S256x128 .f32) (harg9 : arg9.IsWhole) (arg10 : Memref sig .tc .vmem S256x2816 .f32) (harg10 : arg10.IsWhole) (arg11 : Memref sig .tc .vmem S256x2816 .fp8e4m3) (harg11 : arg11.IsWhole) (arg12 : Memref sig .tc .vmem S256x128 .f32) (harg12 : arg12.IsWhole)
    (x0 : Vec F S2048x128 .i32) (x1 : Vec F S1x2816x5632 .fp8e4m3) (x2 : Vec F S1x1x5632 .f32) (x3 : Vec F S1x2816x2816 .fp8e4m3) (x4 : Vec F S1x1x2816 .f32) (xt0 : TbBuf0 (F := F) c tbM0_0) (hz : ¬ k0_cond1 i (tbM0_0.view.readAt (Elt F) (Rect.unit (s := S8x144) ![2, 0] S1x1.size inb_S8x144_S1x1_2_0).toLoadRect xt0 (Shape.Idx.first (numel1_S1x1.symm ▸ Nat.one_pos))) = 1#1) (hu : k0_cond2 i (tbM0_0.view.readAt (Elt F) (Rect.unit (s := S8x144) ![2, 0] S1x1.size inb_S8x144_S1x1_2_0).toLoadRect xt0 (Shape.Idx.first (numel1_S1x1.symm ▸ Nat.one_pos))) = 1#1) :
    Σ' (L5 : List (View.Piece (Elt F) S6144x128 .f32)), Σ' (LT0 : List (View.Piece (Elt F) S256x2816 .fp8e4m3)), Σ' (LT1 : List (View.Piece (Elt F) S256x128 .f32)), Σ' (LT2 : List (View.Piece (Elt F) S256x2816 .f32)), Σ' (LT3 : List (View.Piece (Elt F) S256x2816 .fp8e4m3)), { LT4 : List (View.Piece (Elt F) S256x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1) ∗ (∃ f, arg10.view.loc (c : Thread nD τ) ↦[arg10.view.set]{fullShare} arg10.view.writes (Elt F) f LT2) ∗ (∃ f, arg11.view.loc (c : Thread nD τ) ↦[arg11.view.set]{fullShare} arg11.view.writes (Elt F) f LT3) ∗ (∃ f, arg12.view.loc (c : Thread nD τ) ↦[arg12.view.set]{fullShare} arg12.view.writes (Elt F) f LT4) ∗ tbPt0 c tbM0_0 xt0) -∗ K ⟨⟩))
          ⊢ wp frame (wpE (defs₀ (F := F)) Variants.none c none) E (cc0_experts i tbM0_0 htbM0_0 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0_experts_eq_skeleton]; unfold cc0_experts_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hz | sl_exact hu)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexact HT0

end Cert.KernelIdeal.Hand

end
-- ==== Proof.KIdeal.RunZero.lean ====
/- The body's run at a tile that is not in use: it stores zeros. -/
module

public import proofs.«01_k».proof.Proof.KIdeal.RunUsed

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 not taken: points all), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_zero (c : Dev nD) (i : grid0.Coords) (arg2 : Memref sig .tc .vmem S2048x128 .i32) (harg2 : arg2.IsWhole) (arg3 : Memref sig .tc .vmem S1x2816x5632 .fp8e4m3) (harg3 : arg3.IsWhole) (arg4 : Memref sig .tc .vmem S1x1x5632 .f32) (harg4 : arg4.IsWhole) (arg5 : Memref sig .tc .vmem S1x2816x2816 .fp8e4m3) (harg5 : arg5.IsWhole) (arg6 : Memref sig .tc .vmem S1x1x2816 .f32) (harg6 : arg6.IsWhole) (arg7 : Memref sig .tc .vmem S6144x128 .f32) (harg7 : arg7.IsWhole) (arg8 : Memref sig .tc .vmem S256x2816 .fp8e4m3) (harg8 : arg8.IsWhole) (arg9 : Memref sig .tc .vmem S256x128 .f32) (harg9 : arg9.IsWhole) (arg10 : Memref sig .tc .vmem S256x2816 .f32) (harg10 : arg10.IsWhole) (arg11 : Memref sig .tc .vmem S256x2816 .fp8e4m3) (harg11 : arg11.IsWhole) (arg12 : Memref sig .tc .vmem S256x128 .f32) (harg12 : arg12.IsWhole)
    (x0 : Vec F S2048x128 .i32) (x1 : Vec F S1x2816x5632 .fp8e4m3) (x2 : Vec F S1x1x5632 .f32) (x3 : Vec F S1x2816x2816 .fp8e4m3) (x4 : Vec F S1x1x2816 .f32) (xt0 : TbBuf0 (F := F) c tbM0_0) (hz : k0_cond1 i (tbM0_0.view.readAt (Elt F) (Rect.unit (s := S8x144) ![2, 0] S1x1.size inb_S8x144_S1x1_2_0).toLoadRect xt0 (Shape.Idx.first (numel1_S1x1.symm ▸ Nat.one_pos))) = 1#1) (hu : ¬ k0_cond2 i (tbM0_0.view.readAt (Elt F) (Rect.unit (s := S8x144) ![2, 0] S1x1.size inb_S8x144_S1x1_2_0).toLoadRect xt0 (Shape.Idx.first (numel1_S1x1.symm ▸ Nat.one_pos))) = 1#1) :
    Σ' (L5 : List (View.Piece (Elt F) S6144x128 .f32)), Σ' (LT0 : List (View.Piece (Elt F) S256x2816 .fp8e4m3)), Σ' (LT1 : List (View.Piece (Elt F) S256x128 .f32)), Σ' (LT2 : List (View.Piece (Elt F) S256x2816 .f32)), Σ' (LT3 : List (View.Piece (Elt F) S256x2816 .fp8e4m3)), { LT4 : List (View.Piece (Elt F) S256x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_experts i tbM0_0 htbM0_0 arg2 harg2 arg3 harg3 arg4 harg4 arg5 harg5 arg6 harg6 arg7 harg7 arg8 harg8 arg9 harg9 arg10 harg10 arg11 harg11 arg12 harg12) K } := by
  refine ⟨?_, [], [], [], [], [], fun E K => ?run⟩
  case run =>
    simp only [cc0_experts_eq_skeleton]; unfold cc0_experts_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hz | sl_exact hu)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexact HT0

end Cert.KernelIdeal.Hand

end
-- ==== Proof.Strided.lean ====
/- Rows written at a stride: an array of `24 · 256` rows of 128 lanes is covered by one strided piece per residue. -/
module

public import Idealize.ShloMosaic.Lib.Ring
public import Idealize.ShloMosaic.Lib.Tactic

@[expose] public section

noncomputable section

namespace Cert.Strided

open Idealize.ShloMosaic

/-- The array written: rows `24 r + j`, `j < 24`, of 128 lanes. -/
abbrev SOut : Shape := ⟨2, ![6144, 128]⟩

variable {Val : EltTy → Type}

/-- The piece `p` is the rows `j, j + 24, …` of the array, all lanes. -/
def isRows (j : ℕ) (p : View.Piece Val SOut .f32) : Bool :=
  Nat.beq (p.1.off 0) j && Nat.beq (p.1.size 0) 256 && Nat.beq (p.1.stride 0) 24 &&
    (Nat.beq (p.1.off 1) 0 && Nat.beq (p.1.size 1) 128 && Nat.beq (p.1.stride 1) 1)

/-- Every residue has its piece. -/
def allRows (L : List (View.Piece Val SOut .f32)) : Bool :=
  [0, 1, 2, 3, 4, 5, 6, 7, 8, 9, 10, 11, 12, 13, 14, 15, 16, 17, 18, 19, 20, 21, 22, 23].all fun j => L.any (isRows j)

/-- Such pieces cover the array. -/
theorem cover (L : List (View.Piece Val SOut .f32)) (h : allRows L = true) (y : SOut.Idx) : ∃ p ∈ L, y ∈ p.1.set := by
  have h0 : (y 0).val < 6144 := (y 0).isLt
  have h1 : (y 1).val < 128 := (y 1).isLt
  have hj : (y 0).val % 24 ∈ [0, 1, 2, 3, 4, 5, 6, 7, 8, 9, 10, 11, 12, 13, 14, 15, 16, 17, 18, 19, 20, 21, 22, 23] := by
    exact (by decide : ∀ r : Fin 24, r.val ∈ [0, 1, 2, 3, 4, 5, 6, 7, 8, 9, 10, 11, 12, 13, 14, 15, 16, 17, 18, 19, 20, 21, 22, 23])
      ⟨_, Nat.mod_lt (y 0).val (by decide)⟩
  obtain ⟨p, hp, hr⟩ := List.any_eq_true.mp (List.all_eq_true.mp h _ hj)
  refine ⟨p, hp, ?_⟩
  simp only [isRows, Bool.and_eq_true] at hr
  obtain ⟨⟨⟨a1, a2⟩, a3⟩, ⟨b1, b2⟩, b3⟩ := hr
  replace a1 := Nat.eq_of_beq_eq_true a1
  replace a2 := Nat.eq_of_beq_eq_true a2
  replace a3 := Nat.eq_of_beq_eq_true a3
  replace b1 := Nat.eq_of_beq_eq_true b1
  replace b2 := Nat.eq_of_beq_eq_true b2
  replace b3 := Nat.eq_of_beq_eq_true b3
  refine (LoadRect.mem_set _).mpr fun a => ?_
  match a with
  | ⟨0, _⟩ => exact ⟨(y 0).val / 24, by show _ < p.1.size 0; omega,
      by show (y 0).val = p.1.off 0 + p.1.stride 0 * ((y 0).val / 24); rw [a1, a3]; omega⟩
  | ⟨1, _⟩ => exact ⟨(y 1).val, by show _ < p.1.size 1; omega,
      by show (y 1).val = p.1.off 1 + p.1.stride 1 * (y 1).val; rw [b1, b3]; omega⟩

end Cert.Strided

end
-- ==== Proof.KIdeal.Frame.lean ====
/- The pipeline's proof data, the body's obligation, the launch and the frame. -/
module

public import proofs.«01_k».proof.Proof.KIdeal.RunZero
public import proofs.«01_k».proof.Proof.Strided
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- A used tile's pieces for the output are one strided piece per residue of the row modulo 24, so they cover its block. -/
theorem cover0_used (c : Dev nD) (i : grid0.Coords) (arg2 : Memref sig .tc .vmem S2048x128 .i32) (harg2 : arg2.IsWhole) (arg3 : Memref sig .tc .vmem S1x2816x5632 .fp8e4m3) (harg3 : arg3.IsWhole) (arg4 : Memref sig .tc .vmem S1x1x5632 .f32) (harg4 : arg4.IsWhole) (arg5 : Memref sig .tc .vmem S1x2816x2816 .fp8e4m3) (harg5 : arg5.IsWhole) (arg6 : Memref sig .tc .vmem S1x1x2816 .f32) (harg6 : arg6.IsWhole) (arg7 : Memref sig .tc .vmem S6144x128 .f32) (harg7 : arg7.IsWhole) (arg8 : Memref sig .tc .vmem S256x2816 .fp8e4m3) (harg8 : arg8.IsWhole) (arg9 : Memref sig .tc .vmem S256x128 .f32) (harg9 : arg9.IsWhole) (arg10 : Memref sig .tc .vmem S256x2816 .f32) (harg10 : arg10.IsWhole) (arg11 : Memref sig .tc .vmem S256x2816 .fp8e4m3) (harg11 : arg11.IsWhole) (arg12 : Memref sig .tc .vmem S256x128 .f32) (harg12 : arg12.IsWhole)
    (x0 : Vec F S2048x128 .i32) (x1 : Vec F S1x2816x5632 .fp8e4m3) (x2 : Vec F S1x1x5632 .f32) (x3 : Vec F S1x2816x2816 .fp8e4m3) (x4 : Vec F S1x1x2816 .f32) (xt0 : TbBuf0 (F := F) c tbM0_0) (hz : ¬ k0_cond1 i (tbM0_0.view.readAt (Elt F) (Rect.unit (s := S8x144) ![2, 0] S1x1.size inb_S8x144_S1x1_2_0).toLoadRect xt0 (Shape.Idx.first (numel1_S1x1.symm ▸ Nat.one_pos))) = 1#1) (hu : k0_cond2 i (tbM0_0.view.readAt (Elt F) (Rect.unit (s := S8x144) ![2, 0] S1x1.size inb_S8x144_S1x1_2_0).toLoadRect xt0 (Shape.Idx.first (numel1_S1x1.symm ▸ Nat.one_pos))) = 1#1) (y : S6144x128.Idx) :
    ∃ pc ∈ (kernelRun0_used c i arg2 harg2 arg3 harg3 arg4 harg4 arg5 harg5 arg6 harg6 arg7 harg7 arg8 harg8 arg9 harg9 arg10 harg10 arg11 harg11 arg12 harg12 x0 x1 x2 x3 x4 xt0 hz hu).1, y ∈ pc.1.set :=
  Strided.cover (kernelRun0_used c i arg2 harg2 arg3 harg3 arg4 harg4 arg5 harg5 arg6 harg6 arg7 harg7 arg8 harg8 arg9 harg9 arg10 harg10 arg11 harg11 arg12 harg12 x0 x1 x2 x3 x4 xt0 hz hu).1 (by sl_kernel_rfl) y

/-- What case A leaves in output 5's staging buffer: its pieces read back over junk. -/
def out0_used (c : Dev nD) (i : grid0.Coords) (arg2 : Memref sig .tc .vmem S2048x128 .i32) (harg2 : arg2.IsWhole) (arg3 : Memref sig .tc .vmem S1x2816x5632 .fp8e4m3) (harg3 : arg3.IsWhole) (arg4 : Memref sig .tc .vmem S1x1x5632 .f32) (harg4 : arg4.IsWhole) (arg5 : Memref sig .tc .vmem S1x2816x2816 .fp8e4m3) (harg5 : arg5.IsWhole) (arg6 : Memref sig .tc .vmem S1x1x2816 .f32) (harg6 : arg6.IsWhole) (arg7 : Memref sig .tc .vmem S6144x128 .f32) (harg7 : arg7.IsWhole) (arg8 : Memref sig .tc .vmem S256x2816 .fp8e4m3) (harg8 : arg8.IsWhole) (arg9 : Memref sig .tc .vmem S256x128 .f32) (harg9 : arg9.IsWhole) (arg10 : Memref sig .tc .vmem S256x2816 .f32) (harg10 : arg10.IsWhole) (arg11 : Memref sig .tc .vmem S256x2816 .fp8e4m3) (harg11 : arg11.IsWhole) (arg12 : Memref sig .tc .vmem S256x128 .f32) (harg12 : arg12.IsWhole)
    (x0 : Vec F S2048x128 .i32) (x1 : Vec F S1x2816x5632 .fp8e4m3) (x2 : Vec F S1x1x5632 .f32) (x3 : Vec F S1x2816x2816 .fp8e4m3) (x4 : Vec F S1x1x2816 .f32) (xt0 : TbBuf0 (F := F) c tbM0_0) (hz : ¬ k0_cond1 i (tbM0_0.view.readAt (Elt F) (Rect.unit (s := S8x144) ![2, 0] S1x1.size inb_S8x144_S1x1_2_0).toLoadRect xt0 (Shape.Idx.first (numel1_S1x1.symm ▸ Nat.one_pos))) = 1#1) (hu : k0_cond2 i (tbM0_0.view.readAt (Elt F) (Rect.unit (s := S8x144) ![2, 0] S1x1.size inb_S8x144_S1x1_2_0).toLoadRect xt0 (Shape.Idx.first (numel1_S1x1.symm ▸ Nat.one_pos))) = 1#1) : Vec F S6144x128 .f32 :=
  VO0_5.read (Elt F) (VO0_5.writes (Elt F) VO0_5.junk (kernelRun0_used c i arg2 harg2 arg3 harg3 arg4 harg4 arg5 harg5 arg6 harg6 arg7 harg7 arg8 harg8 arg9 harg9 arg10 harg10 arg11 harg11 arg12 harg12 x0 x1 x2 x3 x4 xt0 hz hu).1)

/-- Case B's pieces for output 5 tile its block (1 store of `S6144x128`, checked by the kernel's evaluation: Lib/Ring.lean `Piece.tiledL`, linear in the pieces, through a loop's `@[irreducible]` trip theorem too), so they cover it. -/
theorem cover0_zero (c : Dev nD) (i : grid0.Coords) (arg2 : Memref sig .tc .vmem S2048x128 .i32) (harg2 : arg2.IsWhole) (arg3 : Memref sig .tc .vmem S1x2816x5632 .fp8e4m3) (harg3 : arg3.IsWhole) (arg4 : Memref sig .tc .vmem S1x1x5632 .f32) (harg4 : arg4.IsWhole) (arg5 : Memref sig .tc .vmem S1x2816x2816 .fp8e4m3) (harg5 : arg5.IsWhole) (arg6 : Memref sig .tc .vmem S1x1x2816 .f32) (harg6 : arg6.IsWhole) (arg7 : Memref sig .tc .vmem S6144x128 .f32) (harg7 : arg7.IsWhole) (arg8 : Memref sig .tc .vmem S256x2816 .fp8e4m3) (harg8 : arg8.IsWhole) (arg9 : Memref sig .tc .vmem S256x128 .f32) (harg9 : arg9.IsWhole) (arg10 : Memref sig .tc .vmem S256x2816 .f32) (harg10 : arg10.IsWhole) (arg11 : Memref sig .tc .vmem S256x2816 .fp8e4m3) (harg11 : arg11.IsWhole) (arg12 : Memref sig .tc .vmem S256x128 .f32) (harg12 : arg12.IsWhole)
    (x0 : Vec F S2048x128 .i32) (x1 : Vec F S1x2816x5632 .fp8e4m3) (x2 : Vec F S1x1x5632 .f32) (x3 : Vec F S1x2816x2816 .fp8e4m3) (x4 : Vec F S1x1x2816 .f32) (xt0 : TbBuf0 (F := F) c tbM0_0) (hz : k0_cond1 i (tbM0_0.view.readAt (Elt F) (Rect.unit (s := S8x144) ![2, 0] S1x1.size inb_S8x144_S1x1_2_0).toLoadRect xt0 (Shape.Idx.first (numel1_S1x1.symm ▸ Nat.one_pos))) = 1#1) (hu : ¬ k0_cond2 i (tbM0_0.view.readAt (Elt F) (Rect.unit (s := S8x144) ![2, 0] S1x1.size inb_S8x144_S1x1_2_0).toLoadRect xt0 (Shape.Idx.first (numel1_S1x1.symm ▸ Nat.one_pos))) = 1#1) (y : S6144x128.Idx) :
    ∃ pc ∈ (kernelRun0_zero c i arg2 harg2 arg3 harg3 arg4 harg4 arg5 harg5 arg6 harg6 arg7 harg7 arg8 harg8 arg9 harg9 arg10 harg10 arg11 harg11 arg12 harg12 x0 x1 x2 x3 x4 xt0 hz hu).1, y ∈ pc.1.set :=
  View.cover_of_tiledL (kernelRun0_zero c i arg2 harg2 arg3 harg3 arg4 harg4 arg5 harg5 arg6 harg6 arg7 harg7 arg8 harg8 arg9 harg9 arg10 harg10 arg11 harg11 arg12 harg12 x0 x1 x2 x3 x4 xt0 hz hu).1 S6144x128.size (by sl_kernel_rfl) y

/-- What case B leaves in output 5's staging buffer: its pieces read back over junk. -/
def out0_zero (c : Dev nD) (i : grid0.Coords) (arg2 : Memref sig .tc .vmem S2048x128 .i32) (harg2 : arg2.IsWhole) (arg3 : Memref sig .tc .vmem S1x2816x5632 .fp8e4m3) (harg3 : arg3.IsWhole) (arg4 : Memref sig .tc .vmem S1x1x5632 .f32) (harg4 : arg4.IsWhole) (arg5 : Memref sig .tc .vmem S1x2816x2816 .fp8e4m3) (harg5 : arg5.IsWhole) (arg6 : Memref sig .tc .vmem S1x1x2816 .f32) (harg6 : arg6.IsWhole) (arg7 : Memref sig .tc .vmem S6144x128 .f32) (harg7 : arg7.IsWhole) (arg8 : Memref sig .tc .vmem S256x2816 .fp8e4m3) (harg8 : arg8.IsWhole) (arg9 : Memref sig .tc .vmem S256x128 .f32) (harg9 : arg9.IsWhole) (arg10 : Memref sig .tc .vmem S256x2816 .f32) (harg10 : arg10.IsWhole) (arg11 : Memref sig .tc .vmem S256x2816 .fp8e4m3) (harg11 : arg11.IsWhole) (arg12 : Memref sig .tc .vmem S256x128 .f32) (harg12 : arg12.IsWhole)
    (x0 : Vec F S2048x128 .i32) (x1 : Vec F S1x2816x5632 .fp8e4m3) (x2 : Vec F S1x1x5632 .f32) (x3 : Vec F S1x2816x2816 .fp8e4m3) (x4 : Vec F S1x1x2816 .f32) (xt0 : TbBuf0 (F := F) c tbM0_0) (hz : k0_cond1 i (tbM0_0.view.readAt (Elt F) (Rect.unit (s := S8x144) ![2, 0] S1x1.size inb_S8x144_S1x1_2_0).toLoadRect xt0 (Shape.Idx.first (numel1_S1x1.symm ▸ Nat.one_pos))) = 1#1) (hu : ¬ k0_cond2 i (tbM0_0.view.readAt (Elt F) (Rect.unit (s := S8x144) ![2, 0] S1x1.size inb_S8x144_S1x1_2_0).toLoadRect xt0 (Shape.Idx.first (numel1_S1x1.symm ▸ Nat.one_pos))) = 1#1) : Vec F S6144x128 .f32 :=
  VO0_5.read (Elt F) (VO0_5.writes (Elt F) VO0_5.junk (kernelRun0_zero c i arg2 harg2 arg3 harg3 arg4 harg4 arg5 harg5 arg6 harg6 arg7 harg7 arg8 harg8 arg9 harg9 arg10 harg10 arg11 harg11 arg12 harg12 x0 x1 x2 x3 x4 xt0 hz hu).1)

/-! ## What the outputs hold after each point -/

/-- What the outputs' staging buffers hold after the body at point `t`: the run's contents at
    the point's memrefs and input blocks, the case its WORD conditions select there. -/
def outsAt0 (hO : Ok m) (c : Dev nD) (t : Fin (cfgM m hO).N) : Vec F S6144x128 .f32 :=
  if h0 : Used m t then
    out0_used c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) (iblk m hO c 0 t) (iblk m hO c 1 t) (iblk m hO c 2 t) (iblk m hO c 3 t) (iblk m hO c 4 t) (tbl m 0) (zero_of_used h0) h0
  else
    out0_zero c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) (iblk m hO c 0 t) (iblk m hO c 1 t) (iblk m hO c 2 t) (iblk m hO c 3 t) (iblk m hO c 4 t) (tbl m 0) (zero_of_not_used h0) h0

/-- `outsAt0` at a point of case A: that case's contents. -/
theorem outsAt0_used (hO : Ok m) (c : Dev nD) (t : Fin (cfgM m hO).N) (h0 : Used m t) :
    outsAt0 m hO c t = out0_used c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) (iblk m hO c 0 t) (iblk m hO c 1 t) (iblk m hO c 2 t) (iblk m hO c 3 t) (iblk m hO c 4 t) (tbl m 0) (zero_of_used h0) h0 := by
  unfold outsAt0; exact (dif_pos h0).trans rfl

/-- `outsAt0` at a point of case B: that case's contents. -/
theorem outsAt0_zero (hO : Ok m) (c : Dev nD) (t : Fin (cfgM m hO).N) (h0 : ¬ Used m t) :
    outsAt0 m hO c t = out0_zero c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) (iblk m hO c 0 t) (iblk m hO c 1 t) (iblk m hO c 2 t) (iblk m hO c 3 t) (iblk m hO c 4 t) (tbl m 0) (zero_of_not_used h0) h0 := by
  unfold outsAt0; exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 4000000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq, PhiA0_eq]
  by_cases h0 : Used m t
  · rw [outsAt0_used m hO c t h0]
    unfold out0_used
    iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩⟩
    iapply ((kernelRun0_used c (grid0.coords t) _ _ _ _ _ _ _ _ _ _ _ _ _ _ _ _ _ _ _ _ _ _ (iblk m hO c 0 t) (iblk m hO c 1 t) (iblk m hO c 2 t) (iblk m hO c 3 t) (iblk m hO c 4 t) (tbl m 0) (zero_of_used h0) h0).2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HT0]; · iexact HT0
    iintro ⟨H0, H1, H2, H3, H4, ⟨%e5, H5⟩, ⟨%fT0, HS0⟩, ⟨%fT1, HS1⟩, ⟨%fT2, HS2⟩, ⟨%fT3, HS3⟩, ⟨%fT4, HS4⟩, HT0⟩
    isplitl [HS0 HS1 HS2 HS3 HS4 Hg HT0]
    · isplitl [HS0 HS1 HS2 HS3 HS4 Hg]
      · isplitl [HS0 HS1 HS2 HS3 HS4]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      iexact HT0
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_used c _ _ _ _ _ _ _ _ _ _ _ _ _ _ _ _ _ _ _ _ _ _ _ _ _ _ _ _ _ _ _)
  · rw [outsAt0_zero m hO c t h0]
    unfold out0_zero
    iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩⟩
    iapply ((kernelRun0_zero c (grid0.coords t) _ _ _ _ _ _ _ _ _ _ _ _ _ _ _ _ _ _ _ _ _ _ (iblk m hO c 0 t) (iblk m hO c 1 t) (iblk m hO c 2 t) (iblk m hO c 3 t) (iblk m hO c 4 t) (tbl m 0) (zero_of_not_used h0) h0).2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HT0]; · iexact HT0
    iintro ⟨H0, H1, H2, H3, H4, ⟨%e5, H5⟩, HS0, HS1, HS2, HS3, HS4, HT0⟩
    isplitl [HS0 HS1 HS2 HS3 HS4 Hg HT0]
    · isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      iexact HT0
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_zero c _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output window is written back at every point, so what the body leaves in it is stated at every point. -/
theorem leaves0_5 (hO : Ok m) (c : Dev nD) (t : Fin (cfgM m hO).N) :
    (dats m hO 0 c).leavesExact 5 t = owns (c : Thread nD τ) (ms0_5 m hO t) fullShare ((dats m hO 0 c).after 5 t) := by
  unfold Dat.leavesExact
  rw [show ((cfgM m hO).win 5).flush t = true from flush0_5 (adm m hO) t]
  cases (cfgM m hO).idle 5 ((cfgM m hO).grid.coords t) <;> rfl

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  exact sep_mono .rfl (sep_mono .rfl (sep_mono .rfl (sep_mono .rfl (sep_mono .rfl (sep_mono .rfl (sep_mono .rfl
    (BIBase.Entails.of_eq (leaves0_5 m hO c t).symm)))))))

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame: every argument array ends unchanged, and every semaphore counter ends at zero, where the tables' words
    put every block inside its array (`Ok`). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.KernelIdeal.Hand

end
-- ==== Proof.KIdeal.Words.lean ====
/- The words of the table as the pipeline reads them, and the side condition of its contents under the precondition. -/
module

public import proofs.«01_k».proof.Proof.KIdeal.Runs
public import proofs.«01_k».proof.Proof.Routed
public import Idealize.ShloMosaic.Lib.PairWhole

@[expose] public section

noncomputable section

namespace Cert.KernelIdeal.Hand

open Cert.KernelIdeal.Gen Cert.Routed
open Idealize.ShloMosaic Idealize.ShloMosaic.TcCoe Idealize.ShloMosaic.ValueIdx

variable {F : FTy → Type} [FloatOps F]
variable (m : (ℓ : Loc nD τ sig) → Buf (Elt F) ℓ)

/-- The table as launched. -/
abbrev meta0 : IVec S8x144 32 := m ((0 : Dev nD).tc.loc main_arg0)

theorem tbl_eq : tbl m 0 = meta0 m := V_main_arg0 m 0

/-- Grid coordinates as a tile number. -/
abbrev tileOf (i : grid0.Coords) : Fin 144 := i 0

/-- A word of row `k` read at a grid point's column. -/
theorem at_row (w : pre0.Contents (Elt F)) (i : grid0.Coords) (k : Fin 8) (o : Fin 2 → ℕ) (h0 : o 0 = k.val) (h1 : o 1 = (i 0).val)
    (inb : ∀ a, o a + S1x1.size a ≤ S8x144.size a) (h : S1x1.numel = 1) :
    w.at 0 (Rect.unit (s := S8x144) o S1x1.size inb) h = w 0 (ix2 k (tileOf i)) := by
  refine congrArg (w 0) (funext fun a => Fin.ext ?_)
  refine (Rect.emb_apply (Rect.unit (s := S8x144) o S1x1.size inb) _ a).trans ?_
  match a with
  | ⟨0, _⟩ => exact (by rw [h0]; rfl : o 0 + 1 * 0 = k.val)
  | ⟨1, _⟩ => exact (by rw [h1]; rfl : o 1 + 1 * 0 = (i 0).val)

theorem coord_word (i : grid0.Coords) : (BitVec.ofNat 32 (i 0).val).toNat = (i 0).val :=
  WordCmp.toNat_ofNat_of_lt (Nat.lt_trans (i 0).isLt (by decide))

/-- The weights' and scales' index maps name the tile's expert; the words' names the tile's block. -/
theorem transform_0_eq (w : pre0.Contents (Elt F)) (i : grid0.Coords) :
    cc0_transform_0 k0_off1_inb numel1_S1x1 w i = ![(at2 (w 0) 1 (tileOf i)).toNat, 0] := by
  exact congrArg (fun x : BitVec 32 => (![x.toNat, 0] : Fin 2 → ℕ)) (at_row w i 1 _ rfl (coord_word i) _ _)
theorem transform_1_eq (w : pre0.Contents (Elt F)) (i : grid0.Coords) :
    cc0_transform_1 k0_off2_inb numel1_S1x1 w i = ![(at2 (w 0) 0 (tileOf i)).toNat, 0, 0] := by
  exact congrArg (fun x : BitVec 32 => (![x.toNat, 0, 0] : Fin 3 → ℕ)) (at_row w i 0 _ rfl (coord_word i) _ _)
theorem transform_2_eq (w : pre0.Contents (Elt F)) (i : grid0.Coords) :
    cc0_transform_2 k0_off2_inb numel1_S1x1 w i = ![(at2 (w 0) 0 (tileOf i)).toNat, 0, 0] := by
  exact congrArg (fun x : BitVec 32 => (![x.toNat, 0, 0] : Fin 3 → ℕ)) (at_row w i 0 _ rfl (coord_word i) _ _)
theorem transform_3_eq (w : pre0.Contents (Elt F)) (i : grid0.Coords) :
    cc0_transform_3 k0_off2_inb numel1_S1x1 w i = ![(at2 (w 0) 0 (tileOf i)).toNat, 0, 0] := by
  exact congrArg (fun x : BitVec 32 => (![x.toNat, 0, 0] : Fin 3 → ℕ)) (at_row w i 0 _ rfl (coord_word i) _ _)
theorem transform_4_eq (w : pre0.Contents (Elt F)) (i : grid0.Coords) :
    cc0_transform_4 k0_off2_inb numel1_S1x1 w i = ![(at2 (w 0) 0 (tileOf i)).toNat, 0, 0] := by
  exact congrArg (fun x : BitVec 32 => (![x.toNat, 0, 0] : Fin 3 → ℕ)) (at_row w i 0 _ rfl (coord_word i) _ _)

/-- A block of whole rows named by its leading index, inside its array. -/
theorem inb3 {a b c : ℕ} (e : ℕ) (he : e < a) (ix : Fin 3 → ℕ) (hix : ix = ![e, 0, 0]) (d : Fin 3) :
    (ix d + 1) * (![1, b, c] : Fin 3 → ℕ) d ≤ (![a, b, c] : Fin 3 → ℕ) d := by
  subst hix
  match d with
  | ⟨0, _⟩ => show (e + 1) * 1 ≤ a; omega
  | ⟨1, _⟩ => show (0 + 1) * b ≤ b; omega
  | ⟨2, _⟩ => show (0 + 1) * c ≤ c; omega

/-- A block at index zero of an axis starts at zero there. -/
theorem block_off_zero {s : Shape} (size ix : Fin s.rank → ℕ) (h : ∀ a, (ix a + 1) * size a ≤ s.size a) (a : Fin s.rank) (h0 : ix a = 0) :
    (Rect.block size ix h).off a = 0 := by
  show ix a * size a = 0
  rw [h0, Nat.zero_mul]

/-- The side condition of the table's contents, from the decoded precondition. -/
theorem ok_of_decoded (w : pre0.Contents (Elt F)) (h : InRange (w 0)) : ok0 w := by
  refine ⟨fun i => ⟨fun a => ?_, .inl rfl⟩, fun i => ⟨inb3 _ (h.expert (tileOf i)) _ (transform_1_eq w i), .inr (.inr ⟨by decide, rfl, ?_, rfl⟩)⟩,
    fun i => ⟨inb3 _ (h.expert (tileOf i)) _ (transform_2_eq w i), .inl rfl⟩, fun i => ⟨inb3 _ (h.expert (tileOf i)) _ (transform_3_eq w i), .inr (.inr ⟨by decide, rfl, ?_, rfl⟩)⟩,
    fun i => ⟨inb3 _ (h.expert (tileOf i)) _ (transform_4_eq w i), .inl rfl⟩⟩
  · rw [transform_0_eq]
    have := h.tile (tileOf i)
    match a with
    | ⟨0, _⟩ => show ((at2 (w 0) 1 (tileOf i)).toNat + 1) * 2048 ≤ 294912; omega
    | ⟨1, _⟩ => show (0 + 1) * 128 ≤ 128; omega
  · exact block_off_zero _ _ _ _ (congrFun (transform_1_eq w i) 1)
  · exact block_off_zero _ _ _ _ (congrFun (transform_3_eq w i) 1)

end Cert.KernelIdeal.Hand

end
-- ==== Proof.Row.lean ====
/- One row's arithmetic over the extended reals: the scales' powers of two, the row's exponent, and its greatest
   magnitude, each in the kernel's spelling and in the reference's, with the equations between the two. -/
module

public import Idealize.ShloMosaic.Lib.Pointwise
public import Idealize.ShloMosaic.PureOps.Ideal
public import Mathlib.Analysis.SpecialFunctions.Log.Basic

@[expose] public section

noncomputable section

namespace Cert.Row

open Idealize.ShloMosaic
open scoped BigOperators

/-! ## The constants -/

/-- A normal float's value, from its three fields. -/
theorem ieee_mid (b : BitVec 32) (s : Bool) (ex fr : Nat) (hs : (b.extractLsb' (8 + 23) 1 == 1#1) = s)
    (hx : (b.extractLsb' 23 8).toNat = ex) (hf : (b.extractLsb' 0 23).toNat = fr) (h0 : ex ≠ 0) (h1 : ex ≠ 255) :
    Ideal.ofBits .f32 b = (((if s then (-1 : ℝ) else 1) * ((2 : ℝ) ^ (23 : ℤ) + fr) * (2 : ℝ) ^ ((ex : ℤ) - 150) : ℝ) : EReal) := by
  show Ideal.ieee 8 23 b = _
  unfold Ideal.ieee
  simp only [hs, hx, hf]
  rw [if_neg (show ¬ ex = 2 ^ 8 - 1 by simpa using h1), if_neg h0]
  congr 2
  · push_cast; congr 2; norm_num
  · congr 1; omega
theorem c_neg126 : Ideal.ofBits .f32 0xC2FC0000#32 = ((-126 : ℝ) : EReal) := by
  rw [ieee_mid _ true 133 0x7C0000 (by decide) (by decide) (by decide) (by decide) (by decide)]
  congr 1; norm_num
theorem c_127 : Ideal.ofBits .f32 0x42FE0000#32 = ((127 : ℝ) : EReal) := by
  rw [ieee_mid _ false 133 0x7E0000 (by decide) (by decide) (by decide) (by decide) (by decide)]
  congr 1; norm_num
theorem c_128 : Ideal.ofBits .f32 0x43000000#32 = ((128 : ℝ) : EReal) := by
  rw [ieee_mid _ false 134 0 (by decide) (by decide) (by decide) (by decide) (by decide)]
  congr 1; norm_num
theorem c_2 : Ideal.ofBits .f32 0x40000000#32 = ((2 : ℝ) : EReal) := by
  rw [ieee_mid _ false 128 0 (by decide) (by decide) (by decide) (by decide) (by decide)]
  congr 1; norm_num
theorem c_min : Ideal.ofBits .f32 0x00800000#32 = (((2 : ℝ) ^ (-126 : ℤ) : ℝ) : EReal) := by
  rw [ieee_mid _ false 1 0 (by decide) (by decide) (by decide) (by decide) (by decide)]
  congr 1; norm_num
theorem c_top : Ideal.ofBits .f32 0x7F800000#32 = ⊤ := by
  simp [Ideal.ofBits, Ideal.ieee]
theorem c_bot : Ideal.ofBits .f32 0xFF800000#32 = ⊥ := by
  simp [Ideal.ofBits, Ideal.ieee]

/-- The float whose exponent field is `f` and whose other bits are zero. -/
def fieldVal (f : Nat) : EReal := Ideal.ofBits .f32 (BitVec.ofNat 32 (f * 2 ^ 23))

theorem fieldVal_zero : fieldVal 0 = 0 := by
  simp [fieldVal, Ideal.ofBits, Ideal.ieee]
theorem fieldVal_top : fieldVal 255 = ⊤ := by
  simp [fieldVal, Ideal.ofBits, Ideal.ieee]
theorem field_bits (f : Nat) (h1 : f < 256) : (BitVec.ofNat 32 (f * 2 ^ 23)).toNat = f * 8388608 := by
  rw [BitVec.toNat_ofNat, show (2 : ℕ) ^ 23 = 8388608 by norm_num, show (2 : ℕ) ^ 32 = 4294967296 by norm_num]
  omega
theorem fieldVal_mid (f : Nat) (h0 : 0 < f) (h1 : f < 255) :
    fieldVal f = (((2 : ℝ) ^ ((f : ℤ) - 127) : ℝ) : EReal) := by
  have hb := field_bits f (by omega)
  unfold fieldVal
  generalize BitVec.ofNat 32 (f * 2 ^ 23) = b at hb ⊢
  have e1 : (b.extractLsb' 23 8).toNat = f := by
    rw [BitVec.extractLsb'_toNat, hb, Nat.shiftRight_eq_div_pow, show (2 : ℕ) ^ 23 = 8388608 by norm_num,
      show (2 : ℕ) ^ 8 = 256 by norm_num]
    omega
  have e2 : (b.extractLsb' 0 23).toNat = 0 := by
    rw [BitVec.extractLsb'_toNat, hb, Nat.shiftRight_eq_div_pow, show (2 : ℕ) ^ 23 = 8388608 by norm_num,
      show (2 : ℕ) ^ 0 = 1 by norm_num]
    omega
  have e3 : b.extractLsb' (8 + 23) 1 = 0#1 := by
    apply BitVec.eq_of_toNat_eq
    rw [BitVec.extractLsb'_toNat, hb, Nat.shiftRight_eq_div_pow, show (2 : ℕ) ^ (8 + 23) = 2147483648 by norm_num,
      show (2 : ℕ) ^ 1 = 2 by norm_num, show (0#1).toNat = 0 from rfl]
    omega
  rw [ieee_mid b false f 0 (by rw [e3]; decide) e1 e2 (by omega) (by omega)]
  have : ((if false = true then (-1 : ℝ) else 1) * ((2 : ℝ) ^ (23 : ℤ) + (0 : ℕ)) * (2 : ℝ) ^ ((f : ℤ) - 150)) = (2 : ℝ) ^ ((f : ℤ) - 127) := by
    rw [if_neg (by decide), one_mul, Nat.cast_zero, add_zero, ← zpow_add₀ (by norm_num : (2 : ℝ) ≠ 0),
      show (23 : ℤ) + ((f : ℤ) - 150) = (f : ℤ) - 127 by ring]
  rw [this]

/-! ## Powers of two -/

/-- A power of two as a float scale: zero below the normal range, infinite above it. -/
def pow2 (e : EReal) : EReal :=
  if e < Ideal.ofBits .f32 0xC2FC0000#32 then 0
  else if Ideal.ofBits .f32 0x42FE0000#32 < e then Ideal.ofBits .f32 0x7F800000#32 else Ideal.exp2 e

/-- The same scale built as a word: the exponent field set from the exponent. -/
def bits2 (e : BitVec 32) : EReal :=
  Ideal.ofBits .f32 (IntOp.shli .vector (IntOp.maxsi (IntOp.addi e 127#32) 0#32) 23#32)

theorem bits2_word : ∀ f : Fin 257,
    IntOp.shli .vector (IntOp.maxsi (IntOp.addi (BitVec.ofInt 32 ((f.val : ℤ) - 128)) 127#32) 0#32) 23#32
      = BitVec.ofNat 32 ((f.val - 1) * 2 ^ 23) := by decide +kernel

theorem pow2_int (z : ℤ) (h0 : -128 ≤ z) (h1 : z ≤ 128) :
    pow2 ((z : ℝ) : EReal) = fieldVal (z + 127).toNat := by
  unfold pow2
  rw [c_neg126, c_127, c_top]
  by_cases ha : z < -126
  · rw [if_pos (by rw [EReal.coe_lt_coe_iff]; exact_mod_cast ha), show (z + 127).toNat = 0 by omega, fieldVal_zero]
  · rw [if_neg (by rw [EReal.coe_lt_coe_iff]; exact_mod_cast ha)]
    by_cases hb : 127 < z
    · rw [if_pos (by rw [EReal.coe_lt_coe_iff]; exact_mod_cast hb), show (z + 127).toNat = 255 by omega, fieldVal_top]
    · rw [if_neg (by rw [EReal.coe_lt_coe_iff]; exact_mod_cast hb), fieldVal_mid _ (by omega) (by omega)]
      show ((Real.rpow 2 (z : ℝ) : ℝ) : EReal) = _
      congr 1
      rw [show (((z + 127).toNat : ℕ) : ℤ) - 127 = z by omega]
      exact Real.rpow_intCast 2 z

theorem bits2_int (z : ℤ) (h0 : -128 ≤ z) (h1 : z ≤ 128) :
    bits2 (BitVec.ofInt 32 z) = pow2 ((z : ℝ) : EReal) := by
  rw [pow2_int z h0 h1]
  have := bits2_word ⟨(z + 128).toNat, by omega⟩
  simp only at this
  rw [show (((z + 128).toNat : ℕ) : ℤ) - 128 = z by omega] at this
  unfold bits2 fieldVal
  rw [this, show (z + 128).toNat - 1 = (z + 127).toNat by omega]

/-- The scale of an exponent word that stands for a small integer, in both spellings. -/
theorem bits2_word_eq (e : BitVec 32) (h0 : -128 ≤ e.toInt) (h1 : e.toInt ≤ 128) :
    bits2 e = pow2 ((e.toInt : ℝ) : EReal) := by
  have := bits2_int e.toInt h0 h1
  rwa [BitVec.ofInt_toInt] at this

/-- A stored scale byte less its bias is a small integer. -/
theorem byte_range (w : BitVec 32) :
    -128 ≤ (IntOp.subi (IntOp.andi w 255#32) 128#32).toInt ∧ (IntOp.subi (IntOp.andi w 255#32) 128#32).toInt ≤ 128 := by
  have h : (w &&& 255#32).toNat ≤ 255 := by
    rw [BitVec.toNat_and]; exact Nat.and_le_right
  have h2 : (w &&& 255#32).toInt = ((w &&& 255#32).toNat : ℤ) := by
    rw [BitVec.toInt_eq_toNat_of_lt (by omega)]
  unfold IntOp.subi IntOp.andi
  rw [BitVec.toInt_sub, h2, show (128#32).toInt = 128 by decide]
  have : (((w &&& 255#32).toNat : ℤ) - 128).bmod (2 ^ 32) = ((w &&& 255#32).toNat : ℤ) - 128 := by
    apply Int.bmod_eq_of_le <;> omega
  rw [this]; omega

/-! ## The row's exponent -/

/-- The exponent of a row's scale: one more than the floor of the binary logarithm, at most 128; zero below the
    normal range and at infinity. -/
def refExp (x : EReal) : EReal :=
  Scalar.select
    (IntOp.ori (BitVec.ofBool (decide (x < Ideal.ofBits .f32 0x00800000#32)))
      (BitVec.ofBool (decide (x = Ideal.ofBits .f32 0x7F800000#32))))
    0 (min (Ideal.liftRound Int.floor (Ideal.div (Ideal.log x) (Ideal.log (Ideal.ofBits .f32 0x40000000#32))) + 1)
      (Ideal.ofBits .f32 0x43000000#32))

/-- The greatest exponent field whose float is at most `x`, as the kernel finds it. -/
def field (x : EReal) : BitVec 32 :=
  Finset.fold IntOp.maxsi (2147483648#32)
    (fun l : Fin 256 => if Ideal.ofBits .f32 (IntOp.shli .vector (BitVec.ofNat 32 ↑l) 23#32) ≤ x then BitVec.ofNat 32 ↑l else 0#32)
    Finset.univ

/-- The kernel's exponent word, from the row's greatest magnitude `a` and `x` in its field. -/
def kerExp (a x : EReal) : BitVec 32 :=
  if a = 0 then 0#32
  else Scalar.select (IntOp.ori (IntOp.cmpi .eq (field x) 0#32) (IntOp.cmpi .eq (field x) 255#32)) 0#32
    (IntOp.subi (field x) 126#32)

theorem shl_word : ∀ l : Fin 256, IntOp.shli .vector (BitVec.ofNat 32 ↑l) 23#32 = BitVec.ofNat 32 (l.val * 2 ^ 23) := by
  decide +kernel

theorem small_toInt : ∀ l : Fin 256, (BitVec.ofNat 32 ↑l).toInt = (l.val : ℤ) := by decide +kernel

theorem maxsi_toInt (x y : BitVec 32) : (IntOp.maxsi x y).toInt = max x.toInt y.toInt := by
  unfold IntOp.maxsi
  by_cases h : y.slt x
  · rw [if_pos h]; simp only [BitVec.slt, decide_eq_true_eq] at h; omega
  · rw [if_neg h]; simp only [BitVec.slt, decide_eq_true_eq] at h; omega

theorem field_eq (x : EReal) (k : Fin 256) (hk : fieldVal k ≤ x ∨ k = 0)
    (hmax : ∀ l : Fin 256, k < l → ¬ fieldVal l ≤ x) : field x = BitVec.ofNat 32 ↑k := by
  have hf : field x = Finset.fold IntOp.maxsi (2147483648#32)
      (fun l : Fin 256 => if fieldVal l ≤ x then BitVec.ofNat 32 ↑l else 0#32) Finset.univ := by
    unfold field fieldVal
    simp only [shl_word]
  rw [hf]
  apply BitVec.eq_of_toInt_eq
  rw [← Finset.fold_hom (m := BitVec.toInt) (op' := max) (fun a b => maxsi_toInt a b), small_toInt k]
  apply le_antisymm
  · rw [Finset.fold_max_le]
    refine ⟨?_, fun l _ => ?_⟩
    · have : (2147483648#32).toInt = -2147483648 := by decide
      rw [this]; omega
    · by_cases h : fieldVal l ≤ x
      · rw [if_pos h, small_toInt l]
        have : ¬ k < l := fun hl => hmax l hl h
        have : l ≤ k := not_lt.mp this
        exact_mod_cast this
      · rw [if_neg h]; simp
  · rw [Finset.le_fold_max]
    right
    refine ⟨k, Finset.mem_univ _, ?_⟩
    rcases hk with h | h
    · rw [if_pos h, small_toInt k]
    · subst h; split <;> simp

/-- The two exponents are one small integer. -/
theorem exps (a x : EReal) (hx : 0 ≤ x) (ha : a = 0 → x = 0) :
    ∃ z : ℤ, -128 ≤ z ∧ z ≤ 128 ∧ kerExp a x = BitVec.ofInt 32 z ∧ refExp x = ((z : ℝ) : EReal) := by
  have word0 : ∀ k : Fin 256, (k = 0 ∨ k = 255) → Scalar.select (IntOp.ori (IntOp.cmpi .eq (BitVec.ofNat 32 ↑k) 0#32)
      (IntOp.cmpi .eq (BitVec.ofNat 32 ↑k) 255#32)) (0#32) (IntOp.subi (BitVec.ofNat 32 ↑k) 126#32) = 0#32 := by decide +kernel
  have word1 : ∀ k : Fin 256, k ≠ 0 → k ≠ 255 → Scalar.select (IntOp.ori (IntOp.cmpi .eq (BitVec.ofNat 32 ↑k) 0#32)
      (IntOp.cmpi .eq (BitVec.ofNat 32 ↑k) 255#32)) (0#32) (IntOp.subi (BitVec.ofNat 32 ↑k) 126#32)
        = BitVec.ofInt 32 ((k.val : ℤ) - 126) := by decide +kernel
  have ref0 : x < Ideal.ofBits .f32 0x00800000#32 ∨ x = ⊤ → refExp x = 0 := by
    intro h
    unfold refExp Scalar.select
    rw [if_pos]
    rw [c_top]
    rcases h with h | h
    · simp only [h, decide_true]; cases hb : decide (x = ⊤) <;> decide
    · subst h; simp only [decide_true]; cases hb : decide ((⊤ : EReal) < Ideal.ofBits .f32 0x00800000#32) <;> decide
  have ker0 : ∀ k : Fin 256, (k = 0 ∨ k = 255) → field x = BitVec.ofNat 32 ↑k → kerExp a x = 0#32 := by
    intro k hk hf
    unfold kerExp
    rw [hf, word0 k hk]; simp
  have mono : ∀ i j : Nat, 0 < i → i < 255 → ∀ r : ℝ, r < (2 : ℝ) ^ ((i : ℤ) - 127) → i ≤ j → j < 256 →
      ¬ fieldVal j ≤ (r : EReal) := by
    intro i j hi hi2 r hr hij hj hle
    by_cases h255 : j = 255
    · subst h255; rw [fieldVal_top] at hle; exact absurd (top_le_iff.mp hle) (EReal.coe_ne_top r)
    · rw [fieldVal_mid j (by omega) (by omega), EReal.coe_le_coe_iff] at hle
      have : (2 : ℝ) ^ ((i : ℤ) - 127) ≤ (2 : ℝ) ^ ((j : ℤ) - 127) := zpow_le_zpow_right₀ (by norm_num) (by omega)
      linarith
  induction x using EReal.rec with
  | bot => exact absurd hx (by simp)
  | top =>
    refine ⟨0, by norm_num, by norm_num, ?_, ?_⟩
    · rw [ker0 255 (Or.inr rfl) (field_eq ⊤ 255 (Or.inl le_top) (fun l hl => absurd hl (by omega)))]; rfl
    · rw [ref0 (Or.inr rfl)]; simp
  | coe r =>
    have hr : 0 ≤ r := by exact_mod_cast hx
    by_cases hlt : r < (2 : ℝ) ^ (-126 : ℤ)
    · refine ⟨0, by norm_num, by norm_num, ?_, ?_⟩
      · rw [ker0 0 (Or.inl rfl) (field_eq _ 0 (Or.inr rfl) (fun l hl => mono 1 l (by norm_num) (by norm_num) r
          (by rw [show (((1 : ℕ) : ℤ) - 127) = -126 by norm_num]; exact hlt) (by have : (0 : Fin 256).val < l.val := hl; exact this) l.isLt))]; rfl
      · rw [ref0 (Or.inl (by rw [c_min, EReal.coe_lt_coe_iff]; exact hlt))]; simp
    · have hge : (2 : ℝ) ^ (-126 : ℤ) ≤ r := not_lt.mp hlt
      have hpos : 0 < r := lt_of_lt_of_le (by positivity) hge
      have hl2 : 0 < Real.log 2 := Real.log_pos (by norm_num)
      set n : ℤ := ⌊Real.log r / Real.log 2⌋ with hn
      have zlog : ∀ p : ℤ, Real.log ((2 : ℝ) ^ p) = p * Real.log 2 := fun p => Real.log_zpow 2 p
      have hlow : (2 : ℝ) ^ n ≤ r := by
        rw [← Real.log_le_log_iff (by positivity) hpos, zlog]
        exact (le_div_iff₀ hl2).mp (Int.floor_le _)
      have hup : r < (2 : ℝ) ^ (n + 1) := by
        rw [← Real.log_lt_log_iff hpos (by positivity), zlog]
        have := (div_lt_iff₀ hl2).mp (Int.lt_floor_add_one (Real.log r / Real.log 2))
        push_cast; exact this
      have hn0 : -126 ≤ n := by
        rw [hn, Int.le_floor, le_div_iff₀ hl2]
        have := (Real.log_le_log_iff (by positivity) hpos).mpr hge
        rw [zlog] at this
        exact_mod_cast this
      have hane : a ≠ 0 := by
        intro h; have := ha h; exact absurd (by exact_mod_cast this : r = 0) hpos.ne'
      refine ⟨min n 127 + 1, by omega, by omega, ?_, ?_⟩
      · have hk : ∃ k : Fin 256, (k.val : ℤ) = min n 127 + 127 := ⟨⟨(min n 127 + 127).toNat, by omega⟩, by simp only; omega⟩
        obtain ⟨k, hk⟩ := hk
        have hk0 : k ≠ 0 := fun h => by subst h; simp at hk; omega
        have hk1 : k ≠ 255 := fun h => by subst h; simp at hk; omega
        have hfk : field (r : EReal) = BitVec.ofNat 32 ↑k := by
          apply field_eq
          · left
            rw [fieldVal_mid k (by omega) (by omega), EReal.coe_le_coe_iff]
            refine le_trans (zpow_le_zpow_right₀ (by norm_num) ?_) hlow
            omega
          · intro l hl hle
            have hl' : k.val < l.val := hl
            by_cases h255 : l.val = 255
            · rw [h255, fieldVal_top] at hle; exact absurd (top_le_iff.mp hle) (EReal.coe_ne_top r)
            · have hll := l.isLt
              have h2 : r < (2 : ℝ) ^ ((l.val : ℤ) - 127) :=
                lt_of_lt_of_le hup (zpow_le_zpow_right₀ (by norm_num) (by omega))
              exact mono l.val l.val (by omega) (by omega) r h2 le_rfl l.isLt hle
        unfold kerExp
        rw [if_neg hane, hfk, word1 k hk0 hk1]
        congr 1; omega
      · unfold refExp Scalar.select
        rw [c_top, c_min, c_128, c_2]
        have hlog : Ideal.log (r : EReal) = ((Real.log r : ℝ) : EReal) := by
          show (if r ≤ 0 then (⊥ : EReal) else _) = _
          rw [if_neg (not_le.mpr hpos)]
        have hlog2 : Ideal.log ((2 : ℝ) : EReal) = ((Real.log 2 : ℝ) : EReal) := by
          show (if (2 : ℝ) ≤ 0 then (⊥ : EReal) else _) = _
          rw [if_neg (by norm_num)]
        have hd : Ideal.div ((Real.log r : ℝ) : EReal) ((Real.log 2 : ℝ) : EReal) = ((Real.log r / Real.log 2 : ℝ) : EReal) := by
          unfold Ideal.div
          rw [if_neg (by exact_mod_cast hl2.ne'), ← EReal.coe_inv, ← EReal.coe_mul, div_eq_mul_inv]
        have hfl : Ideal.liftRound Int.floor ((Real.log r / Real.log 2 : ℝ) : EReal) = ((n : ℝ) : EReal) := rfl
        rw [hlog, hlog2, hd, hfl]
        rw [if_neg]
        · rw [← EReal.coe_one, ← EReal.coe_add]
          have : min (((n : ℝ) + 1 : ℝ) : EReal) ((128 : ℝ) : EReal) = ((min ((n : ℝ) + 1) 128 : ℝ) : EReal) :=
            (EReal.coe_strictMono.monotone.map_min).symm
          rw [this]
          congr 1
          rcases le_total n 127 with h | h
          · rw [min_eq_left h, min_eq_left (by exact_mod_cast (by omega : n + 1 ≤ 128))]; push_cast; ring
          · rw [min_eq_right h, min_eq_right (by exact_mod_cast (by omega : 128 ≤ n + 1))]; norm_num
        · have h1 : decide ((r : EReal) < (((2 : ℝ) ^ (-126 : ℤ) : ℝ) : EReal)) = false := by
            rw [decide_eq_false_iff_not, EReal.coe_lt_coe_iff]; exact hlt
          have h2 : decide ((r : EReal) = ⊤) = false := by
            rw [decide_eq_false_iff_not]; exact EReal.coe_ne_top r
          rw [h1, h2]; decide

/-- The scale, both spellings. -/
theorem scale_eq (a x : EReal) (hx : 0 ≤ x) (ha : a = 0 → x = 0) : bits2 (kerExp a x) = pow2 (refExp x) := by
  obtain ⟨z, h0, h1, hk, hr⟩ := exps a x hx ha
  rw [hk, hr, bits2_int z h0 h1]

/-- The scale's inverse, both spellings. -/
theorem inverse_eq (a x : EReal) (hx : 0 ≤ x) (ha : a = 0 → x = 0) :
    bits2 (IntOp.subi 0#32 (kerExp a x)) = pow2 (0 - refExp x) := by
  obtain ⟨z, h0, h1, hk, hr⟩ := exps a x hx ha
  have hneg : IntOp.subi 0#32 (BitVec.ofInt 32 z) = BitVec.ofInt 32 (-z) := by
    unfold IntOp.subi; rw [BitVec.ofInt_neg]; simp
  rw [hk, hr, hneg, bits2_int (-z) (by omega) (by omega)]
  congr 1
  rw [zero_sub, ← EReal.coe_neg]; push_cast; rfl

/-! ## The row's greatest magnitude -/

/-- A row's greatest magnitude. -/
def amax (h : Nat → EReal) : EReal :=
  Finset.fold max (Ideal.ofBits .f32 0xFF800000#32) (fun k : Fin 2816 => max (h k.val) (-h k.val)) Finset.univ

/-- The lane's greatest magnitude over the first `n` chunks of 256 columns, taken half a chunk at a time. -/
def run (h : Nat → EReal) : Nat → Nat → EReal
  | 0, _ => 0
  | n + 1, l => max (max (run h n l) (max (h (256 * n + l)) (-h (256 * n + l))))
      (max (h (256 * n + (128 + l))) (-h (256 * n + (128 + l))))

theorem run_le (h : Nat → EReal) (c : EReal) (l : Nat) : ∀ n, run h n l ≤ c ↔
    0 ≤ c ∧ ∀ k < n, max (h (256 * k + l)) (-h (256 * k + l)) ≤ c
      ∧ max (h (256 * k + (128 + l))) (-h (256 * k + (128 + l))) ≤ c
  | 0 => by simp [run]
  | n + 1 => by
    rw [run, max_le_iff, max_le_iff, run_le h c l n]
    constructor
    · rintro ⟨⟨⟨h0, h1⟩, h2⟩, h3⟩
      refine ⟨h0, fun k hk => ?_⟩
      rcases Nat.lt_succ_iff_lt_or_eq.mp hk with h | h
      · exact h1 k h
      · subst h; exact ⟨h2, h3⟩
    · rintro ⟨h0, h1⟩
      exact ⟨⟨⟨h0, fun k hk => h1 k (by omega)⟩, (h1 n (by omega)).1⟩, (h1 n (by omega)).2⟩

theorem abs_nonneg' (x : EReal) : 0 ≤ max x (-x) := by
  rcases le_total 0 x with h | h
  · exact le_max_of_le_left h
  · exact le_max_of_le_right (by simpa using EReal.neg_le_neg_iff.mpr h)

theorem amax_nonneg (h : Nat → EReal) : 0 ≤ amax h := by
  unfold amax
  rw [Finset.le_fold_max]
  exact Or.inr ⟨⟨0, by norm_num⟩, Finset.mem_univ _, abs_nonneg' _⟩

/-- The lanes' greatest magnitudes together give the row's. -/
theorem amax_eq (h : Nat → EReal) :
    Finset.fold max (Ideal.ofBits .f32 0xFF800000#32) (fun l : Fin 128 => run h 11 l.val) Finset.univ = amax h := by
  apply le_antisymm
  · rw [Finset.fold_max_le]
    refine ⟨by rw [c_bot]; exact bot_le, fun l _ => ?_⟩
    rw [run_le]
    refine ⟨amax_nonneg h, fun k hk => ?_⟩
    have key : ∀ j : Nat, j < 2816 → max (h j) (-h j) ≤ amax h := by
      intro j hj
      unfold amax
      rw [Finset.le_fold_max]
      exact Or.inr ⟨⟨j, hj⟩, Finset.mem_univ _, le_rfl⟩
    have := l.isLt
    exact ⟨key _ (by omega), key _ (by omega)⟩
  · have key : ∀ (n : Nat) (l : Fin 128), n < 11 → max (h (256 * n + l.val)) (-h (256 * n + l.val))
          ≤ Finset.fold max (Ideal.ofBits .f32 0xFF800000#32) (fun l : Fin 128 => run h 11 l.val) Finset.univ
        ∧ max (h (256 * n + (128 + l.val))) (-h (256 * n + (128 + l.val)))
          ≤ Finset.fold max (Ideal.ofBits .f32 0xFF800000#32) (fun l : Fin 128 => run h 11 l.val) Finset.univ := by
      intro n l hn
      have h1 : run h 11 l.val ≤ Finset.fold max (Ideal.ofBits .f32 0xFF800000#32) (fun l : Fin 128 => run h 11 l.val) Finset.univ := by
        rw [Finset.le_fold_max]; exact Or.inr ⟨l, Finset.mem_univ _, le_rfl⟩
      exact ((run_le h _ l.val 11).mp h1).2 n hn
    unfold amax
    rw [Finset.fold_max_le]
    refine ⟨by rw [c_bot]; exact bot_le, fun k _ => ?_⟩
    have hk2 := k.isLt
    by_cases hh : k.val % 256 < 128
    · have := (key (k.val / 256) ⟨k.val % 256, hh⟩ (by omega)).1
      rwa [show 256 * (k.val / 256) + k.val % 256 = k.val by omega] at this
    · have := (key (k.val / 256) ⟨k.val % 256 - 128, by omega⟩ (by omega)).2
      rwa [show 256 * (k.val / 256) + (128 + (k.val % 256 - 128)) = k.val by omega] at this

/-! ## A row's result -/

/-- One column of the first product: the row's codes against the weight's column, times the row's scale of the
    column's lane, times the column's scale. -/
def gup (x xs : Nat → EReal) (w : Nat → Nat → EReal) (s : Nat → EReal) (c : Nat) : EReal :=
  (∑ k : Fin 2816, x k.val * w k.val c) * xs (c % 128) * s c

/-- One column of the hidden row: the gate through its sigmoid, times the upper half. -/
def hid (x xs : Nat → EReal) (w : Nat → Nat → EReal) (s : Nat → EReal) (c : Nat) : EReal :=
  gup x xs w s c * Ideal.div 1 (1 + Ideal.exp (0 - gup x xs w s c)) * gup x xs w s (2816 + c)

/-- The row's greatest magnitude over the largest code. -/
def top (h : Nat → EReal) : EReal := amax h * Ideal.ofBits .f32 0x3B124925#32

theorem top_nonneg (h : Nat → EReal) : 0 ≤ top h := by
  unfold top
  refine mul_nonneg (amax_nonneg h) ?_
  rw [ieee_mid _ false 118 0x124925 (by decide) (by decide) (by decide) (by decide) (by decide)]
  rw [if_neg (by decide), one_mul]
  exact_mod_cast mul_nonneg (by positivity) (by positivity)

theorem top_zero (h : Nat → EReal) (ha : amax h = 0) : top h = 0 := by
  unfold top; rw [ha, zero_mul]

/-- One column of the hidden row as a code. -/
def hcode (h : Nat → EReal) (c : Nat) : EReal :=
  min (Ideal.ofBits .f32 0x43E00000#32) (max (Ideal.ofBits .f32 0xC3E00000#32) (h c * pow2 (0 - refExp (top h))))

/-- One column of the row's result: the hidden codes against the second weight's column, times the row's scale, times
    the column's scale. -/
def outv (h : Nat → EReal) (w : Nat → Nat → EReal) (s : Nat → EReal) (c : Nat) : EReal :=
  (∑ k : Fin 2816, hcode h k.val * w k.val c) * pow2 (refExp (top h)) * s c

/-! ## Entries at natural numbers -/

/-- The entry of a two-axis array at two natural numbers. -/
def a2 {α : Type} [Nonempty α] {n m : Nat} (X : (⟨2, ![n, m]⟩ : Shape).Idx → α) (i j : Nat) : α :=
  if h : i < n ∧ j < m then X (ix2 ⟨i, h.1⟩ ⟨j, h.2⟩) else Classical.ofNonempty

theorem a2_eq {α : Type} [Nonempty α] {n m : Nat} (X : (⟨2, ![n, m]⟩ : Shape).Idx → α) (i : Fin n) (j : Fin m) :
    X (ix2 i j) = a2 X i.val j.val := by
  unfold a2; rw [dif_pos ⟨i.isLt, j.isLt⟩]

/-- The entry of a three-axis array at three natural numbers. -/
def a3 {α : Type} [Nonempty α] {n m p : Nat} (X : (⟨3, ![n, m, p]⟩ : Shape).Idx → α) (i j k : Nat) : α :=
  if h : i < n ∧ j < m ∧ k < p then X (ix3 ⟨i, h.1⟩ ⟨j, h.2.1⟩ ⟨k, h.2.2⟩) else Classical.ofNonempty

theorem a3_eq {α : Type} [Nonempty α] {n m p : Nat} (X : (⟨3, ![n, m, p]⟩ : Shape).Idx → α) (i : Fin n) (j : Fin m)
    (k : Fin p) : X (ix3 i j k) = a3 X i.val j.val k.val := by
  unfold a3; rw [dif_pos ⟨i.isLt, j.isLt, k.isLt⟩]

end Cert.Row

end
-- ==== Proof.KIdeal.Codes.lean ====
/- The kernel's first part on a tile in use, read entry by entry: the row's codes and scales out of its packed words. -/
module
public import proofs.«01_k».proof.Proof.KIdeal.Frame
public import proofs.«01_k».proof.Proof.Row
@[expose] public section
set_option maxRecDepth 16384
noncomputable section
namespace Cert.KernelIdeal.Hand

open Cert.KernelIdeal.Gen Idealize.ShloMosaic Cert.Row
open scoped BigOperators

/-- A load off an opened block is the block at the load's place. -/
theorem readAt_unread {κ : Kind} {sp : Space} {s : Shape} {e : EltTy} (m : Memref sig κ sp s e) (h : m.IsWhole) (r : LoadRect s)
    (x : s.Idx → Elt Ideal e) (j : r.shape.Idx) : View.readAt (Elt Ideal) m.view r (h.unread x) j = x (r.idx j) := by
  rw [View.readAt_apply, h.read_unread]

/-- A code of the row: its byte of the packed words, as a number. -/
def xcode (x0 : S2048x128.Idx → BitVec 32) (r k : Nat) : EReal :=
  Ideal.ofBits .fp8e4m3 (BitVec.setWidth 8 (IntOp.shrsi .vector (a2 (n := 2048) (m := 128) x0 (8 * r + k / 512) (k % 128))
    (BitVec.ofNat 32 (8 * (k / 128 % 4)))))

theorem xcode_eq (x0 : S2048x128.Idx → BitVec 32) (r k i j m : Nat) (hi : i = 8 * r + k / 512) (hj : j = k % 128)
    (hm : m = 8 * (k / 128 % 4)) :
    Ideal.ofBits .fp8e4m3 (BitVec.setWidth 8 (IntOp.shrsi .vector (a2 (n := 2048) (m := 128) x0 i j) (BitVec.ofNat 32 m))) = xcode x0 r k := by
  subst hi hj hm; rfl

attribute [local irreducible] a2 a3 IntOp.shrsi xcode
set_option maxHeartbeats 1000000 in
theorem v184_apply (c : Dev nD) (arg2 : Memref sig .tc .vmem S2048x128 .i32) (harg2 : arg2.IsWhole) (arg8 : Memref sig .tc .vmem S256x2816 .fp8e4m3) (x0 : Vec Ideal S2048x128 .i32) (r : Fin 256) (k : Fin 2816) :
    kernelRun0_used.sl.v184 (F := Ideal) c arg2 harg2 arg8 x0 (ix2 r k) = xcode x0 r k := by
  unfold kernelRun0_used.sl.v184
  rw [View.readCov_eq_canon']
  beta_reduce
  rw [View.canon_apply_of_pieces (G := fun y : S256x2816.Idx => xcode x0 (y 0).val (y 1).val) (kernelRun0_used.sl.HS0_22 c arg2 harg2 x0)]
  · pointwise
  · have hx0 : ∀ (i : Fin 2048) (j : Fin 128), x0 (ix2 i j) = a2 (α := BitVec 32) (n := 2048) (m := 128) x0 i.val j.val := fun i j => a2_eq _ i j
    unfold kernelRun0_used.sl.HS0_22 kernelRun0_used.sl.r_5 kernelRun0_used.sl.r_4 kernelRun0_used.sl.r_3 kernelRun0_used.sl.r_2 kernelRun0_used.sl.r_1
    simp only [List.forall_mem_cons]
    repeat' apply And.intro
    · intro y; idx_vars y; unfold_payloads; pointwise [readAt_unread, Rect.emb_apply]; simp only [hx0]; exact xcode_eq x0 y0.val (2688 + y1.val) (5 + 8 * y0.val) y1.val 8 (by omega) (by omega) (by omega)
    · intro y; idx_vars y; unfold_payloads; pointwise [readAt_unread, Rect.emb_apply]; simp only [hx0]; exact xcode_eq x0 y0.val (2560 + y1.val) (5 + 8 * y0.val) y1.val 0 (by omega) (by omega) (by omega)
    · intro y; idx_vars y; unfold_payloads; pointwise [readAt_unread, Rect.emb_apply]; simp only [hx0]; exact xcode_eq x0 y0.val (2432 + y1.val) (4 + 8 * y0.val) y1.val 24 (by omega) (by omega) (by omega)
    · intro y; idx_vars y; unfold_payloads; pointwise [readAt_unread, Rect.emb_apply]; simp only [hx0]; exact xcode_eq x0 y0.val (2304 + y1.val) (4 + 8 * y0.val) y1.val 16 (by omega) (by omega) (by omega)
    · intro y; idx_vars y; unfold_payloads; pointwise [readAt_unread, Rect.emb_apply]; simp only [hx0]; exact xcode_eq x0 y0.val (2176 + y1.val) (4 + 8 * y0.val) y1.val 8 (by omega) (by omega) (by omega)
    · intro y; idx_vars y; unfold_payloads; pointwise [readAt_unread, Rect.emb_apply]; simp only [hx0]; exact xcode_eq x0 y0.val (2048 + y1.val) (4 + 8 * y0.val) y1.val 0 (by omega) (by omega) (by omega)
    · intro y; idx_vars y; unfold_payloads; pointwise [readAt_unread, Rect.emb_apply]; simp only [hx0]; exact xcode_eq x0 y0.val (1920 + y1.val) (3 + 8 * y0.val) y1.val 24 (by omega) (by omega) (by omega)
    · intro y; idx_vars y; unfold_payloads; pointwise [readAt_unread, Rect.emb_apply]; simp only [hx0]; exact xcode_eq x0 y0.val (1792 + y1.val) (3 + 8 * y0.val) y1.val 16 (by omega) (by omega) (by omega)
    · intro y; idx_vars y; unfold_payloads; pointwise [readAt_unread, Rect.emb_apply]; simp only [hx0]; exact xcode_eq x0 y0.val (1664 + y1.val) (3 + 8 * y0.val) y1.val 8 (by omega) (by omega) (by omega)
    · intro y; idx_vars y; unfold_payloads; pointwise [readAt_unread, Rect.emb_apply]; simp only [hx0]; exact xcode_eq x0 y0.val (1536 + y1.val) (3 + 8 * y0.val) y1.val 0 (by omega) (by omega) (by omega)
    · intro y; idx_vars y; unfold_payloads; pointwise [readAt_unread, Rect.emb_apply]; simp only [hx0]; exact xcode_eq x0 y0.val (1408 + y1.val) (2 + 8 * y0.val) y1.val 24 (by omega) (by omega) (by omega)
    · intro y; idx_vars y; unfold_payloads; pointwise [readAt_unread, Rect.emb_apply]; simp only [hx0]; exact xcode_eq x0 y0.val (1280 + y1.val) (2 + 8 * y0.val) y1.val 16 (by omega) (by omega) (by omega)
    · intro y; idx_vars y; unfold_payloads; pointwise [readAt_unread, Rect.emb_apply]; simp only [hx0]; exact xcode_eq x0 y0.val (1152 + y1.val) (2 + 8 * y0.val) y1.val 8 (by omega) (by omega) (by omega)
    · intro y; idx_vars y; unfold_payloads; pointwise [readAt_unread, Rect.emb_apply]; simp only [hx0]; exact xcode_eq x0 y0.val (1024 + y1.val) (2 + 8 * y0.val) y1.val 0 (by omega) (by omega) (by omega)
    · intro y; idx_vars y; unfold_payloads; pointwise [readAt_unread, Rect.emb_apply]; simp only [hx0]; exact xcode_eq x0 y0.val (896 + y1.val) (1 + 8 * y0.val) y1.val 24 (by omega) (by omega) (by omega)
    · intro y; idx_vars y; unfold_payloads; pointwise [readAt_unread, Rect.emb_apply]; simp only [hx0]; exact xcode_eq x0 y0.val (768 + y1.val) (1 + 8 * y0.val) y1.val 16 (by omega) (by omega) (by omega)
    · intro y; idx_vars y; unfold_payloads; pointwise [readAt_unread, Rect.emb_apply]; simp only [hx0]; exact xcode_eq x0 y0.val (640 + y1.val) (1 + 8 * y0.val) y1.val 8 (by omega) (by omega) (by omega)
    · intro y; idx_vars y; unfold_payloads; pointwise [readAt_unread, Rect.emb_apply]; simp only [hx0]; exact xcode_eq x0 y0.val (512 + y1.val) (1 + 8 * y0.val) y1.val 0 (by omega) (by omega) (by omega)
    · intro y; idx_vars y; unfold_payloads; pointwise [readAt_unread, Rect.emb_apply]; simp only [hx0]; exact xcode_eq x0 y0.val (384 + y1.val) (8 * y0.val) y1.val 24 (by omega) (by omega) (by omega)
    · intro y; idx_vars y; unfold_payloads; pointwise [readAt_unread, Rect.emb_apply]; simp only [hx0]; exact xcode_eq x0 y0.val (256 + y1.val) (8 * y0.val) y1.val 16 (by omega) (by omega) (by omega)
    · intro y; idx_vars y; unfold_payloads; pointwise [readAt_unread, Rect.emb_apply]; simp only [hx0]; exact xcode_eq x0 y0.val (128 + y1.val) (8 * y0.val) y1.val 8 (by omega) (by omega) (by omega)
    · intro y; idx_vars y; unfold_payloads; pointwise [readAt_unread, Rect.emb_apply]; simp only [hx0]; exact xcode_eq x0 y0.val (y1.val) (8 * y0.val) y1.val 0 (by omega) (by omega) (by omega)
    · intro p hp; cases hp
  · exact View.cover_of_tiledL (kernelRun0_used.sl.HS0_22 c arg2 harg2 x0) S256x128.size (by sl_kernel_rfl) _

/-- The row's scale of a lane: its exponent byte, as a power of two. -/
def xscale (x0 : S2048x128.Idx → BitVec 32) (r l : Nat) : EReal :=
  bits2 (IntOp.subi (IntOp.andi (IntOp.shrsi .vector (a2 (n := 2048) (m := 128) x0 (8 * r + 5) l) 16#32) 255#32) 128#32)

theorem xscale_eq (x0 : S2048x128.Idx → BitVec 32) (r l i : Nat) (hi : i = 8 * r + 5) :
    Ideal.ofBits .f32 (IntOp.shli .vector (IntOp.maxsi (IntOp.addi (IntOp.subi (IntOp.andi
      (IntOp.shrsi .vector (a2 (n := 2048) (m := 128) x0 i l) 16#32) 255#32) 128#32) 127#32) 0#32) 23#32) = xscale x0 r l := by
  subst hi; rfl

attribute [local irreducible] xscale IntOp.andi IntOp.shli IntOp.maxsi IntOp.addi IntOp.subi bits2

theorem v185_apply (c : Dev nD) (arg2 : Memref sig .tc .vmem S2048x128 .i32) (harg2 : arg2.IsWhole) (arg9 : Memref sig .tc .vmem S256x128 .f32) (x0 : Vec Ideal S2048x128 .i32) (r : Fin 256) (l : Fin 128) :
    kernelRun0_used.sl.v185 (F := Ideal) c arg2 harg2 arg9 x0 (ix2 r l) = xscale x0 r l := by
  unfold kernelRun0_used.sl.v185
  rw [View.readCov_eq_canon']
  beta_reduce
  rw [View.canon_apply_of_pieces (G := fun y : S256x128.Idx => xscale x0 (y 0).val (y 1).val) (kernelRun0_used.sl.HS1_1 c arg2 harg2 x0)]
  · pointwise
  · have hx0 : ∀ (i : Fin 2048) (j : Fin 128), x0 (ix2 i j) = a2 (α := BitVec 32) (n := 2048) (m := 128) x0 i.val j.val := fun i j => a2_eq _ i j
    unfold kernelRun0_used.sl.HS1_1 kernelRun0_used.sl.r_5
    simp only [List.forall_mem_cons]
    refine ⟨?_, fun p hp => by cases hp⟩
    intro y; idx_vars y; unfold_payloads; pointwise [readAt_unread, Rect.emb_apply]; simp only [hx0]
    exact xscale_eq x0 y0.val y1.val (5 + 8 * y0.val) (by omega)
  · exact View.cover_of_tiledL (kernelRun0_used.sl.HS1_1 c arg2 harg2 x0) S256x128.size (by sl_kernel_rfl) _

theorem r6_apply (c : Dev nD) (arg2 : Memref sig .tc .vmem S2048x128 .i32) (harg2 : arg2.IsWhole) (arg9 : Memref sig .tc .vmem S256x128 .f32) (x0 : Vec Ideal S2048x128 .i32) (r : Fin 256) (l : Fin 256) :
    kernelRun0_used.sl.r_6 (F := Ideal) c arg2 harg2 arg9 x0 (ix2 r l) = xscale x0 r (l.val % 128) := by
  unfold kernelRun0_used.sl.r_6 k0_pay28
  pointwise [v185_apply]
  split
  · rw [show l.val % 128 = l.val by omega]
  · rw [show l.val % 128 = l.val - 128 by omega]

end Cert.KernelIdeal.Hand

end
-- ==== Proof.KIdeal.Hidden.lean ====
/- The kernel's first product on a tile in use, read entry by entry: the hidden row in chunks of 256 columns, and the
   lanes' running greatest magnitude. -/
module

public import proofs.«01_k».proof.Proof.KIdeal.Codes

@[expose] public section

set_option maxRecDepth 16384

noncomputable section

namespace Cert.KernelIdeal.Hand

open Cert.KernelIdeal.Gen Idealize.ShloMosaic Cert.Row
open scoped BigOperators

attribute [local irreducible] a2 a3 xcode xscale

/-- The hidden row's columns. -/
def hrow (x0 : S2048x128.Idx → BitVec 32) (x1 : S1x2816x5632.Idx → EReal) (x2 : S1x1x5632.Idx → EReal) (r : Nat) : Nat → EReal :=
  hid (xcode x0 r) (xscale x0 r) (fun k c => a3 (n := 1) (m := 2816) (p := 5632) x1 0 k c) (fun c => a3 (n := 1) (m := 1) (p := 5632) x2 0 0 c)

theorem hrow_eq (x0 : S2048x128.Idx → BitVec 32) (x1 : S1x2816x5632.Idx → EReal) (x2 : S1x1x5632.Idx → EReal) (r k a b : Nat)
    (ha : a = k % 128) (hb : b = 2816 + k) :
    (∑ x : Fin 2816, xcode x0 r x.val * a3 (n := 1) (m := 2816) (p := 5632) x1 0 x.val k) * xscale x0 r a
        * a3 (n := 1) (m := 1) (p := 5632) x2 0 0 k
      * Ideal.div 1 (1 + Ideal.exp (0 - (∑ x : Fin 2816, xcode x0 r x.val * a3 (n := 1) (m := 2816) (p := 5632) x1 0 x.val k)
          * xscale x0 r a * a3 (n := 1) (m := 1) (p := 5632) x2 0 0 k))
      * ((∑ x : Fin 2816, xcode x0 r x.val * a3 (n := 1) (m := 2816) (p := 5632) x1 0 x.val b) * xscale x0 r a
        * a3 (n := 1) (m := 1) (p := 5632) x2 0 0 b) = hrow x0 x1 x2 r k := by
  subst ha hb
  have h : (2816 + k) % 128 = k % 128 := by omega
  unfold hrow hid gup
  rw [h]

attribute [local irreducible] hrow

variable (c : Dev nD) (arg2 : Memref sig .tc .vmem S2048x128 .i32) (harg2 : arg2.IsWhole)
  (arg3 : Memref sig .tc .vmem S1x2816x5632 .fp8e4m3) (harg3 : arg3.IsWhole)
  (arg4 : Memref sig .tc .vmem S1x1x5632 .f32) (harg4 : arg4.IsWhole)
  (arg8 : Memref sig .tc .vmem S256x2816 .fp8e4m3) (arg9 : Memref sig .tc .vmem S256x128 .f32)
  (x0 : Vec Ideal S2048x128 .i32) (x1 : Vec Ideal S1x2816x5632 .fp8e4m3) (x2 : Vec Ideal S1x1x5632 .f32)

theorem r8_apply (r : Fin 256) (l : Fin 128) :
    kernelRun0_used.sl.r_8 (F := Ideal) c arg2 harg2 arg3 harg3 arg4 harg4 arg8 arg9 x0 x1 x2 (ix2 r l) = run (hrow x0 x1 x2 r) 1 l := by
  have hx1 : ∀ (j : Fin 2816) (k : Fin 5632), x1 (ix3 0 j k) = a3 (α := EReal) (n := 1) (m := 2816) (p := 5632) x1 0 j.val k.val := fun j k => a3_eq _ 0 j k
  have hx2 : ∀ (k : Fin 5632), x2 (ix3 0 0 k) = a3 (α := EReal) (n := 1) (m := 1) (p := 5632) x2 0 0 k.val := fun k => a3_eq _ 0 0 k
  unfold kernelRun0_used.sl.r_8 kernelRun0_used.sl.r_7 kernelRun0_used.sl.cst_64
  unfold_payloads
  pointwise [readAt_unread, v184_apply, r6_apply]
  simp only [hx1, hx2]
  rw [hrow_eq x0 x1 x2 r.val l.val (l.val % 128) (2816 + l.val) (by omega) (by omega), hrow_eq x0 x1 x2 r.val (128 + l.val) ((128 + l.val) % 128) (2816 + (128 + l.val)) (by omega) (by omega)]
  simp only [run, Nat.mul_zero, Nat.zero_add]
  rfl

theorem r11_apply (r : Fin 256) (l : Fin 128) :
    kernelRun0_used.sl.r_11 (F := Ideal) c arg2 harg2 arg3 harg3 arg4 harg4 arg8 arg9 x0 x1 x2 (ix2 r l) = run (hrow x0 x1 x2 r) 2 l := by
  have hx1 : ∀ (j : Fin 2816) (k : Fin 5632), x1 (ix3 0 j k) = a3 (α := EReal) (n := 1) (m := 2816) (p := 5632) x1 0 j.val k.val := fun j k => a3_eq _ 0 j k
  have hx2 : ∀ (k : Fin 5632), x2 (ix3 0 0 k) = a3 (α := EReal) (n := 1) (m := 1) (p := 5632) x2 0 0 k.val := fun k => a3_eq _ 0 0 k
  unfold kernelRun0_used.sl.r_11 kernelRun0_used.sl.r_9 kernelRun0_used.sl.r_10
  unfold_payloads
  pointwise [readAt_unread, v184_apply, r6_apply, r8_apply]
  simp only [hx1, hx2]
  rw [hrow_eq x0 x1 x2 r.val (256 + l.val) (l.val % 128) (3072 + l.val) (by omega) (by omega), hrow_eq x0 x1 x2 r.val (256 + (128 + l.val)) ((128 + l.val) % 128) (3072 + (128 + l.val)) (by omega) (by omega)]
  rfl

theorem r14_apply (r : Fin 256) (l : Fin 128) :
    kernelRun0_used.sl.r_14 (F := Ideal) c arg2 harg2 arg3 harg3 arg4 harg4 arg8 arg9 x0 x1 x2 (ix2 r l) = run (hrow x0 x1 x2 r) 3 l := by
  have hx1 : ∀ (j : Fin 2816) (k : Fin 5632), x1 (ix3 0 j k) = a3 (α := EReal) (n := 1) (m := 2816) (p := 5632) x1 0 j.val k.val := fun j k => a3_eq _ 0 j k
  have hx2 : ∀ (k : Fin 5632), x2 (ix3 0 0 k) = a3 (α := EReal) (n := 1) (m := 1) (p := 5632) x2 0 0 k.val := fun k => a3_eq _ 0 0 k
  unfold kernelRun0_used.sl.r_14 kernelRun0_used.sl.r_12 kernelRun0_used.sl.r_13
  unfold_payloads
  pointwise [readAt_unread, v184_apply, r6_apply, r11_apply]
  simp only [hx1, hx2]
  rw [hrow_eq x0 x1 x2 r.val (512 + l.val) (l.val % 128) (3328 + l.val) (by omega) (by omega), hrow_eq x0 x1 x2 r.val (512 + (128 + l.val)) ((128 + l.val) % 128) (3328 + (128 + l.val)) (by omega) (by omega)]
  rfl

theorem r17_apply (r : Fin 256) (l : Fin 128) :
    kernelRun0_used.sl.r_17 (F := Ideal) c arg2 harg2 arg3 harg3 arg4 harg4 arg8 arg9 x0 x1 x2 (ix2 r l) = run (hrow x0 x1 x2 r) 4 l := by
  have hx1 : ∀ (j : Fin 2816) (k : Fin 5632), x1 (ix3 0 j k) = a3 (α := EReal) (n := 1) (m := 2816) (p := 5632) x1 0 j.val k.val := fun j k => a3_eq _ 0 j k
  have hx2 : ∀ (k : Fin 5632), x2 (ix3 0 0 k) = a3 (α := EReal) (n := 1) (m := 1) (p := 5632) x2 0 0 k.val := fun k => a3_eq _ 0 0 k
  unfold kernelRun0_used.sl.r_17 kernelRun0_used.sl.r_15 kernelRun0_used.sl.r_16
  unfold_payloads
  pointwise [readAt_unread, v184_apply, r6_apply, r14_apply]
  simp only [hx1, hx2]
  rw [hrow_eq x0 x1 x2 r.val (768 + l.val) (l.val % 128) (3584 + l.val) (by omega) (by omega), hrow_eq x0 x1 x2 r.val (768 + (128 + l.val)) ((128 + l.val) % 128) (3584 + (128 + l.val)) (by omega) (by omega)]
  rfl

theorem r20_apply (r : Fin 256) (l : Fin 128) :
    kernelRun0_used.sl.r_20 (F := Ideal) c arg2 harg2 arg3 harg3 arg4 harg4 arg8 arg9 x0 x1 x2 (ix2 r l) = run (hrow x0 x1 x2 r) 5 l := by
  have hx1 : ∀ (j : Fin 2816) (k : Fin 5632), x1 (ix3 0 j k) = a3 (α := EReal) (n := 1) (m := 2816) (p := 5632) x1 0 j.val k.val := fun j k => a3_eq _ 0 j k
  have hx2 : ∀ (k : Fin 5632), x2 (ix3 0 0 k) = a3 (α := EReal) (n := 1) (m := 1) (p := 5632) x2 0 0 k.val := fun k => a3_eq _ 0 0 k
  unfold kernelRun0_used.sl.r_20 kernelRun0_used.sl.r_18 kernelRun0_used.sl.r_19
  unfold_payloads
  pointwise [readAt_unread, v184_apply, r6_apply, r17_apply]
  simp only [hx1, hx2]
  rw [hrow_eq x0 x1 x2 r.val (1024 + l.val) (l.val % 128) (3840 + l.val) (by omega) (by omega), hrow_eq x0 x1 x2 r.val (1024 + (128 + l.val)) ((128 + l.val) % 128) (3840 + (128 + l.val)) (by omega) (by omega)]
  rfl

theorem r24_apply (r : Fin 256) (l : Fin 128) :
    kernelRun0_used.sl.r_24 (F := Ideal) c arg2 harg2 arg3 harg3 arg4 harg4 arg8 arg9 x0 x1 x2 (ix2 r l) = run (hrow x0 x1 x2 r) 6 l := by
  have hx1 : ∀ (j : Fin 2816) (k : Fin 5632), x1 (ix3 0 j k) = a3 (α := EReal) (n := 1) (m := 2816) (p := 5632) x1 0 j.val k.val := fun j k => a3_eq _ 0 j k
  have hx2 : ∀ (k : Fin 5632), x2 (ix3 0 0 k) = a3 (α := EReal) (n := 1) (m := 1) (p := 5632) x2 0 0 k.val := fun k => a3_eq _ 0 0 k
  unfold kernelRun0_used.sl.r_24 kernelRun0_used.sl.r_21 kernelRun0_used.sl.r_22 kernelRun0_used.sl.r_23
  unfold_payloads
  pointwise [readAt_unread, v184_apply, r6_apply, r20_apply]
  simp only [hx1, hx2]
  rw [hrow_eq x0 x1 x2 r.val (1280 + l.val) (l.val % 128) (4096 + l.val) (by omega) (by omega), hrow_eq x0 x1 x2 r.val (1280 + (128 + l.val)) ((128 + l.val) % 128) (4096 + (128 + l.val)) (by omega) (by omega)]
  rfl

theorem r26_apply (r : Fin 256) (l : Fin 128) :
    kernelRun0_used.sl.r_26 (F := Ideal) c arg2 harg2 arg3 harg3 arg4 harg4 arg8 arg9 x0 x1 x2 (ix2 r l) = run (hrow x0 x1 x2 r) 7 l := by
  have hx1 : ∀ (j : Fin 2816) (k : Fin 5632), x1 (ix3 0 j k) = a3 (α := EReal) (n := 1) (m := 2816) (p := 5632) x1 0 j.val k.val := fun j k => a3_eq _ 0 j k
  have hx2 : ∀ (k : Fin 5632), x2 (ix3 0 0 k) = a3 (α := EReal) (n := 1) (m := 1) (p := 5632) x2 0 0 k.val := fun k => a3_eq _ 0 0 k
  unfold kernelRun0_used.sl.r_26 kernelRun0_used.sl.r_25
  unfold_payloads
  pointwise [readAt_unread, v184_apply, r6_apply, r24_apply]
  simp only [hx1, hx2]
  rw [hrow_eq x0 x1 x2 r.val (1536 + l.val) (l.val % 128) (4352 + l.val) (by omega) (by omega), hrow_eq x0 x1 x2 r.val (1536 + (128 + l.val)) ((128 + l.val) % 128) (4352 + (128 + l.val)) (by omega) (by omega)]
  rfl

theorem r28_apply (r : Fin 256) (l : Fin 128) :
    kernelRun0_used.sl.r_28 (F := Ideal) c arg2 harg2 arg3 harg3 arg4 harg4 arg8 arg9 x0 x1 x2 (ix2 r l) = run (hrow x0 x1 x2 r) 9 l := by
  have hx1 : ∀ (j : Fin 2816) (k : Fin 5632), x1 (ix3 0 j k) = a3 (α := EReal) (n := 1) (m := 2816) (p := 5632) x1 0 j.val k.val := fun j k => a3_eq _ 0 j k
  have hx2 : ∀ (k : Fin 5632), x2 (ix3 0 0 k) = a3 (α := EReal) (n := 1) (m := 1) (p := 5632) x2 0 0 k.val := fun k => a3_eq _ 0 0 k
  unfold kernelRun0_used.sl.r_28 kernelRun0_used.sl.r_27
  unfold_payloads
  pointwise [readAt_unread, v184_apply, r6_apply, r26_apply]
  simp only [hx1, hx2]
  rw [hrow_eq x0 x1 x2 r.val (1792 + l.val) (l.val % 128) (4608 + l.val) (by omega) (by omega), hrow_eq x0 x1 x2 r.val (1792 + (128 + l.val)) ((128 + l.val) % 128) (4608 + (128 + l.val)) (by omega) (by omega), hrow_eq x0 x1 x2 r.val (2048 + l.val) (l.val % 128) (4864 + l.val) (by omega) (by omega), hrow_eq x0 x1 x2 r.val (2048 + (128 + l.val)) ((128 + l.val) % 128) (4864 + (128 + l.val)) (by omega) (by omega)]
  rfl

theorem r29_apply (r : Fin 256) (l : Fin 128) :
    kernelRun0_used.sl.r_29 (F := Ideal) c arg2 harg2 arg3 harg3 arg4 harg4 arg8 arg9 x0 x1 x2 (ix2 r l) = run (hrow x0 x1 x2 r) 10 l := by
  have hx1 : ∀ (j : Fin 2816) (k : Fin 5632), x1 (ix3 0 j k) = a3 (α := EReal) (n := 1) (m := 2816) (p := 5632) x1 0 j.val k.val := fun j k => a3_eq _ 0 j k
  have hx2 : ∀ (k : Fin 5632), x2 (ix3 0 0 k) = a3 (α := EReal) (n := 1) (m := 1) (p := 5632) x2 0 0 k.val := fun k => a3_eq _ 0 0 k
  unfold kernelRun0_used.sl.r_29
  unfold_payloads
  pointwise [readAt_unread, v184_apply, r6_apply, r28_apply]
  simp only [hx1, hx2]
  rw [hrow_eq x0 x1 x2 r.val (2304 + l.val) (l.val % 128) (5120 + l.val) (by omega) (by omega), hrow_eq x0 x1 x2 r.val (2304 + (128 + l.val)) ((128 + l.val) % 128) (5120 + (128 + l.val)) (by omega) (by omega)]
  rfl

theorem r31_apply (r : Fin 256) : kernelRun0_used.sl.r_31 (F := Ideal) c arg2 harg2 arg3 harg3 arg4 harg4 arg8 arg9 x0 x1 x2 (ix2 r 0) = amax (hrow x0 x1 x2 r) := by
  have hx1 : ∀ (j : Fin 2816) (k : Fin 5632), x1 (ix3 0 j k) = a3 (α := EReal) (n := 1) (m := 2816) (p := 5632) x1 0 j.val k.val := fun j k => a3_eq _ 0 j k
  have hx2 : ∀ (k : Fin 5632), x2 (ix3 0 0 k) = a3 (α := EReal) (n := 1) (m := 1) (p := 5632) x2 0 0 k.val := fun k => a3_eq _ 0 0 k
  rw [← amax_eq]
  unfold kernelRun0_used.sl.r_31 kernelRun0_used.sl.r_30 kernelRun0_used.sl.cst_64
  unfold_payloads
  pointwise [readAt_unread, v184_apply, r6_apply, r29_apply]
  simp only [hx1, hx2]
  refine Finset.fold_congr fun l _ => ?_
  rw [hrow_eq x0 x1 x2 r.val (2560 + l.val) (l.val % 128) (5376 + l.val) (by omega) (by omega), hrow_eq x0 x1 x2 r.val (2560 + (128 + l.val)) ((128 + l.val) % 128) (5376 + (128 + l.val)) (by omega) (by omega)]
  rfl

theorem r32_apply (r : Fin 256) (l : Fin 256) : kernelRun0_used.sl.r_32 (F := Ideal) c arg2 harg2 arg3 harg3 arg4 harg4 arg8 arg9 x0 x1 x2 (ix2 r l) = top (hrow x0 x1 x2 r) := by
  have hx1 : ∀ (j : Fin 2816) (k : Fin 5632), x1 (ix3 0 j k) = a3 (α := EReal) (n := 1) (m := 2816) (p := 5632) x1 0 j.val k.val := fun j k => a3_eq _ 0 j k
  have hx2 : ∀ (k : Fin 5632), x2 (ix3 0 0 k) = a3 (α := EReal) (n := 1) (m := 1) (p := 5632) x2 0 0 k.val := fun k => a3_eq _ 0 0 k
  unfold top
  rw [← amax_eq]
  unfold kernelRun0_used.sl.r_32 kernelRun0_used.sl.r_30 kernelRun0_used.sl.cst_64
  unfold_payloads
  pointwise [readAt_unread, v184_apply, r6_apply, r29_apply]
  simp only [hx1, hx2]
  refine congrArg (· * _) ?_
  refine Finset.fold_congr fun l _ => ?_
  rw [hrow_eq x0 x1 x2 r.val (2560 + l.val) (l.val % 128) (5376 + l.val) (by omega) (by omega), hrow_eq x0 x1 x2 r.val (2560 + (128 + l.val)) ((128 + l.val) % 128) (5376 + (128 + l.val)) (by omega) (by omega)]
  rfl

end Cert.KernelIdeal.Hand

end
-- ==== Proof.KIdeal.Scaled.lean ====
/- The hidden row as the kernel keeps it on a tile in use, its power-of-two scale, and its codes, read entry by entry. -/
module

public import proofs.«01_k».proof.Proof.KIdeal.Hidden

@[expose] public section

set_option maxRecDepth 16384

noncomputable section

namespace Cert.KernelIdeal.Hand

open Cert.KernelIdeal.Gen Idealize.ShloMosaic Cert.Row
open scoped BigOperators

attribute [local irreducible] a2 a3 xcode xscale hrow

variable (c : Dev nD) (arg2 : Memref sig .tc .vmem S2048x128 .i32) (harg2 : arg2.IsWhole)
  (arg3 : Memref sig .tc .vmem S1x2816x5632 .fp8e4m3) (harg3 : arg3.IsWhole)
  (arg4 : Memref sig .tc .vmem S1x1x5632 .f32) (harg4 : arg4.IsWhole)
  (arg8 : Memref sig .tc .vmem S256x2816 .fp8e4m3) (arg9 : Memref sig .tc .vmem S256x128 .f32)
  (x0 : Vec Ideal S2048x128 .i32) (x1 : Vec Ideal S1x2816x5632 .fp8e4m3) (x2 : Vec Ideal S1x1x5632 .f32)

variable (arg10 : Memref sig .tc .vmem S256x2816 .f32) (arg11 : Memref sig .tc .vmem S256x2816 .fp8e4m3) (arg12 : Memref sig .tc .vmem S256x128 .f32)

set_option maxHeartbeats 1000000 in
theorem v601_apply (r : Fin 256) (k : Fin 2816) : kernelRun0_used.sl.v601 (F := Ideal) c arg2 harg2 arg3 harg3 arg4 harg4 arg8 arg9 arg10 x0 x1 x2 (ix2 r k) = hrow x0 x1 x2 r k := by
  have hx1 : ∀ (j : Fin 2816) (k : Fin 5632), x1 (ix3 0 j k) = a3 (α := EReal) (n := 1) (m := 2816) (p := 5632) x1 0 j.val k.val := fun j k => a3_eq _ 0 j k
  have hx2 : ∀ (k : Fin 5632), x2 (ix3 0 0 k) = a3 (α := EReal) (n := 1) (m := 1) (p := 5632) x2 0 0 k.val := fun k => a3_eq _ 0 0 k
  unfold kernelRun0_used.sl.v601
  rw [View.readCov_eq_canon']
  beta_reduce
  rw [View.canon_apply_of_pieces (G := fun y : S256x2816.Idx => hrow x0 x1 x2 (y 0).val (y 1).val) (kernelRun0_used.sl.HS2_11 c arg2 harg2 arg3 harg3 arg4 harg4 arg8 arg9 x0 x1 x2)]
  · pointwise
  · unfold kernelRun0_used.sl.HS2_11 kernelRun0_used.sl.r_7 kernelRun0_used.sl.r_9 kernelRun0_used.sl.r_10 kernelRun0_used.sl.r_12 kernelRun0_used.sl.r_13 kernelRun0_used.sl.r_15 kernelRun0_used.sl.r_16 kernelRun0_used.sl.r_18 kernelRun0_used.sl.r_19 kernelRun0_used.sl.r_21 kernelRun0_used.sl.r_22 kernelRun0_used.sl.r_23 kernelRun0_used.sl.r_25 kernelRun0_used.sl.r_30 kernelRun0_used.sl.cst_64
    simp only [List.forall_mem_cons]
    repeat' apply And.intro
    · intro y; idx_vars y; unfold_payloads; pointwise [readAt_unread, Rect.emb_apply, v184_apply, r6_apply]; simp only [hx1, hx2]; exact hrow_eq x0 x1 x2 y0.val (2560 + y1.val) (y1.val % 128) (5376 + y1.val) (by omega) (by omega)
    · intro y; idx_vars y; unfold_payloads; pointwise [readAt_unread, Rect.emb_apply, v184_apply, r6_apply]; simp only [hx1, hx2]; exact hrow_eq x0 x1 x2 y0.val (2304 + y1.val) (y1.val % 128) (5120 + y1.val) (by omega) (by omega)
    · intro y; idx_vars y; unfold_payloads; pointwise [readAt_unread, Rect.emb_apply, v184_apply, r6_apply]; simp only [hx1, hx2]; exact hrow_eq x0 x1 x2 y0.val (2048 + y1.val) (y1.val % 128) (4864 + y1.val) (by omega) (by omega)
    · intro y; idx_vars y; unfold_payloads; pointwise [readAt_unread, Rect.emb_apply, v184_apply, r6_apply]; simp only [hx1, hx2]; exact hrow_eq x0 x1 x2 y0.val (1792 + y1.val) (y1.val % 128) (4608 + y1.val) (by omega) (by omega)
    · intro y; idx_vars y; unfold_payloads; pointwise [readAt_unread, Rect.emb_apply, v184_apply, r6_apply]; simp only [hx1, hx2]; exact hrow_eq x0 x1 x2 y0.val (1536 + y1.val) (y1.val % 128) (4352 + y1.val) (by omega) (by omega)
    · intro y; idx_vars y; unfold_payloads; pointwise [readAt_unread, Rect.emb_apply, v184_apply, r6_apply]; simp only [hx1, hx2]; exact hrow_eq x0 x1 x2 y0.val (1280 + y1.val) (y1.val % 128) (4096 + y1.val) (by omega) (by omega)
    · intro y; idx_vars y; unfold_payloads; pointwise [readAt_unread, Rect.emb_apply, v184_apply, r6_apply]; simp only [hx1, hx2]; exact hrow_eq x0 x1 x2 y0.val (1024 + y1.val) (y1.val % 128) (3840 + y1.val) (by omega) (by omega)
    · intro y; idx_vars y; unfold_payloads; pointwise [readAt_unread, Rect.emb_apply, v184_apply, r6_apply]; simp only [hx1, hx2]; exact hrow_eq x0 x1 x2 y0.val (768 + y1.val) (y1.val % 128) (3584 + y1.val) (by omega) (by omega)
    · intro y; idx_vars y; unfold_payloads; pointwise [readAt_unread, Rect.emb_apply, v184_apply, r6_apply]; simp only [hx1, hx2]; exact hrow_eq x0 x1 x2 y0.val (512 + y1.val) (y1.val % 128) (3328 + y1.val) (by omega) (by omega)
    · intro y; idx_vars y; unfold_payloads; pointwise [readAt_unread, Rect.emb_apply, v184_apply, r6_apply]; simp only [hx1, hx2]; exact hrow_eq x0 x1 x2 y0.val (256 + y1.val) (y1.val % 128) (3072 + y1.val) (by omega) (by omega)
    · intro y; idx_vars y; unfold_payloads; pointwise [readAt_unread, Rect.emb_apply, v184_apply, r6_apply]; simp only [hx1, hx2]; exact hrow_eq x0 x1 x2 y0.val y1.val (y1.val % 128) (2816 + y1.val) (by omega) (by omega)
    · intro p hp; cases hp
  · exact View.cover_of_tiledL (kernelRun0_used.sl.HS2_11 c arg2 harg2 arg3 harg3 arg4 harg4 arg8 arg9 x0 x1 x2) S256x256.size (by sl_kernel_rfl) _

theorem r33_apply (r : Fin 256) : kernelRun0_used.sl.r_33 (F := Ideal) c arg2 harg2 arg3 harg3 arg4 harg4 arg8 arg9 x0 x1 x2 (ix2 r 0) = pow2 (0 - refExp (top (hrow x0 x1 x2 r))) := by
  unfold kernelRun0_used.sl.r_33 kernelRun0_used.sl.v566
  unfold_payloads
  pointwise [r31_apply, r32_apply]
  exact inverse_eq _ _ (top_nonneg _) (top_zero _)

theorem v622_apply (r : Fin 256) (l : Fin 128) : kernelRun0_used.sl.v622 (F := Ideal) c arg2 harg2 arg3 harg3 arg4 harg4 arg8 arg9 arg12 x0 x1 x2 (ix2 r l) = pow2 (refExp (top (hrow x0 x1 x2 r))) := by
  unfold kernelRun0_used.sl.v622
  rw [View.readCov_eq_canon']
  beta_reduce
  rw [View.canon_apply_of_pieces (G := fun y : S256x128.Idx => pow2 (refExp (top (hrow x0 x1 x2 (y 0).val)))) (kernelRun0_used.sl.HS4_1 c arg2 harg2 arg3 harg3 arg4 harg4 arg8 arg9 x0 x1 x2)]
  · pointwise
  · unfold kernelRun0_used.sl.HS4_1 kernelRun0_used.sl.v566
    simp only [List.forall_mem_cons]
    refine ⟨?_, fun p hp => by cases hp⟩
    intro y; idx_vars y; unfold_payloads; pointwise [Rect.emb_apply, r31_apply, r32_apply]
    exact scale_eq _ _ (top_nonneg _) (top_zero _)
  · exact View.cover_of_tiledL (kernelRun0_used.sl.HS4_1 c arg2 harg2 arg3 harg3 arg4 harg4 arg8 arg9 x0 x1 x2) S256x128.size (by sl_kernel_rfl) _

theorem v621_apply (r : Fin 256) (k : Fin 2816) : kernelRun0_used.sl.v621 (F := Ideal) c arg2 harg2 arg3 harg3 arg4 harg4 arg8 arg9 arg10 arg11 x0 x1 x2 (ix2 r k) = hcode (hrow x0 x1 x2 r) k := by
  unfold kernelRun0_used.sl.v621
  rw [View.readCov_eq_canon']
  beta_reduce
  rw [View.canon_apply_of_pieces (G := fun y : S256x2816.Idx => hcode (hrow x0 x1 x2 (y 0).val) (y 1).val) (kernelRun0_used.sl.HS3_1 c arg2 harg2 arg3 harg3 arg4 harg4 arg8 arg9 arg10 x0 x1 x2)]
  · pointwise
  · unfold kernelRun0_used.sl.HS3_1
    simp only [List.forall_mem_cons]
    refine ⟨?_, fun p hp => by cases hp⟩
    intro y; idx_vars y; unfold_payloads; pointwise [Rect.emb_apply, v601_apply, r33_apply]
    rfl
  · exact View.cover_of_tiledL (kernelRun0_used.sl.HS3_1 c arg2 harg2 arg3 harg3 arg4 harg4 arg8 arg9 arg10 x0 x1 x2) S256x2816.size (by sl_kernel_rfl) _

end Cert.KernelIdeal.Hand

end
-- ==== Proof.KIdeal.Result.lean ====
/- The kernel's result block on a tile in use, read entry by entry: row `r`'s plane `j` of 24 is 128 columns of the row's
   result, the last two planes zero. -/
module

public import proofs.«01_k».proof.Proof.KIdeal.Scaled

@[expose] public section

set_option maxRecDepth 16384

noncomputable section

namespace Cert.KernelIdeal.Hand

open Cert.KernelIdeal.Gen Idealize.ShloMosaic Cert.Row
open scoped BigOperators

attribute [local irreducible] a2 a3 xcode xscale hrow hcode pow2 refExp top

theorem r34_apply (c : Dev nD) (arg2 : Memref sig .tc .vmem S2048x128 .i32) (harg2 : arg2.IsWhole)
    (arg3 : Memref sig .tc .vmem S1x2816x5632 .fp8e4m3) (harg3 : arg3.IsWhole)
    (arg4 : Memref sig .tc .vmem S1x1x5632 .f32) (harg4 : arg4.IsWhole)
    (arg8 : Memref sig .tc .vmem S256x2816 .fp8e4m3) (arg9 : Memref sig .tc .vmem S256x128 .f32) (arg12 : Memref sig .tc .vmem S256x128 .f32)
    (x0 : Vec Ideal S2048x128 .i32) (x1 : Vec Ideal S1x2816x5632 .fp8e4m3) (x2 : Vec Ideal S1x1x5632 .f32) (r : Fin 256) (l : Fin 256) :
    kernelRun0_used.sl.r_34 (F := Ideal) c arg2 harg2 arg3 harg3 arg4 harg4 arg8 arg9 arg12 x0 x1 x2 (ix2 r l) = pow2 (refExp (top (hrow x0 x1 x2 r))) := by
  unfold kernelRun0_used.sl.r_34 k0_pay82
  pointwise [v622_apply]
  split <;> rfl

/-- The result block's entry: of row `r`'s plane `j`, the columns from `128 * j`. -/
def oval (x0 : S2048x128.Idx → BitVec 32) (x1 : S1x2816x5632.Idx → EReal) (x2 : S1x1x5632.Idx → EReal)
    (x3 : S1x2816x2816.Idx → EReal) (x4 : S1x1x2816.Idx → EReal) (y l : Nat) : EReal :=
  if y % 24 < 22 then outv (hrow x0 x1 x2 (y / 24)) (fun k c => a3 (n := 1) (m := 2816) (p := 2816) x3 0 k c)
    (fun c => a3 (n := 1) (m := 1) (p := 2816) x4 0 0 c) (128 * (y % 24) + l) else 0

theorem oval_eq (x0 : S2048x128.Idx → BitVec 32) (x1 : S1x2816x5632.Idx → EReal) (x2 : S1x1x5632.Idx → EReal)
    (x3 : S1x2816x2816.Idx → EReal) (x4 : S1x1x2816.Idx → EReal) (y l r k : Nat) (h : y % 24 < 22) (hr : r = y / 24) (hk : k = 128 * (y % 24) + l) :
    (∑ x : Fin 2816, hcode (hrow x0 x1 x2 r) x.val * a3 (n := 1) (m := 2816) (p := 2816) x3 0 x.val k)
      * pow2 (refExp (top (hrow x0 x1 x2 r))) * a3 (n := 1) (m := 1) (p := 2816) x4 0 0 k = oval x0 x1 x2 x3 x4 y l := by
  subst hr hk
  unfold oval outv
  rw [if_pos h]

theorem oval_zero (x0 : S2048x128.Idx → BitVec 32) (x1 : S1x2816x5632.Idx → EReal) (x2 : S1x1x5632.Idx → EReal)
    (x3 : S1x2816x2816.Idx → EReal) (x4 : S1x1x2816.Idx → EReal) (y l : Nat) (h : ¬ y % 24 < 22) : 0 = oval x0 x1 x2 x3 x4 y l := by
  unfold oval; rw [if_neg h]

attribute [local irreducible] oval

set_option maxHeartbeats 4000000 in
theorem pieces_used (c : Dev nD) (i : grid0.Coords) (arg2 : Memref sig .tc .vmem S2048x128 .i32) (harg2 : arg2.IsWhole) (arg3 : Memref sig .tc .vmem S1x2816x5632 .fp8e4m3) (harg3 : arg3.IsWhole) (arg4 : Memref sig .tc .vmem S1x1x5632 .f32) (harg4 : arg4.IsWhole) (arg5 : Memref sig .tc .vmem S1x2816x2816 .fp8e4m3) (harg5 : arg5.IsWhole) (arg6 : Memref sig .tc .vmem S1x1x2816 .f32) (harg6 : arg6.IsWhole) (arg7 : Memref sig .tc .vmem S6144x128 .f32) (harg7 : arg7.IsWhole) (arg8 : Memref sig .tc .vmem S256x2816 .fp8e4m3) (harg8 : arg8.IsWhole) (arg9 : Memref sig .tc .vmem S256x128 .f32) (harg9 : arg9.IsWhole) (arg10 : Memref sig .tc .vmem S256x2816 .f32) (harg10 : arg10.IsWhole) (arg11 : Memref sig .tc .vmem S256x2816 .fp8e4m3) (harg11 : arg11.IsWhole) (arg12 : Memref sig .tc .vmem S256x128 .f32) (harg12 : arg12.IsWhole)
    (x0 : Vec Ideal S2048x128 .i32) (x1 : Vec Ideal S1x2816x5632 .fp8e4m3) (x2 : Vec Ideal S1x1x5632 .f32) (x3 : Vec Ideal S1x2816x2816 .fp8e4m3) (x4 : Vec Ideal S1x1x2816 .f32) (xt0 : TbBuf0 (F := Ideal) c tbM0_0) (hz : ¬ k0_cond1 i (tbM0_0.view.readAt (Elt Ideal) (Rect.unit (s := S8x144) ![2, 0] S1x1.size inb_S8x144_S1x1_2_0).toLoadRect xt0 (Shape.Idx.first (numel1_S1x1.symm ▸ Nat.one_pos))) = 1#1) (hu : k0_cond2 i (tbM0_0.view.readAt (Elt Ideal) (Rect.unit (s := S8x144) ![2, 0] S1x1.size inb_S8x144_S1x1_2_0).toLoadRect xt0 (Shape.Idx.first (numel1_S1x1.symm ▸ Nat.one_pos))) = 1#1) :
    ∀ p ∈ (kernelRun0_used (F := Ideal) c i arg2 harg2 arg3 harg3 arg4 harg4 arg5 harg5 arg6 harg6 arg7 harg7 arg8 harg8 arg9 harg9 arg10 harg10 arg11 harg11 arg12 harg12 x0 x1 x2 x3 x4 xt0 hz hu).1, ∀ x : p.1.shape.Idx, p.2 x = (fun y : S6144x128.Idx => oval x0 x1 x2 x3 x4 (y 0).val (y 1).val) (p.1.emb x) := by
  have hx3 : ∀ (j : Fin 2816) (k : Fin 2816), x3 (ix3 0 j k) = a3 (α := EReal) (n := 1) (m := 2816) (p := 2816) x3 0 j.val k.val := fun j k => a3_eq _ 0 j k
  have hx4 : ∀ (k : Fin 2816), x4 (ix3 0 0 k) = a3 (α := EReal) (n := 1) (m := 1) (p := 2816) x4 0 0 k.val := fun k => a3_eq _ 0 0 k
  unfold kernelRun0_used
  dsimp only
  unfold kernelRun0_used.sl.r_35 kernelRun0_used.sl.r_36 kernelRun0_used.sl.r_37 kernelRun0_used.sl.r_38 kernelRun0_used.sl.r_39 kernelRun0_used.sl.r_40
  simp only [List.forall_mem_cons]
  repeat' apply And.intro
  · intro y; idx_vars y; unfold_payloads; pointwise [readAt_unread, Rect.emb_apply, v621_apply, v622_apply, r34_apply]; exact oval_zero x0 x1 x2 x3 x4 (23 + 24 * y0.val) (0 + 1 * y1.val) (by omega)
  · intro y; idx_vars y; unfold_payloads; pointwise [readAt_unread, Rect.emb_apply, v621_apply, v622_apply, r34_apply]; exact oval_zero x0 x1 x2 x3 x4 (22 + 24 * y0.val) (0 + 1 * y1.val) (by omega)
  · intro y; idx_vars y; unfold_payloads; pointwise [readAt_unread, Rect.emb_apply, v621_apply, v622_apply, r34_apply]; simp only [hx3, hx4, ite_self]; exact oval_eq x0 x1 x2 x3 x4 (21 + 24 * y0.val) (0 + 1 * y1.val) y0.val (2560 + (128 + y1.val)) (by omega) (by omega) (by omega)
  · intro y; idx_vars y; unfold_payloads; pointwise [readAt_unread, Rect.emb_apply, v621_apply, v622_apply, r34_apply]; simp only [hx3, hx4, ite_self]; exact oval_eq x0 x1 x2 x3 x4 (20 + 24 * y0.val) (0 + 1 * y1.val) y0.val (2560 + y1.val) (by omega) (by omega) (by omega)
  · intro y; idx_vars y; unfold_payloads; pointwise [readAt_unread, Rect.emb_apply, v621_apply, v622_apply, r34_apply]; simp only [hx3, hx4, ite_self]; exact oval_eq x0 x1 x2 x3 x4 (19 + 24 * y0.val) (0 + 1 * y1.val) y0.val (2304 + (128 + y1.val)) (by omega) (by omega) (by omega)
  · intro y; idx_vars y; unfold_payloads; pointwise [readAt_unread, Rect.emb_apply, v621_apply, v622_apply, r34_apply]; simp only [hx3, hx4, ite_self]; exact oval_eq x0 x1 x2 x3 x4 (18 + 24 * y0.val) (0 + 1 * y1.val) y0.val (2304 + y1.val) (by omega) (by omega) (by omega)
  · intro y; idx_vars y; unfold_payloads; pointwise [readAt_unread, Rect.emb_apply, v621_apply, v622_apply, r34_apply]; simp only [hx3, hx4, ite_self]; exact oval_eq x0 x1 x2 x3 x4 (17 + 24 * y0.val) (0 + 1 * y1.val) y0.val (2048 + (128 + y1.val)) (by omega) (by omega) (by omega)
  · intro y; idx_vars y; unfold_payloads; pointwise [readAt_unread, Rect.emb_apply, v621_apply, v622_apply, r34_apply]; simp only [hx3, hx4, ite_self]; exact oval_eq x0 x1 x2 x3 x4 (16 + 24 * y0.val) (0 + 1 * y1.val) y0.val (2048 + y1.val) (by omega) (by omega) (by omega)
  · intro y; idx_vars y; unfold_payloads; pointwise [readAt_unread, Rect.emb_apply, v621_apply, v622_apply, r34_apply]; simp only [hx3, hx4, ite_self]; exact oval_eq x0 x1 x2 x3 x4 (15 + 24 * y0.val) (0 + 1 * y1.val) y0.val (1792 + (128 + y1.val)) (by omega) (by omega) (by omega)
  · intro y; idx_vars y; unfold_payloads; pointwise [readAt_unread, Rect.emb_apply, v621_apply, v622_apply, r34_apply]; simp only [hx3, hx4, ite_self]; exact oval_eq x0 x1 x2 x3 x4 (14 + 24 * y0.val) (0 + 1 * y1.val) y0.val (1792 + y1.val) (by omega) (by omega) (by omega)
  · intro y; idx_vars y; unfold_payloads; pointwise [readAt_unread, Rect.emb_apply, v621_apply, v622_apply, r34_apply]; simp only [hx3, hx4, ite_self]; exact oval_eq x0 x1 x2 x3 x4 (13 + 24 * y0.val) (0 + 1 * y1.val) y0.val (1536 + (128 + y1.val)) (by omega) (by omega) (by omega)
  · intro y; idx_vars y; unfold_payloads; pointwise [readAt_unread, Rect.emb_apply, v621_apply, v622_apply, r34_apply]; simp only [hx3, hx4, ite_self]; exact oval_eq x0 x1 x2 x3 x4 (12 + 24 * y0.val) (0 + 1 * y1.val) y0.val (1536 + y1.val) (by omega) (by omega) (by omega)
  · intro y; idx_vars y; unfold_payloads; pointwise [readAt_unread, Rect.emb_apply, v621_apply, v622_apply, r34_apply]; simp only [hx3, hx4, ite_self]; exact oval_eq x0 x1 x2 x3 x4 (11 + 24 * y0.val) (0 + 1 * y1.val) y0.val (1280 + (128 + y1.val)) (by omega) (by omega) (by omega)
  · intro y; idx_vars y; unfold_payloads; pointwise [readAt_unread, Rect.emb_apply, v621_apply, v622_apply, r34_apply]; simp only [hx3, hx4, ite_self]; exact oval_eq x0 x1 x2 x3 x4 (10 + 24 * y0.val) (0 + 1 * y1.val) y0.val (1280 + y1.val) (by omega) (by omega) (by omega)
  · intro y; idx_vars y; unfold_payloads; pointwise [readAt_unread, Rect.emb_apply, v621_apply, v622_apply, r34_apply]; simp only [hx3, hx4, ite_self]; exact oval_eq x0 x1 x2 x3 x4 (9 + 24 * y0.val) (0 + 1 * y1.val) y0.val (1024 + (128 + y1.val)) (by omega) (by omega) (by omega)
  · intro y; idx_vars y; unfold_payloads; pointwise [readAt_unread, Rect.emb_apply, v621_apply, v622_apply, r34_apply]; simp only [hx3, hx4, ite_self]; exact oval_eq x0 x1 x2 x3 x4 (8 + 24 * y0.val) (0 + 1 * y1.val) y0.val (1024 + y1.val) (by omega) (by omega) (by omega)
  · intro y; idx_vars y; unfold_payloads; pointwise [readAt_unread, Rect.emb_apply, v621_apply, v622_apply, r34_apply]; simp only [hx3, hx4, ite_self]; exact oval_eq x0 x1 x2 x3 x4 (7 + 24 * y0.val) (0 + 1 * y1.val) y0.val (768 + (128 + y1.val)) (by omega) (by omega) (by omega)
  · intro y; idx_vars y; unfold_payloads; pointwise [readAt_unread, Rect.emb_apply, v621_apply, v622_apply, r34_apply]; simp only [hx3, hx4, ite_self]; exact oval_eq x0 x1 x2 x3 x4 (6 + 24 * y0.val) (0 + 1 * y1.val) y0.val (768 + y1.val) (by omega) (by omega) (by omega)
  · intro y; idx_vars y; unfold_payloads; pointwise [readAt_unread, Rect.emb_apply, v621_apply, v622_apply, r34_apply]; simp only [hx3, hx4, ite_self]; exact oval_eq x0 x1 x2 x3 x4 (5 + 24 * y0.val) (0 + 1 * y1.val) y0.val (512 + (128 + y1.val)) (by omega) (by omega) (by omega)
  · intro y; idx_vars y; unfold_payloads; pointwise [readAt_unread, Rect.emb_apply, v621_apply, v622_apply, r34_apply]; simp only [hx3, hx4, ite_self]; exact oval_eq x0 x1 x2 x3 x4 (4 + 24 * y0.val) (0 + 1 * y1.val) y0.val (512 + y1.val) (by omega) (by omega) (by omega)
  · intro y; idx_vars y; unfold_payloads; pointwise [readAt_unread, Rect.emb_apply, v621_apply, v622_apply, r34_apply]; simp only [hx3, hx4, ite_self]; exact oval_eq x0 x1 x2 x3 x4 (3 + 24 * y0.val) (0 + 1 * y1.val) y0.val (256 + (128 + y1.val)) (by omega) (by omega) (by omega)
  · intro y; idx_vars y; unfold_payloads; pointwise [readAt_unread, Rect.emb_apply, v621_apply, v622_apply, r34_apply]; simp only [hx3, hx4, ite_self]; exact oval_eq x0 x1 x2 x3 x4 (2 + 24 * y0.val) (0 + 1 * y1.val) y0.val (256 + y1.val) (by omega) (by omega) (by omega)
  · intro y; idx_vars y; unfold_payloads; pointwise [readAt_unread, Rect.emb_apply, v621_apply, v622_apply, r34_apply]; simp only [hx3, hx4, ite_self]; exact oval_eq x0 x1 x2 x3 x4 (1 + 24 * y0.val) (0 + 1 * y1.val) y0.val (128 + y1.val) (by omega) (by omega) (by omega)
  · intro y; idx_vars y; unfold_payloads; pointwise [readAt_unread, Rect.emb_apply, v621_apply, v622_apply, r34_apply]; simp only [hx3, hx4, ite_self]; exact oval_eq x0 x1 x2 x3 x4 (0 + 24 * y0.val) (0 + 1 * y1.val) y0.val y1.val (by omega) (by omega) (by omega)
  · intro p hp; cases hp

theorem out0_used_apply (c : Dev nD) (i : grid0.Coords) (arg2 : Memref sig .tc .vmem S2048x128 .i32) (harg2 : arg2.IsWhole) (arg3 : Memref sig .tc .vmem S1x2816x5632 .fp8e4m3) (harg3 : arg3.IsWhole) (arg4 : Memref sig .tc .vmem S1x1x5632 .f32) (harg4 : arg4.IsWhole) (arg5 : Memref sig .tc .vmem S1x2816x2816 .fp8e4m3) (harg5 : arg5.IsWhole) (arg6 : Memref sig .tc .vmem S1x1x2816 .f32) (harg6 : arg6.IsWhole) (arg7 : Memref sig .tc .vmem S6144x128 .f32) (harg7 : arg7.IsWhole) (arg8 : Memref sig .tc .vmem S256x2816 .fp8e4m3) (harg8 : arg8.IsWhole) (arg9 : Memref sig .tc .vmem S256x128 .f32) (harg9 : arg9.IsWhole) (arg10 : Memref sig .tc .vmem S256x2816 .f32) (harg10 : arg10.IsWhole) (arg11 : Memref sig .tc .vmem S256x2816 .fp8e4m3) (harg11 : arg11.IsWhole) (arg12 : Memref sig .tc .vmem S256x128 .f32) (harg12 : arg12.IsWhole)
    (x0 : Vec Ideal S2048x128 .i32) (x1 : Vec Ideal S1x2816x5632 .fp8e4m3) (x2 : Vec Ideal S1x1x5632 .f32) (x3 : Vec Ideal S1x2816x2816 .fp8e4m3) (x4 : Vec Ideal S1x1x2816 .f32) (xt0 : TbBuf0 (F := Ideal) c tbM0_0) (hz : ¬ k0_cond1 i (tbM0_0.view.readAt (Elt Ideal) (Rect.unit (s := S8x144) ![2, 0] S1x1.size inb_S8x144_S1x1_2_0).toLoadRect xt0 (Shape.Idx.first (numel1_S1x1.symm ▸ Nat.one_pos))) = 1#1) (hu : k0_cond2 i (tbM0_0.view.readAt (Elt Ideal) (Rect.unit (s := S8x144) ![2, 0] S1x1.size inb_S8x144_S1x1_2_0).toLoadRect xt0 (Shape.Idx.first (numel1_S1x1.symm ▸ Nat.one_pos))) = 1#1) (y : S6144x128.Idx) :
    out0_used (F := Ideal) c i arg2 harg2 arg3 harg3 arg4 harg4 arg5 harg5 arg6 harg6 arg7 harg7 arg8 harg8 arg9 harg9 arg10 harg10 arg11 harg11 arg12 harg12 x0 x1 x2 x3 x4 xt0 hz hu y = oval x0 x1 x2 x3 x4 (y 0).val (y 1).val := by
  unfold out0_used
  exact View.read_writes_apply_of_pieces _ _ (G := fun y : S6144x128.Idx => oval x0 x1 x2 x3 x4 (y 0).val (y 1).val) _
    (pieces_used c i arg2 harg2 arg3 harg3 arg4 harg4 arg5 harg5 arg6 harg6 arg7 harg7 arg8 harg8 arg9 harg9 arg10 harg10 arg11 harg11 arg12 harg12 x0 x1 x2 x3 x4 xt0 hz hu) y
    (cover0_used c i arg2 harg2 arg3 harg3 arg4 harg4 arg5 harg5 arg6 harg6 arg7 harg7 arg8 harg8 arg9 harg9 arg10 harg10 arg11 harg11 arg12 harg12 x0 x1 x2 x3 x4 xt0 hz hu y)

end Cert.KernelIdeal.Hand

end
-- ==== Proof.Spec.lean ====
/- What both programs compute, entry by entry: a used tile's rows through the tile's expert, an unused tile's rows zero. -/
module

public import proofs.«01_k».proof.Proof.Row

@[expose] public section

noncomputable section

namespace Cert.Row

open Idealize.ShloMosaic
open scoped BigOperators

/-- Column `k` of row `R`'s codes, read out of the words: byte `k / 128 % 4` of lane `k % 128` of word row `k / 512`. -/
def wcode (w : Nat → Nat → BitVec 32) (R k : Nat) : EReal :=
  Ideal.ofBits .fp8e4m3 (BitVec.setWidth 8 (IntOp.shrsi .vector (w (8 * R + k / 512) (k % 128)) (BitVec.ofNat 32 (8 * (k / 128 % 4)))))

/-- Row `R`'s scale at lane `l`: two to the stored exponent. -/
def wscale (w : Nat → Nat → BitVec 32) (R l : Nat) : EReal :=
  bits2 (IntOp.subi (IntOp.andi (IntOp.shrsi .vector (w (8 * R + 5) l) 16#32) 255#32) 128#32)

/-- Row `R`'s hidden row. -/
def whid (w : Nat → Nat → BitVec 32) (wgu : Nat → Nat → EReal) (sgu : Nat → EReal) (R : Nat) : Nat → EReal :=
  hid (wcode w R) (wscale w R) wgu sgu

/-- Line `Y`, lane `l` of the result in an expert's tile: 24 lines a row, of which the last two are zero. -/
def wout (w : Nat → Nat → BitVec 32) (wgu : Nat → Nat → EReal) (sgu : Nat → EReal) (wd : Nat → Nat → EReal) (sd : Nat → EReal)
    (Y l : Nat) : EReal :=
  if Y % 24 < 22 then outv (whid w wgu sgu (Y / 24)) wd sd (128 * (Y % 24) + l) else 0

/-- Line `Y`, lane `l` of the result: the tile's expert where the tile is used, zero where it is not. -/
def result (mt w : Nat → Nat → BitVec 32) (wgu : Nat → Nat → Nat → EReal) (sgu : Nat → Nat → EReal) (wd : Nat → Nat → Nat → EReal)
    (sd : Nat → Nat → EReal) (Y l : Nat) : EReal :=
  if ((Y / 6144 : Nat) : Int) < (mt 2 0).toInt then
    wout w (wgu (mt 0 (Y / 6144)).toNat) (sgu (mt 0 (Y / 6144)).toNat) (wd (mt 0 (Y / 6144)).toNat) (sd (mt 0 (Y / 6144)).toNat) Y l
  else 0

/-! ## The formulas read their data only inside the arrays -/

theorem gup_congr {x x' xs xs' : Nat → EReal} {w w' : Nat → Nat → EReal} {s s' : Nat → EReal} (hx : ∀ k < 2816, x k = x' k)
    (hxs : ∀ l < 128, xs l = xs' l) (hw : ∀ k < 2816, ∀ c < 5632, w k c = w' k c) (hs : ∀ c < 5632, s c = s' c) (c : Nat) (hc : c < 5632) :
    gup x xs w s c = gup x' xs' w' s' c := by
  unfold gup
  rw [hxs _ (Nat.mod_lt _ (by decide)), hs c hc]
  congr 2
  exact Finset.sum_congr rfl fun k _ => by rw [hx _ k.isLt, hw _ k.isLt _ hc]

theorem hid_congr {x x' xs xs' : Nat → EReal} {w w' : Nat → Nat → EReal} {s s' : Nat → EReal} (hx : ∀ k < 2816, x k = x' k)
    (hxs : ∀ l < 128, xs l = xs' l) (hw : ∀ k < 2816, ∀ c < 5632, w k c = w' k c) (hs : ∀ c < 5632, s c = s' c) (c : Nat) (hc : c < 2816) :
    hid x xs w s c = hid x' xs' w' s' c := by
  unfold hid
  rw [gup_congr hx hxs hw hs c (by omega), gup_congr hx hxs hw hs (2816 + c) (by omega)]

theorem amax_congr {h h' : Nat → EReal} (hh : ∀ k < 2816, h k = h' k) : amax h = amax h' := by
  unfold amax
  exact Finset.fold_congr fun k _ => by rw [hh _ k.isLt]

theorem top_congr {h h' : Nat → EReal} (hh : ∀ k < 2816, h k = h' k) : top h = top h' := by
  unfold top; rw [amax_congr hh]

theorem outv_congr {h h' : Nat → EReal} {w w' : Nat → Nat → EReal} {s s' : Nat → EReal} (hh : ∀ k < 2816, h k = h' k)
    (hw : ∀ k < 2816, ∀ c < 2816, w k c = w' k c) (hs : ∀ c < 2816, s c = s' c) (c : Nat) (hc : c < 2816) :
    outv h w s c = outv h' w' s' c := by
  unfold outv
  rw [top_congr hh, hs c hc]
  congr 2
  refine Finset.sum_congr rfl fun k _ => ?_
  unfold hcode
  rw [top_congr hh, hh _ k.isLt, hw _ k.isLt _ hc]

/-- A tile's block of words gives the tile's lines of the result. -/
theorem wout_block {w w' : Nat → Nat → BitVec 32} {wgu wgu' wd wd' : Nat → Nat → EReal} {sgu sgu' sd sd' : Nat → EReal} (t : Nat)
    (hw : ∀ i < 2048, ∀ j < 128, w' i j = w (2048 * t + i) j) (hgu : ∀ k < 2816, ∀ c < 5632, wgu' k c = wgu k c)
    (hsgu : ∀ c < 5632, sgu' c = sgu c) (hd : ∀ k < 2816, ∀ c < 2816, wd' k c = wd k c) (hsd : ∀ c < 2816, sd' c = sd c)
    (y l : Nat) (hy : y < 6144) (hl : l < 128) :
    wout w' wgu' sgu' wd' sd' y l = wout w wgu sgu wd sd (6144 * t + y) l := by
  unfold wout
  have e1 : (6144 * t + y) % 24 = y % 24 := by omega
  have e2 : (6144 * t + y) / 24 = 256 * t + y / 24 := by omega
  rw [e1, e2]
  by_cases h : y % 24 < 22
  · rw [if_pos h, if_pos h]
    refine outv_congr (fun k hk => ?_) hd hsd _ (by omega)
    refine hid_congr (fun k hk => ?_) (fun l hl => ?_) hgu hsgu k hk
    · unfold wcode
      rw [hw _ (by omega) _ (Nat.mod_lt _ (by decide)), show 2048 * t + (8 * (y / 24) + k / 512) = 8 * (256 * t + y / 24) + k / 512 by omega]
    · unfold wscale
      rw [hw _ (by omega) _ hl, show 2048 * t + (8 * (y / 24) + 5) = 8 * (256 * t + y / 24) + 5 by omega]
  · rw [if_neg h, if_neg h]

end Cert.Row

end
-- ==== Proof.KIdeal.Array.lean ====
/- The kernel's result array after the run, entry by entry. -/
module

public import proofs.«01_k».proof.Proof.KIdeal.Result
public import proofs.«01_k».proof.Proof.KIdeal.Words
public import proofs.«01_k».proof.Proof.Spec
public import Idealize.ShloMosaic.Lib.StableHlo.ReadAt

@[expose] public section

set_option maxRecDepth 16384

noncomputable section

namespace Cert.KernelIdeal.Hand

open Cert.KernelIdeal.Gen Idealize.ShloMosaic Idealize.ShloMosaic.TcCoe Idealize.SL.Sem Cert.Row
open Idealize.ShloMosaic.Pipeline (Dat)
open scoped BigOperators

/-- On an unused tile the result block is zero. -/
theorem out0_zero_apply (c : Dev nD) (i : grid0.Coords) (arg2 : Memref sig .tc .vmem S2048x128 .i32) (harg2 : arg2.IsWhole) (arg3 : Memref sig .tc .vmem S1x2816x5632 .fp8e4m3) (harg3 : arg3.IsWhole) (arg4 : Memref sig .tc .vmem S1x1x5632 .f32) (harg4 : arg4.IsWhole) (arg5 : Memref sig .tc .vmem S1x2816x2816 .fp8e4m3) (harg5 : arg5.IsWhole) (arg6 : Memref sig .tc .vmem S1x1x2816 .f32) (harg6 : arg6.IsWhole) (arg7 : Memref sig .tc .vmem S6144x128 .f32) (harg7 : arg7.IsWhole) (arg8 : Memref sig .tc .vmem S256x2816 .fp8e4m3) (harg8 : arg8.IsWhole) (arg9 : Memref sig .tc .vmem S256x128 .f32) (harg9 : arg9.IsWhole) (arg10 : Memref sig .tc .vmem S256x2816 .f32) (harg10 : arg10.IsWhole) (arg11 : Memref sig .tc .vmem S256x2816 .fp8e4m3) (harg11 : arg11.IsWhole) (arg12 : Memref sig .tc .vmem S256x128 .f32) (harg12 : arg12.IsWhole)
    (x0 : Vec Ideal S2048x128 .i32) (x1 : Vec Ideal S1x2816x5632 .fp8e4m3) (x2 : Vec Ideal S1x1x5632 .f32) (x3 : Vec Ideal S1x2816x2816 .fp8e4m3) (x4 : Vec Ideal S1x1x2816 .f32) (xt0 : TbBuf0 (F := Ideal) c tbM0_0) (hz : k0_cond1 i (tbM0_0.view.readAt (Elt Ideal) (Rect.unit (s := S8x144) ![2, 0] S1x1.size inb_S8x144_S1x1_2_0).toLoadRect xt0 (Shape.Idx.first (numel1_S1x1.symm ▸ Nat.one_pos))) = 1#1) (hu : ¬ k0_cond2 i (tbM0_0.view.readAt (Elt Ideal) (Rect.unit (s := S8x144) ![2, 0] S1x1.size inb_S8x144_S1x1_2_0).toLoadRect xt0 (Shape.Idx.first (numel1_S1x1.symm ▸ Nat.one_pos))) = 1#1) (y : S6144x128.Idx) :
    out0_zero (F := Ideal) c i arg2 harg2 arg3 harg3 arg4 harg4 arg5 harg5 arg6 harg6 arg7 harg7 arg8 harg8 arg9 harg9 arg10 harg10 arg11 harg11 arg12 harg12 x0 x1 x2 x3 x4 xt0 hz hu y = 0 := by
  unfold out0_zero
  refine View.read_writes_apply_of_pieces _ _ (G := fun _ : S6144x128.Idx => (0 : EReal)) _ ?_ y
    (cover0_zero c i arg2 harg2 arg3 harg3 arg4 harg4 arg5 harg5 arg6 harg6 arg7 harg7 arg8 harg8 arg9 harg9 arg10 harg10 arg11 harg11 arg12 harg12 x0 x1 x2 x3 x4 xt0 hz hu y)
  unfold kernelRun0_zero
  simp only [List.forall_mem_cons]
  repeat' apply And.intro
  · intro y; idx_vars y; unfold_payloads; pointwise []
  · intro p hp; cases hp

variable (m : (ℓ : Loc nD τ sig) → Buf (Elt Ideal) ℓ)

/-! ## The windows' blocks, read off the arguments -/

theorem index0 (hO : Ok m) (t : Fin (cfgM m hO).N) :
    ((cfgM m hO).win 0).index t = ![(Cert.Routed.at2 (tbl m 0) 1 (tileOf (grid0.coords t))).toNat, 0] :=
  transform_0_eq (tbl m) (grid0.coords t)
theorem index1 (hO : Ok m) (t : Fin (cfgM m hO).N) :
    ((cfgM m hO).win 1).index t = ![(Cert.Routed.at2 (tbl m 0) 0 (tileOf (grid0.coords t))).toNat, 0, 0] :=
  transform_1_eq (tbl m) (grid0.coords t)
theorem index2 (hO : Ok m) (t : Fin (cfgM m hO).N) :
    ((cfgM m hO).win 2).index t = ![(Cert.Routed.at2 (tbl m 0) 0 (tileOf (grid0.coords t))).toNat, 0, 0] :=
  transform_2_eq (tbl m) (grid0.coords t)
theorem index3 (hO : Ok m) (t : Fin (cfgM m hO).N) :
    ((cfgM m hO).win 3).index t = ![(Cert.Routed.at2 (tbl m 0) 0 (tileOf (grid0.coords t))).toNat, 0, 0] :=
  transform_3_eq (tbl m) (grid0.coords t)
theorem index4 (hO : Ok m) (t : Fin (cfgM m hO).N) :
    ((cfgM m hO).win 4).index t = ![(Cert.Routed.at2 (tbl m 0) 0 (tileOf (grid0.coords t))).toNat, 0, 0] :=
  transform_4_eq (tbl m) (grid0.coords t)
theorem index5 (hO : Ok m) (t : Fin (cfgM m hO).N) : ((cfgM m hO).win 5).index t = ![t.val, 0] :=
  (by decide +kernel : ∀ t : Fin grid0.N, cc0_transform_5 (grid0.coords t) = ![t.val, 0]) t

theorem iblk0_apply (hO : Ok m) (c : Dev nD) (t : Fin (cfgM m hO).N) (q : Nat) (hq : (Cert.Routed.at2 (tbl m 0) 1 (tileOf (grid0.coords t))).toNat = q)
    (hq' : q < 144) (i : Fin 2048) (j : Fin 128) :
    (iblk m hO c 0 t : S2048x128.Idx → BitVec 32) (ix2 i j) = a2 (α := BitVec 32) (n := 294912) (m := 128) (m ((c.tc : Thread nD τ).loc main_arg1)) (2048 * q + i.val) j.val := by
  have e : (((cfgM m hO).win 0).rect t).emb (ix2 i j) = (ix2 (⟨2048 * q + i.val, by omega⟩ : Fin 294912) j : S294912x128.Idx) := by
    refine Shape.idx_ext₂ ?_ ?_
    · exact (Pipeline.Window.rect_emb_val ((cfgM m hO).win 0) t _ (0 : Fin 2)).trans
        ((congrArg (fun x : Nat => x * 2048 + i.val) ((congrFun (index0 m hO t) (0 : Fin 2)).trans hq)).trans (by omega : q * 2048 + i.val = 2048 * q + i.val))
    · exact (Pipeline.Window.rect_emb_val ((cfgM m hO).win 0) t _ (1 : Fin 2)).trans
        ((congrArg (fun x : Nat => x * 128 + j.val) (congrFun (index0 m hO t) (1 : Fin 2))).trans (by omega : 0 * 128 + j.val = j.val))
  refine Eq.trans ?_ (a2_eq (α := BitVec 32) (n := 294912) (m := 128) (m ((c.tc : Thread nD τ).loc main_arg1)) (⟨2048 * q + i.val, by omega⟩ : Fin 294912) j)
  refine Eq.trans ?_ (congrFun (V_main_arg1 m c) _)
  exact congrArg (V m c main_arg1) e

theorem iblk1_apply (hO : Ok m) (c : Dev nD) (t : Fin (cfgM m hO).N) (q : Nat) (hq : (Cert.Routed.at2 (tbl m 0) 0 (tileOf (grid0.coords t))).toNat = q)
    (hq' : q < 16) (i : Fin 2816) (j : Fin 5632) :
    (iblk m hO c 1 t : S1x2816x5632.Idx → EReal) (ix3 0 i j) = a3 (α := EReal) (n := 16) (m := 2816) (p := 5632) (m ((c.tc : Thread nD τ).loc main_arg2)) q i.val j.val := by
  have e : (((cfgM m hO).win 1).rect t).emb (ix3 0 i j) = (ix3 (⟨q, hq'⟩ : Fin 16) i j : S16x2816x5632.Idx) := by
    refine funext fun a => Fin.ext ?_
    match a with
    | ⟨0, _⟩ => exact (Pipeline.Window.rect_emb_val ((cfgM m hO).win 1) t _ (0 : Fin 3)).trans ((congrArg (fun x : Nat => x * 1 + 0) ((congrFun (index1 m hO t) (0 : Fin 3)).trans hq)).trans (by omega : q * 1 + 0 = q))
    | ⟨1, _⟩ => exact (Pipeline.Window.rect_emb_val ((cfgM m hO).win 1) t _ (1 : Fin 3)).trans ((congrArg (fun x : Nat => x * 2816 + i.val) (congrFun (index1 m hO t) (1 : Fin 3))).trans (by omega : 0 * 2816 + i.val = i.val))
    | ⟨2, _⟩ => exact (Pipeline.Window.rect_emb_val ((cfgM m hO).win 1) t _ (2 : Fin 3)).trans ((congrArg (fun x : Nat => x * 5632 + j.val) (congrFun (index1 m hO t) (2 : Fin 3))).trans (by omega : 0 * 5632 + j.val = j.val))
  refine Eq.trans ?_ (a3_eq (α := EReal) (n := 16) (m := 2816) (p := 5632) (m ((c.tc : Thread nD τ).loc main_arg2)) (⟨q, hq'⟩ : Fin 16) i j)
  refine Eq.trans ?_ (congrFun (V_main_arg2 m c) _)
  exact congrArg (V m c main_arg2) e

theorem iblk3_apply (hO : Ok m) (c : Dev nD) (t : Fin (cfgM m hO).N) (q : Nat) (hq : (Cert.Routed.at2 (tbl m 0) 0 (tileOf (grid0.coords t))).toNat = q)
    (hq' : q < 16) (i : Fin 2816) (j : Fin 2816) :
    (iblk m hO c 3 t : S1x2816x2816.Idx → EReal) (ix3 0 i j) = a3 (α := EReal) (n := 16) (m := 2816) (p := 2816) (m ((c.tc : Thread nD τ).loc main_arg4)) q i.val j.val := by
  have e : (((cfgM m hO).win 3).rect t).emb (ix3 0 i j) = (ix3 (⟨q, hq'⟩ : Fin 16) i j : S16x2816x2816.Idx) := by
    refine funext fun a => Fin.ext ?_
    match a with
    | ⟨0, _⟩ => exact (Pipeline.Window.rect_emb_val ((cfgM m hO).win 3) t _ (0 : Fin 3)).trans ((congrArg (fun x : Nat => x * 1 + 0) ((congrFun (index3 m hO t) (0 : Fin 3)).trans hq)).trans (by omega : q * 1 + 0 = q))
    | ⟨1, _⟩ => exact (Pipeline.Window.rect_emb_val ((cfgM m hO).win 3) t _ (1 : Fin 3)).trans ((congrArg (fun x : Nat => x * 2816 + i.val) (congrFun (index3 m hO t) (1 : Fin 3))).trans (by omega : 0 * 2816 + i.val = i.val))
    | ⟨2, _⟩ => exact (Pipeline.Window.rect_emb_val ((cfgM m hO).win 3) t _ (2 : Fin 3)).trans ((congrArg (fun x : Nat => x * 2816 + j.val) (congrFun (index3 m hO t) (2 : Fin 3))).trans (by omega : 0 * 2816 + j.val = j.val))
  refine Eq.trans ?_ (a3_eq (α := EReal) (n := 16) (m := 2816) (p := 2816) (m ((c.tc : Thread nD τ).loc main_arg4)) (⟨q, hq'⟩ : Fin 16) i j)
  refine Eq.trans ?_ (congrFun (V_main_arg4 m c) _)
  exact congrArg (V m c main_arg4) e

theorem V_main_v0_apply (c : Dev nD) (q : Fin 16) (i : Fin 1) (j : Fin 5632) :
    (V m c main_v0 : S16x1x5632.Idx → EReal) (ix3 q i j) = (m ((c.tc : Thread nD τ).loc main_arg3) : S16x5632.Idx → EReal) (ix2 q j) := by
  unfold V
  after_reads_at

theorem iblk2_apply (hO : Ok m) (c : Dev nD) (t : Fin (cfgM m hO).N) (q : Nat) (hq : (Cert.Routed.at2 (tbl m 0) 0 (tileOf (grid0.coords t))).toNat = q)
    (hq' : q < 16) (i : Fin 1) (j : Fin 5632) :
    (iblk m hO c 2 t : S1x1x5632.Idx → EReal) (ix3 0 i j) = a2 (α := EReal) (n := 16) (m := 5632) (m ((c.tc : Thread nD τ).loc main_arg3)) q j.val := by
  have e : (((cfgM m hO).win 2).rect t).emb (ix3 0 i j) = (ix3 (⟨q, hq'⟩ : Fin 16) i j : S16x1x5632.Idx) := by
    refine funext fun a => Fin.ext ?_
    match a with
    | ⟨0, _⟩ => exact (Pipeline.Window.rect_emb_val ((cfgM m hO).win 2) t _ (0 : Fin 3)).trans ((congrArg (fun x : Nat => x * 1 + 0) ((congrFun (index2 m hO t) (0 : Fin 3)).trans hq)).trans (by omega : q * 1 + 0 = q))
    | ⟨1, _⟩ => exact (Pipeline.Window.rect_emb_val ((cfgM m hO).win 2) t _ (1 : Fin 3)).trans ((congrArg (fun x : Nat => x * 1 + i.val) (congrFun (index2 m hO t) (1 : Fin 3))).trans (by omega : 0 * 1 + i.val = i.val))
    | ⟨2, _⟩ => exact (Pipeline.Window.rect_emb_val ((cfgM m hO).win 2) t _ (2 : Fin 3)).trans ((congrArg (fun x : Nat => x * 5632 + j.val) (congrFun (index2 m hO t) (2 : Fin 3))).trans (by omega : 0 * 5632 + j.val = j.val))
  refine Eq.trans ?_ (a2_eq (α := EReal) (n := 16) (m := 5632) (m ((c.tc : Thread nD τ).loc main_arg3)) (⟨q, hq'⟩ : Fin 16) j)
  refine Eq.trans ?_ (V_main_v0_apply m c (⟨q, hq'⟩ : Fin 16) i j)
  exact congrArg (V m c main_v0) e

theorem V_main_v1_apply (c : Dev nD) (q : Fin 16) (i : Fin 1) (j : Fin 2816) :
    (V m c main_v1 : S16x1x2816.Idx → EReal) (ix3 q i j) = (m ((c.tc : Thread nD τ).loc main_arg5) : S16x2816.Idx → EReal) (ix2 q j) := by
  unfold V
  after_reads_at

theorem iblk4_apply (hO : Ok m) (c : Dev nD) (t : Fin (cfgM m hO).N) (q : Nat) (hq : (Cert.Routed.at2 (tbl m 0) 0 (tileOf (grid0.coords t))).toNat = q)
    (hq' : q < 16) (i : Fin 1) (j : Fin 2816) :
    (iblk m hO c 4 t : S1x1x2816.Idx → EReal) (ix3 0 i j) = a2 (α := EReal) (n := 16) (m := 2816) (m ((c.tc : Thread nD τ).loc main_arg5)) q j.val := by
  have e : (((cfgM m hO).win 4).rect t).emb (ix3 0 i j) = (ix3 (⟨q, hq'⟩ : Fin 16) i j : S16x1x2816.Idx) := by
    refine funext fun a => Fin.ext ?_
    match a with
    | ⟨0, _⟩ => exact (Pipeline.Window.rect_emb_val ((cfgM m hO).win 4) t _ (0 : Fin 3)).trans ((congrArg (fun x : Nat => x * 1 + 0) ((congrFun (index4 m hO t) (0 : Fin 3)).trans hq)).trans (by omega : q * 1 + 0 = q))
    | ⟨1, _⟩ => exact (Pipeline.Window.rect_emb_val ((cfgM m hO).win 4) t _ (1 : Fin 3)).trans ((congrArg (fun x : Nat => x * 1 + i.val) (congrFun (index4 m hO t) (1 : Fin 3))).trans (by omega : 0 * 1 + i.val = i.val))
    | ⟨2, _⟩ => exact (Pipeline.Window.rect_emb_val ((cfgM m hO).win 4) t _ (2 : Fin 3)).trans ((congrArg (fun x : Nat => x * 2816 + j.val) (congrFun (index4 m hO t) (2 : Fin 3))).trans (by omega : 0 * 2816 + j.val = j.val))
  refine Eq.trans ?_ (a2_eq (α := EReal) (n := 16) (m := 2816) (m ((c.tc : Thread nD τ).loc main_arg5)) (⟨q, hq'⟩ : Fin 16) j)
  refine Eq.trans ?_ (V_main_v1_apply m c (⟨q, hq'⟩ : Fin 16) i j)
  exact congrArg (V m c main_v1) e
end Cert.KernelIdeal.Hand

end
-- ==== Proof.KIdeal.Final.lean ====
/- The kernel's run, with its result array named entry by entry. -/
module

public import proofs.«01_k».proof.Proof.KIdeal.Array

@[expose] public section

set_option maxRecDepth 16384

noncomputable section

namespace Cert.KernelIdeal.Hand

open Cert.KernelIdeal.Gen Idealize.ShloMosaic Idealize.ShloMosaic.TcCoe Idealize.SL.Sem Cert.Row Cert.Routed
open Idealize.ShloMosaic.Pipeline (Dat)
open scoped BigOperators

variable (m : (ℓ : Loc nD τ sig) → Buf (Elt Ideal) ℓ)

/-- Line `Y`, lane `l` of the result of the argument arrays. -/
def G (c : Dev nD) : Nat → Nat → EReal :=
  result (a2 (α := BitVec 32) (n := 8) (m := 144) (m ((c.tc : Thread nD τ).loc main_arg0)))
    (a2 (α := BitVec 32) (n := 294912) (m := 128) (m ((c.tc : Thread nD τ).loc main_arg1)))
    (a3 (α := EReal) (n := 16) (m := 2816) (p := 5632) (m ((c.tc : Thread nD τ).loc main_arg2)))
    (a2 (α := EReal) (n := 16) (m := 5632) (m ((c.tc : Thread nD τ).loc main_arg3)))
    (a3 (α := EReal) (n := 16) (m := 2816) (p := 2816) (m ((c.tc : Thread nD τ).loc main_arg4)))
    (a2 (α := EReal) (n := 16) (m := 2816) (m ((c.tc : Thread nD τ).loc main_arg5)))

theorem coords_val : ∀ t : Fin grid0.N, (grid0.coords t 0).val = t.val := by decide +kernel

/-- The word the body compares with is the table's entry in row 2, column 0. -/
theorem word_eq (t : Fin grid0.N) : word m t = at2 (tbl m 0) 2 0 := by
  refine congrArg (tbl m 0) (funext fun a => Fin.ext ?_)
  match a with
  | ⟨0, _⟩ => rfl
  | ⟨1, _⟩ => rfl

theorem used_iff (t : Fin grid0.N) : Used m t ↔ (t.val : Int) < (at2 (tbl m 0) 2 0).toInt := by
  unfold Used
  have ht : t.val < 144 := t.isLt
  rw [cond2_iff, word_eq, coords_val, WordCmp.toInt_ofNat_of_lt (by omega)]

theorem outsAt0_apply (hO : Ok m) (hD : Decoded (tbl m 0)) (c : Dev nD) (t : Fin (cfgM m hO).N) (y : Fin 6144) (l : Fin 128) :
    (outsAt0 m hO c t : S6144x128.Idx → EReal) (ix2 y l) = G m c (6144 * t.val + y.val) l.val := by
  have ht : t.val < 144 := t.isLt
  have hc : c = 0 := Subsingleton.elim _ _
  have htile : tileOf (grid0.coords t) = (⟨t.val, ht⟩ : Fin 144) := Fin.ext (coords_val t)
  have hdiv : (6144 * t.val + y.val) / 6144 = t.val := by omega
  have h20 : a2 (α := BitVec 32) (n := 8) (m := 144) (m ((c.tc : Thread nD τ).loc main_arg0)) 2 0 = at2 (tbl m 0) 2 0 := by
    subst hc
    rw [tbl_eq]
    exact (a2_eq (α := BitVec 32) (n := 8) (m := 144) _ (2 : Fin 8) (0 : Fin 144)).symm
  unfold G result
  rw [hdiv, h20]
  by_cases h : Used m t
  · rw [if_pos ((used_iff m t).mp h), outsAt0_used m hO c t h]
    have hq1 : (at2 (tbl m 0) 1 (tileOf (grid0.coords t))).toNat = t.val := by
      rw [htile]; exact hD.used _ ((used_iff m t).mp h)
    have he : (at2 (tbl m 0) 0 (tileOf (grid0.coords t))).toNat < 16 := hD.expert _
    have h0 : a2 (α := BitVec 32) (n := 8) (m := 144) (m ((c.tc : Thread nD τ).loc main_arg0)) 0 t.val = at2 (tbl m 0) 0 (tileOf (grid0.coords t)) := by
      subst hc
      rw [tbl_eq, htile]
      exact (a2_eq (α := BitVec 32) (n := 8) (m := 144) _ (0 : Fin 8) (⟨t.val, ht⟩ : Fin 144)).symm
    rw [h0]
    refine (out0_used_apply _ _ _ _ _ _ _ _ _ _ _ _ _ _ _ _ _ _ _ _ _ _ _ _ _ _ _ _ _ _ _ _ (ix2 y l)).trans ?_
    refine wout_block t.val ?_ ?_ ?_ ?_ ?_ y.val l.val y.isLt l.isLt
    · exact fun i hi j hj => (a2_eq (α := BitVec 32) (n := 2048) (m := 128) _ (⟨i, hi⟩ : Fin 2048) (⟨j, hj⟩ : Fin 128)).symm.trans
        (iblk0_apply m hO c t t.val hq1 ht ⟨i, hi⟩ ⟨j, hj⟩)
    · exact fun i hi j hj => (a3_eq (α := EReal) (n := 1) (m := 2816) (p := 5632) _ (0 : Fin 1) (⟨i, hi⟩ : Fin 2816) (⟨j, hj⟩ : Fin 5632)).symm.trans
        (iblk1_apply m hO c t _ rfl he ⟨i, hi⟩ ⟨j, hj⟩)
    · exact fun j hj => (a3_eq (α := EReal) (n := 1) (m := 1) (p := 5632) _ (0 : Fin 1) (0 : Fin 1) (⟨j, hj⟩ : Fin 5632)).symm.trans
        (iblk2_apply m hO c t _ rfl he 0 ⟨j, hj⟩)
    · exact fun i hi j hj => (a3_eq (α := EReal) (n := 1) (m := 2816) (p := 2816) _ (0 : Fin 1) (⟨i, hi⟩ : Fin 2816) (⟨j, hj⟩ : Fin 2816)).symm.trans
        (iblk3_apply m hO c t _ rfl he ⟨i, hi⟩ ⟨j, hj⟩)
    · exact fun j hj => (a3_eq (α := EReal) (n := 1) (m := 1) (p := 2816) _ (0 : Fin 1) (0 : Fin 1) (⟨j, hj⟩ : Fin 2816)).symm.trans
        (iblk4_apply m hO c t _ rfl he 0 ⟨j, hj⟩)
  · rw [if_neg fun h' => h ((used_iff m t).mpr h'), outsAt0_zero m hO c t h]
    exact out0_zero_apply _ _ _ _ _ _ _ _ _ _ _ _ _ _ _ _ _ _ _ _ _ _ _ _ _ _ _ _ _ _ _ _ (ix2 y l)

theorem disjoint5 (hO : Ok m) (t t' : Fin (cfgM m hO).N) (_ : ((cfgM m hO).win 5).flush t = true) (_ : ((cfgM m hO).win 5).flush t' = true) (hne : t ≠ t') :
    Disjoint (((cfgM m hO).win 5).blk t).view.set (((cfgM m hO).win 5).blk t').view.set :=
  ((cfgM m hO).win 5).disjoint_blk fun h => hne (Fin.ext (by
    rw [index5, index5] at h
    exact congrFun h (0 : Fin 2)))

/-- The result array after the run. -/
theorem array5 (hO : Ok m) (hD : Decoded (tbl m 0)) (c : Dev nD) (Y : Fin 884736) (l : Fin 128) :
    ((dats m hO 0 c).arrAt 5 (cfgM m hO).N : S884736x128.Idx → EReal) (ix2 Y l) = G m c Y.val l.val := by
  have hY := Y.isLt
  let t : Fin (cfgM m hO).N := (⟨Y.val / 6144, by show Y.val / 6144 < 144; omega⟩ : Fin 144)
  let y : Fin 6144 := ⟨Y.val % 6144, Nat.mod_lt _ (by decide)⟩
  have htv : t.val = Y.val / 6144 := rfl
  have hyv : y.val = Y.val % 6144 := rfl
  have e : (((cfgM m hO).win 5).rect t).emb (ix2 y l) = (ix2 Y l : S884736x128.Idx) := by
    refine Shape.idx_ext₂ ?_ ?_
    · exact (Pipeline.Window.rect_emb_val ((cfgM m hO).win 5) t _ (0 : Fin 2)).trans
        ((congrArg (fun x : Nat => x * 6144 + y.val) (congrFun (index5 m hO t) (0 : Fin 2))).trans (by show t.val * 6144 + y.val = Y.val; omega))
    · exact (Pipeline.Window.rect_emb_val ((cfgM m hO).win 5) t _ (1 : Fin 2)).trans
        ((congrArg (fun x : Nat => x * 128 + l.val) (congrFun (index5 m hO t) (1 : Fin 2))).trans (by show 0 * 128 + l.val = l.val; omega))
  have h := (dats m hO 0 c).arrAt_emb_eq_flushed 5 (disjoint5 m hO) t (flush0_5 (adm m hO) t) (ix2 y l)
  have h2 : (dats m hO 0 c).arrAt 5 (cfgM m hO).N ((((cfgM m hO).win 5).rect t).emb (ix2 y l)) = (outsAt0 m hO c t : S6144x128.Idx → EReal) (ix2 y l) := by
    exact h.trans ((cast_eq _ _).trans (congrFun (after0_5 m hO c t) (ix2 y l)))
  rw [e] at h2
  refine h2.trans ((outsAt0_apply m hO hD c t y l).trans ?_)
  rw [show 6144 * t.val + y.val = Y.val by omega]

variable (ρ : Dev nD → PrngReg)

/-- The run leaves the result at `G` and the arguments as they were. -/
theorem run_value (hO : Ok m) (hD : Decoded (tbl m 0)) : θ_run defs (onTc (τ := τ) (main (F := Ideal))) ⟨m, fun _ => 0, ρ⟩ (fun r => ∀ c : Dev nD,
      (∀ (Y : Fin 884736) (l : Fin 128), (r.2.mem ((c.tc : Thread nD τ).loc main_v2) : S884736x128.Idx → EReal) (ix2 Y l) = G m c Y.val l.val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨fun Y l => (congrFun ((h c).1 5) (ix2 Y l)).trans (array5 m hO hD c Y l),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).2 main_arg3 (by decide : main_arg3 ∈ Pipeline.restRefs sig spec0)).trans (V_main_arg3 m c),
      ((h c).1 3).trans (((dats m hO 0 c).arrAt_in 3 rfl _).trans ((A_eq m hO c 3).trans (V_main_arg4 m c))),
      ((h c).2 main_arg5 (by decide : main_arg5 ∈ Pipeline.restRefs sig spec0)).trans (V_main_arg5 m c)⟩) (run_main m ρ hO)

end Cert.KernelIdeal.Hand

end
-- ==== Proof.RIdeal.Row.lean ====
/- The reference's kernel, read entry by entry: each row of the result from the row's codes, scale and expert. -/
module

public import proofs.«01_k».proof.Proof.Gen.ReferenceIdeal.Frame
public import proofs.«01_k».proof.Proof.Row

@[expose] public section

set_option maxRecDepth 16384

noncomputable section

namespace Cert.ReferenceIdeal.Hand

open Cert.ReferenceIdeal Cert.ReferenceIdeal.Gen Idealize.ShloMosaic Cert.Row
open scoped BigOperators

/-- The sum over the experts of the term of the row's expert `e`, the others' terms zero. -/
def each (e : BitVec 32) (f : Nat → EReal) : EReal :=
  Scalar.select (IntOp.cmpi .eq e 0#32) (f 0) 0 + Scalar.select (IntOp.cmpi .eq e 1#32) (f 1) 0
    + Scalar.select (IntOp.cmpi .eq e 2#32) (f 2) 0 + Scalar.select (IntOp.cmpi .eq e 3#32) (f 3) 0
    + Scalar.select (IntOp.cmpi .eq e 4#32) (f 4) 0 + Scalar.select (IntOp.cmpi .eq e 5#32) (f 5) 0
    + Scalar.select (IntOp.cmpi .eq e 6#32) (f 6) 0 + Scalar.select (IntOp.cmpi .eq e 7#32) (f 7) 0
    + Scalar.select (IntOp.cmpi .eq e 8#32) (f 8) 0 + Scalar.select (IntOp.cmpi .eq e 9#32) (f 9) 0
    + Scalar.select (IntOp.cmpi .eq e 10#32) (f 10) 0 + Scalar.select (IntOp.cmpi .eq e 11#32) (f 11) 0
    + Scalar.select (IntOp.cmpi .eq e 12#32) (f 12) 0 + Scalar.select (IntOp.cmpi .eq e 13#32) (f 13) 0
    + Scalar.select (IntOp.cmpi .eq e 14#32) (f 14) 0 + Scalar.select (IntOp.cmpi .eq e 15#32) (f 15) 0

variable (x0 : Vec Ideal S36864x2816 .i8) (x1 : Vec Ideal S36864x5632 .i32) (x2 : Vec Ideal S36864x1 .i32)
  (x3 : Vec Ideal S16x2816x5632 .fp8e4m3) (x4 : Vec Ideal S16x5632 .f32) (x5 : Vec Ideal S16x2816x2816 .fp8e4m3) (x6 : Vec Ideal S16x2816 .f32)

/-- The row's expert. -/
def rexp (r : Nat) : BitVec 32 := a2 (α := BitVec 32) (n := 36864) (m := 1) x2 r 0

/-- The products of a row with the gate's and the upper half's columns, scaled. -/
def rg (r c : Nat) : EReal :=
  each (rexp x2 r) (fun e => ∑ k : Fin 2816, Ideal.ofBits .fp8e4m3 (a2 (α := BitVec 8) (n := 36864) (m := 2816) x0 r k.val)
      * a3 (α := EReal) (n := 16) (m := 2816) (p := 5632) x3 e k.val c)
    * pow2 ((((a2 (α := BitVec 32) (n := 36864) (m := 5632) x1 r c).toInt : ℝ) : EReal))
    * each (rexp x2 r) (fun e => a2 (α := EReal) (n := 16) (m := 5632) x4 e c)

/-- The hidden row. -/
def rh (r c : Nat) : EReal :=
  rg x0 x1 x2 x3 x4 r c * Ideal.logistic (rg x0 x1 x2 x3 x4 r c) * rg x0 x1 x2 x3 x4 r (2816 + c)

/-- The row's result. -/
def rv (r c : Nat) : EReal :=
  each (rexp x2 r) (fun e => ∑ k : Fin 2816, hcode (rh x0 x1 x2 x3 x4 r) k.val * a3 (α := EReal) (n := 16) (m := 2816) (p := 2816) x5 e k.val c)
    * pow2 (refExp (top (rh x0 x1 x2 x3 x4 r))) * each (rexp x2 r) (fun e => a2 (α := EReal) (n := 16) (m := 2816) x6 e c)

attribute [local irreducible] a2 a3 pow2 hcode refExp top

theorem p48_apply (r : Fin 36864) : k0_pay48 (F := Ideal) x0 x1 x2 x3 x4 x5 x6 (ix2 r 0) = rexp x2 r.val := by
  have hx2 : ∀ (i : Fin 36864), x2 (ix2 i 0) = a2 (α := BitVec 32) (n := 36864) (m := 1) x2 i.val 0 := fun i => a2_eq _ i 0
  unfold k0_pay48
  unfold_payloads
  pointwise []
  exact hx2 r

set_option maxHeartbeats 2000000 in
theorem p49_apply (r : Fin 36864) (l : Fin 5632) : k0_pay49 (F := Ideal) x0 x1 x2 x3 x4 x5 x6 (ix2 r l) =
    each (rexp x2 r.val) (fun e => ∑ k : Fin 2816, Ideal.ofBits .fp8e4m3 (a2 (α := BitVec 8) (n := 36864) (m := 2816) x0 r.val k.val)
        * a3 (α := EReal) (n := 16) (m := 2816) (p := 5632) x3 e k.val l.val)
      * pow2 ((((a2 (α := BitVec 32) (n := 36864) (m := 5632) x1 r.val l.val).toInt : ℝ) : EReal)) := by
  have hx0 : ∀ (i : Fin 36864) (j : Fin 2816), x0 (ix2 i j) = a2 (α := BitVec 8) (n := 36864) (m := 2816) x0 i.val j.val := fun i j => a2_eq _ i j
  have hx1 : ∀ (i : Fin 36864) (j : Fin 5632), x1 (ix2 i j) = a2 (α := BitVec 32) (n := 36864) (m := 5632) x1 i.val j.val := fun i j => a2_eq _ i j
  have hx2 : ∀ (i : Fin 36864), x2 (ix2 i 0) = rexp x2 i.val := fun i => a2_eq _ i 0
  have hx3 : ∀ (i : Fin 16) (j : Fin 2816) (k : Fin 5632), x3 (ix3 i j k) = a3 (α := EReal) (n := 16) (m := 2816) (p := 5632) x3 i.val j.val k.val := fun i j k => a3_eq _ i j k
  unfold k0_pay49 k0_pay48 k0_pay47
  unfold_payloads
  pointwise []
  simp only [hx0, hx1, hx2, hx3]
  unfold each pow2
  rfl

end Cert.ReferenceIdeal.Hand

end
-- ==== Proof.RIdeal.Hidden.lean ====
/- The reference's hidden row, entry by entry. -/
module

public import proofs.«01_k».proof.Proof.RIdeal.Row

@[expose] public section

set_option maxRecDepth 16384

noncomputable section

namespace Cert.ReferenceIdeal.Hand

open Cert.ReferenceIdeal Cert.ReferenceIdeal.Gen Idealize.ShloMosaic Cert.Row
open scoped BigOperators

/-- The first twelve experts' terms of the sum. -/
abbrev s12 (e : BitVec 32) (f : Nat → EReal) : EReal :=
  Scalar.select (IntOp.cmpi .eq e 0#32) (f 0) 0 + Scalar.select (IntOp.cmpi .eq e 1#32) (f 1) 0
    + Scalar.select (IntOp.cmpi .eq e 2#32) (f 2) 0 + Scalar.select (IntOp.cmpi .eq e 3#32) (f 3) 0
    + Scalar.select (IntOp.cmpi .eq e 4#32) (f 4) 0 + Scalar.select (IntOp.cmpi .eq e 5#32) (f 5) 0
    + Scalar.select (IntOp.cmpi .eq e 6#32) (f 6) 0 + Scalar.select (IntOp.cmpi .eq e 7#32) (f 7) 0
    + Scalar.select (IntOp.cmpi .eq e 8#32) (f 8) 0 + Scalar.select (IntOp.cmpi .eq e 9#32) (f 9) 0
    + Scalar.select (IntOp.cmpi .eq e 10#32) (f 10) 0 + Scalar.select (IntOp.cmpi .eq e 11#32) (f 11) 0

/-- The first thirteen experts' terms of the sum. -/
abbrev s13 (e : BitVec 32) (f : Nat → EReal) : EReal :=
  Scalar.select (IntOp.cmpi .eq e 0#32) (f 0) 0 + Scalar.select (IntOp.cmpi .eq e 1#32) (f 1) 0
    + Scalar.select (IntOp.cmpi .eq e 2#32) (f 2) 0 + Scalar.select (IntOp.cmpi .eq e 3#32) (f 3) 0
    + Scalar.select (IntOp.cmpi .eq e 4#32) (f 4) 0 + Scalar.select (IntOp.cmpi .eq e 5#32) (f 5) 0
    + Scalar.select (IntOp.cmpi .eq e 6#32) (f 6) 0 + Scalar.select (IntOp.cmpi .eq e 7#32) (f 7) 0
    + Scalar.select (IntOp.cmpi .eq e 8#32) (f 8) 0 + Scalar.select (IntOp.cmpi .eq e 9#32) (f 9) 0
    + Scalar.select (IntOp.cmpi .eq e 10#32) (f 10) 0 + Scalar.select (IntOp.cmpi .eq e 11#32) (f 11) 0
    + Scalar.select (IntOp.cmpi .eq e 12#32) (f 12) 0

section
variable (v16 : IVec S36864x1 32) (x4 : Vec Ideal S16x5632 .f32) (r : Fin 36864) (e : BitVec 32) (he : v16 (ix2 r 0) = e)
include he

theorem g19_apply (l : Fin 5632) :
    k0_pay19 v16 (k0_pay17 v16 (k0_pay15 v16 (k0_pay14 v16 (View.ld x4 r0_19)) (Scalar.ofBits (F := Ideal) .f32 0x00000000#32) (View.ld x4 r0_20) (View.ld x4 r0_21) (View.ld x4 r0_22) (View.ld x4 r0_23)) k0_pay16 (View.ld x4 r0_24) (View.ld x4 r0_25) (View.ld x4 r0_26) (View.ld x4 r0_27)) (k0_pay18 v16) (View.ld x4 r0_28) (View.ld x4 r0_29) (View.ld x4 r0_30) (View.ld x4 r0_31) (ix2 r l)
      = s13 e (fun j => a2 (α := EReal) (n := 16) (m := 5632) x4 j l.val) := by
  have hx4 : ∀ (i : Fin 16) (j : Fin 5632), x4 (ix2 i j) = a2 (α := EReal) (n := 16) (m := 5632) x4 i.val j.val := fun i j => a2_eq _ i j
  unfold k0_pay19 k0_pay18 k0_pay17 k0_pay16 k0_pay15 k0_pay14
  pointwise [he]
  simp only [hx4]
  rfl

theorem g22_apply (v178 v309 : FVec Ideal S36864x5632 .f32) (a : Nat → EReal) (h178 : ∀ l : Fin 5632, v178 (ix2 r l) = a l.val)
    (h309 : ∀ l : Fin 5632, v309 (ix2 r l) = s13 e (fun j => a2 (α := EReal) (n := 16) (m := 5632) x4 j l.val)) (l : Fin 2816) :
    k0_pay22 (F := Ideal) v16 v178 v309 (Scalar.ofBits .f32 0x00000000#32) (k0_pay20 v16) (k0_pay21 (View.ld x4 r0_32)) (View.ld x4 r0_33) (View.ld x4 r0_34) (ix2 r l)
      = a l.val * each e (fun j => a2 (α := EReal) (n := 16) (m := 5632) x4 j l.val)
        * Ideal.logistic (a l.val * each e (fun j => a2 (α := EReal) (n := 16) (m := 5632) x4 j l.val))
        * (a (2816 + l.val) * each e (fun j => a2 (α := EReal) (n := 16) (m := 5632) x4 j (2816 + l.val))) := by
  have hx4 : ∀ (i : Fin 16) (j : Fin 5632), x4 (ix2 i j) = a2 (α := EReal) (n := 16) (m := 5632) x4 i.val j.val := fun i j => a2_eq _ i j
  unfold k0_pay22 k0_pay20 k0_pay21
  pointwise [he]
  simp only [hx4, h178, h309]
  unfold each
  rfl

end

end Cert.ReferenceIdeal.Hand

end
-- ==== Proof.RIdeal.Scale.lean ====
/- The reference's pieces past the first product, entry by entry, of any values before them. -/
module

public import proofs.«01_k».proof.Proof.Gen.ReferenceIdeal.Frame
public import proofs.«01_k».proof.Proof.Row

@[expose] public section

set_option maxRecDepth 16384

noncomputable section

namespace Cert.ReferenceIdeal.Hand

open Cert.ReferenceIdeal Cert.ReferenceIdeal.Gen Idealize.ShloMosaic Cert.Row
open scoped BigOperators

/-- The greatest magnitude of `n` entries. -/
def amaxOf (n : Nat) (h : Nat → EReal) : EReal :=
  Finset.fold max (Ideal.ofBits .f32 0xFF800000#32) (fun k : Fin n => max (h k.val) (-h k.val)) Finset.univ

theorem top_eq (h : Nat → EReal) : top h = amaxOf 2816 h * Ideal.ofBits .f32 0x3B124925#32 := by
  unfold top amax amaxOf
  rfl

/-- A row's greatest magnitude. -/
theorem max_row {n k : Nat} (x : FVec Ideal (⟨2, ![n, k]⟩ : Shape) .f32) (h : (⟨2, ![n, k]⟩ : Shape).Reduces [1] ⟨1, ![n]⟩)
    (r : Fin n) (f : Nat → EReal) (hf : ∀ c : Fin k, x (ix2 r c) = f c.val) :
    multiReduction .maximumf [1] ⟨1, ![n]⟩ (absf x) 0xFF800000#32 h (.inl rfl) rfl (ix1 r) = amaxOf k f := by
  unfold amaxOf
  pointwise []
  simp only [hf]
  rfl

attribute [local irreducible] amaxOf

attribute [local irreducible] pow2 hcode refExp top

/-- The exponent before the cases at the range's ends are taken out. -/
def rawExp (t : EReal) : EReal :=
  min (Ideal.liftRound Int.floor (Ideal.div (Ideal.log t) (Ideal.log (Ideal.ofBits .f32 0x40000000#32))) + 1) (Ideal.ofBits .f32 0x43000000#32)

theorem raw_log (v : FVec Ideal S36864x1 .f32) (r : Fin 36864) (t : EReal) (h : v (ix2 r 0) = t) :
    minimumf (addf (floor (divf (log v) (log (broadcast S36864x1 (Scalar.ofBits (F := Ideal) .f32 0x40000000#32)))))
        (broadcast S36864x1 (Scalar.ofBits (F := Ideal) .f32 0x3F800000#32))) (broadcast S36864x1 (Scalar.ofBits (F := Ideal) .f32 0x43000000#32)) (ix2 r 0)
      = rawExp t := by
  subst h
  have h1 : (Scalar.ofBits (F := Ideal) .f32 0x3F800000#32 : EReal) = 1 := by pointwise []
  unfold rawExp
  rw [← h1]
  rfl

theorem cmp_low (v : FVec Ideal S36864x1 .f32) (r : Fin 36864) (t : EReal) (h : v (ix2 r 0) = t) :
    cmpf .olt v (broadcast S36864x1 (Scalar.ofBits (F := Ideal) .f32 0x00800000#32)) (ix2 r 0)
      = BitVec.ofBool (decide (t < Ideal.ofBits .f32 0x00800000#32)) := by
  pointwise [h]

section
variable (v16 : IVec S36864x1 32) (v178 v309 : FVec Ideal S36864x5632 .f32) (c0 : Ideal .f32) (v314 : IVec S36864x5632 1) (v315 v322 v332 : FVec Ideal S1x5632 .f32)

theorem g23_apply (r : Fin 36864) (h : Nat → EReal)
    (hh : ∀ c : Fin 2816, k0_pay22 (F := Ideal) v16 v178 v309 c0 v314 v315 v322 v332 (ix2 r c) = h c.val) :
    k0_pay23 (F := Ideal) v16 v178 v309 c0 v314 v315 v322 v332 (ix2 r 0) = top h := by
  have hs : ∀ (v : FVec Ideal S36864 .f32) (a : EReal) (_ : v (ix1 r) = a),
      mulf (shapeCast S36864x1 v shapeCasts_S36864_S36864x1) (broadcast S36864x1 (Scalar.ofBits (F := Ideal) .f32 0x3B124925#32)) (ix2 r 0)
        = a * Ideal.ofBits .f32 0x3B124925#32 := by
    intro v a hv
    pointwise [hv]
  rw [top_eq]
  unfold k0_pay23
  generalize k0_pay22 (F := Ideal) v16 v178 v309 c0 v314 v315 v322 v332 = v at hh ⊢
  exact hs _ _ (max_row (n := 36864) (k := 2816) v reduces_S36864x2816_S36864 r h hh)

theorem g24_apply (r : Fin 36864) (t : EReal) (ht : k0_pay23 (F := Ideal) v16 v178 v309 c0 v314 v315 v322 v332 (ix2 r 0) = t) :
    k0_pay24 (F := Ideal) v16 v178 v309 c0 v314 v315 v322 v332 (ix2 r 0) = rawExp t :=
  raw_log _ r t ht

theorem g25_apply (r : Fin 36864) (t : EReal) (ht : k0_pay23 (F := Ideal) v16 v178 v309 c0 v314 v315 v322 v332 (ix2 r 0) = t) :
    k0_pay25 (F := Ideal) v16 v178 v309 c0 v314 v315 v322 v332 (ix2 r 0)
      = BitVec.ofBool (decide (t < Ideal.ofBits .f32 0x00800000#32)) :=
  cmp_low _ r t ht

end

section
variable (v350 v359 : FVec Ideal S36864x1 .f32) (v361 : IVec S36864x1 1) (r : Fin 36864) (t : EReal) (h1 : v350 (ix2 r 0) = t)
  (h2 : v359 (ix2 r 0) = rawExp t) (h3 : v361 (ix2 r 0) = BitVec.ofBool (decide (t < Ideal.ofBits .f32 0x00800000#32)))
include h1 h2 h3

theorem g26_apply : k0_pay26 (F := Ideal) v350 v359 v361 (ix2 r 0) = refExp t := by
  unfold k0_pay26
  pointwise [h1, h2, h3]
  unfold refExp rawExp
  rfl

theorem g28_apply : k0_pay28 (F := Ideal) v350 v359 v361 (ix2 r 0) = pow2 (refExp t) := by
  have h := g26_apply v350 v359 v361 r t h1 h2 h3
  unfold k0_pay28
  generalize k0_pay26 (F := Ideal) v350 v359 v361 = v at h ⊢
  pointwise [h]
  unfold pow2
  rfl

theorem g27_apply (v345 : FVec Ideal S36864x2816 .f32) (c : Fin 2816) (hd : Nat → EReal) (h4 : v345 (ix2 r c) = hd c.val) (h5 : t = top hd) :
    k0_pay27 (F := Ideal) v345 v350 v359 v361 (ix2 r c) = hcode hd c.val := by
  have h := g26_apply v350 v359 v361 r t h1 h2 h3
  unfold k0_pay27
  generalize k0_pay26 (F := Ideal) v350 v359 v361 = v at h ⊢
  pointwise [h, h4]
  rw [h5]
  unfold hcode pow2
  rfl

end

end Cert.ReferenceIdeal.Hand

end
-- ==== Proof.RIdeal.Down.lean ====
/- The reference's second product, entry by entry. -/
module

public import proofs.«01_k».proof.Proof.RIdeal.Hidden

@[expose] public section

set_option maxRecDepth 16384

noncomputable section

namespace Cert.ReferenceIdeal.Hand

open Cert.ReferenceIdeal Cert.ReferenceIdeal.Gen Idealize.ShloMosaic Cert.Row
open scoped BigOperators

section
variable (v16 : IVec S36864x1 32) (r : Fin 36864) (e : BitVec 32) (he : v16 (ix2 r 0) = e)
include he

/-- The first expert's term. -/
theorem first_apply (v : FVec Ideal S36864x2816 .fp8e4m3) (x5 : Vec Ideal S16x2816x2816 .fp8e4m3) (b : Nat → EReal)
    (hb : ∀ k : Fin 2816, v (ix2 r k) = b k.val) (c : Fin 2816) :
    select (broadcastTo S36864x2816 (shapeCast S36864x1 (cmpi .eq v16 (broadcast S36864x1 0#32)) shapeCasts_S36864x1_S36864x1) broadcasts_S36864x1_S36864x2816)
        (matmul (φ₂ := .fp8e4m3) dot_S36864x2816_S2816x2816_S36864x2816_1_0_0_1_n_n none v (shapeCast S2816x2816 (View.ld (e' := .fp8e4m3) x5 r0_35) shapeCasts_S1x2816x2816_S2816x2816)
          (constant (F := Ideal) S36864x2816 .f32 0x00000000#32))
        (broadcast S36864x2816 (Scalar.ofBits (F := Ideal) .f32 0x00000000#32)) (ix2 r c)
      = Scalar.select (IntOp.cmpi .eq e 0#32) (∑ k : Fin 2816, b k.val * a3 (α := EReal) (n := 16) (m := 2816) (p := 2816) x5 0 k.val c.val) 0 := by
  have hx5 : ∀ (i : Fin 16) (j k : Fin 2816), x5 (ix3 i j k) = a3 (α := EReal) (n := 16) (m := 2816) (p := 2816) x5 i.val j.val k.val := fun i j k => a3_eq _ i j k
  pointwise [he]
  simp only [hx5, hb]
  rfl

theorem g29_apply (v345 : FVec Ideal S36864x2816 .f32) (v350 v359 : FVec Ideal S36864x1 .f32) (v361 : IVec S36864x1 1)
    (x5 : Vec Ideal S16x2816x2816 .fp8e4m3) (b : Nat → EReal)
    (hb : ∀ k : Fin 2816, k0_pay27 (F := Ideal) v345 v350 v359 v361 (ix2 r k) = b k.val) (c : Fin 2816) :
    k0_pay29 (F := Ideal) v16 v345 v350 v359 v361 (View.ld x5 r0_35) (ix2 r c)
      = Scalar.select (IntOp.cmpi .eq e 0#32) (∑ k : Fin 2816, b k.val * a3 (α := EReal) (n := 16) (m := 2816) (p := 2816) x5 0 k.val c.val) 0 :=
  first_apply v16 r e he _ x5 b hb c

set_option maxHeartbeats 2000000 in
theorem g39_apply (x5 : Vec Ideal S16x2816x2816 .fp8e4m3) (v384 : FVec Ideal S36864x2816 .fp8e4m3) (v393 : FVec Ideal S36864x1 .f32) (v402 : FVec Ideal S36864x2816 .f32) (b : Nat → EReal) (p : EReal)
    (hb : ∀ k : Fin 2816, v384 (ix2 r k) = b k.val) (hp : v393 (ix2 r 0) = p)
    (h0 : ∀ c : Fin 2816, v402 (ix2 r c) = Scalar.select (IntOp.cmpi .eq e 0#32) (∑ k : Fin 2816, b k.val * a3 (α := EReal) (n := 16) (m := 2816) (p := 2816) x5 0 k.val c.val) 0)
    (c : Fin 2816) :
    k0_pay39 v393 (k0_pay36 v16 v384 (k0_pay35 v16 v384 (k0_pay33 v16 v384 (k0_pay30 v16 v384 v402 (View.ld x5 r0_36) (View.ld x5 r0_37) (View.ld x5 r0_38)) (k0_pay31 v16) (k0_pay32 (View.ld x5 r0_39)) (constant S36864x2816 .f32 0x00000000#32) (View.ld x5 r0_40) (View.ld x5 r0_41) (View.ld x5 r0_42)) (k0_pay34 v16) (View.ld x5 r0_43) (View.ld x5 r0_44) (View.ld x5 r0_45) (View.ld x5 r0_46)) 12#32 (View.ld x5 r0_47) (View.ld x5 r0_48) (View.ld x5 r0_49)) (k0_pay37 v384 (View.ld x5 r0_50)) (Scalar.ofBits (F := Ideal) .f32 0x00000000#32) (k0_pay38 v16) (ix2 r c)
      = each e (fun j => ∑ k : Fin 2816, b k.val * a3 (α := EReal) (n := 16) (m := 2816) (p := 2816) x5 j k.val c.val) * p := by
  have hx5 : ∀ (i : Fin 16) (j k : Fin 2816), x5 (ix3 i j k) = a3 (α := EReal) (n := 16) (m := 2816) (p := 2816) x5 i.val j.val k.val := fun i j k => a3_eq _ i j k
  unfold k0_pay30 k0_pay31 k0_pay32 k0_pay33 k0_pay34 k0_pay35 k0_pay36 k0_pay37 k0_pay38 k0_pay39
  pointwise [he, hp]
  simp only [hx5, hb, h0]
  unfold each
  rfl

set_option maxHeartbeats 2000000 in
theorem g44_apply (x6 : Vec Ideal S16x2816 .f32) (c : Fin 2816) :
    k0_pay44 v16 (k0_pay43 v16 (k0_pay40 v16 (View.ld x6 r0_51) (View.ld x6 r0_52) (View.ld x6 r0_53)) (Scalar.ofBits (F := Ideal) .f32 0x00000000#32) (k0_pay41 v16) (k0_pay42 (View.ld x6 r0_54)) (View.ld x6 r0_55) (View.ld x6 r0_56) (View.ld x6 r0_57) (View.ld x6 r0_58)) 8#32 (View.ld x6 r0_59) (View.ld x6 r0_60) (View.ld x6 r0_61) (View.ld x6 r0_62) (ix2 r c)
      = s12 e (fun j => a2 (α := EReal) (n := 16) (m := 2816) x6 j c.val) := by
  have hx6 : ∀ (i : Fin 16) (j : Fin 2816), x6 (ix2 i j) = a2 (α := EReal) (n := 16) (m := 2816) x6 i.val j.val := fun i j => a2_eq _ i j
  unfold k0_pay40 k0_pay41 k0_pay42 k0_pay43 k0_pay44
  pointwise [he]
  simp only [hx6]
  rfl

end

/-- The stored block from the scaled products and the first twelve experts' scales. -/
theorem g46_apply (v16 : IVec S36864x1 32) (E : Nat → BitVec 32) (he : ∀ r : Fin 36864, v16 (ix2 r 0) = E r.val)
    (x6 : Vec Ideal S16x2816 .f32) (v556 v677 : FVec Ideal S36864x2816 .f32) (f : Nat → Nat → EReal)
    (h5 : ∀ (r : Fin 36864) (c : Fin 2816), v556 (ix2 r c) = f r.val c.val)
    (h6 : ∀ (r : Fin 36864) (c : Fin 2816), v677 (ix2 r c) = s12 (E r.val) (fun j => a2 (α := EReal) (n := 16) (m := 2816) x6 j c.val))
    (Y : Fin 884736) (l : Fin 128) :
    k0_pay46 (F := Ideal) v16 v556 v677 (k0_pay45 v16) (View.ld x6 r0_63) (View.ld x6 r0_64) (View.ld x6 r0_65) (View.ld x6 r0_66) (ix2 Y l)
      = if Y.val % 24 < 22 then f (Y.val / 24) (128 * (Y.val % 24) + l.val)
          * each (E (Y.val / 24)) (fun j => a2 (α := EReal) (n := 16) (m := 2816) x6 j (128 * (Y.val % 24) + l.val)) else 0 := by
  have hl := l.isLt
  have hx6 : ∀ (i : Fin 16) (j : Fin 2816), x6 (ix2 i j) = a2 (α := EReal) (n := 16) (m := 2816) x6 i.val j.val := fun i j => a2_eq _ i j
  unfold k0_pay46 k0_pay45
  pointwise []
  by_cases hY : Y.val % 24 < 22
  · rw [if_pos hY, dif_pos (by omega)]
    simp only [h5, h6, he, hx6]
    rw [show 128 * (Y.val % 24) + l.val = Y.val % 24 * 128 + l.val by omega]
    generalize E (Y.val / 24) = e
    generalize Y.val % 24 * 128 + l.val = q
    generalize f (Y.val / 24) q = z
    unfold each
    refine congrArg (z * ·) ?_
    simp only [show ((12 : Fin 16) : ℕ) = 12 from rfl, show ((13 : Fin 16) : ℕ) = 13 from rfl,
      show ((14 : Fin 16) : ℕ) = 14 from rfl, show ((15 : Fin 16) : ℕ) = 15 from rfl]
  · exact (dif_neg (by omega)).trans (if_neg hY).symm

end Cert.ReferenceIdeal.Hand

end
-- ==== Proof.RIdeal.Out.lean ====
/- The reference's block, entry by entry. -/
module

public import proofs.«01_k».proof.Proof.RIdeal.Hidden
public import proofs.«01_k».proof.Proof.RIdeal.Scale
public import proofs.«01_k».proof.Proof.RIdeal.Down

@[expose] public section

set_option maxRecDepth 16384

noncomputable section

namespace Cert.ReferenceIdeal.Hand

open Cert.ReferenceIdeal Cert.ReferenceIdeal.Gen Idealize.ShloMosaic Cert.Row
open scoped BigOperators

variable (x0 : Vec Ideal S36864x2816 .i8) (x1 : Vec Ideal S36864x5632 .i32) (x2 : Vec Ideal S36864x1 .i32)
  (x3 : Vec Ideal S16x2816x5632 .fp8e4m3) (x4 : Vec Ideal S16x5632 .f32) (x5 : Vec Ideal S16x2816x2816 .fp8e4m3) (x6 : Vec Ideal S16x2816 .f32)

attribute [local irreducible] a2 a3 pow2 hcode refExp top each

theorem p53_apply (r : Fin 36864) (l : Fin 2816) : k0_pay53 (F := Ideal) x0 x1 x2 x3 x4 x5 x6 (ix2 r l) = rh x0 x1 x2 x3 x4 r.val l.val := by
  have he := p48_apply x0 x1 x2 x3 x4 x5 x6 r
  refine (g22_apply _ x4 r _ he _ _ (fun c =>
    each (rexp x2 r.val) (fun e => ∑ k : Fin 2816, Ideal.ofBits .fp8e4m3 (a2 (α := BitVec 8) (n := 36864) (m := 2816) x0 r.val k.val)
        * a3 (α := EReal) (n := 16) (m := 2816) (p := 5632) x3 e k.val c)
      * pow2 ((((a2 (α := BitVec 32) (n := 36864) (m := 5632) x1 r.val c).toInt : ℝ) : EReal)))
    (fun l => p49_apply x0 x1 x2 x3 x4 x5 x6 r l) (fun l => g19_apply _ x4 r _ he l) l).trans ?_
  unfold rh rg
  rfl

theorem p54_apply (r : Fin 36864) : k0_pay54 (F := Ideal) x0 x1 x2 x3 x4 x5 x6 (ix2 r 0) = top (rh x0 x1 x2 x3 x4 r.val) :=
  g23_apply _ _ _ _ _ _ _ _ r _ (fun c => p53_apply x0 x1 x2 x3 x4 x5 x6 r c)

theorem p55_apply (r : Fin 36864) : k0_pay55 (F := Ideal) x0 x1 x2 x3 x4 x5 x6 (ix2 r 0) = rawExp (top (rh x0 x1 x2 x3 x4 r.val)) :=
  g24_apply _ _ _ _ _ _ _ _ r _ (p54_apply x0 x1 x2 x3 x4 x5 x6 r)

theorem p56_apply (r : Fin 36864) : k0_pay56 (F := Ideal) x0 x1 x2 x3 x4 x5 x6 (ix2 r 0)
    = BitVec.ofBool (decide (top (rh x0 x1 x2 x3 x4 r.val) < Ideal.ofBits .f32 0x00800000#32)) :=
  g25_apply _ _ _ _ _ _ _ _ r _ (p54_apply x0 x1 x2 x3 x4 x5 x6 r)

theorem p28_apply (r : Fin 36864) :
    k0_pay28 (F := Ideal) (k0_pay54 x0 x1 x2 x3 x4 x5 x6) (k0_pay55 x0 x1 x2 x3 x4 x5 x6) (k0_pay56 x0 x1 x2 x3 x4 x5 x6) (ix2 r 0)
      = pow2 (refExp (top (rh x0 x1 x2 x3 x4 r.val))) :=
  g28_apply _ _ _ r _ (p54_apply x0 x1 x2 x3 x4 x5 x6 r) (p55_apply x0 x1 x2 x3 x4 x5 x6 r) (p56_apply x0 x1 x2 x3 x4 x5 x6 r)

theorem p57_apply (r : Fin 36864) (c : Fin 2816) : k0_pay57 (F := Ideal) x0 x1 x2 x3 x4 x5 x6 (ix2 r c) = hcode (rh x0 x1 x2 x3 x4 r.val) c.val :=
  g27_apply _ _ _ r _ (p54_apply x0 x1 x2 x3 x4 x5 x6 r) (p55_apply x0 x1 x2 x3 x4 x5 x6 r) (p56_apply x0 x1 x2 x3 x4 x5 x6 r) _ c _
    (p53_apply x0 x1 x2 x3 x4 x5 x6 r c) rfl

/-- The block's entries. -/
theorem out_apply (Y : Fin 884736) (l : Fin 128) : out0_7 (F := Ideal) x0 x1 x2 x3 x4 x5 x6 (ix2 Y l)
    = if Y.val % 24 < 22 then rv x0 x1 x2 x3 x4 x5 x6 (Y.val / 24) (128 * (Y.val % 24) + l.val) else 0 := by
  unfold out0_7
  rw [View.canon_apply_of_pieces (G := fun y : S884736x128.Idx => if (y 0).val % 24 < 22 then rv x0 x1 x2 x3 x4 x5 x6 ((y 0).val / 24) (128 * ((y 0).val % 24) + (y 1).val) else 0) _ ?_ _ (cover0_7 _ _)]
  · rfl
  · intro p hp
    obtain rfl := List.mem_singleton.mp hp
    intro y; idx_vars y
    have he := fun r => p48_apply x0 x1 x2 x3 x4 x5 x6 r
    refine (g46_apply _ (fun R => rexp x2 R) he x6 _ _
      (fun R c => each (rexp x2 R) (fun e => ∑ k : Fin 2816, hcode (rh x0 x1 x2 x3 x4 R) k.val * a3 (α := EReal) (n := 16) (m := 2816) (p := 2816) x5 e k.val c)
        * pow2 (refExp (top (rh x0 x1 x2 x3 x4 R)))) ?_ (fun r c => g44_apply _ r _ (he r) x6 c) _ _).trans ?_
    · intro r c
      exact g39_apply _ r _ (he r) x5 _ _ _ _ _ (fun k => p57_apply x0 x1 x2 x3 x4 x5 x6 r k) (p28_apply x0 x1 x2 x3 x4 x5 x6 r)
        (fun c => g29_apply _ r _ (he r) _ _ _ _ x5 _ (fun k => p57_apply x0 x1 x2 x3 x4 x5 x6 r k) c) c
    · have h0 : (r0_67.emb (ix2 y0 y1) 0).val = y0.val := by rw [Rect.emb_apply]; simp [Rect.unit]
      have h1 : (r0_67.emb (ix2 y0 y1) 1).val = y1.val := by rw [Rect.emb_apply]; simp [Rect.unit]
      rw [h0, h1]
      unfold rv
      rfl

end Cert.ReferenceIdeal.Hand

end
-- ==== Proof.RIdeal.Array.lean ====
/- The reference's result array after the run, entry by entry. -/
module

public import proofs.«01_k».proof.Proof.RIdeal.Out
public import proofs.«01_k».proof.Proof.Gen.ReferenceIdeal.Value
public import proofs.«01_k».proof.Proof.Spec
public import Idealize.ShloMosaic.Lib.StableHlo.ReadAt

@[expose] public section

set_option maxRecDepth 16384

noncomputable section

namespace Cert.ReferenceIdeal.Hand

open Cert.ReferenceIdeal Cert.ReferenceIdeal.Gen Idealize.ShloMosaic Idealize.ShloMosaic.TcCoe Idealize.SL.Sem Cert.Row
open Idealize.ShloMosaic.Pipeline (Dat)
open scoped BigOperators

variable (m : (ℓ : Loc nD τ sig) → Buf (Elt Ideal) ℓ)

theorem index0 (t : Fin cfg0.N) : (cfg0.win 0).index t = ![0, 0] :=
  (by decide +kernel : ∀ t : Fin grid0.N, win0_0.index t = ![0, 0]) t

theorem iblk0_eq (c : Dev nD) (t : Fin cfg0.N) : (iblk m c 0 t : S36864x2816.Idx → BitVec 8) = (V m c main_v11 : S36864x2816.Idx → BitVec 8) := by
  refine funext fun y => ?_
  have e : ((cfg0.win 0).rect t).emb y = (y : S36864x2816.Idx) := by
    refine funext fun a => Fin.ext ?_
    match a with
    | ⟨0, _⟩ => exact (Pipeline.Window.rect_emb_val (cfg0.win 0) t _ (0 : Fin 2)).trans ((congrArg (fun x : Nat => x * 36864 + (y (0 : Fin 2)).val) (congrFun (index0 t) (0 : Fin 2))).trans (by show 0 * 36864 + (y (0 : Fin 2)).val = (y (0 : Fin 2)).val; omega))
    | ⟨1, _⟩ => exact (Pipeline.Window.rect_emb_val (cfg0.win 0) t _ (1 : Fin 2)).trans ((congrArg (fun x : Nat => x * 2816 + (y (1 : Fin 2)).val) (congrFun (index0 t) (1 : Fin 2))).trans (by show 0 * 2816 + (y (1 : Fin 2)).val = (y (1 : Fin 2)).val; omega))
  exact congrArg (V m c main_v11) e

theorem index1 (t : Fin cfg0.N) : (cfg0.win 1).index t = ![0, 0] :=
  (by decide +kernel : ∀ t : Fin grid0.N, win0_1.index t = ![0, 0]) t

theorem iblk1_eq (c : Dev nD) (t : Fin cfg0.N) : (iblk m c 1 t : S36864x5632.Idx → BitVec 32) = (V m c main_v17 : S36864x5632.Idx → BitVec 32) := by
  refine funext fun y => ?_
  have e : ((cfg0.win 1).rect t).emb y = (y : S36864x5632.Idx) := by
    refine funext fun a => Fin.ext ?_
    match a with
    | ⟨0, _⟩ => exact (Pipeline.Window.rect_emb_val (cfg0.win 1) t _ (0 : Fin 2)).trans ((congrArg (fun x : Nat => x * 36864 + (y (0 : Fin 2)).val) (congrFun (index1 t) (0 : Fin 2))).trans (by show 0 * 36864 + (y (0 : Fin 2)).val = (y (0 : Fin 2)).val; omega))
    | ⟨1, _⟩ => exact (Pipeline.Window.rect_emb_val (cfg0.win 1) t _ (1 : Fin 2)).trans ((congrArg (fun x : Nat => x * 5632 + (y (1 : Fin 2)).val) (congrFun (index1 t) (1 : Fin 2))).trans (by show 0 * 5632 + (y (1 : Fin 2)).val = (y (1 : Fin 2)).val; omega))
  exact congrArg (V m c main_v17) e

theorem index2 (t : Fin cfg0.N) : (cfg0.win 2).index t = ![0, 0] :=
  (by decide +kernel : ∀ t : Fin grid0.N, win0_2.index t = ![0, 0]) t

theorem iblk2_eq (c : Dev nD) (t : Fin cfg0.N) : (iblk m c 2 t : S36864x1.Idx → BitVec 32) = (V m c main_v28 : S36864x1.Idx → BitVec 32) := by
  refine funext fun y => ?_
  have e : ((cfg0.win 2).rect t).emb y = (y : S36864x1.Idx) := by
    refine funext fun a => Fin.ext ?_
    match a with
    | ⟨0, _⟩ => exact (Pipeline.Window.rect_emb_val (cfg0.win 2) t _ (0 : Fin 2)).trans ((congrArg (fun x : Nat => x * 36864 + (y (0 : Fin 2)).val) (congrFun (index2 t) (0 : Fin 2))).trans (by show 0 * 36864 + (y (0 : Fin 2)).val = (y (0 : Fin 2)).val; omega))
    | ⟨1, _⟩ => exact (Pipeline.Window.rect_emb_val (cfg0.win 2) t _ (1 : Fin 2)).trans ((congrArg (fun x : Nat => x * 1 + (y (1 : Fin 2)).val) (congrFun (index2 t) (1 : Fin 2))).trans (by show 0 * 1 + (y (1 : Fin 2)).val = (y (1 : Fin 2)).val; omega))
  exact congrArg (V m c main_v28) e

theorem index3 (t : Fin cfg0.N) : (cfg0.win 3).index t = ![0, 0, 0] :=
  (by decide +kernel : ∀ t : Fin grid0.N, win0_3.index t = ![0, 0, 0]) t

theorem iblk3_eq (c : Dev nD) (t : Fin cfg0.N) : (iblk m c 3 t : S16x2816x5632.Idx → EReal) = (m ((c.tc : Thread nD τ).loc main_arg2) : S16x2816x5632.Idx → EReal) := by
  refine funext fun y => ?_
  have e : ((cfg0.win 3).rect t).emb y = (y : S16x2816x5632.Idx) := by
    refine funext fun a => Fin.ext ?_
    match a with
    | ⟨0, _⟩ => exact (Pipeline.Window.rect_emb_val (cfg0.win 3) t _ (0 : Fin 3)).trans ((congrArg (fun x : Nat => x * 16 + (y (0 : Fin 3)).val) (congrFun (index3 t) (0 : Fin 3))).trans (by show 0 * 16 + (y (0 : Fin 3)).val = (y (0 : Fin 3)).val; omega))
    | ⟨1, _⟩ => exact (Pipeline.Window.rect_emb_val (cfg0.win 3) t _ (1 : Fin 3)).trans ((congrArg (fun x : Nat => x * 2816 + (y (1 : Fin 3)).val) (congrFun (index3 t) (1 : Fin 3))).trans (by show 0 * 2816 + (y (1 : Fin 3)).val = (y (1 : Fin 3)).val; omega))
    | ⟨2, _⟩ => exact (Pipeline.Window.rect_emb_val (cfg0.win 3) t _ (2 : Fin 3)).trans ((congrArg (fun x : Nat => x * 5632 + (y (2 : Fin 3)).val) (congrFun (index3 t) (2 : Fin 3))).trans (by show 0 * 5632 + (y (2 : Fin 3)).val = (y (2 : Fin 3)).val; omega))
  refine Eq.trans ?_ (congrFun (V_main_arg2 m c) _)
  exact congrArg (V m c main_arg2) e

theorem index4 (t : Fin cfg0.N) : (cfg0.win 4).index t = ![0, 0] :=
  (by decide +kernel : ∀ t : Fin grid0.N, win0_4.index t = ![0, 0]) t

theorem iblk4_eq (c : Dev nD) (t : Fin cfg0.N) : (iblk m c 4 t : S16x5632.Idx → EReal) = (m ((c.tc : Thread nD τ).loc main_arg3) : S16x5632.Idx → EReal) := by
  refine funext fun y => ?_
  have e : ((cfg0.win 4).rect t).emb y = (y : S16x5632.Idx) := by
    refine funext fun a => Fin.ext ?_
    match a with
    | ⟨0, _⟩ => exact (Pipeline.Window.rect_emb_val (cfg0.win 4) t _ (0 : Fin 2)).trans ((congrArg (fun x : Nat => x * 16 + (y (0 : Fin 2)).val) (congrFun (index4 t) (0 : Fin 2))).trans (by show 0 * 16 + (y (0 : Fin 2)).val = (y (0 : Fin 2)).val; omega))
    | ⟨1, _⟩ => exact (Pipeline.Window.rect_emb_val (cfg0.win 4) t _ (1 : Fin 2)).trans ((congrArg (fun x : Nat => x * 5632 + (y (1 : Fin 2)).val) (congrFun (index4 t) (1 : Fin 2))).trans (by show 0 * 5632 + (y (1 : Fin 2)).val = (y (1 : Fin 2)).val; omega))
  refine Eq.trans ?_ (congrFun (V_main_arg3 m c) _)
  exact congrArg (V m c main_arg3) e

theorem index5 (t : Fin cfg0.N) : (cfg0.win 5).index t = ![0, 0, 0] :=
  (by decide +kernel : ∀ t : Fin grid0.N, win0_5.index t = ![0, 0, 0]) t

theorem iblk5_eq (c : Dev nD) (t : Fin cfg0.N) : (iblk m c 5 t : S16x2816x2816.Idx → EReal) = (m ((c.tc : Thread nD τ).loc main_arg4) : S16x2816x2816.Idx → EReal) := by
  refine funext fun y => ?_
  have e : ((cfg0.win 5).rect t).emb y = (y : S16x2816x2816.Idx) := by
    refine funext fun a => Fin.ext ?_
    match a with
    | ⟨0, _⟩ => exact (Pipeline.Window.rect_emb_val (cfg0.win 5) t _ (0 : Fin 3)).trans ((congrArg (fun x : Nat => x * 16 + (y (0 : Fin 3)).val) (congrFun (index5 t) (0 : Fin 3))).trans (by show 0 * 16 + (y (0 : Fin 3)).val = (y (0 : Fin 3)).val; omega))
    | ⟨1, _⟩ => exact (Pipeline.Window.rect_emb_val (cfg0.win 5) t _ (1 : Fin 3)).trans ((congrArg (fun x : Nat => x * 2816 + (y (1 : Fin 3)).val) (congrFun (index5 t) (1 : Fin 3))).trans (by show 0 * 2816 + (y (1 : Fin 3)).val = (y (1 : Fin 3)).val; omega))
    | ⟨2, _⟩ => exact (Pipeline.Window.rect_emb_val (cfg0.win 5) t _ (2 : Fin 3)).trans ((congrArg (fun x : Nat => x * 2816 + (y (2 : Fin 3)).val) (congrFun (index5 t) (2 : Fin 3))).trans (by show 0 * 2816 + (y (2 : Fin 3)).val = (y (2 : Fin 3)).val; omega))
  refine Eq.trans ?_ (congrFun (V_main_arg4 m c) _)
  exact congrArg (V m c main_arg4) e

theorem index6 (t : Fin cfg0.N) : (cfg0.win 6).index t = ![0, 0] :=
  (by decide +kernel : ∀ t : Fin grid0.N, win0_6.index t = ![0, 0]) t

theorem iblk6_eq (c : Dev nD) (t : Fin cfg0.N) : (iblk m c 6 t : S16x2816.Idx → EReal) = (m ((c.tc : Thread nD τ).loc main_arg5) : S16x2816.Idx → EReal) := by
  refine funext fun y => ?_
  have e : ((cfg0.win 6).rect t).emb y = (y : S16x2816.Idx) := by
    refine funext fun a => Fin.ext ?_
    match a with
    | ⟨0, _⟩ => exact (Pipeline.Window.rect_emb_val (cfg0.win 6) t _ (0 : Fin 2)).trans ((congrArg (fun x : Nat => x * 16 + (y (0 : Fin 2)).val) (congrFun (index6 t) (0 : Fin 2))).trans (by show 0 * 16 + (y (0 : Fin 2)).val = (y (0 : Fin 2)).val; omega))
    | ⟨1, _⟩ => exact (Pipeline.Window.rect_emb_val (cfg0.win 6) t _ (1 : Fin 2)).trans ((congrArg (fun x : Nat => x * 2816 + (y (1 : Fin 2)).val) (congrFun (index6 t) (1 : Fin 2))).trans (by show 0 * 2816 + (y (1 : Fin 2)).val = (y (1 : Fin 2)).val; omega))
  refine Eq.trans ?_ (congrFun (V_main_arg5 m c) _)
  exact congrArg (V m c main_arg5) e

theorem index7 (t : Fin cfg0.N) : (cfg0.win 7).index t = ![0, 0] :=
  (by decide +kernel : ∀ t : Fin grid0.N, win0_7.index t = ![0, 0]) t

/-- The result array after the run. -/
theorem array7 (c : Dev nD) (Y : Fin 884736) (l : Fin 128) :
    ((dats m 0 c).arrAt 7 cfg0.N : S884736x128.Idx → EReal) (ix2 Y l)
      = if Y.val % 24 < 22 then rv (V m c main_v11) (V m c main_v17) (V m c main_v28) (m ((c.tc : Thread nD τ).loc main_arg2)) (m ((c.tc : Thread nD τ).loc main_arg3)) (m ((c.tc : Thread nD τ).loc main_arg4)) (m ((c.tc : Thread nD τ).loc main_arg5)) (Y.val / 24) (128 * (Y.val % 24) + l.val) else 0 := by
  let t : Fin cfg0.N := (0 : Fin 1)
  have e : ((cfg0.win 7).rect t).emb (ix2 Y l) = (ix2 Y l : S884736x128.Idx) := by
    refine Shape.idx_ext₂ ?_ ?_
    · exact (Pipeline.Window.rect_emb_val (cfg0.win 7) t _ (0 : Fin 2)).trans ((congrArg (fun x : Nat => x * 884736 + Y.val) (congrFun (index7 t) (0 : Fin 2))).trans (by show 0 * 884736 + Y.val = Y.val; omega))
    · exact (Pipeline.Window.rect_emb_val (cfg0.win 7) t _ (1 : Fin 2)).trans ((congrArg (fun x : Nat => x * 128 + l.val) (congrFun (index7 t) (1 : Fin 2))).trans (by show 0 * 128 + l.val = l.val; omega))
  have h := (dats m 0 c).arrAt_emb_eq_flushed 7 Value.disjoint7 t (by decide +kernel) (ix2 Y l)
  have h2 : (dats m 0 c).arrAt 7 cfg0.N (((cfg0.win 7).rect t).emb (ix2 Y l))
      = (out0_7 (F := Ideal) (iblk m c 0 t) (iblk m c 1 t) (iblk m c 2 t) (iblk m c 3 t) (iblk m c 4 t) (iblk m c 5 t) (iblk m c 6 t) : S884736x128.Idx → EReal) (ix2 Y l) := by
    exact h.trans ((cast_eq _ _).trans (congrFun (after0_7 m c t) (ix2 Y l)))
  rw [e] at h2
  refine h2.trans ((out_apply _ _ _ _ _ _ _ Y l).trans ?_)
  rw [iblk0_eq, iblk1_eq, iblk2_eq, iblk3_eq, iblk4_eq, iblk5_eq, iblk6_eq]

end Cert.ReferenceIdeal.Hand

end
-- ==== Proof.RIdeal.Tie.lean ====
/- The reference's row, with the row's expert picked. -/
module

public import proofs.«01_k».proof.Proof.RIdeal.Row
public import proofs.«01_k».proof.Proof.Spec

@[expose] public section

set_option maxRecDepth 16384

noncomputable section

namespace Cert.ReferenceIdeal.Hand

open Cert.ReferenceIdeal Cert.ReferenceIdeal.Gen Idealize.ShloMosaic Cert.Row
open scoped BigOperators

theorem sel_ofNat (a b : Nat) (ha : a < 16) (hb : b < 16) (x : EReal) :
    Scalar.select (IntOp.cmpi .eq (BitVec.ofNat 32 a) (BitVec.ofNat 32 b)) x 0 = if a = b then x else 0 := by
  have h : ∀ a b : Fin 16, IntOp.cmpi .eq (BitVec.ofNat 32 a.val) (BitVec.ofNat 32 b.val) = if a.val = b.val then 1#1 else 0#1 := by
    decide +kernel
  rw [h ⟨a, ha⟩ ⟨b, hb⟩]
  show Scalar.select (if a = b then 1#1 else 0#1) x 0 = _
  by_cases hab : a = b
  · rw [if_pos hab, if_pos hab]; rfl
  · rw [if_neg hab, if_neg hab]; rfl

/-- A row's sum over the experts has its own expert's term alone. -/
theorem each_lt (e : BitVec 32) (f : Nat → EReal) (he : e.toNat < 16) : each e f = f e.toNat := by
  have key : ∀ n : Fin 16, each (BitVec.ofNat 32 n.val) f = f n.val := by
    intro n
    unfold each
    simp only [sel_ofNat n.val _ n.isLt (by decide : (0 : Nat) < 16), sel_ofNat n.val _ n.isLt (by decide : (1 : Nat) < 16),
      sel_ofNat n.val _ n.isLt (by decide : (2 : Nat) < 16), sel_ofNat n.val _ n.isLt (by decide : (3 : Nat) < 16),
      sel_ofNat n.val _ n.isLt (by decide : (4 : Nat) < 16), sel_ofNat n.val _ n.isLt (by decide : (5 : Nat) < 16),
      sel_ofNat n.val _ n.isLt (by decide : (6 : Nat) < 16), sel_ofNat n.val _ n.isLt (by decide : (7 : Nat) < 16),
      sel_ofNat n.val _ n.isLt (by decide : (8 : Nat) < 16), sel_ofNat n.val _ n.isLt (by decide : (9 : Nat) < 16),
      sel_ofNat n.val _ n.isLt (by decide : (10 : Nat) < 16), sel_ofNat n.val _ n.isLt (by decide : (11 : Nat) < 16),
      sel_ofNat n.val _ n.isLt (by decide : (12 : Nat) < 16), sel_ofNat n.val _ n.isLt (by decide : (13 : Nat) < 16),
      sel_ofNat n.val _ n.isLt (by decide : (14 : Nat) < 16), sel_ofNat n.val _ n.isLt (by decide : (15 : Nat) < 16)]
    match n with
    | ⟨0, _⟩ => simp
    | ⟨1, _⟩ => simp
    | ⟨2, _⟩ => simp
    | ⟨3, _⟩ => simp
    | ⟨4, _⟩ => simp
    | ⟨5, _⟩ => simp
    | ⟨6, _⟩ => simp
    | ⟨7, _⟩ => simp
    | ⟨8, _⟩ => simp
    | ⟨9, _⟩ => simp
    | ⟨10, _⟩ => simp
    | ⟨11, _⟩ => simp
    | ⟨12, _⟩ => simp
    | ⟨13, _⟩ => simp
    | ⟨14, _⟩ => simp
    | ⟨15, _⟩ => simp
    | ⟨n + 16, h⟩ => exact absurd h (by omega)
  have := key ⟨e.toNat, he⟩
  rwa [show BitVec.ofNat 32 e.toNat = e by simp] at this

/-- A row of no expert has no term. -/
theorem each_none (f : Nat → EReal) : each 4294967295#32 f = 0 := by
  have h : ∀ j : Fin 16, IntOp.cmpi .eq 4294967295#32 (BitVec.ofNat 32 j.val) = 0#1 := by decide +kernel
  have s : ∀ (j : Fin 16) (x : EReal), Scalar.select (IntOp.cmpi .eq 4294967295#32 (BitVec.ofNat 32 j.val)) x 0 = 0 := fun j x => by
    rw [h j]; rfl
  unfold each
  rw [show Scalar.select (IntOp.cmpi .eq 4294967295#32 0#32) (f 0) 0 = 0 from s 0 _,
    show Scalar.select (IntOp.cmpi .eq 4294967295#32 1#32) (f 1) 0 = 0 from s 1 _,
    show Scalar.select (IntOp.cmpi .eq 4294967295#32 2#32) (f 2) 0 = 0 from s 2 _,
    show Scalar.select (IntOp.cmpi .eq 4294967295#32 3#32) (f 3) 0 = 0 from s 3 _,
    show Scalar.select (IntOp.cmpi .eq 4294967295#32 4#32) (f 4) 0 = 0 from s 4 _,
    show Scalar.select (IntOp.cmpi .eq 4294967295#32 5#32) (f 5) 0 = 0 from s 5 _,
    show Scalar.select (IntOp.cmpi .eq 4294967295#32 6#32) (f 6) 0 = 0 from s 6 _,
    show Scalar.select (IntOp.cmpi .eq 4294967295#32 7#32) (f 7) 0 = 0 from s 7 _,
    show Scalar.select (IntOp.cmpi .eq 4294967295#32 8#32) (f 8) 0 = 0 from s 8 _,
    show Scalar.select (IntOp.cmpi .eq 4294967295#32 9#32) (f 9) 0 = 0 from s 9 _,
    show Scalar.select (IntOp.cmpi .eq 4294967295#32 10#32) (f 10) 0 = 0 from s 10 _,
    show Scalar.select (IntOp.cmpi .eq 4294967295#32 11#32) (f 11) 0 = 0 from s 11 _,
    show Scalar.select (IntOp.cmpi .eq 4294967295#32 12#32) (f 12) 0 = 0 from s 12 _,
    show Scalar.select (IntOp.cmpi .eq 4294967295#32 13#32) (f 13) 0 = 0 from s 13 _,
    show Scalar.select (IntOp.cmpi .eq 4294967295#32 14#32) (f 14) 0 = 0 from s 14 _,
    show Scalar.select (IntOp.cmpi .eq 4294967295#32 15#32) (f 15) 0 = 0 from s 15 _]
  simp only [add_zero]

variable (x0 : Vec Ideal S36864x2816 .i8) (x1 : Vec Ideal S36864x5632 .i32) (x2 : Vec Ideal S36864x1 .i32)
  (x3 : Vec Ideal S16x2816x5632 .fp8e4m3) (x4 : Vec Ideal S16x5632 .f32) (x5 : Vec Ideal S16x2816x2816 .fp8e4m3) (x6 : Vec Ideal S16x2816 .f32)
  (w : Nat → Nat → BitVec 32) (R : Nat)

/-- In a used tile, a row's result is its expert's. -/
theorem rv_used (hX : ∀ k < 2816, Ideal.ofBits .fp8e4m3 (a2 (α := BitVec 8) (n := 36864) (m := 2816) x0 R k) = wcode w R k)
    (hS : ∀ c < 5632, pow2 ((((a2 (α := BitVec 32) (n := 36864) (m := 5632) x1 R c).toInt : ℝ) : EReal)) = wscale w R (c % 128))
    (he : (rexp x2 R).toNat < 16) (c : Nat) :
    rv x0 x1 x2 x3 x4 x5 x6 R c
      = outv (whid w (a3 (α := EReal) (n := 16) (m := 2816) (p := 5632) x3 (rexp x2 R).toNat) (a2 (α := EReal) (n := 16) (m := 5632) x4 (rexp x2 R).toNat) R)
          (a3 (α := EReal) (n := 16) (m := 2816) (p := 2816) x5 (rexp x2 R).toNat) (a2 (α := EReal) (n := 16) (m := 2816) x6 (rexp x2 R).toNat) c := by
  have hg : ∀ c < 5632, rg x0 x1 x2 x3 x4 R c = gup (wcode w R) (wscale w R) (a3 (α := EReal) (n := 16) (m := 2816) (p := 5632) x3 (rexp x2 R).toNat) (a2 (α := EReal) (n := 16) (m := 5632) x4 (rexp x2 R).toNat) c := by
    intro c hc
    unfold rg gup
    rw [each_lt _ _ he, each_lt _ _ he, hS c hc]
    congr 2
    exact Finset.sum_congr rfl fun k _ => by rw [hX _ k.isLt]
  have hh : ∀ c < 2816, rh x0 x1 x2 x3 x4 R c = whid w (a3 (α := EReal) (n := 16) (m := 2816) (p := 5632) x3 (rexp x2 R).toNat) (a2 (α := EReal) (n := 16) (m := 5632) x4 (rexp x2 R).toNat) R c := by
    intro c hc
    unfold rh whid hid Ideal.logistic
    rw [hg c (by omega), hg (2816 + c) (by omega), zero_sub]
  unfold rv outv
  rw [each_lt _ _ he, each_lt _ _ he, top_congr hh]
  congr 2
  refine Finset.sum_congr rfl fun k _ => ?_
  unfold hcode
  rw [top_congr hh, hh _ k.isLt]

/-- In an unused tile, a row's result is zero. -/
theorem rv_unused (he : rexp x2 R = 4294967295#32) (c : Nat) : rv x0 x1 x2 x3 x4 x5 x6 R c = 0 := by
  unfold rv
  rw [he, each_none, zero_mul, zero_mul]

end Cert.ReferenceIdeal.Hand

end
-- ==== Proof.RIdeal.Final.lean ====
/- The reference's result array is the result of its arguments. -/
module

public import proofs.«01_k».proof.Proof.RIdeal.Array
public import proofs.«01_k».proof.Proof.RIdeal.Tie

@[expose] public section

set_option maxRecDepth 16384

noncomputable section

namespace Cert.ReferenceIdeal.Hand

open Cert.ReferenceIdeal Cert.ReferenceIdeal.Gen Idealize.ShloMosaic Idealize.ShloMosaic.TcCoe Idealize.SL.Sem Cert.Row
open Idealize.ShloMosaic.Pipeline (Dat)
open scoped BigOperators

variable (m : (ℓ : Loc nD τ sig) → Buf (Elt Ideal) ℓ)

/-- The host's shift by a whole number of bytes is the vector unit's. -/
theorem shr_eq (x : BitVec 32) : ∀ s : Nat, s < 4 →
    IntOp.shrsi .host x (IntOp.muli 8#32 (BitVec.ofNat 32 s)) = IntOp.shrsi .vector x (BitVec.ofNat 32 (8 * s))
  | 0, _ => rfl
  | 1, _ => rfl
  | 2, _ => rfl
  | 3, _ => rfl
  | n + 4, h => absurd h (by omega)

theorem low_byte (x : BitVec 32) : BitVec.setWidth 8 (IntOp.andi x 255#32) = BitVec.setWidth 8 x := by
  unfold IntOp.andi
  apply BitVec.eq_of_toNat_eq
  rw [BitVec.toNat_setWidth, BitVec.toNat_setWidth, BitVec.toNat_and, show (255#32).toNat = 2 ^ 8 - 1 by decide, Nat.and_two_pow_sub_one_eq_mod, Nat.mod_mod]

/-- The rows' codes. -/
theorem code_apply (c : Dev nD) (R : Fin 36864) (k : Fin 2816) :
    (V m c main_v11 : S36864x2816.Idx → BitVec 8) (ix2 R k)
      = BitVec.setWidth 8 (IntOp.shrsi .vector (a2 (α := BitVec 32) (n := 294912) (m := 128) (m ((c.tc : Thread nD τ).loc main_arg1)) (8 * R.val + k.val / 512) (k.val % 128)) (BitVec.ofNat 32 (8 * (k.val / 128 % 4)))) := by
  have hw : ∀ (i : Fin 294912) (j : Fin 128), (m ((c.tc : Thread nD τ).loc main_arg1) : S294912x128.Idx → BitVec 32) (ix2 i j) = a2 (α := BitVec 32) (n := 294912) (m := 128) (m ((c.tc : Thread nD τ).loc main_arg1)) i.val j.val := fun i j => a2_eq _ i j
  have h : (V m c main_v11 : S36864x2816.Idx → BitVec 8) (ix2 R k)
      = BitVec.setWidth 8 (IntOp.andi (IntOp.shrsi .host ((m ((c.tc : Thread nD τ).loc main_arg1) : S294912x128.Idx → BitVec 32) (ix2 ⟨R.val * 8 + k.val / 512, by omega⟩ ⟨k.val % 128, by omega⟩))
          (IntOp.muli 8#32 (BitVec.ofNat 32 (k.val / 128 % 4)))) 255#32) := by
    unfold V
    after_reads_at
  rw [h, hw, low_byte, shr_eq _ _ (Nat.mod_lt _ (by decide))]
  show BitVec.setWidth 8 (IntOp.shrsi .vector (a2 (α := BitVec 32) (n := 294912) (m := 128) _ (R.val * 8 + k.val / 512) (k.val % 128)) _) = _
  rw [Nat.mul_comm]

/-- The rows' stored exponents. -/
theorem exp_apply (c : Dev nD) (R : Fin 36864) (k : Fin 5632) :
    (V m c main_v17 : S36864x5632.Idx → BitVec 32) (ix2 R k)
      = IntOp.subi (IntOp.andi (IntOp.shrsi .vector (a2 (α := BitVec 32) (n := 294912) (m := 128) (m ((c.tc : Thread nD τ).loc main_arg1)) (8 * R.val + 5) (k.val % 128)) 16#32) 255#32) 128#32 := by
  have hw : ∀ (i : Fin 294912) (j : Fin 128), (m ((c.tc : Thread nD τ).loc main_arg1) : S294912x128.Idx → BitVec 32) (ix2 i j) = a2 (α := BitVec 32) (n := 294912) (m := 128) (m ((c.tc : Thread nD τ).loc main_arg1)) i.val j.val := fun i j => a2_eq _ i j
  have h : (V m c main_v17 : S36864x5632.Idx → BitVec 32) (ix2 R k)
      = IntOp.subi (IntOp.andi (IntOp.shrsi .host ((m ((c.tc : Thread nD τ).loc main_arg1) : S294912x128.Idx → BitVec 32) (ix2 ⟨R.val * 8 + (2816 + k.val % 128) / 512, by omega⟩ ⟨(2816 + k.val % 128) % 128, by omega⟩))
          (IntOp.muli 8#32 (BitVec.ofNat 32 ((2816 + k.val % 128) / 128 % 4)))) 255#32) 128#32 := by
    unfold V
    after_reads_at
  rw [h, hw, shr_eq _ _ (Nat.mod_lt _ (by decide))]
  show IntOp.subi (IntOp.andi (IntOp.shrsi .vector (a2 (α := BitVec 32) (n := 294912) (m := 128) _ (R.val * 8 + (2816 + k.val % 128) / 512) ((2816 + k.val % 128) % 128)) _) _) _ = _
  rw [show R.val * 8 + (2816 + k.val % 128) / 512 = 8 * R.val + 5 by omega, show (2816 + k.val % 128) % 128 = k.val % 128 by omega,
    show (2816 + k.val % 128) / 128 % 4 = 2 by omega]

/-- The rows' experts. -/
theorem expert_apply (c : Dev nD) (R : Fin 36864) :
    (V m c main_v28 : S36864x1.Idx → BitVec 32) (ix2 R 0)
      = if ((R.val / 256 : Nat) : Int) < (a2 (α := BitVec 32) (n := 8) (m := 144) (m ((c.tc : Thread nD τ).loc main_arg0)) 2 0).toInt
        then a2 (α := BitVec 32) (n := 8) (m := 144) (m ((c.tc : Thread nD τ).loc main_arg0)) 0 (R.val / 256) else 4294967295#32 := by
  have hw : ∀ (i : Fin 8) (j : Fin 144), (m ((c.tc : Thread nD τ).loc main_arg0) : S8x144.Idx → BitVec 32) (ix2 i j) = a2 (α := BitVec 32) (n := 8) (m := 144) (m ((c.tc : Thread nD τ).loc main_arg0)) i.val j.val := fun i j => a2_eq _ i j
  have h : (V m c main_v28 : S36864x1.Idx → BitVec 32) (ix2 R 0)
      = Scalar.select (IntOp.cmpi .slt (BitVec.ofNat 32 (R.val / 256)) ((m ((c.tc : Thread nD τ).loc main_arg0) : S8x144.Idx → BitVec 32) (ix2 2 0)))
          ((m ((c.tc : Thread nD τ).loc main_arg0) : S8x144.Idx → BitVec 32) (ix2 0 ⟨R.val / 256, by omega⟩)) 4294967295#32 := by
    unfold V
    after_reads_at
    rfl
  have ht : (BitVec.ofNat 32 (R.val / 256)).toInt = ((R.val / 256 : Nat) : Int) :=
    (by decide +kernel : ∀ t : Fin 144, (BitVec.ofNat 32 t.val).toInt = (t.val : Int)) ⟨R.val / 256, by omega⟩
  rw [h, hw, hw]
  show Scalar.select (BitVec.ofBool (BitVec.slt (BitVec.ofNat 32 (R.val / 256)) (a2 (α := BitVec 32) (n := 8) (m := 144) _ 2 0))) (a2 (α := BitVec 32) (n := 8) (m := 144) _ 0 (R.val / 256)) _ = _
  rw [BitVec.slt_eq_decide, ht]
  by_cases hu : ((R.val / 256 : Nat) : Int) < (a2 (α := BitVec 32) (n := 8) (m := 144) (m ((c.tc : Thread nD τ).loc main_arg0)) 2 0).toInt
  · rw [if_pos hu, decide_eq_true hu]; rfl
  · rw [if_neg hu, decide_eq_false hu]; rfl

/-- The result array's entries. -/
theorem array7_result (c : Dev nD) (hE : ∀ t < 144, (a2 (α := BitVec 32) (n := 8) (m := 144) (m ((c.tc : Thread nD τ).loc main_arg0)) 0 t).toNat < 16)
    (Y : Fin 884736) (l : Fin 128) :
    ((dats m 0 c).arrAt 7 cfg0.N : S884736x128.Idx → EReal) (ix2 Y l)
      = result (a2 (α := BitVec 32) (n := 8) (m := 144) (m ((c.tc : Thread nD τ).loc main_arg0)))
          (a2 (α := BitVec 32) (n := 294912) (m := 128) (m ((c.tc : Thread nD τ).loc main_arg1)))
          (a3 (α := EReal) (n := 16) (m := 2816) (p := 5632) (m ((c.tc : Thread nD τ).loc main_arg2)))
          (a2 (α := EReal) (n := 16) (m := 5632) (m ((c.tc : Thread nD τ).loc main_arg3)))
          (a3 (α := EReal) (n := 16) (m := 2816) (p := 2816) (m ((c.tc : Thread nD τ).loc main_arg4)))
          (a2 (α := EReal) (n := 16) (m := 2816) (m ((c.tc : Thread nD τ).loc main_arg5))) Y.val l.val := by
  have hY := Y.isLt
  rw [array7]
  let R : Fin 36864 := ⟨Y.val / 24, by omega⟩
  have hR : R.val / 256 = Y.val / 6144 := by show Y.val / 24 / 256 = _; omega
  have he : rexp (V m c main_v28) R.val = _ := (a2_eq (α := BitVec 32) (n := 36864) (m := 1) (V m c main_v28) R 0).symm.trans (expert_apply m c R)
  have hX : ∀ k < 2816, Ideal.ofBits .fp8e4m3 (a2 (α := BitVec 8) (n := 36864) (m := 2816) (V m c main_v11) R.val k)
      = wcode (a2 (α := BitVec 32) (n := 294912) (m := 128) (m ((c.tc : Thread nD τ).loc main_arg1))) R.val k := fun k hk => by
    unfold wcode
    exact congrArg (Ideal.ofBits .fp8e4m3) ((a2_eq (α := BitVec 8) (n := 36864) (m := 2816) (V m c main_v11) R ⟨k, hk⟩).symm.trans (code_apply m c R ⟨k, hk⟩))
  have hS : ∀ k < 5632, pow2 ((((a2 (α := BitVec 32) (n := 36864) (m := 5632) (V m c main_v17) R.val k).toInt : ℝ) : EReal))
      = wscale (a2 (α := BitVec 32) (n := 294912) (m := 128) (m ((c.tc : Thread nD τ).loc main_arg1))) R.val (k % 128) := fun k hk => by
    unfold wscale
    rw [bits2_word_eq _ (byte_range _).1 (byte_range _).2]
    exact congrArg (fun x : BitVec 32 => pow2 ((x.toInt : ℝ) : EReal)) ((a2_eq (α := BitVec 32) (n := 36864) (m := 5632) (V m c main_v17) R ⟨k, hk⟩).symm.trans (exp_apply m c R ⟨k, hk⟩))
  rw [hR] at he
  unfold result wout
  by_cases hu : ((Y.val / 6144 : Nat) : Int) < (a2 (α := BitVec 32) (n := 8) (m := 144) (m ((c.tc : Thread nD τ).loc main_arg0)) 2 0).toInt
  · rw [if_pos hu] at he ⊢
    by_cases h : Y.val % 24 < 22
    · rw [if_pos h, if_pos h]
      have := rv_used (V m c main_v11) (V m c main_v17) (V m c main_v28) (m ((c.tc : Thread nD τ).loc main_arg2)) (m ((c.tc : Thread nD τ).loc main_arg3)) (m ((c.tc : Thread nD τ).loc main_arg4)) (m ((c.tc : Thread nD τ).loc main_arg5)) _ R.val hX hS
        (by rw [he]; exact hE _ (by omega)) (128 * (Y.val % 24) + l.val)
      rw [he] at this
      exact this
    · rw [if_neg h, if_neg h]
  · rw [if_neg hu] at he ⊢
    by_cases h : Y.val % 24 < 22
    · rw [if_pos h]
      exact rv_unused (V m c main_v11) (V m c main_v17) (V m c main_v28) _ _ _ _ R.val he _
    · rw [if_neg h]

end Cert.ReferenceIdeal.Hand

end
-- ==== Proof.CIdeal.Words.lean ====
/- The index words of the combine kernel's body in closed form: where each step reads the positions table, which rows its
   row copies move and where they land, and which of the two halves of the scratch buffer a step works on. -/
module

public import proofs.«01_k».proof.Proof.Gen.CombineIdeal.Launch
public import proofs.«01_k».proof.Proof.Gen.CombineIdeal.Skeleton
public import Idealize.ShloMosaic.Lib.WordCmp

@[expose] public section

set_option maxRecDepth 16384

namespace Cert.CombineIdeal.Hand

open Cert.CombineIdeal.Gen
open Idealize.ShloMosaic Idealize.ShloMosaic.TcCoe

theorem trips1 : k0_t1_loop.trips = 128 := by decide +kernel
theorem trips2 : k0_t2_loop.trips = 128 := by decide +kernel

/-- A fact about a grid coordinate and a trip, checked at each of the 64 × 128 pairs. -/
theorem pairs {P : Nat → Nat → Prop} (h : ∀ a < 64, ∀ t < 128, P a t) (a : Fin 64) (t : Fin 128) : P a.val t.val :=
  h a.val a.isLt t.val t.isLt

theorem cond1_iff (i : grid0.Coords) : k0_cond1 i = 1#1 ↔ (i 0).val = 0 := by
  have h : (i 0).val < 64 := (i 0).isLt
  unfold k0_cond1
  generalize (i 0).val = a at h ⊢
  revert a; decide +kernel
theorem cond2_iff (i : grid0.Coords) : k0_cond2 i = 1#1 ↔ (i 0).val + 1 < 64 := by
  have h : (i 0).val < 64 := (i 0).isLt
  unfold k0_cond2
  generalize (i 0).val = a at h ⊢
  revert a; decide +kernel
theorem off1_eq (i : grid0.Coords) (t : Fin k0_t1_loop.trips) : k0_off1 i t = ![0, (i 0).val * 128 + t.val] := by
  have h : (i 0).val < 64 := (i 0).isLt
  have ht : t.val < 128 := trips1 ▸ t.isLt
  unfold k0_off1 Scf.iv
  generalize (i 0).val = a at h ⊢
  generalize t.val = s at ht ⊢
  revert s; revert a; decide +kernel
theorem off3_eq (i : grid0.Coords) (t : Fin k0_t1_loop.trips) : k0_off3 i t = ![(i 0).val % 2 * 12288 + (0 + t.val) * 24, 0] := by
  have h : (i 0).val < 64 := (i 0).isLt
  have ht : t.val < 128 := trips1 ▸ t.isLt
  unfold k0_off3 Scf.iv
  generalize (i 0).val = a at h ⊢
  generalize t.val = s at ht ⊢
  revert s; revert a; decide +kernel
theorem off2_eq (i : grid0.Coords) : k0_off2 i = ![(i 0).val % 2] := by
  have h : (i 0).val < 64 := (i 0).isLt
  unfold k0_off2
  generalize (i 0).val = a at h ⊢
  revert a; decide +kernel
theorem off4_eq (v : BitVec 32) (hv : v.toNat < 36864) : k0_off4 v = ![v.toNat * 24, 0] := by
  show ![(v * 24#32).toNat, 0] = _
  rw [BitVec.toNat_mul, show (24#32).toNat = 24 from rfl, Nat.mod_eq_of_lt (by omega)]
theorem chk1_of (i : grid0.Coords) (v : BitVec 32) (hv : v.toNat < 36864) : k0_chk1 i v := by
  intro _ a
  rw [off4_eq v hv]
  revert a
  refine Fin.forall_fin_two.mpr ⟨?_, ?_⟩
  · show v.toNat * 24 + 24 ≤ 884736
    omega
  · show 0 + 128 ≤ 128
    omega
theorem off17_eq (i : grid0.Coords) (t : Fin k0_t2_loop.trips) : k0_off17 i t = ![0, ((i 0).val + 1) * 128 + t.val] := by
  have h : (i 0).val < 64 := (i 0).isLt
  have ht : t.val < 128 := trips2 ▸ t.isLt
  unfold k0_off17 Scf.iv
  generalize (i 0).val = a at h ⊢
  generalize t.val = s at ht ⊢
  revert s; revert a; decide +kernel
theorem off19_eq (i : grid0.Coords) (t : Fin k0_t2_loop.trips) : k0_off19 i t = ![((i 0).val + 1) % 2 * 12288 + (0 + t.val) * 24, 0] := by
  have h : (i 0).val < 64 := (i 0).isLt
  have ht : t.val < 128 := trips2 ▸ t.isLt
  unfold k0_off19 Scf.iv
  generalize (i 0).val = a at h ⊢
  generalize t.val = s at ht ⊢
  revert s; revert a; decide +kernel
theorem off18_eq (i : grid0.Coords) : k0_off18 i = ![((i 0).val + 1) % 2] := by
  have h : (i 0).val < 64 := (i 0).isLt
  unfold k0_off18
  generalize (i 0).val = a at h ⊢
  revert a; decide +kernel
theorem off20_eq (v : BitVec 32) (hv : v.toNat < 36864) : k0_off20 v = ![v.toNat * 24, 0] := by
  show ![(v * 24#32).toNat, 0] = _
  rw [BitVec.toNat_mul, show (24#32).toNat = 24 from rfl, Nat.mod_eq_of_lt (by omega)]
theorem chk5_of (i : grid0.Coords) (v : BitVec 32) (hv : v.toNat < 36864) : k0_chk5 i v := by
  intro _ a
  rw [off20_eq v hv]
  revert a
  refine Fin.forall_fin_two.mpr ⟨?_, ?_⟩
  · show v.toNat * 24 + 24 ≤ 884736
    omega
  · show 0 + 128 ≤ 128
    omega
theorem off5_eq (i : grid0.Coords) (t : Fin k0_t1_loop.trips) : k0_off5 i t = ![1, (i 0).val * 128 + t.val] := by
  have h : (i 0).val < 64 := (i 0).isLt
  have ht : t.val < 128 := trips1 ▸ t.isLt
  unfold k0_off5 Scf.iv
  generalize (i 0).val = a at h ⊢
  generalize t.val = s at ht ⊢
  revert s; revert a; decide +kernel
theorem off7_eq (i : grid0.Coords) (t : Fin k0_t1_loop.trips) : k0_off7 i t = ![(i 0).val % 2 * 12288 + (128 + t.val) * 24, 0] := by
  have h : (i 0).val < 64 := (i 0).isLt
  have ht : t.val < 128 := trips1 ▸ t.isLt
  unfold k0_off7 Scf.iv
  generalize (i 0).val = a at h ⊢
  generalize t.val = s at ht ⊢
  revert s; revert a; decide +kernel
theorem off6_eq (i : grid0.Coords) : k0_off6 i = ![(i 0).val % 2] := by
  have h : (i 0).val < 64 := (i 0).isLt
  unfold k0_off6
  generalize (i 0).val = a at h ⊢
  revert a; decide +kernel
theorem off8_eq (v : BitVec 32) (hv : v.toNat < 36864) : k0_off8 v = ![v.toNat * 24, 0] := by
  show ![(v * 24#32).toNat, 0] = _
  rw [BitVec.toNat_mul, show (24#32).toNat = 24 from rfl, Nat.mod_eq_of_lt (by omega)]
theorem chk2_of (i : grid0.Coords) (v : BitVec 32) (hv : v.toNat < 36864) : k0_chk2 i v := by
  intro _ a
  rw [off8_eq v hv]
  revert a
  refine Fin.forall_fin_two.mpr ⟨?_, ?_⟩
  · show v.toNat * 24 + 24 ≤ 884736
    omega
  · show 0 + 128 ≤ 128
    omega
theorem off21_eq (i : grid0.Coords) (t : Fin k0_t2_loop.trips) : k0_off21 i t = ![1, ((i 0).val + 1) * 128 + t.val] := by
  have h : (i 0).val < 64 := (i 0).isLt
  have ht : t.val < 128 := trips2 ▸ t.isLt
  unfold k0_off21 Scf.iv
  generalize (i 0).val = a at h ⊢
  generalize t.val = s at ht ⊢
  revert s; revert a; decide +kernel
theorem off23_eq (i : grid0.Coords) (t : Fin k0_t2_loop.trips) : k0_off23 i t = ![((i 0).val + 1) % 2 * 12288 + (128 + t.val) * 24, 0] := by
  have h : (i 0).val < 64 := (i 0).isLt
  have ht : t.val < 128 := trips2 ▸ t.isLt
  unfold k0_off23 Scf.iv
  generalize (i 0).val = a at h ⊢
  generalize t.val = s at ht ⊢
  revert s; revert a; decide +kernel
theorem off22_eq (i : grid0.Coords) : k0_off22 i = ![((i 0).val + 1) % 2] := by
  have h : (i 0).val < 64 := (i 0).isLt
  unfold k0_off22
  generalize (i 0).val = a at h ⊢
  revert a; decide +kernel
theorem off24_eq (v : BitVec 32) (hv : v.toNat < 36864) : k0_off24 v = ![v.toNat * 24, 0] := by
  show ![(v * 24#32).toNat, 0] = _
  rw [BitVec.toNat_mul, show (24#32).toNat = 24 from rfl, Nat.mod_eq_of_lt (by omega)]
theorem chk6_of (i : grid0.Coords) (v : BitVec 32) (hv : v.toNat < 36864) : k0_chk6 i v := by
  intro _ a
  rw [off24_eq v hv]
  revert a
  refine Fin.forall_fin_two.mpr ⟨?_, ?_⟩
  · show v.toNat * 24 + 24 ≤ 884736
    omega
  · show 0 + 128 ≤ 128
    omega
theorem off9_eq (i : grid0.Coords) (t : Fin k0_t1_loop.trips) : k0_off9 i t = ![2, (i 0).val * 128 + t.val] := by
  have h : (i 0).val < 64 := (i 0).isLt
  have ht : t.val < 128 := trips1 ▸ t.isLt
  unfold k0_off9 Scf.iv
  generalize (i 0).val = a at h ⊢
  generalize t.val = s at ht ⊢
  revert s; revert a; decide +kernel
theorem off11_eq (i : grid0.Coords) (t : Fin k0_t1_loop.trips) : k0_off11 i t = ![(i 0).val % 2 * 12288 + (256 + t.val) * 24, 0] := by
  have h : (i 0).val < 64 := (i 0).isLt
  have ht : t.val < 128 := trips1 ▸ t.isLt
  unfold k0_off11 Scf.iv
  generalize (i 0).val = a at h ⊢
  generalize t.val = s at ht ⊢
  revert s; revert a; decide +kernel
theorem off10_eq (i : grid0.Coords) : k0_off10 i = ![(i 0).val % 2] := by
  have h : (i 0).val < 64 := (i 0).isLt
  unfold k0_off10
  generalize (i 0).val = a at h ⊢
  revert a; decide +kernel
theorem off12_eq (v : BitVec 32) (hv : v.toNat < 36864) : k0_off12 v = ![v.toNat * 24, 0] := by
  show ![(v * 24#32).toNat, 0] = _
  rw [BitVec.toNat_mul, show (24#32).toNat = 24 from rfl, Nat.mod_eq_of_lt (by omega)]
theorem chk3_of (i : grid0.Coords) (v : BitVec 32) (hv : v.toNat < 36864) : k0_chk3 i v := by
  intro _ a
  rw [off12_eq v hv]
  revert a
  refine Fin.forall_fin_two.mpr ⟨?_, ?_⟩
  · show v.toNat * 24 + 24 ≤ 884736
    omega
  · show 0 + 128 ≤ 128
    omega
theorem off25_eq (i : grid0.Coords) (t : Fin k0_t2_loop.trips) : k0_off25 i t = ![2, ((i 0).val + 1) * 128 + t.val] := by
  have h : (i 0).val < 64 := (i 0).isLt
  have ht : t.val < 128 := trips2 ▸ t.isLt
  unfold k0_off25 Scf.iv
  generalize (i 0).val = a at h ⊢
  generalize t.val = s at ht ⊢
  revert s; revert a; decide +kernel
theorem off27_eq (i : grid0.Coords) (t : Fin k0_t2_loop.trips) : k0_off27 i t = ![((i 0).val + 1) % 2 * 12288 + (256 + t.val) * 24, 0] := by
  have h : (i 0).val < 64 := (i 0).isLt
  have ht : t.val < 128 := trips2 ▸ t.isLt
  unfold k0_off27 Scf.iv
  generalize (i 0).val = a at h ⊢
  generalize t.val = s at ht ⊢
  revert s; revert a; decide +kernel
theorem off26_eq (i : grid0.Coords) : k0_off26 i = ![((i 0).val + 1) % 2] := by
  have h : (i 0).val < 64 := (i 0).isLt
  unfold k0_off26
  generalize (i 0).val = a at h ⊢
  revert a; decide +kernel
theorem off28_eq (v : BitVec 32) (hv : v.toNat < 36864) : k0_off28 v = ![v.toNat * 24, 0] := by
  show ![(v * 24#32).toNat, 0] = _
  rw [BitVec.toNat_mul, show (24#32).toNat = 24 from rfl, Nat.mod_eq_of_lt (by omega)]
theorem chk7_of (i : grid0.Coords) (v : BitVec 32) (hv : v.toNat < 36864) : k0_chk7 i v := by
  intro _ a
  rw [off28_eq v hv]
  revert a
  refine Fin.forall_fin_two.mpr ⟨?_, ?_⟩
  · show v.toNat * 24 + 24 ≤ 884736
    omega
  · show 0 + 128 ≤ 128
    omega
theorem off13_eq (i : grid0.Coords) (t : Fin k0_t1_loop.trips) : k0_off13 i t = ![3, (i 0).val * 128 + t.val] := by
  have h : (i 0).val < 64 := (i 0).isLt
  have ht : t.val < 128 := trips1 ▸ t.isLt
  unfold k0_off13 Scf.iv
  generalize (i 0).val = a at h ⊢
  generalize t.val = s at ht ⊢
  revert s; revert a; decide +kernel
theorem off15_eq (i : grid0.Coords) (t : Fin k0_t1_loop.trips) : k0_off15 i t = ![(i 0).val % 2 * 12288 + (384 + t.val) * 24, 0] := by
  have h : (i 0).val < 64 := (i 0).isLt
  have ht : t.val < 128 := trips1 ▸ t.isLt
  unfold k0_off15 Scf.iv
  generalize (i 0).val = a at h ⊢
  generalize t.val = s at ht ⊢
  revert s; revert a; decide +kernel
theorem off14_eq (i : grid0.Coords) : k0_off14 i = ![(i 0).val % 2] := by
  have h : (i 0).val < 64 := (i 0).isLt
  unfold k0_off14
  generalize (i 0).val = a at h ⊢
  revert a; decide +kernel
theorem off16_eq (v : BitVec 32) (hv : v.toNat < 36864) : k0_off16 v = ![v.toNat * 24, 0] := by
  show ![(v * 24#32).toNat, 0] = _
  rw [BitVec.toNat_mul, show (24#32).toNat = 24 from rfl, Nat.mod_eq_of_lt (by omega)]
theorem chk4_of (i : grid0.Coords) (v : BitVec 32) (hv : v.toNat < 36864) : k0_chk4 i v := by
  intro _ a
  rw [off16_eq v hv]
  revert a
  refine Fin.forall_fin_two.mpr ⟨?_, ?_⟩
  · show v.toNat * 24 + 24 ≤ 884736
    omega
  · show 0 + 128 ≤ 128
    omega
theorem off29_eq (i : grid0.Coords) (t : Fin k0_t2_loop.trips) : k0_off29 i t = ![3, ((i 0).val + 1) * 128 + t.val] := by
  have h : (i 0).val < 64 := (i 0).isLt
  have ht : t.val < 128 := trips2 ▸ t.isLt
  unfold k0_off29 Scf.iv
  generalize (i 0).val = a at h ⊢
  generalize t.val = s at ht ⊢
  revert s; revert a; decide +kernel
theorem off31_eq (i : grid0.Coords) (t : Fin k0_t2_loop.trips) : k0_off31 i t = ![((i 0).val + 1) % 2 * 12288 + (384 + t.val) * 24, 0] := by
  have h : (i 0).val < 64 := (i 0).isLt
  have ht : t.val < 128 := trips2 ▸ t.isLt
  unfold k0_off31 Scf.iv
  generalize (i 0).val = a at h ⊢
  generalize t.val = s at ht ⊢
  revert s; revert a; decide +kernel
theorem off30_eq (i : grid0.Coords) : k0_off30 i = ![((i 0).val + 1) % 2] := by
  have h : (i 0).val < 64 := (i 0).isLt
  unfold k0_off30
  generalize (i 0).val = a at h ⊢
  revert a; decide +kernel
theorem off32_eq (v : BitVec 32) (hv : v.toNat < 36864) : k0_off32 v = ![v.toNat * 24, 0] := by
  show ![(v * 24#32).toNat, 0] = _
  rw [BitVec.toNat_mul, show (24#32).toNat = 24 from rfl, Nat.mod_eq_of_lt (by omega)]
theorem chk8_of (i : grid0.Coords) (v : BitVec 32) (hv : v.toNat < 36864) : k0_chk8 i v := by
  intro _ a
  rw [off32_eq v hv]
  revert a
  refine Fin.forall_fin_two.mpr ⟨?_, ?_⟩
  · show v.toNat * 24 + 24 ≤ 884736
    omega
  · show 0 + 128 ≤ 128
    omega
theorem off33_eq (i : grid0.Coords) : k0_off33 i = ![(i 0).val % 2] := by
  have h : (i 0).val < 64 := (i 0).isLt
  unfold k0_off33
  generalize (i 0).val = a at h ⊢
  revert a; decide +kernel
theorem off34_eq (i : grid0.Coords) : k0_off34 i = ![(i 0).val % 2 * 12288, 0] := by
  have h : (i 0).val < 64 := (i 0).isLt
  unfold k0_off34
  generalize (i 0).val = a at h ⊢
  revert a; decide +kernel
theorem off35_eq (i : grid0.Coords) (k : Fin 4) (j : Fin 22) :
    k0_off35 i (BitVec.ofNat 32 (3072 * k.val)) (BitVec.ofNat 32 j.val) = ![(i 0).val % 2 * 12288 + 3072 * k.val + j.val, 0] := by
  have h : (i 0).val < 64 := (i 0).isLt
  unfold k0_off35
  generalize (i 0).val = a at h ⊢
  revert k; revert j; revert a; decide +kernel

end Cert.CombineIdeal.Hand
-- ==== Proof.CFrame.Words.lean ====
/- The index words of the combine kernel's body in closed form: where each step reads the positions table, which rows its
   row copies move and where they land, and which of the two halves of the scratch buffer a step works on. -/
module

public import proofs.«01_k».proof.Proof.Gen.Combine.Launch
public import proofs.«01_k».proof.Proof.Gen.Combine.Skeleton
public import proofs.«01_k».proof.Proof.CIdeal.Words
public import Idealize.ShloMosaic.Lib.WordCmp

@[expose] public section

set_option maxRecDepth 16384

namespace Cert.Combine.Hand

open Cert.Combine.Gen
open Idealize.ShloMosaic Idealize.ShloMosaic.TcCoe

theorem trips1 : k0_t1_loop.trips = 128 := by decide +kernel
theorem trips2 : k0_t2_loop.trips = 128 := by decide +kernel

/-- A fact about a grid coordinate and a trip, checked at each of the 64 × 128 pairs. -/
theorem pairs {P : Nat → Nat → Prop} (h : ∀ a < 64, ∀ t < 128, P a t) (a : Fin 64) (t : Fin 128) : P a.val t.val :=
  h a.val a.isLt t.val t.isLt

theorem cond1_iff (i : grid0.Coords) : k0_cond1 i = 1#1 ↔ (i 0).val = 0 := by
  have h : (i 0).val < 64 := (i 0).isLt
  unfold k0_cond1
  generalize (i 0).val = a at h ⊢
  revert a; decide +kernel
theorem cond2_iff (i : grid0.Coords) : k0_cond2 i = 1#1 ↔ (i 0).val + 1 < 64 := by
  have h : (i 0).val < 64 := (i 0).isLt
  unfold k0_cond2
  generalize (i 0).val = a at h ⊢
  revert a; decide +kernel
theorem off1_eq (i : grid0.Coords) (t : Fin k0_t1_loop.trips) : k0_off1 i t = ![0, (i 0).val * 128 + t.val] :=
  Cert.CombineIdeal.Hand.off1_eq i t
theorem off3_eq (i : grid0.Coords) (t : Fin k0_t1_loop.trips) : k0_off3 i t = ![(i 0).val % 2 * 12288 + (0 + t.val) * 24, 0] :=
  Cert.CombineIdeal.Hand.off3_eq i t
theorem off2_eq (i : grid0.Coords) : k0_off2 i = ![(i 0).val % 2] :=
  Cert.CombineIdeal.Hand.off2_eq i
theorem off4_eq (v : BitVec 32) (hv : v.toNat < 36864) : k0_off4 v = ![v.toNat * 24, 0] := by
  show ![(v * 24#32).toNat, 0] = _
  rw [BitVec.toNat_mul, show (24#32).toNat = 24 from rfl, Nat.mod_eq_of_lt (by omega)]
theorem chk1_of (i : grid0.Coords) (v : BitVec 32) (hv : v.toNat < 36864) : k0_chk1 i v := by
  intro _ a
  rw [off4_eq v hv]
  revert a
  refine Fin.forall_fin_two.mpr ⟨?_, ?_⟩
  · show v.toNat * 24 + 24 ≤ 884736
    omega
  · show 0 + 128 ≤ 128
    omega
theorem off17_eq (i : grid0.Coords) (t : Fin k0_t2_loop.trips) : k0_off17 i t = ![0, ((i 0).val + 1) * 128 + t.val] :=
  Cert.CombineIdeal.Hand.off17_eq i t
theorem off19_eq (i : grid0.Coords) (t : Fin k0_t2_loop.trips) : k0_off19 i t = ![((i 0).val + 1) % 2 * 12288 + (0 + t.val) * 24, 0] :=
  Cert.CombineIdeal.Hand.off19_eq i t
theorem off18_eq (i : grid0.Coords) : k0_off18 i = ![((i 0).val + 1) % 2] :=
  Cert.CombineIdeal.Hand.off18_eq i
theorem off20_eq (v : BitVec 32) (hv : v.toNat < 36864) : k0_off20 v = ![v.toNat * 24, 0] := by
  show ![(v * 24#32).toNat, 0] = _
  rw [BitVec.toNat_mul, show (24#32).toNat = 24 from rfl, Nat.mod_eq_of_lt (by omega)]
theorem chk5_of (i : grid0.Coords) (v : BitVec 32) (hv : v.toNat < 36864) : k0_chk5 i v := by
  intro _ a
  rw [off20_eq v hv]
  revert a
  refine Fin.forall_fin_two.mpr ⟨?_, ?_⟩
  · show v.toNat * 24 + 24 ≤ 884736
    omega
  · show 0 + 128 ≤ 128
    omega
theorem off5_eq (i : grid0.Coords) (t : Fin k0_t1_loop.trips) : k0_off5 i t = ![1, (i 0).val * 128 + t.val] :=
  Cert.CombineIdeal.Hand.off5_eq i t
theorem off7_eq (i : grid0.Coords) (t : Fin k0_t1_loop.trips) : k0_off7 i t = ![(i 0).val % 2 * 12288 + (128 + t.val) * 24, 0] :=
  Cert.CombineIdeal.Hand.off7_eq i t
theorem off6_eq (i : grid0.Coords) : k0_off6 i = ![(i 0).val % 2] :=
  Cert.CombineIdeal.Hand.off6_eq i
theorem off8_eq (v : BitVec 32) (hv : v.toNat < 36864) : k0_off8 v = ![v.toNat * 24, 0] := by
  show ![(v * 24#32).toNat, 0] = _
  rw [BitVec.toNat_mul, show (24#32).toNat = 24 from rfl, Nat.mod_eq_of_lt (by omega)]
theorem chk2_of (i : grid0.Coords) (v : BitVec 32) (hv : v.toNat < 36864) : k0_chk2 i v := by
  intro _ a
  rw [off8_eq v hv]
  revert a
  refine Fin.forall_fin_two.mpr ⟨?_, ?_⟩
  · show v.toNat * 24 + 24 ≤ 884736
    omega
  · show 0 + 128 ≤ 128
    omega
theorem off21_eq (i : grid0.Coords) (t : Fin k0_t2_loop.trips) : k0_off21 i t = ![1, ((i 0).val + 1) * 128 + t.val] :=
  Cert.CombineIdeal.Hand.off21_eq i t
theorem off23_eq (i : grid0.Coords) (t : Fin k0_t2_loop.trips) : k0_off23 i t = ![((i 0).val + 1) % 2 * 12288 + (128 + t.val) * 24, 0] :=
  Cert.CombineIdeal.Hand.off23_eq i t
theorem off22_eq (i : grid0.Coords) : k0_off22 i = ![((i 0).val + 1) % 2] :=
  Cert.CombineIdeal.Hand.off22_eq i
theorem off24_eq (v : BitVec 32) (hv : v.toNat < 36864) : k0_off24 v = ![v.toNat * 24, 0] := by
  show ![(v * 24#32).toNat, 0] = _
  rw [BitVec.toNat_mul, show (24#32).toNat = 24 from rfl, Nat.mod_eq_of_lt (by omega)]
theorem chk6_of (i : grid0.Coords) (v : BitVec 32) (hv : v.toNat < 36864) : k0_chk6 i v := by
  intro _ a
  rw [off24_eq v hv]
  revert a
  refine Fin.forall_fin_two.mpr ⟨?_, ?_⟩
  · show v.toNat * 24 + 24 ≤ 884736
    omega
  · show 0 + 128 ≤ 128
    omega
theorem off9_eq (i : grid0.Coords) (t : Fin k0_t1_loop.trips) : k0_off9 i t = ![2, (i 0).val * 128 + t.val] :=
  Cert.CombineIdeal.Hand.off9_eq i t
theorem off11_eq (i : grid0.Coords) (t : Fin k0_t1_loop.trips) : k0_off11 i t = ![(i 0).val % 2 * 12288 + (256 + t.val) * 24, 0] :=
  Cert.CombineIdeal.Hand.off11_eq i t
theorem off10_eq (i : grid0.Coords) : k0_off10 i = ![(i 0).val % 2] :=
  Cert.CombineIdeal.Hand.off10_eq i
theorem off12_eq (v : BitVec 32) (hv : v.toNat < 36864) : k0_off12 v = ![v.toNat * 24, 0] := by
  show ![(v * 24#32).toNat, 0] = _
  rw [BitVec.toNat_mul, show (24#32).toNat = 24 from rfl, Nat.mod_eq_of_lt (by omega)]
theorem chk3_of (i : grid0.Coords) (v : BitVec 32) (hv : v.toNat < 36864) : k0_chk3 i v := by
  intro _ a
  rw [off12_eq v hv]
  revert a
  refine Fin.forall_fin_two.mpr ⟨?_, ?_⟩
  · show v.toNat * 24 + 24 ≤ 884736
    omega
  · show 0 + 128 ≤ 128
    omega
theorem off25_eq (i : grid0.Coords) (t : Fin k0_t2_loop.trips) : k0_off25 i t = ![2, ((i 0).val + 1) * 128 + t.val] :=
  Cert.CombineIdeal.Hand.off25_eq i t
theorem off27_eq (i : grid0.Coords) (t : Fin k0_t2_loop.trips) : k0_off27 i t = ![((i 0).val + 1) % 2 * 12288 + (256 + t.val) * 24, 0] :=
  Cert.CombineIdeal.Hand.off27_eq i t
theorem off26_eq (i : grid0.Coords) : k0_off26 i = ![((i 0).val + 1) % 2] :=
  Cert.CombineIdeal.Hand.off26_eq i
theorem off28_eq (v : BitVec 32) (hv : v.toNat < 36864) : k0_off28 v = ![v.toNat * 24, 0] := by
  show ![(v * 24#32).toNat, 0] = _
  rw [BitVec.toNat_mul, show (24#32).toNat = 24 from rfl, Nat.mod_eq_of_lt (by omega)]
theorem chk7_of (i : grid0.Coords) (v : BitVec 32) (hv : v.toNat < 36864) : k0_chk7 i v := by
  intro _ a
  rw [off28_eq v hv]
  revert a
  refine Fin.forall_fin_two.mpr ⟨?_, ?_⟩
  · show v.toNat * 24 + 24 ≤ 884736
    omega
  · show 0 + 128 ≤ 128
    omega
theorem off13_eq (i : grid0.Coords) (t : Fin k0_t1_loop.trips) : k0_off13 i t = ![3, (i 0).val * 128 + t.val] :=
  Cert.CombineIdeal.Hand.off13_eq i t
theorem off15_eq (i : grid0.Coords) (t : Fin k0_t1_loop.trips) : k0_off15 i t = ![(i 0).val % 2 * 12288 + (384 + t.val) * 24, 0] :=
  Cert.CombineIdeal.Hand.off15_eq i t
theorem off14_eq (i : grid0.Coords) : k0_off14 i = ![(i 0).val % 2] :=
  Cert.CombineIdeal.Hand.off14_eq i
theorem off16_eq (v : BitVec 32) (hv : v.toNat < 36864) : k0_off16 v = ![v.toNat * 24, 0] := by
  show ![(v * 24#32).toNat, 0] = _
  rw [BitVec.toNat_mul, show (24#32).toNat = 24 from rfl, Nat.mod_eq_of_lt (by omega)]
theorem chk4_of (i : grid0.Coords) (v : BitVec 32) (hv : v.toNat < 36864) : k0_chk4 i v := by
  intro _ a
  rw [off16_eq v hv]
  revert a
  refine Fin.forall_fin_two.mpr ⟨?_, ?_⟩
  · show v.toNat * 24 + 24 ≤ 884736
    omega
  · show 0 + 128 ≤ 128
    omega
theorem off29_eq (i : grid0.Coords) (t : Fin k0_t2_loop.trips) : k0_off29 i t = ![3, ((i 0).val + 1) * 128 + t.val] :=
  Cert.CombineIdeal.Hand.off29_eq i t
theorem off31_eq (i : grid0.Coords) (t : Fin k0_t2_loop.trips) : k0_off31 i t = ![((i 0).val + 1) % 2 * 12288 + (384 + t.val) * 24, 0] :=
  Cert.CombineIdeal.Hand.off31_eq i t
theorem off30_eq (i : grid0.Coords) : k0_off30 i = ![((i 0).val + 1) % 2] :=
  Cert.CombineIdeal.Hand.off30_eq i
theorem off32_eq (v : BitVec 32) (hv : v.toNat < 36864) : k0_off32 v = ![v.toNat * 24, 0] := by
  show ![(v * 24#32).toNat, 0] = _
  rw [BitVec.toNat_mul, show (24#32).toNat = 24 from rfl, Nat.mod_eq_of_lt (by omega)]
theorem chk8_of (i : grid0.Coords) (v : BitVec 32) (hv : v.toNat < 36864) : k0_chk8 i v := by
  intro _ a
  rw [off32_eq v hv]
  revert a
  refine Fin.forall_fin_two.mpr ⟨?_, ?_⟩
  · show v.toNat * 24 + 24 ≤ 884736
    omega
  · show 0 + 128 ≤ 128
    omega
theorem off33_eq (i : grid0.Coords) : k0_off33 i = ![(i 0).val % 2] :=
  Cert.CombineIdeal.Hand.off33_eq i
theorem off34_eq (i : grid0.Coords) : k0_off34 i = ![(i 0).val % 2 * 12288, 0] :=
  Cert.CombineIdeal.Hand.off34_eq i
theorem off35_eq (i : grid0.Coords) (k : Fin 4) (j : Fin 22) :
    k0_off35 i (BitVec.ofNat 32 (3072 * k.val)) (BitVec.ofNat 32 j.val) = ![(i 0).val % 2 * 12288 + 3072 * k.val + j.val, 0] :=
  Cert.CombineIdeal.Hand.off35_eq i k j
end Cert.Combine.Hand
-- ==== Proof.CFrame.Slots.lean ====
/- The scratch buffer of the combine kernel in pieces: two halves, each of 512 pieces of 24 rows, one piece per row copy; the
   rows of the array each copy reads; and the contents the copies of a step leave. -/
module

public import proofs.«01_k».proof.Proof.CFrame.Words
public import Idealize.ShloMosaic.Lib.Pipeline.FrameBody
public import Idealize.ShloMosaic.Lib.Pipeline.Frame
public import Idealize.ShloMosaic.Lib.Batch
public import Idealize.ShloMosaic.Lib.ViewIndex
public import Idealize.ShloMosaic.Lib.Tactic

@[expose] public section

set_option maxRecDepth 16384

noncomputable section

namespace Cert.Combine.Hand

open Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Shape (pair pair_eta pair_zero pair_one)

variable {F : FTy → Type} [FloatOps F]

/-- The assertions' resource: the launch's, with the transfers' counters. -/
abbrev MM (F : FTy → Type) : Type := MT nD τ sig Unit (Elt F) ℕ (Pipeline.UD sig nD τ) ℕ

/-- The buffers the body addresses itself, whole: the positions table, the array of rows, the scratch buffer. -/
abbrev tbM : Memref sig .tc .smem S4x8192 .i32 := Memref.whole main_arg0
abbrev hbM : Memref sig .tc .hbm S884736x128 .f32 := Memref.whole main_arg2
abbrev scM : Memref sig .tc .vmem S24576x128 .f32 := Memref.whole cc0_scratch0

/-- An entry of a matrix by its two coordinates, taken modulo the extents. -/
def ent {α : Type} {d : Fin 2 → Nat} (h0 : 0 < d 0) (h1 : 0 < d 1) (A : (⟨2, d⟩ : Shape).Idx → α) (r c : Nat) : α :=
  A (pair ⟨r % d 0, Nat.mod_lt _ h0⟩ ⟨c % d 1, Nat.mod_lt _ h1⟩)

theorem ent_eq {α : Type} {d : Fin 2 → Nat} (h0 : 0 < d 0) (h1 : 0 < d 1) (A : (⟨2, d⟩ : Shape).Idx → α) (i : (⟨2, d⟩ : Shape).Idx)
    (r c : Nat) (hr : (i 0).val = r) (hc : (i 1).val = c) : ent h0 h1 A r c = A i := by
  unfold ent
  subst hr hc
  rw [show (⟨(i 0).val % d 0, Nat.mod_lt _ h0⟩ : Fin (d 0)) = i 0 from Fin.ext (Nat.mod_eq_of_lt (i 0).isLt),
    show (⟨(i 1).val % d 1, Nat.mod_lt _ h1⟩ : Fin (d 1)) = i 1 from Fin.ext (Nat.mod_eq_of_lt (i 1).isLt), pair_eta]

abbrev TBuf : Type := S4x8192.Idx → BitVec 32
abbrev ABuf (F : FTy → Type) : Type := S884736x128.Idx → F .f32
abbrev SBuf (F : FTy → Type) : Type := S24576x128.Idx → F .f32

/-- The position the table gives for choice `k` of token `n`. -/
def posOf (T : TBuf) (k n : Nat) : Nat := (ent (d := ![4, 8192]) (by decide) (by decide) T k n).toNat

/-- What the copies of step `s` leave in either half: row `r` of a half belongs to choice `r / 3072` of the step's token
    `r % 3072 / 24`, and is row `r % 24` of that token's 24. -/
def landed (A : ABuf F) (T : TBuf) (s : Nat) : SBuf F := fun i =>
  ent (d := ![884736, 128]) (by decide) (by decide) A
    (posOf T ((i 0).val % 12288 / 3072) (s * 128 + (i 0).val % 3072 / 24) * 24 + (i 0).val % 24) (i 1).val

/-- The piece of 24 rows numbered `q`, the half numbered `b`, and 24 rows of the array. -/
def pieceSet (q : Nat) : Finset S24576x128.Idx := Finset.univ.filter fun i => (i 0).val / 24 = q
def slotSet (b : Nat) : Finset S24576x128.Idx := Finset.univ.filter fun i => (i 0).val / 12288 = b
def srcSet (p : Nat) : Finset S884736x128.Idx := Finset.univ.filter fun i => (i 0).val / 24 = p

/-- The piece copy `j` of a step writes in half `b`: the copies go token by token, four choices each. -/
def blk (b j : Nat) : Nat := b * 512 + (j % 4) * 128 + j / 4

theorem piece_arith {r b a c : Nat} (ha : a < 4) (hc : c < 128) (h : r / 24 = b * 512 + a * 128 + c) :
    r / 12288 = b ∧ r % 12288 / 3072 = a ∧ r % 3072 / 24 = c := by
  have h1 : r = b * 12288 + a * 3072 + c * 24 + r % 24 := by omega
  have h2 : r % 24 < 24 := Nat.mod_lt _ (by decide)
  generalize r % 24 = x at h1 h2
  subst h1
  have e1 : (b * 12288 + a * 3072 + c * 24 + x) % 12288 = a * 3072 + c * 24 + x := by omega
  have e2 : (b * 12288 + a * 3072 + c * 24 + x) % 3072 = c * 24 + x := by omega
  rw [e1, e2]
  refine ⟨by omega, by omega, by omega⟩

theorem mod4 (j : Nat) : j % 4 < 4 := Nat.mod_lt _ (by decide)

theorem mem_piece {q : Nat} {i : S24576x128.Idx} : i ∈ pieceSet q ↔ (i 0).val / 24 = q := by
  unfold pieceSet; rw [Finset.mem_filter]; exact and_iff_right (Finset.mem_univ _)
theorem mem_slot {b : Nat} {i : S24576x128.Idx} : i ∈ slotSet b ↔ (i 0).val / 12288 = b := by
  unfold slotSet; rw [Finset.mem_filter]; exact and_iff_right (Finset.mem_univ _)

theorem blk_arith {r b j : Nat} (hj : j < 512) (h : r / 24 = blk b j) :
    r / 12288 = b ∧ r % 12288 / 3072 = j % 4 ∧ r % 3072 / 24 = j / 4 :=
  piece_arith (mod4 _) (by omega) h

theorem slot_eq (b : Nat) : slotSet b = (Finset.univ : Finset (Fin 512)).biUnion fun j => pieceSet (blk b j.val) := by
  ext i
  rw [mem_slot, Finset.mem_biUnion]
  constructor
  · intro h
    have key : ∀ r : Nat, r / 12288 = b → ∃ j, j < 512 ∧ r / 24 = blk b j := by
      intro r h
      have ha : r % 12288 / 3072 < 4 := by omega
      have hc : r % 3072 / 24 < 128 := by omega
      have hr : r / 24 = b * 512 + r % 12288 / 3072 * 128 + r % 3072 / 24 := by omega
      generalize r % 12288 / 3072 = a at ha hr
      generalize r % 3072 / 24 = c at hc hr
      refine ⟨c * 4 + a, by omega, ?_⟩
      rw [hr]; unfold blk
      have : (c * 4 + a) % 4 = a := by omega
      have : (c * 4 + a) / 4 = c := by omega
      simp only [*]
    obtain ⟨j, hj, hr⟩ := key _ h
    exact ⟨⟨j, hj⟩, Finset.mem_univ _, mem_piece.mpr hr⟩
  · rintro ⟨j, -, hj⟩
    exact (blk_arith j.isLt (mem_piece.mp hj)).1

theorem piece_disjoint (b : Nat) : ∀ j ∈ (Finset.univ : Finset (Fin 512)), ∀ k ∈ (Finset.univ : Finset (Fin 512)), j ≠ k →
    Disjoint (pieceSet (blk b j.val)) (pieceSet (blk b k.val)) := by
  intro j _ k _ hjk
  rw [Finset.disjoint_left]
  intro i h1 h2
  apply hjk; apply Fin.ext
  have a1 := blk_arith j.isLt (mem_piece.mp h1)
  have a2 := blk_arith k.isLt (mem_piece.mp h2)
  have e1 := a1.2.1.symm.trans a2.2.1
  have e2 := a1.2.2.symm.trans a2.2.2
  omega

theorem halves : (Finset.univ : Finset S24576x128.Idx) = slotSet 0 ∪ slotSet 1 := by
  ext i
  have hi : (i 0).val < 24576 := (i 0).isLt
  rw [Finset.mem_union, mem_slot, mem_slot]
  refine iff_of_true (Finset.mem_univ _) ?_
  generalize (i 0).val = r at hi
  omega

theorem halves_disjoint : Disjoint (slotSet 0) (slotSet 1) := by
  rw [Finset.disjoint_left]
  intro i h1 h2
  exact absurd ((mem_slot.mp h1).symm.trans (mem_slot.mp h2)) (by decide)

/-- The rows a copy writes, as its destination's elements; -/
theorem dst_set {off : Fin 2 → Nat} (inb : ∀ a, off a + S24x128.size a ≤ S24576x128.size a) (q : Nat) (h : off = ![q * 24, 0]) :
    (scM.slice (Rect.unit (s := S24576x128) off S24x128.size inb) (fun _ => rfl)).view.set = pieceSet q := by
  subst h
  refine (View.set_slice_whole _ _).trans ?_
  ext i
  have hi : (i 1).val < 128 := (i 1).isLt
  refine Rect.mem_set_unit.trans ?_
  simp only [pieceSet, Finset.mem_filter, Finset.mem_univ, true_and]
  constructor
  · intro h
    have h0 : q * 24 ≤ (i 0).val ∧ (i 0).val < q * 24 + 24 := h 0
    omega
  · intro h
    refine Fin.forall_fin_two.mpr ⟨?_, ?_⟩
    · show q * 24 ≤ (i 0).val ∧ (i 0).val < q * 24 + 24
      omega
    · show 0 ≤ (i 1).val ∧ (i 1).val < 0 + 128
      omega

/-- the rows it reads, as its source's; -/
theorem src_set {off : Fin 2 → Nat} (inb : ∀ a, off a + S24x128.size a ≤ S884736x128.size a) (p : Nat) (h : off = ![p * 24, 0]) :
    (hbM.slice (Rect.unit (s := S884736x128) off S24x128.size inb) (fun _ => rfl)).view.set = srcSet p := by
  subst h
  refine (View.set_slice_whole _ _).trans ?_
  ext i
  have hi : (i 1).val < 128 := (i 1).isLt
  refine Rect.mem_set_unit.trans ?_
  simp only [srcSet, Finset.mem_filter, Finset.mem_univ, true_and]
  constructor
  · intro h
    have h0 : p * 24 ≤ (i 0).val ∧ (i 0).val < p * 24 + 24 := h 0
    omega
  · intro h
    refine Fin.forall_fin_two.mpr ⟨?_, ?_⟩
    · show p * 24 ≤ (i 0).val ∧ (i 0).val < p * 24 + 24
      omega
    · show 0 ≤ (i 1).val ∧ (i 1).val < 0 + 128
      omega

/-- and what it leaves in them: the step's contents. -/
theorem dst_landed (A : ABuf F) (T : TBuf) (s b j : Nat) (hj : j < 512)
    {off off' : Fin 2 → Nat} (inb : ∀ a, off a + S24x128.size a ≤ S24576x128.size a) (inb' : ∀ a, off' a + S24x128.size a ≤ S884736x128.size a)
    (h : off = ![blk b j * 24, 0]) (h' : off' = ![posOf T (j % 4) (s * 128 + j / 4) * 24, 0]) (f : SBuf F) :
    ∀ i ∈ pieceSet (blk b j),
      (scM.slice (Rect.unit (s := S24576x128) off S24x128.size inb) (fun _ => rfl)).view.write (Elt F) f
        (ReadAs.same.apply ((hbM.slice (Rect.unit (s := S884736x128) off' S24x128.size inb') (fun _ => rfl)).view.read (Elt F) A)) Finset.univ i
      = landed A T s i := by
  intro i hi
  rw [← dst_set inb _ h] at hi
  obtain ⟨x, rfl⟩ := View.exists_of_mem_set_slice hi
  subst h h'
  refine (View.write_emb_of_mem (Val := Elt F) (v := (scM.slice (Rect.unit (s := S24576x128) _ S24x128.size inb) (fun _ => rfl)).view) f _ (x := x) (Finset.mem_univ _)).trans ?_
  have hx : (x 0).val < 24 := (x 0).isLt
  have hx1 : (x 1).val < 128 := (x 1).isLt
  refine Eq.symm ?_
  unfold landed
  refine ent_eq _ _ A ((hbM.slice (Rect.unit (s := S884736x128) _ S24x128.size inb') (fun _ => rfl)).view.emb x) _ _ ?_ ?_
  · show posOf T (j % 4) (s * 128 + j / 4) * 24 + 1 * (x 0).val
      = posOf T ((blk b j * 24 + 1 * (x 0).val) % 12288 / 3072) (s * 128 + (blk b j * 24 + 1 * (x 0).val) % 3072 / 24) * 24 + (blk b j * 24 + 1 * (x 0).val) % 24
    have e0 : (blk b j * 24 + 1 * (x 0).val) / 24 = blk b j := by omega
    have e3 : (blk b j * 24 + 1 * (x 0).val) % 24 = (x 0).val := by omega
    obtain ⟨-, e1, e2⟩ := blk_arith hj e0
    rw [e1, e2, e3, Nat.one_mul]
  · show 0 + 1 * (x 1).val = 0 + 1 * (x 1).val
    rfl

end Cert.Combine.Hand
-- ==== Proof.CFrame.Issue.lean ====
/- Issuing a step's copies: what is held while the first `n` of the 512 are issued, one more issued, and a trip of either
   loop, which issues four. -/
module

public import proofs.«01_k».proof.Proof.CFrame.Slots
public import Idealize.ShloMosaic.Lib.Pipeline.FrameBody
public import Idealize.ShloMosaic.Lib.Pipeline.Frame
public import Idealize.ShloMosaic.Lib.Batch
public import Idealize.ShloMosaic.Lib.ViewIndex
public import Idealize.ShloMosaic.Lib.Tactic

@[expose] public section

set_option maxRecDepth 16384

noncomputable section

namespace Cert.Combine.Hand

open Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Shape (pair pair_eta pair_zero pair_one)

variable {F : FTy → Type} [FloatOps F]

abbrev scPt (c : Dev nD) (S : Finset S24576x128.Idx) (f : SBuf F) : sProp (MM F) :=
  scM.view.loc (c : Thread nD τ) ↦[S]{fullShare} f
abbrev hbPt (c : Dev nD) (S : Finset S884736x128.Idx) (q : PosShare TreeShare) (A : ABuf F) : sProp (MM F) :=
  hbM.view.loc (c : Thread nD τ) ↦[S]{q} A
abbrev tbPt (c : Dev nD) (q : PosShare TreeShare) (T : TBuf) : sProp (MM F) :=
  tbM.view.loc (c : Thread nD τ) ↦{q} T

/-- The two halves' semaphores. -/
def sem2 (b : Fin 2) : DmaSem sig := cc0_scratch1.ix fun | ⟨0, _⟩ => b
def half (s : Nat) : Fin 2 := ⟨s % 2, Nat.mod_lt _ (by decide)⟩

theorem sem_eq {off : Fin 1 → Nat} (inb : ∀ a, off a + S1.size a ≤ S2.size a) (s : Nat) (h : off = ![s % 2]) :
    ((cc0_scratch1.slice (Rect.unit (s := S2) off S1.size inb)).squeeze S_ squeezes_S1_S_).sem = sem2 (half s) := by
  subst h
  refine congrArg cc0_scratch1.ix (funext fun a => ?_)
  match a with
  | ⟨0, _⟩ =>
    refine Fin.ext ?_
    have h0 : ∀ y : Fin 1, s % 2 + 1 * y.val = s % 2 := fun y => by omega
    exact h0 _

/-- The share of the array each half's copies read at. -/
def hq (b : Fin 2) : PosShare TreeShare := if b = 0 then fullShare.left else fullShare.right

/-- What copy `j` of step `s` delivers: its piece of the half at the step's contents, and the rows it read. -/
def Dlv (c : Dev nD) (A : ABuf F) (T : TBuf) (s : Nat) (j : Fin 512) : sProp (MM F) :=
  iprop(scPt c (pieceSet (blk (s % 2) j.val)) (landed A T s)
    ∗ hbPt c (srcSet (posOf T (j.val % 4) (s * 128 + j.val / 4))) (Transfers.shareTok (hq (half s)) 512 j) A)

instance Dlv_storable (c : Dev nD) (A : ABuf F) (T : TBuf) (s : Nat) (j : Fin 512) :
    Storable (upEmb : UEmb _ (MM F)) (Dlv c A T s j) := by unfold Dlv; infer_instance

theorem cred_tile : RefSig.tileCredit S24x128 .f32 = 384 := by decide +kernel

/-- One copy's credit. -/
abbrev cred : Nat := 384

abbrev bat (c : Dev nD) (A : ABuf F) (T : TBuf) (s n : Nat) : sProp (MM F) :=
  Transfers.Batch (countersEmb (U := Pipeline.UD sig nD τ)) (c : Thread nD τ) (.dma (sem2 (half s))) () cred (Dlv c A T s) n 0

/-- What is held for copy `j` when the first `n` are issued. -/
def G (c : Dev nD) (A : ABuf F) (T : TBuf) (s : Nat) (f : SBuf F) (n : Nat) (j : Fin 512) : sProp (MM F) :=
  if j.val < n then hbPt c (Finset.univ \ srcSet (posOf T (j.val % 4) (s * 128 + j.val / 4))) (Transfers.shareTok (hq (half s)) 512 j) A
  else iprop(scPt c (pieceSet (blk (s % 2) j.val)) f ∗ hbPt c Finset.univ (Transfers.shareTok (hq (half s)) 512 j) A)

def Issued (c : Dev nD) (A : ABuf F) (T : TBuf) (s : Nat) (f : SBuf F) (n : Nat) : sProp (MM F) :=
  iprop(bat c A T s n ∗ bigSep Finset.univ (G c A T s f n))

theorem G_step (c : Dev nD) (A : ABuf F) (T : TBuf) (s : Nat) (f : SBuf F) (n : Nat) (hn : n < 512) :
    bigSep Finset.univ (G c A T s f n)
      = iprop((scPt c (pieceSet (blk (s % 2) n)) f ∗ hbPt c Finset.univ (Transfers.shareTok (hq (half s)) 512 ⟨n, hn⟩) A)
        ∗ bigSep (Finset.univ.erase ⟨n, hn⟩) (G c A T s f n)) := by
  rw [bigSep_erase (Finset.mem_univ (⟨n, hn⟩ : Fin 512))]
  congr 1
  exact if_neg (Nat.lt_irrefl n)

theorem G_next (c : Dev nD) (A : ABuf F) (T : TBuf) (s : Nat) (f : SBuf F) (n : Nat) (hn : n < 512) :
    bigSep Finset.univ (G c A T s f (n + 1))
      = iprop(hbPt c (Finset.univ \ srcSet (posOf T (n % 4) (s * 128 + n / 4))) (Transfers.shareTok (hq (half s)) 512 ⟨n, hn⟩) A
        ∗ bigSep (Finset.univ.erase ⟨n, hn⟩) (G c A T s f n)) := by
  rw [bigSep_erase (Finset.mem_univ (⟨n, hn⟩ : Fin 512))]
  congr 1
  · exact if_pos (Nat.lt_succ_self n)
  · refine bigSep_congr fun j hj => ?_
    have hne : j.val ≠ n := fun h => (Finset.mem_erase.mp hj).1 (Fin.ext h)
    unfold G
    by_cases h : j.val < n
    · rw [if_pos h, if_pos (by omega)]
    · rw [if_neg h, if_neg (by omega)]

variable {α : Type} {Q : α → sProp (MM F)}

set_option maxHeartbeats 2000000 in
/-- One more copy issued. -/
theorem issue_one (c : Dev nD) (A : ABuf F) (T : TBuf) (s : Nat) (f : SBuf F) (n : Nat) (hn : n < 512)
    {od os : Fin 2 → Nat} {om : Fin 1 → Nat} (id : ∀ a, od a + S24x128.size a ≤ S24576x128.size a)
    (is : ∀ a, os a + S24x128.size a ≤ S884736x128.size a) (im : ∀ a, om a + S1.size a ≤ S2.size a)
    (hd : od = ![blk (s % 2) n * 24, 0]) (hs : os = ![posOf T (n % 4) (s * 128 + n / 4) * 24, 0]) (hm : om = ![s % 2])
    {h1 h2 h3} (k : PUnit → Prog (TpuEff nD τ sig (Elt F) Λ₀ .tc) α) :
    Issued c A T s f n
      ⊢ iprop((Issued c A T s f (n + 1) -∗ wp frame (wpE (defs₀ (F := F)) Variants.none (c : Thread nD τ) none) Set.univ (k ⟨⟩) Q)
        -∗ wp frame (wpE (defs₀ (F := F)) Variants.none (c : Thread nD τ) none) Set.univ
          (.op (.enqueueDma (hbM.slice (Rect.unit (s := S884736x128) os S24x128.size is) (fun _ => rfl))
            (.here (scM.slice (Rect.unit (s := S24576x128) od S24x128.size id) (fun _ => rfl)))
            (.dma ((cc0_scratch1.slice (Rect.unit (s := S2) om S1.size im)).squeeze S_ squeezes_S1_S_).sem) h1 h2 h3) k) Q) := by
  have hE := sem_eq im s hm
  generalize ((cc0_scratch1.slice (Rect.unit (s := S2) om S1.size im)).squeeze S_ squeezes_S1_S_).sem = sem at *
  subst hE
  unfold Issued
  rw [G_step c A T s f n hn, G_next c A T s f n hn]
  iintro ⟨HB, ⟨Hp, Ha⟩, Hr⟩ Hk
  ihave Ha2 := (pointsTo_split_subset (ℓ := hbM.view.loc (c : Thread nD τ)) (q := Transfers.shareTok (hq (half s)) 512 ⟨n, hn⟩) (f := A)
    (Finset.subset_univ (srcSet (posOf T (n % 4) (s * 128 + n / 4))))).1 $$ Ha
  icases Ha2 with ⟨Hsrc, Hrest⟩
  iapply (Transfers.wp_dmaBatch (countersEmb (U := Pipeline.UD sig nD τ)) Variants.none (c : Thread nD τ) none
    (src := hbM.slice (Rect.unit (s := S884736x128) os S24x128.size is) (fun _ => rfl))
    (dst := scM.slice (Rect.unit (s := S24576x128) od S24x128.size id) (fun _ => rfl)) (q := Transfers.shareTok (hq (half s)) 512 ⟨n, hn⟩) (fs := A)
    (Sd := pieceSet (blk (s % 2) n)) (fd := f)
    () cred (by exact cred_tile) (dst_set id _ hd).subset (D := Dlv c A T s) (j := n) (u := 0) hn (Nat.zero_le _) (by
      unfold Dlv
      rw [src_set is _ hs]
      refine sep_mono (Entails.of_eq ?_) .rfl
      exact pointsTo_congr (dst_landed A T s (s % 2) n hn id is hd hs f))) $$ [HB Hp Hsrc]
  · isplitl [Hsrc]
    · rw [src_set is _ hs]; iexact Hsrc
    isplitl [Hp]; · iexact Hp
    iexact HB
  iintro HB
  iapply Hk
  isplitl [HB]; · iexact HB
  isplitl [Hrest]; · iexact Hrest
  iexact Hr

theorem ret_bind' {E : Type → Type} {α β : Type} (a : α) (k : α → Prog E β) : (Prog.ret a).bind k = k a := rfl

/-- The position a table's entry gives. -/
theorem tb_read (T : TBuf) (k n : Nat) (hk : k < 4) (hn : n < 8192) {off : Fin 2 → Nat} (inb : ∀ a, off a + S1x1.size a ≤ S4x8192.size a) (h : off = ![k, n]) (x : (Rect.unit (s := S4x8192) off S1x1.size inb).shape.Idx) :
    ((tbM.access (Rect.unit (s := S4x8192) off S1x1.size inb)).read (Elt F) T x : BitVec 32).toNat = posOf T k n := by
  subst h
  unfold posOf
  have h0 : (x 0).val < 1 := (x 0).isLt
  have h1 : (x 1).val < 1 := (x 1).isLt
  refine congrArg BitVec.toNat (Eq.symm ?_)
  refine ent_eq _ _ T ((tbM.access (Rect.unit (s := S4x8192) _ S1x1.size inb)).emb x) _ _ ?_ ?_
  · show k + 1 * (x 0).val = k
    omega
  · show n + 1 * (x 1).val = n
    omega

/-- Reading an entry of the table. -/
theorem load_pos (c : Dev nD) (T : TBuf) (q : PosShare TreeShare) (k n : Nat) (hk : k < 4) (hn : n < 8192) {off : Fin 2 → Nat}
    (inb : ∀ a, off a + S1x1.size a ≤ S4x8192.size a) (h : off = ![k, n]) {hw} {x : (Rect.unit (s := S4x8192) off S1x1.size inb).shape.Idx}
    (kk : BitVec 32 → Prog (TpuEff nD τ sig (Elt F) Λ₀ .tc) α) :
    tbPt c q T
      ⊢ iprop((tbPt c q T -∗ ∀ v : BitVec 32, ⌜v.toNat = posOf T k n⌝ -∗ wp frame (wpE (defs₀ (F := F)) Variants.none (c : Thread nD τ) none) Set.univ (kk v) Q)
        -∗ wp frame (wpE (defs₀ (F := F)) Variants.none (c : Thread nD τ) none) Set.univ
          (smemLoadElt tbM (Rect.unit (s := S4x8192) off S1x1.size inb) hw x kk) Q) := by
  iintro Hpt Hk
  iapply (wp_smemLoadElt_named Variants.none (c : Thread nD τ) none Set.univ (m := tbM) (r := Rect.unit (s := S4x8192) off S1x1.size inb) (x := x)) $$ Hpt
  iintro Hpt %w %hw
  iapply Hk $$ Hpt
  ipureintro
  subst hw
  exact tb_read T k n hk hn inb h x

/-- Reading an entry of the table, checking what it gives, and the copy it names. -/
theorem one_trip (c : Dev nD) (A : ABuf F) (T : TBuf) (q : PosShare TreeShare) (s : Nat) (f : SBuf F) (n : Nat) (hn : n < 512) (hs : s < 64)
    (hpos : ∀ k n, k < 4 → n < 8192 → posOf T k n < 36864)
    {ot od : Fin 2 → Nat} {os : BitVec 32 → Fin 2 → Nat} {om : Fin 1 → Nat} (it : ∀ a, ot a + S1x1.size a ≤ S4x8192.size a)
    (id : ∀ a, od a + S24x128.size a ≤ S24576x128.size a) (im : ∀ a, om a + S1.size a ≤ S2.size a)
    (ht : ot = ![n % 4, s * 128 + n / 4]) (hd : od = ![blk (s % 2) n * 24, 0]) (hm : om = ![s % 2])
    (hsr : ∀ v : BitVec 32, v.toNat < 36864 → os v = ![v.toNat * 24, 0])
    (P : BitVec 32 → Prop) (hP : ∀ v : BitVec 32, v.toNat < 36864 → P v)
    (is : ∀ v, P v → ∀ a, os v a + S24x128.size a ≤ S884736x128.size a)
    {hw : (tbM.access (Rect.unit (s := S4x8192) ot S1x1.size it)).Loads} {x : (Rect.unit (s := S4x8192) ot S1x1.size it).shape.Idx} {dec : ∀ v, Decidable (P v)}
    (k : PUnit → Prog (TpuEff nD τ sig (Elt F) Λ₀ .tc) α) :
    iprop(tbPt c q T ∗ Issued c A T s f n)
      ⊢ iprop((tbPt c q T ∗ Issued c A T s f (n + 1) -∗ wp frame (wpE (defs₀ (F := F)) Variants.none (c : Thread nD τ) none) Set.univ (k ⟨⟩) Q)
        -∗ wp frame (wpE (defs₀ (F := F)) Variants.none (c : Thread nD τ) none) Set.univ
          (smemLoadElt tbM (Rect.unit (s := S4x8192) ot S1x1.size it) hw x fun v => .op (.assume (P v) (dec v)) fun hv =>
            .op (.enqueueDma (hbM.slice (Rect.unit (s := S884736x128) (os v) S24x128.size (is v hv.down)) (fun _ => rfl))
            (.here (scM.slice (Rect.unit (s := S24576x128) od S24x128.size id) (fun _ => rfl)))
            (.dma ((cc0_scratch1.slice (Rect.unit (s := S2) om S1.size im)).squeeze S_ squeezes_S1_S_).sem) (View.wordExact_bits rfl) (View.wordExact_bits rfl) ⟨Or.inl rfl, trivial⟩) k) Q) := by
  iintro ⟨HT, HI⟩ Hk
  iapply (load_pos c T q (n % 4) (s * 128 + n / 4) (by omega) (by omega) it ht) $$ HT
  iintro HT %v %hv
  have hv' : v.toNat < 36864 := hv ▸ hpos _ _ (by omega) (by omega)
  iapply (wp_assume Variants.none (c : Thread nD τ) none Set.univ (hP v hv'))
  iapply (issue_one c A T s f n hn id (is v (hP v hv')) im hd (by rw [hsr v hv', hv]) hm) $$ HI
  iintro HI
  iapply Hk
  isplitl [HT]; · iexact HT
  iexact HI

set_option maxHeartbeats 8000000 in
/-- A trip of loop 1: four copies of token `t` of step `s`. -/
theorem trip1 (c : Dev nD) (A : ABuf F) (T : TBuf) (q : PosShare TreeShare) (f : SBuf F) (i : grid0.Coords) (hs : (i 0).val < 64)
    (hpos : ∀ k n, k < 4 → n < 8192 → posOf T k n < 36864) (hc : k0_cond1 i = 1#1) (t : Fin k0_t1_loop.trips) (u : Unit)
    (arg2 : Memref sig .tc .vmem S8x128 .f32) (harg2 : arg2.IsWhole) (arg4 : Memref sig .tc .vmem S128x2816 .bf16) (harg4 : arg4.IsWhole) (arg0 v577 : BitVec 32) (h1 : tbM.IsWhole) (h3 : hbM.IsWhole) (h5 : scM.IsWhole)  :
    iprop(tbPt c q T ∗ Issued c A T (i 0).val f (4 * t.val))
      ⊢ wp frame (wpE (defs₀ (F := F)) Variants.none (c : Thread nD τ) none) Set.univ
          (k0_t1_body i tbM h1 arg2 harg2 hbM h3 arg4 harg4 scM h5 cc0_scratch1 arg0 hc v577 t u)
          (fun _ => iprop(tbPt c q T ∗ Issued c A T (i 0).val f (4 * (t.val + 1)))) := by
  have ht : t.val < 128 := lt_of_lt_of_eq t.isLt trips1
  unfold k0_t1_body
  rw [k0_part1_eq_skeleton]
  unfold k0_part1_skel
  iintro HS
  iapply (one_trip (Q := fun _ => iprop(tbPt c q T ∗ Issued c A T (i 0).val f (4 * (t.val + 1)))) c A T q (i 0).val f (4 * t.val + 0) (by omega) hs hpos
    (ot := k0_off1 i t) (od := k0_off3 i t) (os := k0_off4) (om := k0_off2 i) (hw := View.loads_smem_one rfl numel1_S1x1) (k0_off1_inb i t hc) (k0_off3_inb i t hc) (k0_off2_inb i hc)
    ((off1_eq i t).trans (by rw [show (4 * t.val + 0) % 4 = 0 by omega, show (4 * t.val + 0) / 4 = t.val by omega]))
    ((off3_eq i t).trans (by unfold blk; rw [show (4 * t.val + 0) % 4 = 0 by omega, show (4 * t.val + 0) / 4 = t.val by omega]; congr 1; omega))
    (off2_eq i) (fun v hv => off4_eq v hv) (k0_chk1 i) (fun v hv => chk1_of i v hv) (fun v hw => k0_off4_inb i v hw hc) _) $$ HS
  iintro HS
  iapply (one_trip (Q := fun _ => iprop(tbPt c q T ∗ Issued c A T (i 0).val f (4 * (t.val + 1)))) c A T q (i 0).val f (4 * t.val + 1) (by omega) hs hpos
    (ot := k0_off5 i t) (od := k0_off7 i t) (os := k0_off8) (om := k0_off6 i) (hw := View.loads_smem_one rfl numel1_S1x1) (k0_off5_inb i t hc) (k0_off7_inb i t hc) (k0_off6_inb i hc)
    ((off5_eq i t).trans (by rw [show (4 * t.val + 1) % 4 = 1 by omega, show (4 * t.val + 1) / 4 = t.val by omega]))
    ((off7_eq i t).trans (by unfold blk; rw [show (4 * t.val + 1) % 4 = 1 by omega, show (4 * t.val + 1) / 4 = t.val by omega]; congr 1; omega))
    (off6_eq i) (fun v hv => off8_eq v hv) (k0_chk2 i) (fun v hv => chk2_of i v hv) (fun v hw => k0_off8_inb i v hw hc) _) $$ HS
  iintro HS
  iapply (one_trip (Q := fun _ => iprop(tbPt c q T ∗ Issued c A T (i 0).val f (4 * (t.val + 1)))) c A T q (i 0).val f (4 * t.val + 2) (by omega) hs hpos
    (ot := k0_off9 i t) (od := k0_off11 i t) (os := k0_off12) (om := k0_off10 i) (hw := View.loads_smem_one rfl numel1_S1x1) (k0_off9_inb i t hc) (k0_off11_inb i t hc) (k0_off10_inb i hc)
    ((off9_eq i t).trans (by rw [show (4 * t.val + 2) % 4 = 2 by omega, show (4 * t.val + 2) / 4 = t.val by omega]))
    ((off11_eq i t).trans (by unfold blk; rw [show (4 * t.val + 2) % 4 = 2 by omega, show (4 * t.val + 2) / 4 = t.val by omega]; congr 1; omega))
    (off10_eq i) (fun v hv => off12_eq v hv) (k0_chk3 i) (fun v hv => chk3_of i v hv) (fun v hw => k0_off12_inb i v hw hc) _) $$ HS
  iintro HS
  iapply (one_trip (Q := fun _ => iprop(tbPt c q T ∗ Issued c A T (i 0).val f (4 * (t.val + 1)))) c A T q (i 0).val f (4 * t.val + 3) (by omega) hs hpos
    (ot := k0_off13 i t) (od := k0_off15 i t) (os := k0_off16) (om := k0_off14 i) (hw := View.loads_smem_one rfl numel1_S1x1) (k0_off13_inb i t hc) (k0_off15_inb i t hc) (k0_off14_inb i hc)
    ((off13_eq i t).trans (by rw [show (4 * t.val + 3) % 4 = 3 by omega, show (4 * t.val + 3) / 4 = t.val by omega]))
    ((off15_eq i t).trans (by unfold blk; rw [show (4 * t.val + 3) % 4 = 3 by omega, show (4 * t.val + 3) / 4 = t.val by omega]; congr 1; omega))
    (off14_eq i) (fun v hv => off16_eq v hv) (k0_chk4 i) (fun v hv => chk4_of i v hv) (fun v hw => k0_off16_inb i v hw hc) _) $$ HS
  iintro HS
  simp only [ret_bind']
  sl_step
  iexact HS

set_option maxHeartbeats 8000000 in
/-- A trip of loop 2: four copies of token `t` of step `s`. -/
theorem trip2 (c : Dev nD) (A : ABuf F) (T : TBuf) (q : PosShare TreeShare) (f : SBuf F) (i : grid0.Coords) (hs : ((i 0).val + 1) < 64)
    (hpos : ∀ k n, k < 4 → n < 8192 → posOf T k n < 36864) (hc : k0_cond2 i = 1#1) (t : Fin k0_t2_loop.trips) (u : Unit)
    (arg2 : Memref sig .tc .vmem S8x128 .f32) (harg2 : arg2.IsWhole) (arg4 : Memref sig .tc .vmem S128x2816 .bf16) (harg4 : arg4.IsWhole) (v577 v578 : BitVec 32) (h1 : tbM.IsWhole) (h3 : hbM.IsWhole) (h5 : scM.IsWhole)  :
    iprop(tbPt c q T ∗ Issued c A T ((i 0).val + 1) f (4 * t.val))
      ⊢ wp frame (wpE (defs₀ (F := F)) Variants.none (c : Thread nD τ) none) Set.univ
          (k0_t2_body i tbM h1 arg2 harg2 hbM h3 arg4 harg4 scM h5 cc0_scratch1 hc v577 v578 t u)
          (fun _ => iprop(tbPt c q T ∗ Issued c A T ((i 0).val + 1) f (4 * (t.val + 1)))) := by
  have ht : t.val < 128 := lt_of_lt_of_eq t.isLt trips2
  unfold k0_t2_body
  rw [k0_part2_eq_skeleton]
  unfold k0_part2_skel
  iintro HS
  iapply (one_trip (Q := fun _ => iprop(tbPt c q T ∗ Issued c A T ((i 0).val + 1) f (4 * (t.val + 1)))) c A T q ((i 0).val + 1) f (4 * t.val + 0) (by omega) hs hpos
    (ot := k0_off17 i t) (od := k0_off19 i t) (os := k0_off20) (om := k0_off18 i) (hw := View.loads_smem_one rfl numel1_S1x1) (k0_off17_inb i t hc) (k0_off19_inb i t hc) (k0_off18_inb i hc)
    ((off17_eq i t).trans (by rw [show (4 * t.val + 0) % 4 = 0 by omega, show (4 * t.val + 0) / 4 = t.val by omega]))
    ((off19_eq i t).trans (by unfold blk; rw [show (4 * t.val + 0) % 4 = 0 by omega, show (4 * t.val + 0) / 4 = t.val by omega]; congr 1; omega))
    (off18_eq i) (fun v hv => off20_eq v hv) (k0_chk5 i) (fun v hv => chk5_of i v hv) (fun v hw => k0_off20_inb i v hw hc) _) $$ HS
  iintro HS
  iapply (one_trip (Q := fun _ => iprop(tbPt c q T ∗ Issued c A T ((i 0).val + 1) f (4 * (t.val + 1)))) c A T q ((i 0).val + 1) f (4 * t.val + 1) (by omega) hs hpos
    (ot := k0_off21 i t) (od := k0_off23 i t) (os := k0_off24) (om := k0_off22 i) (hw := View.loads_smem_one rfl numel1_S1x1) (k0_off21_inb i t hc) (k0_off23_inb i t hc) (k0_off22_inb i hc)
    ((off21_eq i t).trans (by rw [show (4 * t.val + 1) % 4 = 1 by omega, show (4 * t.val + 1) / 4 = t.val by omega]))
    ((off23_eq i t).trans (by unfold blk; rw [show (4 * t.val + 1) % 4 = 1 by omega, show (4 * t.val + 1) / 4 = t.val by omega]; congr 1; omega))
    (off22_eq i) (fun v hv => off24_eq v hv) (k0_chk6 i) (fun v hv => chk6_of i v hv) (fun v hw => k0_off24_inb i v hw hc) _) $$ HS
  iintro HS
  iapply (one_trip (Q := fun _ => iprop(tbPt c q T ∗ Issued c A T ((i 0).val + 1) f (4 * (t.val + 1)))) c A T q ((i 0).val + 1) f (4 * t.val + 2) (by omega) hs hpos
    (ot := k0_off25 i t) (od := k0_off27 i t) (os := k0_off28) (om := k0_off26 i) (hw := View.loads_smem_one rfl numel1_S1x1) (k0_off25_inb i t hc) (k0_off27_inb i t hc) (k0_off26_inb i hc)
    ((off25_eq i t).trans (by rw [show (4 * t.val + 2) % 4 = 2 by omega, show (4 * t.val + 2) / 4 = t.val by omega]))
    ((off27_eq i t).trans (by unfold blk; rw [show (4 * t.val + 2) % 4 = 2 by omega, show (4 * t.val + 2) / 4 = t.val by omega]; congr 1; omega))
    (off26_eq i) (fun v hv => off28_eq v hv) (k0_chk7 i) (fun v hv => chk7_of i v hv) (fun v hw => k0_off28_inb i v hw hc) _) $$ HS
  iintro HS
  iapply (one_trip (Q := fun _ => iprop(tbPt c q T ∗ Issued c A T ((i 0).val + 1) f (4 * (t.val + 1)))) c A T q ((i 0).val + 1) f (4 * t.val + 3) (by omega) hs hpos
    (ot := k0_off29 i t) (od := k0_off31 i t) (os := k0_off32) (om := k0_off30 i) (hw := View.loads_smem_one rfl numel1_S1x1) (k0_off29_inb i t hc) (k0_off31_inb i t hc) (k0_off30_inb i hc)
    ((off29_eq i t).trans (by rw [show (4 * t.val + 3) % 4 = 3 by omega, show (4 * t.val + 3) / 4 = t.val by omega]))
    ((off31_eq i t).trans (by unfold blk; rw [show (4 * t.val + 3) % 4 = 3 by omega, show (4 * t.val + 3) / 4 = t.val by omega]; congr 1; omega))
    (off30_eq i) (fun v hv => off32_eq v hv) (k0_chk8 i) (fun v hv => chk8_of i v hv) (fun v hw => k0_off32_inb i v hw hc) _) $$ HS
  iintro HS
  simp only [ret_bind']
  sl_step
  iexact HS

theorem bigSep_sep' {I : Type} (S : Finset I) (Φ Ψ : I → sProp (MM F)) :
    bigSep S (fun i => iprop(Φ i ∗ Ψ i)) = iprop(bigSep S Φ ∗ bigSep S Ψ) := bigSep_sep S Φ Ψ

/-- A half with nothing in flight: its semaphore at zero, its rows at some contents, its share of the array; -/
def Free (c : Dev nD) (A : ABuf F) (b : Fin 2) : sProp (MM F) :=
  iprop(semVal ((c : Thread nD τ), SemLoc.dma (sem2 b)) 0 ∗ (∃ f, scPt c (slotSet b.val) f) ∗ hbPt c Finset.univ (hq b) A)

/-- a half with every copy of step `s` issued; -/
def Fly (c : Dev nD) (A : ABuf F) (T : TBuf) (s : Nat) : sProp (MM F) :=
  iprop(bat c A T s 512
    ∗ bigSep Finset.univ (fun j : Fin 512 => hbPt c (Finset.univ \ srcSet (posOf T (j.val % 4) (s * 128 + j.val / 4))) (Transfers.shareTok (hq (half s)) 512 j) A)
    ∗ hbPt c Finset.univ (Transfers.shareDrop (hq (half s)) 512) A)

/-- and a half with every copy of step `s` landed. -/
def Down (c : Dev nD) (A : ABuf F) (T : TBuf) (s : Nat) : sProp (MM F) :=
  iprop(semVal ((c : Thread nD τ), SemLoc.dma (sem2 (half s))) 0 ∗ scPt c (slotSet (half s).val) (landed A T s) ∗ hbPt c Finset.univ (hq (half s)) A)

theorem down_free (c : Dev nD) (A : ABuf F) (T : TBuf) (s : Nat) : Down c A T s ⊢ Free c A (half s) := by
  unfold Down Free
  iintro ⟨H1, H2, H3⟩
  isplitl [H1]; · iexact H1
  isplitl [H2]; · iexists _; iexact H2
  iexact H3

theorem start (c : Dev nD) (A : ABuf F) (T : TBuf) (s : Nat) :
    Free c A (half s) ⊢ |={Set.univ}=> iprop((∃ f, Issued c A T s f 0) ∗ hbPt c Finset.univ (Transfers.shareDrop (hq (half s)) 512) A) := by
  unfold Free Issued
  iintro ⟨Hd, ⟨%f, Hs⟩, Ha⟩
  imod (Transfers.batch_alloc' (Lvl := ℕ) (countersEmb (U := Pipeline.UD sig nD τ)) (c : Thread nD τ) () cred (Dlv c A T s) (sm := .dma (sem2 (half s))) (E := Set.univ)) $$ Hd with HB
  ihave Ha2 := (Transfers.pointsTo_toks_split (hq (half s)) 512) $$ Ha
  icases Ha2 with ⟨Hdrop, Htoks⟩
  imodintro
  isplitr [Hdrop]; swap; · iexact Hdrop
  iexists f
  isplitl [HB]; · iexact HB
  have e : bigSep Finset.univ (G c A T s f 0)
      = iprop(scPt c (slotSet (half s).val) f ∗ bigSep Finset.univ (fun j : Fin 512 => hbPt c Finset.univ (Transfers.shareTok (hq (half s)) 512 j) A)) := by
    rw [show (half s).val = s % 2 from rfl, slot_eq]
    unfold scPt
    rw [pointsTo_biUnion _ _ (piece_disjoint (s % 2))]
    refine Eq.trans ?_ (bigSep_sep' _ _ _)
    exact bigSep_congr fun j _ => if_neg (Nat.not_lt_zero _)
  rw [e]
  isplitl [Hs]; · iexact Hs
  iexact Htoks

theorem issued_all (c : Dev nD) (A : ABuf F) (T : TBuf) (s : Nat) (f : SBuf F) :
    Issued c A T s f 512 ⊢ iprop(bat c A T s 512
    ∗ bigSep Finset.univ (fun j : Fin 512 => hbPt c (Finset.univ \ srcSet (posOf T (j.val % 4) (s * 128 + j.val / 4))) (Transfers.shareTok (hq (half s)) 512 j) A)) := by
  unfold Issued
  refine sep_mono .rfl (Entails.of_eq (bigSep_congr fun j _ => if_pos j.isLt))

theorem gather (c : Dev nD) (A : ABuf F) (T : TBuf) (s : Nat) :
    iprop(bigSep Finset.univ (Dlv c A T s)
      ∗ bigSep Finset.univ (fun j : Fin 512 => hbPt c (Finset.univ \ srcSet (posOf T (j.val % 4) (s * 128 + j.val / 4))) (Transfers.shareTok (hq (half s)) 512 j) A)
      ∗ hbPt c Finset.univ (Transfers.shareDrop (hq (half s)) 512) A)
    ⊢ iprop(scPt c (slotSet (half s).val) (landed A T s) ∗ hbPt c Finset.univ (hq (half s)) A) := by
  unfold Dlv
  refine (sep_mono (Entails.of_eq (bigSep_sep' _ _ _)) .rfl).trans ?_
  iintro ⟨⟨Hp, Hs⟩, Hr, Hd⟩
  isplitl [Hp]
  · rw [show (half s).val = s % 2 from rfl, slot_eq]
    unfold scPt
    rw [pointsTo_biUnion _ _ (piece_disjoint (s % 2))]
    iexact Hp
  iapply (Transfers.pointsTo_toks_join (hq (half s)) 512)
  isplitl [Hd]; · iexact Hd
  iapply (show iprop(bigSep Finset.univ (fun j : Fin 512 => hbPt c (srcSet (posOf T (j.val % 4) (s * 128 + j.val / 4))) (Transfers.shareTok (hq (half s)) 512 j) A)
      ∗ bigSep Finset.univ (fun j : Fin 512 => hbPt c (Finset.univ \ srcSet (posOf T (j.val % 4) (s * 128 + j.val / 4))) (Transfers.shareTok (hq (half s)) 512 j) A))
      ⊢ bigSep Finset.univ (fun j : Fin 512 => hbPt c Finset.univ (Transfers.shareTok (hq (half s)) 512 j) A) by
    refine (Entails.of_eq (bigSep_sep' _ _ _).symm).trans ?_
    exact bigSep_mono fun j _ => (pointsTo_split_subset (Finset.subset_univ _)).2)
  isplitl [Hs]; · iexact Hs
  iexact Hr

theorem cred_all : RefSig.tileCredit S12288x128 .f32 = 384 * 512 := by decide +kernel

/-- The step's wait: every copy landed. -/
theorem wait_all (c : Dev nD) (A : ABuf F) (T : TBuf) (s : Nat) {om : Fin 1 → Nat} {od : Fin 2 → Nat} (im : ∀ a, om a + S1.size a ≤ S2.size a)
    (id : ∀ a, od a + S12288x128.size a ≤ S24576x128.size a) (is : ∀ a, (![0, 0] : Fin 2 → Nat) a + S12288x128.size a ≤ S884736x128.size a) (hm : om = ![s % 2]) {W : Waits sig Unit}
    (k : PUnit → Prog (TpuEff nD τ sig (Elt F) Λ₀ .tc) α) :
    iprop(Fly c A T s ∗ owes (c : Thread nD τ) 0 W)
      ⊢ iprop((Down c A T s ∗ (∃ W', owes (c : Thread nD τ) 0 W') -∗ wp frame (wpE (defs₀ (F := F)) Variants.none (c : Thread nD τ) none) Set.univ (k ⟨⟩) Q)
        -∗ wp frame (wpE (defs₀ (F := F)) Variants.none (c : Thread nD τ) none) Set.univ
          (.op (.waitDma2 ((cc0_scratch1.slice (Rect.unit (s := S2) om S1.size im)).squeeze S_ squeezes_S1_S_).sem
            (hbM.slice (Rect.unit (s := S884736x128) ![0, 0] S12288x128.size is) (fun _ => rfl))
            (scM.slice (Rect.unit (s := S24576x128) od S12288x128.size id) (fun _ => rfl)) (View.wordExact_bits rfl) (View.wordExact_bits rfl)) k) Q) := by
  have hE := sem_eq im s hm
  generalize ((cc0_scratch1.slice (Rect.unit (s := S2) om S1.size im)).squeeze S_ squeezes_S1_S_).sem = sem at *
  subst hE
  unfold Fly Down
  iintro ⟨⟨HB, Hr, Hd⟩, HO⟩ Hk
  iapply (Transfers.wp_waitBatchAll (countersEmb (U := Pipeline.UD sig nD τ)) Variants.none (c : Thread nD τ) none () (N := cred) (J := 384 * 512)
    (by exact cred_all) (by decide) (D := Dlv c A T s) (u := 0) (Nat.zero_add _)) $$ [HB HO]
  · isplitl [HB] <;> iassumption
  iintro ⟨HD, Hv, HO⟩
  iapply Hk
  isplitr [HO]; swap; · iexists _; iexact HO
  isplitl [Hv]; · iexact Hv
  iapply (gather c A T s)
  isplitl [HD]; · iexact HD
  isplitl [Hr]; · iexact Hr
  iexact Hd

set_option maxHeartbeats 2000000 in
/-- Loop 1 issues every copy of its step. -/
theorem loop1 (c : Dev nD) (A : ABuf F) (T : TBuf) (q : PosShare TreeShare) (i : grid0.Coords) (hs : (i 0).val < 64)
    (hpos : ∀ k n, k < 4 → n < 8192 → posOf T k n < 36864) (hc : k0_cond1 i = 1#1)
    (arg2 : Memref sig .tc .vmem S8x128 .f32) (harg2 : arg2.IsWhole) (arg4 : Memref sig .tc .vmem S128x2816 .bf16) (harg4 : arg4.IsWhole) (arg0 v577 v578 : BitVec 32) (h1 : tbM.IsWhole) (h3 : hbM.IsWhole) (h5 : scM.IsWhole)
    (kk : Unit → Prog (TpuEff nD τ sig (Elt F) Λ₀ .tc) α) :
    iprop(tbPt c q T ∗ Free c A (half (i 0).val))
      ⊢ iprop((tbPt c q T ∗ Fly c A T (i 0).val -∗ wp frame (wpE (defs₀ (F := F)) Variants.none (c : Thread nD τ) none) Set.univ (kk ⟨⟩) Q)
        -∗ wp frame (wpE (defs₀ (F := F)) Variants.none (c : Thread nD τ) none) Set.univ
          (Scf.Loop.for k0_t1_loop (k0_t1_ok i hc) ⟨⟩ (k0_t1_body i tbM h1 arg2 harg2 hbM h3 arg4 harg4 scM h5 cc0_scratch1 arg0 hc v577) >>= kk) Q) := by
  iintro ⟨HT, HF⟩ Hk
  imod (start c A T (i 0).val) $$ HF with ⟨⟨%f, HI⟩, Hd⟩
  iapply (Scf.wp_for_bind frame (wpE (defs₀ (F := F)) Variants.none (c : Thread nD τ) none) Set.univ _ _ _ (k0_t1_ok i hc) ⟨⟩
    (k0_t1_body i tbM h1 arg2 harg2 hbM h3 arg4 harg4 scM h5 cc0_scratch1 arg0 hc v577) (fun n _ => iprop(tbPt c q T ∗ Issued c A T (i 0).val f (4 * n)))
    (fun t u => trip1 c A T q f i hs hpos hc t u arg2 harg2 arg4 harg4 arg0 v577 h1 h3 h5)) $$ [HT HI]
  · isplitl [HT]; · iexact HT
    iexact HI
  iintro %acc ⟨HT, HI⟩
  iapply Hk
  isplitl [HT]; · iexact HT
  unfold Fly
  ihave HI2 := ((Entails.of_eq (congrArg (fun n => Issued c A T (i 0).val f (4 * n)) trips1)).trans (issued_all c A T (i 0).val f)) $$ HI
  icases HI2 with ⟨HB, HG⟩
  isplitl [HB]; · iexact HB
  isplitl [HG]; · iexact HG
  iexact Hd

set_option maxHeartbeats 2000000 in
/-- Loop 2 issues every copy of its step. -/
theorem loop2 (c : Dev nD) (A : ABuf F) (T : TBuf) (q : PosShare TreeShare) (i : grid0.Coords) (hs : ((i 0).val + 1) < 64)
    (hpos : ∀ k n, k < 4 → n < 8192 → posOf T k n < 36864) (hc : k0_cond2 i = 1#1)
    (arg2 : Memref sig .tc .vmem S8x128 .f32) (harg2 : arg2.IsWhole) (arg4 : Memref sig .tc .vmem S128x2816 .bf16) (harg4 : arg4.IsWhole) (arg0 v577 v578 : BitVec 32) (h1 : tbM.IsWhole) (h3 : hbM.IsWhole) (h5 : scM.IsWhole)
    (kk : Unit → Prog (TpuEff nD τ sig (Elt F) Λ₀ .tc) α) :
    iprop(tbPt c q T ∗ Free c A (half ((i 0).val + 1)))
      ⊢ iprop((tbPt c q T ∗ Fly c A T ((i 0).val + 1) -∗ wp frame (wpE (defs₀ (F := F)) Variants.none (c : Thread nD τ) none) Set.univ (kk ⟨⟩) Q)
        -∗ wp frame (wpE (defs₀ (F := F)) Variants.none (c : Thread nD τ) none) Set.univ
          (Scf.Loop.for k0_t2_loop (k0_t2_ok i hc) ⟨⟩ (k0_t2_body i tbM h1 arg2 harg2 hbM h3 arg4 harg4 scM h5 cc0_scratch1 hc v577 v578) >>= kk) Q) := by
  iintro ⟨HT, HF⟩ Hk
  imod (start c A T ((i 0).val + 1)) $$ HF with ⟨⟨%f, HI⟩, Hd⟩
  iapply (Scf.wp_for_bind frame (wpE (defs₀ (F := F)) Variants.none (c : Thread nD τ) none) Set.univ _ _ _ (k0_t2_ok i hc) ⟨⟩
    (k0_t2_body i tbM h1 arg2 harg2 hbM h3 arg4 harg4 scM h5 cc0_scratch1 hc v577 v578) (fun n _ => iprop(tbPt c q T ∗ Issued c A T ((i 0).val + 1) f (4 * n)))
    (fun t u => trip2 c A T q f i hs hpos hc t u arg2 harg2 arg4 harg4 v577 v578 h1 h3 h5)) $$ [HT HI]
  · isplitl [HT]; · iexact HT
    iexact HI
  iintro %acc ⟨HT, HI⟩
  iapply Hk
  isplitl [HT]; · iexact HT
  unfold Fly
  ihave HI2 := ((Entails.of_eq (congrArg (fun n => Issued c A T ((i 0).val + 1) f (4 * n)) trips2)).trans (issued_all c A T ((i 0).val + 1) f)) $$ HI
  icases HI2 with ⟨HB, HG⟩
  isplitl [HB]; · iexact HB
  isplitl [HG]; · iexact HG
  iexact Hd

end Cert.Combine.Hand
-- ==== Proof.CFrame.Steps.lean ====
/- The sums of a step: what a strided load of the landed rows reads, the columns it puts together, and the two as steps of the
   body's proof. -/
module

public import proofs.«01_k».proof.Proof.CFrame.Issue
public import Idealize.ShloMosaic.Lib.Pipeline.FrameBody
public import Idealize.ShloMosaic.Lib.Pipeline.Frame
public import Idealize.ShloMosaic.Lib.Batch
public import Idealize.ShloMosaic.Lib.ViewIndex
public import Idealize.ShloMosaic.Lib.Tactic

@[expose] public section

set_option maxRecDepth 16384

noncomputable section

namespace Cert.Combine.Hand

open Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Shape (pair pair_eta pair_zero pair_one)

variable {F : FTy → Type} [FloatOps F]

variable {α : Type} {Q : α → sProp (MM F)}

/-- The rows `j` of choice `k` of a step's tokens, as the strided load reads them; -/
def ld (A : ABuf F) (T : TBuf) (s k j : Nat) : FVec F S128x128 .f32 := fun x =>
  ent (d := ![884736, 128]) (by decide) (by decide) A (posOf T k (s * 128 + (x 0).val) * 24 + j) (x 1).val

/-- columns `128 j` to `128 j + 127` of the step's result, from the gates' block `gv`; -/
def colv (A : ABuf F) (T : TBuf) (gv : Vec F S8x128 .f32) (s j : Nat) : FVec F S128x128 .bf16 :=
  k0_pay9 (k0_pay3 gv) (k0_pay4 gv) (k0_pay5 gv) (k0_pay6 gv) (ld A T s 0 j) (ld A T s 1 j) (ld A T s 2 j) (ld A T s 3 j)

/-- the sum of its first two choices; -/
def two (A : ABuf F) (T : TBuf) (gv : Vec F S8x128 .f32) (s j : Nat) : FVec F S128x128 .f32 :=
  k0_pay11 (k0_pay3 gv) (k0_pay4 gv) (ld A T s 0 j) (ld A T s 1 j)

/-- and the step's result. -/
def outB (A : ABuf F) (T : TBuf) (gv : Vec F S8x128 .f32) (s : Nat) : S128x2816.Idx → F .bf16 := fun x =>
  colv A T gv s ((x 1).val / 128) (pair (d := ![128, 128]) (x 0) ⟨(x 1).val % 128, Nat.mod_lt _ (by decide)⟩)

/-- The result's buffer with its first `j` blocks of columns done. -/
def Cols (c : Dev nD) (A : ABuf F) (T : TBuf) (gv : Vec F S8x128 .f32) (s : Nat) (arg4 : Memref sig .tc .vmem S128x2816 .bf16) (j : Nat) : sProp (MM F) :=
  iprop(∃ g, (arg4.view.loc (c : Thread nD τ) ↦[arg4.view.set]{fullShare} g)
    ∗ ⌜∀ x : S128x2816.Idx, (x 1).val < 128 * j → arg4.view.read (Elt F) g x = outB A T gv s x⌝)

/-- What the compute holds. -/
def Rn (c : Dev nD) (A : ABuf F) (T : TBuf) (gv : Vec F S8x128 .f32) (s : Nat) (arg4 : Memref sig .tc .vmem S128x2816 .bf16) (j : Nat) : sProp (MM F) :=
  iprop(scPt c (slotSet (half s).val) (landed A T s) ∗ Cols c A T gv s arg4 j)

theorem ld_eq (A : ABuf F) (T : TBuf) (s k j : Nat) (hk : k < 4) (hj : j < 22) {off : Fin 2 → Nat} (inb : ∀ a, S128x128.size a = 0 ∨ off a + (![24, 1] : Fin 2 → Nat) a * (S128x128.size a - 1) < S24576x128.size a)
    (h : off = ![s % 2 * 12288 + 3072 * k + j, 0]) :
    scM.view.readAt (Elt F) (⟨off, S128x128.size, ![24, 1], inb⟩ : LoadRect S24576x128) (landed A T s) = ld A T s k j := by
  subst h
  funext x
  have h0 : (x 0).val < 128 := (x 0).isLt
  have hr : (s % 2 * 12288 + 3072 * k + j + 24 * (x 0).val) / 24 = blk (s % 2) (4 * (x 0).val + k) := by unfold blk; omega
  have hm : (s % 2 * 12288 + 3072 * k + j + 24 * (x 0).val) % 24 = j := by omega
  obtain ⟨-, e1, e2⟩ := blk_arith (by omega) hr
  have a1 : (4 * (x 0).val + k) % 4 = k := by omega
  have a2 : (4 * (x 0).val + k) / 4 = (x 0).val := by omega
  show ent (by decide) (by decide) A (posOf T ((s % 2 * 12288 + 3072 * k + j + 24 * (x 0).val) % 12288 / 3072) (s * 128 + (s % 2 * 12288 + 3072 * k + j + 24 * (x 0).val) % 3072 / 24) * 24
    + (s % 2 * 12288 + 3072 * k + j + 24 * (x 0).val) % 24) (0 + 1 * (x 1).val) = ent (by decide) (by decide) A _ _
  rw [e1, e2, hm, a1, a2, Nat.zero_add, Nat.one_mul]

theorem ld_sub (s k j : Nat) (hk : k < 4) (hj : j < 22) {off : Fin 2 → Nat} (inb : ∀ a, S128x128.size a = 0 ∨ off a + (![24, 1] : Fin 2 → Nat) a * (S128x128.size a - 1) < S24576x128.size a)
    (h : off = ![s % 2 * 12288 + 3072 * k + j, 0]) :
    scM.view.setOn (⟨off, S128x128.size, ![24, 1], inb⟩ : LoadRect S24576x128).set ⊆ slotSet (half s).val := by
  subst h
  intro i hi
  obtain ⟨y, hy, rfl⟩ := Finset.mem_map.mp hi
  rw [mem_slot]
  obtain ⟨r, hr, he⟩ := LoadRect.mem_set _ |>.mp hy 0
  have hr' : r < 128 := hr
  have he' : (y 0).val = s % 2 * 12288 + 3072 * k + j + 24 * r := he
  show (y 0).val / 12288 = s % 2
  omega

/-- A strided load of the landed rows; -/
theorem step_sc (c : Dev nD) (A : ABuf F) (T : TBuf) (gv : Vec F S8x128 .f32) (s : Nat) (arg4 : Memref sig .tc .vmem S128x2816 .bf16) (n : Nat)
    (k j : Nat) (hk : k < 4) (hj : j < 22) {off : Fin 2 → Nat} (inb : ∀ a, S128x128.size a = 0 ∨ off a + (![24, 1] : Fin 2 → Nat) a * (S128x128.size a - 1) < S24576x128.size a)
    (h : off = ![s % 2 * 12288 + 3072 * k + j, 0]) {hl : scM.view.LoadsAt (⟨off, S128x128.size, ![24, 1], inb⟩ : LoadRect S24576x128)}
    (kk : ((⟨off, S128x128.size, ![24, 1], inb⟩ : LoadRect S24576x128).shape.Idx → Elt F .f32) → Prog (TpuEff nD τ sig (Elt F) Λ₀ .tc) α) :
    Rn c A T gv s arg4 n
      ⊢ iprop((Rn c A T gv s arg4 n -∗ wp frame (wpE (defs₀ (F := F)) Variants.none (c : Thread nD τ) none) Set.univ (kk (ld A T s k j)) Q)
        -∗ wp frame (wpE (defs₀ (F := F)) Variants.none (c : Thread nD τ) none) Set.univ
          (.op (.load scM (⟨off, S128x128.size, ![24, 1], inb⟩ : LoadRect S24576x128) hl) kk) Q) := by
  unfold Rn
  iintro ⟨Hs, Hc⟩ Hk
  iapply (wp_load Variants.none (c : Thread nD τ) none Set.univ (ld_sub s k j hk hj inb h)) $$ Hs
  iintro Hs
  rw [ld_eq A T s k j hk hj inb h]
  iapply Hk
  isplitl [Hs]; · iexact Hs
  iexact Hc

/-- a load of the result's buffer, unused; -/
theorem step_l4 (c : Dev nD) (A : ABuf F) (T : TBuf) (gv : Vec F S8x128 .f32) (s : Nat) (arg4 : Memref sig .tc .vmem S128x2816 .bf16) (n : Nat)
    (r : LoadRect S128x2816) {hl : arg4.view.LoadsAt r} (kk : (r.shape.Idx → Elt F .bf16) → Prog (TpuEff nD τ sig (Elt F) Λ₀ .tc) α) :
    Rn c A T gv s arg4 n
      ⊢ iprop((∀ v, Rn c A T gv s arg4 n -∗ wp frame (wpE (defs₀ (F := F)) Variants.none (c : Thread nD τ) none) Set.univ (kk v) Q)
        -∗ wp frame (wpE (defs₀ (F := F)) Variants.none (c : Thread nD τ) none) Set.univ (.op (.load arg4 r hl) kk) Q) := by
  unfold Rn Cols
  iintro ⟨Hs, ⟨%g, Hg, %hg⟩⟩ Hk
  iapply (wp_load Variants.none (c : Thread nD τ) none Set.univ (View.setOn_subset_set _ _)) $$ Hg
  iintro Hg
  iapply Hk
  isplitl [Hs]; · iexact Hs
  iexists g
  isplitl [Hg]; · iexact Hg
  ipureintro; exact hg

/-- and a store of the next block of columns. -/
theorem step_st (c : Dev nD) (A : ABuf F) (T : TBuf) (gv : Vec F S8x128 .f32) (s : Nat) (arg4 : Memref sig .tc .vmem S128x2816 .bf16) (n : Nat)
    {off : Fin 2 → Nat} (inb : ∀ a, off a + S128x128.size a ≤ S128x2816.size a) (h : off = ![0, 128 * n]) (w : FVec F S128x128 .bf16) (hw : w = colv A T gv s n)
    {hx : (arg4.access (Rect.unit (s := S128x2816) off S128x128.size inb)).Stores Finset.univ} {hm}
    (kk : PUnit → Prog (TpuEff nD τ sig (Elt F) Λ₀ .tc) α) :
    Rn c A T gv s arg4 n
      ⊢ iprop((Rn c A T gv s arg4 (n + 1) -∗ wp frame (wpE (defs₀ (F := F)) Variants.none (c : Thread nD τ) none) Set.univ (kk ⟨⟩) Q)
        -∗ wp frame (wpE (defs₀ (F := F)) Variants.none (c : Thread nD τ) none) Set.univ
          (.op (.store arg4 (Rect.unit (s := S128x2816) off S128x128.size inb) w Finset.univ hx hm) kk) Q) := by
  subst h hw
  unfold Rn Cols
  iintro ⟨Hs, ⟨%g, Hg, %hg⟩⟩ Hk
  iapply (wp_store Variants.none (c : Thread nD τ) none Set.univ (m := arg4) (r := Rect.unit (s := S128x2816) ![0, 128 * n] S128x128.size inb) (hx := hx) (S := arg4.view.set) (f := g)
    ((View.setOn_subset_set _ _).trans (by
      show (arg4.view.slice _).set ⊆ _
      rw [View.set_slice]; exact View.setOn_subset_set _ _))) $$ Hg
  iintro Hg
  iapply Hk
  isplitl [Hs]; · iexact Hs
  iexists _
  isplitl [Hg]; · iexact Hg
  ipureintro
  intro x hx1
  have e0 : (x 0).val < 128 := (x 0).isLt
  by_cases hlt : (x 1).val < 128 * n
  · refine Eq.trans ?_ (hg x hlt)
    refine congrArg (cast _) (View.write_of_not_mem _ _ _ ?_)
    intro hmem
    have hmem : arg4.view.emb x ∈ (arg4.view.slice (Rect.unit (s := S128x2816) ![0, 128 * n] S128x128.size inb)).set := View.setOn_subset_set _ _ hmem
    rw [View.set_slice] at hmem
    have hm2 := (View.mem_setOn _).mp hmem
    have h1 := (Rect.mem_set_unit.mp hm2) 1
    have h1' : 128 * n ≤ (x 1).val := h1.1
    omega
  · have hx1' : (x 1).val < 128 * n + 128 := by omega
    obtain ⟨y, rfl⟩ : ∃ y, (Rect.unit (s := S128x2816) ![0, 128 * n] S128x128.size inb).emb y = x := by
      refine ⟨pair (d := ![128, 128]) (x 0) ⟨(x 1).val - 128 * n, by show _ < 128; omega⟩, ?_⟩
      funext a
      match a with
      | ⟨0, _⟩ => exact Fin.ext (by show 0 + 1 * (x 0).val = (x 0).val; omega)
      | ⟨1, _⟩ => exact Fin.ext (by show 128 * n + 1 * ((x 1).val - 128 * n) = (x 1).val; omega)
    refine (congrFun (View.read_write_univ (v := arg4.access (Rect.unit (s := S128x2816) ![0, 128 * n] S128x128.size inb)) g _) y).trans ?_
    have hy : (y 1).val < 128 := (y 1).isLt
    unfold outB
    have d1 : ((Rect.unit (s := S128x2816) ![0, 128 * n] S128x128.size inb).emb y 1).val = 128 * n + (y 1).val := by
      show 128 * n + 1 * (y 1).val = _; omega
    have d2 : (128 * n + (y 1).val) / 128 = n := by omega
    have key : ∀ (q : Nat) (z : S128x128.Idx), q = n → z = y → colv A T gv s n y = colv A T gv s q z := by rintro _ _ rfl rfl; rfl
    refine key _ _ (by rw [d1, d2]) ?_
    funext a
    match a with
    | ⟨0, _⟩ => exact Fin.ext (by show 0 + 1 * (y 0).val = (y 0).val; omega)
    | ⟨1, _⟩ => exact Fin.ext (by show (128 * n + 1 * (y 1).val) % 128 = (y 1).val; omega)

end Cert.Combine.Hand
-- ==== Proof.CFrame.Parts.lean ====
/- The body's compute, part by part. -/
module

public import proofs.«01_k».proof.Proof.CFrame.Steps
public import Idealize.ShloMosaic.Lib.Pipeline.FrameBody
public import Idealize.ShloMosaic.Lib.Pipeline.Frame
public import Idealize.ShloMosaic.Lib.Batch
public import Idealize.ShloMosaic.Lib.ViewIndex
public import Idealize.ShloMosaic.Lib.Tactic

@[expose] public section

set_option maxRecDepth 16384

noncomputable section

namespace Cert.Combine.Hand

open Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Shape (pair pair_eta pair_zero pair_one)

variable {F : FTy → Type} [FloatOps F]

variable {α : Type} {Q : α → sProp (MM F)}

set_option maxHeartbeats 8000000 in
theorem part4_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 0
      ⊢ iprop((Rn c A T gv (i 0).val arg4 1 -∗ wp frame (wpE (defs₀ (F := F)) Variants.none (c : Thread nD τ) none) Set.univ (kk (colv A T gv (i 0).val 1)) Q)
        -∗ wp frame (wpE (defs₀ (F := F)) Variants.none (c : Thread nD τ) none) Set.univ (k0_part4 i tbM h1 arg2 harg2 hbM h3 arg4 harg4 scM h5 cc0_scratch1 v8 (k0_pay3 gv) (k0_pay4 gv) (k0_pay5 gv) (k0_pay6 gv) (two A T gv (i 0).val 0) >>= kk) Q) := by
  rw [k0_part4_eq_skeleton]
  unfold k0_part4_skel
  iintro HR Hk
  iapply (step_sc (Q := Q) c A T gv (i 0).val arg4 0 2 0 (by decide) (by decide) (off := k0_off35 i 6144#32 0#32) (k0_off35_inb i 2 0) (off35_eq i 2 0) (hl := View.loadsAt_vmem h_S128x128) _) $$ HR
  iintro HR
  iapply (step_sc (Q := Q) c A T gv (i 0).val arg4 0 3 0 (by decide) (by decide) (off := k0_off35 i 9216#32 0#32) (k0_off35_inb i 3 0) (off35_eq i 3 0) (hl := View.loadsAt_vmem h_S128x128) _) $$ HR
  iintro HR
  iapply (step_l4 (Q := Q) c A T gv (i 0).val arg4 0 _ (hl := View.loadsAt_vmem h_S128x128) _) $$ HR
  iintro %_v HR
  iapply (step_st (Q := Q) c A T gv (i 0).val arg4 0 (off := ![0, 0]) inb_S128x2816_S128x128_0_0 rfl _ rfl (hx := View.stores_vmem h_S128x128 (harg4.storeExact_slice rfl _ packedbf16_S128x2816_S128x128_0_0) (fun _ => rfl)) (hm := .inl rfl) _) $$ HR
  iintro HR
  iapply (step_sc (Q := Q) c A T gv (i 0).val arg4 1 0 1 (by decide) (by decide) (off := k0_off35 i 0#32 1#32) (k0_off35_inb i 0 1) (off35_eq i 0 1) (hl := View.loadsAt_vmem h_S128x128) _) $$ HR
  iintro HR
  iapply (step_sc (Q := Q) c A T gv (i 0).val arg4 1 1 1 (by decide) (by decide) (off := k0_off35 i 3072#32 1#32) (k0_off35_inb i 1 1) (off35_eq i 1 1) (hl := View.loadsAt_vmem h_S128x128) _) $$ HR
  iintro HR
  iapply (step_sc (Q := Q) c A T gv (i 0).val arg4 1 2 1 (by decide) (by decide) (off := k0_off35 i 6144#32 1#32) (k0_off35_inb i 2 1) (off35_eq i 2 1) (hl := View.loadsAt_vmem h_S128x128) _) $$ HR
  iintro HR
  iapply (step_sc (Q := Q) c A T gv (i 0).val arg4 1 3 1 (by decide) (by decide) (off := k0_off35 i 9216#32 1#32) (k0_off35_inb i 3 1) (off35_eq i 3 1) (hl := View.loadsAt_vmem h_S128x128) _) $$ HR
  iintro HR
  iapply Hk
  iexact HR

set_option maxHeartbeats 8000000 in
theorem part5_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 1
      ⊢ iprop((Rn c A T gv (i 0).val arg4 3 -∗ wp frame (wpE (defs₀ (F := F)) Variants.none (c : Thread nD τ) none) Set.univ (kk (two A T gv (i 0).val 3)) Q)
        -∗ wp frame (wpE (defs₀ (F := F)) Variants.none (c : Thread nD τ) none) Set.univ (k0_part5 i tbM h1 arg2 harg2 hbM h3 arg4 harg4 scM h5 cc0_scratch1 v8 (k0_pay3 gv) (k0_pay4 gv) (k0_pay5 gv) (k0_pay6 gv) (colv A T gv (i 0).val 1) >>= kk) Q) := by
  rw [k0_part5_eq_skeleton]
  unfold k0_part5_skel
  iintro HR Hk
  iapply (step_l4 (Q := Q) c A T gv (i 0).val arg4 1 _ (hl := View.loadsAt_vmem h_S128x128) _) $$ HR
  iintro %_v HR
  iapply (step_st (Q := Q) c A T gv (i 0).val arg4 1 (off := ![0, 128]) inb_S128x2816_S128x128_0_128 rfl _ rfl (hx := View.stores_vmem h_S128x128 (harg4.storeExact_slice rfl _ packedbf16_S128x2816_S128x128_0_128) (fun _ => rfl)) (hm := .inl rfl) _) $$ HR
  iintro HR
  iapply (step_sc (Q := Q) c A T gv (i 0).val arg4 2 0 2 (by decide) (by decide) (off := k0_off35 i 0#32 2#32) (k0_off35_inb i 0 2) (off35_eq i 0 2) (hl := View.loadsAt_vmem h_S128x128) _) $$ HR
  iintro HR
  iapply (step_sc (Q := Q) c A T gv (i 0).val arg4 2 1 2 (by decide) (by decide) (off := k0_off35 i 3072#32 2#32) (k0_off35_inb i 1 2) (off35_eq i 1 2) (hl := View.loadsAt_vmem h_S128x128) _) $$ HR
  iintro HR
  iapply (step_sc (Q := Q) c A T gv (i 0).val arg4 2 2 2 (by decide) (by decide) (off := k0_off35 i 6144#32 2#32) (k0_off35_inb i 2 2) (off35_eq i 2 2) (hl := View.loadsAt_vmem h_S128x128) _) $$ HR
  iintro HR
  iapply (step_sc (Q := Q) c A T gv (i 0).val arg4 2 3 2 (by decide) (by decide) (off := k0_off35 i 9216#32 2#32) (k0_off35_inb i 3 2) (off35_eq i 3 2) (hl := View.loadsAt_vmem h_S128x128) _) $$ HR
  iintro HR
  iapply (step_l4 (Q := Q) c A T gv (i 0).val arg4 2 _ (hl := View.loadsAt_vmem h_S128x128) _) $$ HR
  iintro %_v HR
  iapply (step_st (Q := Q) c A T gv (i 0).val arg4 2 (off := ![0, 256]) inb_S128x2816_S128x128_0_256 rfl _ rfl (hx := View.stores_vmem h_S128x128 (harg4.storeExact_slice rfl _ packedbf16_S128x2816_S128x128_0_256) (fun _ => rfl)) (hm := .inl rfl) _) $$ HR
  iintro HR
  iapply (step_sc (Q := Q) c A T gv (i 0).val arg4 3 0 3 (by decide) (by decide) (off := k0_off35 i 0#32 3#32) (k0_off35_inb i 0 3) (off35_eq i 0 3) (hl := View.loadsAt_vmem h_S128x128) _) $$ HR
  iintro HR
  iapply (step_sc (Q := Q) c A T gv (i 0).val arg4 3 1 3 (by decide) (by decide) (off := k0_off35 i 3072#32 3#32) (k0_off35_inb i 1 3) (off35_eq i 1 3) (hl := View.loadsAt_vmem h_S128x128) _) $$ HR
  iintro HR
  iapply Hk
  iexact HR

set_option maxHeartbeats 8000000 in
theorem part6_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 3
      ⊢ iprop((Rn c A T gv (i 0).val arg4 4 -∗ wp frame (wpE (defs₀ (F := F)) Variants.none (c : Thread nD τ) none) Set.univ (kk (colv A T gv (i 0).val 4)) Q)
        -∗ wp frame (wpE (defs₀ (F := F)) Variants.none (c : Thread nD τ) none) Set.univ (k0_part6 i tbM h1 arg2 harg2 hbM h3 arg4 harg4 scM h5 cc0_scratch1 v8 (k0_pay3 gv) (k0_pay4 gv) (k0_pay5 gv) (k0_pay6 gv) (two A T gv (i 0).val 3) >>= kk) Q) := by
  rw [k0_part6_eq_skeleton]
  unfold k0_part6_skel
  iintro HR Hk
  iapply (step_sc (Q := Q) c A T gv (i 0).val arg4 3 2 3 (by decide) (by decide) (off := k0_off35 i 6144#32 3#32) (k0_off35_inb i 2 3) (off35_eq i 2 3) (hl := View.loadsAt_vmem h_S128x128) _) $$ HR
  iintro HR
  iapply (step_sc (Q := Q) c A T gv (i 0).val arg4 3 3 3 (by decide) (by decide) (off := k0_off35 i 9216#32 3#32) (k0_off35_inb i 3 3) (off35_eq i 3 3) (hl := View.loadsAt_vmem h_S128x128) _) $$ HR
  iintro HR
  iapply (step_l4 (Q := Q) c A T gv (i 0).val arg4 3 _ (hl := View.loadsAt_vmem h_S128x128) _) $$ HR
  iintro %_v HR
  iapply (step_st (Q := Q) c A T gv (i 0).val arg4 3 (off := ![0, 384]) inb_S128x2816_S128x128_0_384 rfl _ rfl (hx := View.stores_vmem h_S128x128 (harg4.storeExact_slice rfl _ packedbf16_S128x2816_S128x128_0_384) (fun _ => rfl)) (hm := .inl rfl) _) $$ HR
  iintro HR
  iapply (step_sc (Q := Q) c A T gv (i 0).val arg4 4 0 4 (by decide) (by decide) (off := k0_off35 i 0#32 4#32) (k0_off35_inb i 0 4) (off35_eq i 0 4) (hl := View.loadsAt_vmem h_S128x128) _) $$ HR
  iintro HR
  iapply (step_sc (Q := Q) c A T gv (i 0).val arg4 4 1 4 (by decide) (by decide) (off := k0_off35 i 3072#32 4#32) (k0_off35_inb i 1 4) (off35_eq i 1 4) (hl := View.loadsAt_vmem h_S128x128) _) $$ HR
  iintro HR
  iapply (step_sc (Q := Q) c A T gv (i 0).val arg4 4 2 4 (by decide) (by decide) (off := k0_off35 i 6144#32 4#32) (k0_off35_inb i 2 4) (off35_eq i 2 4) (hl := View.loadsAt_vmem h_S128x128) _) $$ HR
  iintro HR
  iapply (step_sc (Q := Q) c A T gv (i 0).val arg4 4 3 4 (by decide) (by decide) (off := k0_off35 i 9216#32 4#32) (k0_off35_inb i 3 4) (off35_eq i 3 4) (hl := View.loadsAt_vmem h_S128x128) _) $$ HR
  iintro HR
  iapply Hk
  iexact HR

set_option maxHeartbeats 8000000 in
theorem part7_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 4
      ⊢ iprop((Rn c A T gv (i 0).val arg4 6 -∗ wp frame (wpE (defs₀ (F := F)) Variants.none (c : Thread nD τ) none) Set.univ (kk (two A T gv (i 0).val 6)) Q)
        -∗ wp frame (wpE (defs₀ (F := F)) Variants.none (c : Thread nD τ) none) Set.univ (k0_part7 i tbM h1 arg2 harg2 hbM h3 arg4 harg4 scM h5 cc0_scratch1 v8 (k0_pay3 gv) (k0_pay4 gv) (k0_pay5 gv) (k0_pay6 gv) (colv A T gv (i 0).val 4) >>= kk) Q) := by
  rw [k0_part7_eq_skeleton]
  unfold k0_part7_skel
  iintro HR Hk
  iapply (step_l4 (Q := Q) c A T gv (i 0).val arg4 4 _ (hl := View.loadsAt_vmem h_S128x128) _) $$ HR
  iintro %_v HR
  iapply (step_st (Q := Q) c A T gv (i 0).val arg4 4 (off := ![0, 512]) inb_S128x2816_S128x128_0_512 rfl _ rfl (hx := View.stores_vmem h_S128x128 (harg4.storeExact_slice rfl _ packedbf16_S128x2816_S128x128_0_512) (fun _ => rfl)) (hm := .inl rfl) _) $$ HR
  iintro HR
  iapply (step_sc (Q := Q) c A T gv (i 0).val arg4 5 0 5 (by decide) (by decide) (off := k0_off35 i 0#32 5#32) (k0_off35_inb i 0 5) (off35_eq i 0 5) (hl := View.loadsAt_vmem h_S128x128) _) $$ HR
  iintro HR
  iapply (step_sc (Q := Q) c A T gv (i 0).val arg4 5 1 5 (by decide) (by decide) (off := k0_off35 i 3072#32 5#32) (k0_off35_inb i 1 5) (off35_eq i 1 5) (hl := View.loadsAt_vmem h_S128x128) _) $$ HR
  iintro HR
  iapply (step_sc (Q := Q) c A T gv (i 0).val arg4 5 2 5 (by decide) (by decide) (off := k0_off35 i 6144#32 5#32) (k0_off35_inb i 2 5) (off35_eq i 2 5) (hl := View.loadsAt_vmem h_S128x128) _) $$ HR
  iintro HR
  iapply (step_sc (Q := Q) c A T gv (i 0).val arg4 5 3 5 (by decide) (by decide) (off := k0_off35 i 9216#32 5#32) (k0_off35_inb i 3 5) (off35_eq i 3 5) (hl := View.loadsAt_vmem h_S128x128) _) $$ HR
  iintro HR
  iapply (step_l4 (Q := Q) c A T gv (i 0).val arg4 5 _ (hl := View.loadsAt_vmem h_S128x128) _) $$ HR
  iintro %_v HR
  iapply (step_st (Q := Q) c A T gv (i 0).val arg4 5 (off := ![0, 640]) inb_S128x2816_S128x128_0_640 rfl _ rfl (hx := View.stores_vmem h_S128x128 (harg4.storeExact_slice rfl _ packedbf16_S128x2816_S128x128_0_640) (fun _ => rfl)) (hm := .inl rfl) _) $$ HR
  iintro HR
  iapply (step_sc (Q := Q) c A T gv (i 0).val arg4 6 0 6 (by decide) (by decide) (off := k0_off35 i 0#32 6#32) (k0_off35_inb i 0 6) (off35_eq i 0 6) (hl := View.loadsAt_vmem h_S128x128) _) $$ HR
  iintro HR
  iapply (step_sc (Q := Q) c A T gv (i 0).val arg4 6 1 6 (by decide) (by decide) (off := k0_off35 i 3072#32 6#32) (k0_off35_inb i 1 6) (off35_eq i 1 6) (hl := View.loadsAt_vmem h_S128x128) _) $$ HR
  iintro HR
  iapply Hk
  iexact HR

set_option maxHeartbeats 8000000 in
theorem part8_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 6
      ⊢ iprop((Rn c A T gv (i 0).val arg4 7 -∗ wp frame (wpE (defs₀ (F := F)) Variants.none (c : Thread nD τ) none) Set.univ (kk (colv A T gv (i 0).val 7)) Q)
        -∗ wp frame (wpE (defs₀ (F := F)) Variants.none (c : Thread nD τ) none) Set.univ (k0_part8 i tbM h1 arg2 harg2 hbM h3 arg4 harg4 scM h5 cc0_scratch1 v8 (k0_pay3 gv) (k0_pay4 gv) (k0_pay5 gv) (k0_pay6 gv) (two A T gv (i 0).val 6) >>= kk) Q) := by
  rw [k0_part8_eq_skeleton]
  unfold k0_part8_skel
  iintro HR Hk
  iapply (step_sc (Q := Q) c A T gv (i 0).val arg4 6 2 6 (by decide) (by decide) (off := k0_off35 i 6144#32 6#32) (k0_off35_inb i 2 6) (off35_eq i 2 6) (hl := View.loadsAt_vmem h_S128x128) _) $$ HR
  iintro HR
  iapply (step_sc (Q := Q) c A T gv (i 0).val arg4 6 3 6 (by decide) (by decide) (off := k0_off35 i 9216#32 6#32) (k0_off35_inb i 3 6) (off35_eq i 3 6) (hl := View.loadsAt_vmem h_S128x128) _) $$ HR
  iintro HR
  iapply (step_l4 (Q := Q) c A T gv (i 0).val arg4 6 _ (hl := View.loadsAt_vmem h_S128x128) _) $$ HR
  iintro %_v HR
  iapply (step_st (Q := Q) c A T gv (i 0).val arg4 6 (off := ![0, 768]) inb_S128x2816_S128x128_0_768 rfl _ rfl (hx := View.stores_vmem h_S128x128 (harg4.storeExact_slice rfl _ packedbf16_S128x2816_S128x128_0_768) (fun _ => rfl)) (hm := .inl rfl) _) $$ HR
  iintro HR
  iapply (step_sc (Q := Q) c A T gv (i 0).val arg4 7 0 7 (by decide) (by decide) (off := k0_off35 i 0#32 7#32) (k0_off35_inb i 0 7) (off35_eq i 0 7) (hl := View.loadsAt_vmem h_S128x128) _) $$ HR
  iintro HR
  iapply (step_sc (Q := Q) c A T gv (i 0).val arg4 7 1 7 (by decide) (by decide) (off := k0_off35 i 3072#32 7#32) (k0_off35_inb i 1 7) (off35_eq i 1 7) (hl := View.loadsAt_vmem h_S128x128) _) $$ HR
  iintro HR
  iapply (step_sc (Q := Q) c A T gv (i 0).val arg4 7 2 7 (by decide) (by decide) (off := k0_off35 i 6144#32 7#32) (k0_off35_inb i 2 7) (off35_eq i 2 7) (hl := View.loadsAt_vmem h_S128x128) _) $$ HR
  iintro HR
  iapply (step_sc (Q := Q) c A T gv (i 0).val arg4 7 3 7 (by decide) (by decide) (off := k0_off35 i 9216#32 7#32) (k0_off35_inb i 3 7) (off35_eq i 3 7) (hl := View.loadsAt_vmem h_S128x128) _) $$ HR
  iintro HR
  iapply Hk
  iexact HR

set_option maxHeartbeats 8000000 in
theorem part9_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 7
      ⊢ iprop((Rn c A T gv (i 0).val arg4 9 -∗ wp frame (wpE (defs₀ (F := F)) Variants.none (c : Thread nD τ) none) Set.univ (kk (two A T gv (i 0).val 9)) Q)
        -∗ wp frame (wpE (defs₀ (F := F)) Variants.none (c : Thread nD τ) none) Set.univ (k0_part9 i tbM h1 arg2 harg2 hbM h3 arg4 harg4 scM h5 cc0_scratch1 v8 (k0_pay3 gv) (k0_pay4 gv) (k0_pay5 gv) (k0_pay6 gv) (colv A T gv (i 0).val 7) >>= kk) Q) := by
  rw [k0_part9_eq_skeleton]
  unfold k0_part9_skel
  iintro HR Hk
  iapply (step_l4 (Q := Q) c A T gv (i 0).val arg4 7 _ (hl := View.loadsAt_vmem h_S128x128) _) $$ HR
  iintro %_v HR
  iapply (step_st (Q := Q) c A T gv (i 0).val arg4 7 (off := ![0, 896]) inb_S128x2816_S128x128_0_896 rfl _ rfl (hx := View.stores_vmem h_S128x128 (harg4.storeExact_slice rfl _ packedbf16_S128x2816_S128x128_0_896) (fun _ => rfl)) (hm := .inl rfl) _) $$ HR
  iintro HR
  iapply (step_sc (Q := Q) c A T gv (i 0).val arg4 8 0 8 (by decide) (by decide) (off := k0_off35 i 0#32 8#32) (k0_off35_inb i 0 8) (off35_eq i 0 8) (hl := View.loadsAt_vmem h_S128x128) _) $$ HR
  iintro HR
  iapply (step_sc (Q := Q) c A T gv (i 0).val arg4 8 1 8 (by decide) (by decide) (off := k0_off35 i 3072#32 8#32) (k0_off35_inb i 1 8) (off35_eq i 1 8) (hl := View.loadsAt_vmem h_S128x128) _) $$ HR
  iintro HR
  iapply (step_sc (Q := Q) c A T gv (i 0).val arg4 8 2 8 (by decide) (by decide) (off := k0_off35 i 6144#32 8#32) (k0_off35_inb i 2 8) (off35_eq i 2 8) (hl := View.loadsAt_vmem h_S128x128) _) $$ HR
  iintro HR
  iapply (step_sc (Q := Q) c A T gv (i 0).val arg4 8 3 8 (by decide) (by decide) (off := k0_off35 i 9216#32 8#32) (k0_off35_inb i 3 8) (off35_eq i 3 8) (hl := View.loadsAt_vmem h_S128x128) _) $$ HR
  iintro HR
  iapply (step_l4 (Q := Q) c A T gv (i 0).val arg4 8 _ (hl := View.loadsAt_vmem h_S128x128) _) $$ HR
  iintro %_v HR
  iapply (step_st (Q := Q) c A T gv (i 0).val arg4 8 (off := ![0, 1024]) inb_S128x2816_S128x128_0_1024 rfl _ rfl (hx := View.stores_vmem h_S128x128 (harg4.storeExact_slice rfl _ packedbf16_S128x2816_S128x128_0_1024) (fun _ => rfl)) (hm := .inl rfl) _) $$ HR
  iintro HR
  iapply (step_sc (Q := Q) c A T gv (i 0).val arg4 9 0 9 (by decide) (by decide) (off := k0_off35 i 0#32 9#32) (k0_off35_inb i 0 9) (off35_eq i 0 9) (hl := View.loadsAt_vmem h_S128x128) _) $$ HR
  iintro HR
  iapply (step_sc (Q := Q) c A T gv (i 0).val arg4 9 1 9 (by decide) (by decide) (off := k0_off35 i 3072#32 9#32) (k0_off35_inb i 1 9) (off35_eq i 1 9) (hl := View.loadsAt_vmem h_S128x128) _) $$ HR
  iintro HR
  iapply Hk
  iexact HR

set_option maxHeartbeats 8000000 in
theorem part10_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 9
      ⊢ iprop((Rn c A T gv (i 0).val arg4 10 -∗ wp frame (wpE (defs₀ (F := F)) Variants.none (c : Thread nD τ) none) Set.univ (kk (colv A T gv (i 0).val 10)) Q)
        -∗ wp frame (wpE (defs₀ (F := F)) Variants.none (c : Thread nD τ) none) Set.univ (k0_part10 i tbM h1 arg2 harg2 hbM h3 arg4 harg4 scM h5 cc0_scratch1 v8 (k0_pay3 gv) (k0_pay4 gv) (k0_pay5 gv) (k0_pay6 gv) (two A T gv (i 0).val 9) >>= kk) Q) := by
  rw [k0_part10_eq_skeleton]
  unfold k0_part10_skel
  iintro HR Hk
  iapply (step_sc (Q := Q) c A T gv (i 0).val arg4 9 2 9 (by decide) (by decide) (off := k0_off35 i 6144#32 9#32) (k0_off35_inb i 2 9) (off35_eq i 2 9) (hl := View.loadsAt_vmem h_S128x128) _) $$ HR
  iintro HR
  iapply (step_sc (Q := Q) c A T gv (i 0).val arg4 9 3 9 (by decide) (by decide) (off := k0_off35 i 9216#32 9#32) (k0_off35_inb i 3 9) (off35_eq i 3 9) (hl := View.loadsAt_vmem h_S128x128) _) $$ HR
  iintro HR
  iapply (step_l4 (Q := Q) c A T gv (i 0).val arg4 9 _ (hl := View.loadsAt_vmem h_S128x128) _) $$ HR
  iintro %_v HR
  iapply (step_st (Q := Q) c A T gv (i 0).val arg4 9 (off := ![0, 1152]) inb_S128x2816_S128x128_0_1152 rfl _ rfl (hx := View.stores_vmem h_S128x128 (harg4.storeExact_slice rfl _ packedbf16_S128x2816_S128x128_0_1152) (fun _ => rfl)) (hm := .inl rfl) _) $$ HR
  iintro HR
  iapply (step_sc (Q := Q) c A T gv (i 0).val arg4 10 0 10 (by decide) (by decide) (off := k0_off35 i 0#32 10#32) (k0_off35_inb i 0 10) (off35_eq i 0 10) (hl := View.loadsAt_vmem h_S128x128) _) $$ HR
  iintro HR
  iapply (step_sc (Q := Q) c A T gv (i 0).val arg4 10 1 10 (by decide) (by decide) (off := k0_off35 i 3072#32 10#32) (k0_off35_inb i 1 10) (off35_eq i 1 10) (hl := View.loadsAt_vmem h_S128x128) _) $$ HR
  iintro HR
  iapply (step_sc (Q := Q) c A T gv (i 0).val arg4 10 2 10 (by decide) (by decide) (off := k0_off35 i 6144#32 10#32) (k0_off35_inb i 2 10) (off35_eq i 2 10) (hl := View.loadsAt_vmem h_S128x128) _) $$ HR
  iintro HR
  iapply (step_sc (Q := Q) c A T gv (i 0).val arg4 10 3 10 (by decide) (by decide) (off := k0_off35 i 9216#32 10#32) (k0_off35_inb i 3 10) (off35_eq i 3 10) (hl := View.loadsAt_vmem h_S128x128) _) $$ HR
  iintro HR
  iapply Hk
  iexact HR

set_option maxHeartbeats 8000000 in
theorem part11_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 10
      ⊢ iprop((Rn c A T gv (i 0).val arg4 12 -∗ wp frame (wpE (defs₀ (F := F)) Variants.none (c : Thread nD τ) none) Set.univ (kk (two A T gv (i 0).val 12)) Q)
        -∗ wp frame (wpE (defs₀ (F := F)) Variants.none (c : Thread nD τ) none) Set.univ (k0_part11 i tbM h1 arg2 harg2 hbM h3 arg4 harg4 scM h5 cc0_scratch1 v8 (k0_pay3 gv) (k0_pay4 gv) (k0_pay5 gv) (k0_pay6 gv) (colv A T gv (i 0).val 10) >>= kk) Q) := by
  rw [k0_part11_eq_skeleton]
  unfold k0_part11_skel
  iintro HR Hk
  iapply (step_l4 (Q := Q) c A T gv (i 0).val arg4 10 _ (hl := View.loadsAt_vmem h_S128x128) _) $$ HR
  iintro %_v HR
  iapply (step_st (Q := Q) c A T gv (i 0).val arg4 10 (off := ![0, 1280]) inb_S128x2816_S128x128_0_1280 rfl _ rfl (hx := View.stores_vmem h_S128x128 (harg4.storeExact_slice rfl _ packedbf16_S128x2816_S128x128_0_1280) (fun _ => rfl)) (hm := .inl rfl) _) $$ HR
  iintro HR
  iapply (step_sc (Q := Q) c A T gv (i 0).val arg4 11 0 11 (by decide) (by decide) (off := k0_off35 i 0#32 11#32) (k0_off35_inb i 0 11) (off35_eq i 0 11) (hl := View.loadsAt_vmem h_S128x128) _) $$ HR
  iintro HR
  iapply (step_sc (Q := Q) c A T gv (i 0).val arg4 11 1 11 (by decide) (by decide) (off := k0_off35 i 3072#32 11#32) (k0_off35_inb i 1 11) (off35_eq i 1 11) (hl := View.loadsAt_vmem h_S128x128) _) $$ HR
  iintro HR
  iapply (step_sc (Q := Q) c A T gv (i 0).val arg4 11 2 11 (by decide) (by decide) (off := k0_off35 i 6144#32 11#32) (k0_off35_inb i 2 11) (off35_eq i 2 11) (hl := View.loadsAt_vmem h_S128x128) _) $$ HR
  iintro HR
  iapply (step_sc (Q := Q) c A T gv (i 0).val arg4 11 3 11 (by decide) (by decide) (off := k0_off35 i 9216#32 11#32) (k0_off35_inb i 3 11) (off35_eq i 3 11) (hl := View.loadsAt_vmem h_S128x128) _) $$ HR
  iintro HR
  iapply (step_l4 (Q := Q) c A T gv (i 0).val arg4 11 _ (hl := View.loadsAt_vmem h_S128x128) _) $$ HR
  iintro %_v HR
  iapply (step_st (Q := Q) c A T gv (i 0).val arg4 11 (off := ![0, 1408]) inb_S128x2816_S128x128_0_1408 rfl _ rfl (hx := View.stores_vmem h_S128x128 (harg4.storeExact_slice rfl _ packedbf16_S128x2816_S128x128_0_1408) (fun _ => rfl)) (hm := .inl rfl) _) $$ HR
  iintro HR
  iapply (step_sc (Q := Q) c A T gv (i 0).val arg4 12 0 12 (by decide) (by decide) (off := k0_off35 i 0#32 12#32) (k0_off35_inb i 0 12) (off35_eq i 0 12) (hl := View.loadsAt_vmem h_S128x128) _) $$ HR
  iintro HR
  iapply (step_sc (Q := Q) c A T gv (i 0).val arg4 12 1 12 (by decide) (by decide) (off := k0_off35 i 3072#32 12#32) (k0_off35_inb i 1 12) (off35_eq i 1 12) (hl := View.loadsAt_vmem h_S128x128) _) $$ HR
  iintro HR
  iapply Hk
  iexact HR

set_option maxHeartbeats 8000000 in
theorem part12_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 12
      ⊢ iprop((Rn c A T gv (i 0).val arg4 13 -∗ wp frame (wpE (defs₀ (F := F)) Variants.none (c : Thread nD τ) none) Set.univ (kk (colv A T gv (i 0).val 13)) Q)
        -∗ wp frame (wpE (defs₀ (F := F)) Variants.none (c : Thread nD τ) none) Set.univ (k0_part12 i tbM h1 arg2 harg2 hbM h3 arg4 harg4 scM h5 cc0_scratch1 v8 (k0_pay3 gv) (k0_pay4 gv) (k0_pay5 gv) (k0_pay6 gv) (two A T gv (i 0).val 12) >>= kk) Q) := by
  rw [k0_part12_eq_skeleton]
  unfold k0_part12_skel
  iintro HR Hk
  iapply (step_sc (Q := Q) c A T gv (i 0).val arg4 12 2 12 (by decide) (by decide) (off := k0_off35 i 6144#32 12#32) (k0_off35_inb i 2 12) (off35_eq i 2 12) (hl := View.loadsAt_vmem h_S128x128) _) $$ HR
  iintro HR
  iapply (step_sc (Q := Q) c A T gv (i 0).val arg4 12 3 12 (by decide) (by decide) (off := k0_off35 i 9216#32 12#32) (k0_off35_inb i 3 12) (off35_eq i 3 12) (hl := View.loadsAt_vmem h_S128x128) _) $$ HR
  iintro HR
  iapply (step_l4 (Q := Q) c A T gv (i 0).val arg4 12 _ (hl := View.loadsAt_vmem h_S128x128) _) $$ HR
  iintro %_v HR
  iapply (step_st (Q := Q) c A T gv (i 0).val arg4 12 (off := ![0, 1536]) inb_S128x2816_S128x128_0_1536 rfl _ rfl (hx := View.stores_vmem h_S128x128 (harg4.storeExact_slice rfl _ packedbf16_S128x2816_S128x128_0_1536) (fun _ => rfl)) (hm := .inl rfl) _) $$ HR
  iintro HR
  iapply (step_sc (Q := Q) c A T gv (i 0).val arg4 13 0 13 (by decide) (by decide) (off := k0_off35 i 0#32 13#32) (k0_off35_inb i 0 13) (off35_eq i 0 13) (hl := View.loadsAt_vmem h_S128x128) _) $$ HR
  iintro HR
  iapply (step_sc (Q := Q) c A T gv (i 0).val arg4 13 1 13 (by decide) (by decide) (off := k0_off35 i 3072#32 13#32) (k0_off35_inb i 1 13) (off35_eq i 1 13) (hl := View.loadsAt_vmem h_S128x128) _) $$ HR
  iintro HR
  iapply (step_sc (Q := Q) c A T gv (i 0).val arg4 13 2 13 (by decide) (by decide) (off := k0_off35 i 6144#32 13#32) (k0_off35_inb i 2 13) (off35_eq i 2 13) (hl := View.loadsAt_vmem h_S128x128) _) $$ HR
  iintro HR
  iapply (step_sc (Q := Q) c A T gv (i 0).val arg4 13 3 13 (by decide) (by decide) (off := k0_off35 i 9216#32 13#32) (k0_off35_inb i 3 13) (off35_eq i 3 13) (hl := View.loadsAt_vmem h_S128x128) _) $$ HR
  iintro HR
  iapply Hk
  iexact HR

set_option maxHeartbeats 8000000 in
theorem part13_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 13
      ⊢ iprop((Rn c A T gv (i 0).val arg4 15 -∗ wp frame (wpE (defs₀ (F := F)) Variants.none (c : Thread nD τ) none) Set.univ (kk (two A T gv (i 0).val 15)) Q)
        -∗ wp frame (wpE (defs₀ (F := F)) Variants.none (c : Thread nD τ) none) Set.univ (k0_part13 i tbM h1 arg2 harg2 hbM h3 arg4 harg4 scM h5 cc0_scratch1 v8 (k0_pay3 gv) (k0_pay4 gv) (k0_pay5 gv) (k0_pay6 gv) (colv A T gv (i 0).val 13) >>= kk) Q) := by
  rw [k0_part13_eq_skeleton]
  unfold k0_part13_skel
  iintro HR Hk
  iapply (step_l4 (Q := Q) c A T gv (i 0).val arg4 13 _ (hl := View.loadsAt_vmem h_S128x128) _) $$ HR
  iintro %_v HR
  iapply (step_st (Q := Q) c A T gv (i 0).val arg4 13 (off := ![0, 1664]) inb_S128x2816_S128x128_0_1664 rfl _ rfl (hx := View.stores_vmem h_S128x128 (harg4.storeExact_slice rfl _ packedbf16_S128x2816_S128x128_0_1664) (fun _ => rfl)) (hm := .inl rfl) _) $$ HR
  iintro HR
  iapply (step_sc (Q := Q) c A T gv (i 0).val arg4 14 0 14 (by decide) (by decide) (off := k0_off35 i 0#32 14#32) (k0_off35_inb i 0 14) (off35_eq i 0 14) (hl := View.loadsAt_vmem h_S128x128) _) $$ HR
  iintro HR
  iapply (step_sc (Q := Q) c A T gv (i 0).val arg4 14 1 14 (by decide) (by decide) (off := k0_off35 i 3072#32 14#32) (k0_off35_inb i 1 14) (off35_eq i 1 14) (hl := View.loadsAt_vmem h_S128x128) _) $$ HR
  iintro HR
  iapply (step_sc (Q := Q) c A T gv (i 0).val arg4 14 2 14 (by decide) (by decide) (off := k0_off35 i 6144#32 14#32) (k0_off35_inb i 2 14) (off35_eq i 2 14) (hl := View.loadsAt_vmem h_S128x128) _) $$ HR
  iintro HR
  iapply (step_sc (Q := Q) c A T gv (i 0).val arg4 14 3 14 (by decide) (by decide) (off := k0_off35 i 9216#32 14#32) (k0_off35_inb i 3 14) (off35_eq i 3 14) (hl := View.loadsAt_vmem h_S128x128) _) $$ HR
  iintro HR
  iapply (step_l4 (Q := Q) c A T gv (i 0).val arg4 14 _ (hl := View.loadsAt_vmem h_S128x128) _) $$ HR
  iintro %_v HR
  iapply (step_st (Q := Q) c A T gv (i 0).val arg4 14 (off := ![0, 1792]) inb_S128x2816_S128x128_0_1792 rfl _ rfl (hx := View.stores_vmem h_S128x128 (harg4.storeExact_slice rfl _ packedbf16_S128x2816_S128x128_0_1792) (fun _ => rfl)) (hm := .inl rfl) _) $$ HR
  iintro HR
  iapply (step_sc (Q := Q) c A T gv (i 0).val arg4 15 0 15 (by decide) (by decide) (off := k0_off35 i 0#32 15#32) (k0_off35_inb i 0 15) (off35_eq i 0 15) (hl := View.loadsAt_vmem h_S128x128) _) $$ HR
  iintro HR
  iapply (step_sc (Q := Q) c A T gv (i 0).val arg4 15 1 15 (by decide) (by decide) (off := k0_off35 i 3072#32 15#32) (k0_off35_inb i 1 15) (off35_eq i 1 15) (hl := View.loadsAt_vmem h_S128x128) _) $$ HR
  iintro HR
  iapply Hk
  iexact HR

set_option maxHeartbeats 8000000 in
theorem part14_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 15
      ⊢ iprop((Rn c A T gv (i 0).val arg4 16 -∗ wp frame (wpE (defs₀ (F := F)) Variants.none (c : Thread nD τ) none) Set.univ (kk (colv A T gv (i 0).val 16)) Q)
        -∗ wp frame (wpE (defs₀ (F := F)) Variants.none (c : Thread nD τ) none) Set.univ (k0_part14 i tbM h1 arg2 harg2 hbM h3 arg4 harg4 scM h5 cc0_scratch1 v8 (k0_pay3 gv) (k0_pay4 gv) (k0_pay5 gv) (k0_pay6 gv) (two A T gv (i 0).val 15) >>= kk) Q) := by
  rw [k0_part14_eq_skeleton]
  unfold k0_part14_skel
  iintro HR Hk
  iapply (step_sc (Q := Q) c A T gv (i 0).val arg4 15 2 15 (by decide) (by decide) (off := k0_off35 i 6144#32 15#32) (k0_off35_inb i 2 15) (off35_eq i 2 15) (hl := View.loadsAt_vmem h_S128x128) _) $$ HR
  iintro HR
  iapply (step_sc (Q := Q) c A T gv (i 0).val arg4 15 3 15 (by decide) (by decide) (off := k0_off35 i 9216#32 15#32) (k0_off35_inb i 3 15) (off35_eq i 3 15) (hl := View.loadsAt_vmem h_S128x128) _) $$ HR
  iintro HR
  iapply (step_l4 (Q := Q) c A T gv (i 0).val arg4 15 _ (hl := View.loadsAt_vmem h_S128x128) _) $$ HR
  iintro %_v HR
  iapply (step_st (Q := Q) c A T gv (i 0).val arg4 15 (off := ![0, 1920]) inb_S128x2816_S128x128_0_1920 rfl _ rfl (hx := View.stores_vmem h_S128x128 (harg4.storeExact_slice rfl _ packedbf16_S128x2816_S128x128_0_1920) (fun _ => rfl)) (hm := .inl rfl) _) $$ HR
  iintro HR
  iapply (step_sc (Q := Q) c A T gv (i 0).val arg4 16 0 16 (by decide) (by decide) (off := k0_off35 i 0#32 16#32) (k0_off35_inb i 0 16) (off35_eq i 0 16) (hl := View.loadsAt_vmem h_S128x128) _) $$ HR
  iintro HR
  iapply (step_sc (Q := Q) c A T gv (i 0).val arg4 16 1 16 (by decide) (by decide) (off := k0_off35 i 3072#32 16#32) (k0_off35_inb i 1 16) (off35_eq i 1 16) (hl := View.loadsAt_vmem h_S128x128) _) $$ HR
  iintro HR
  iapply (step_sc (Q := Q) c A T gv (i 0).val arg4 16 2 16 (by decide) (by decide) (off := k0_off35 i 6144#32 16#32) (k0_off35_inb i 2 16) (off35_eq i 2 16) (hl := View.loadsAt_vmem h_S128x128) _) $$ HR
  iintro HR
  iapply (step_sc (Q := Q) c A T gv (i 0).val arg4 16 3 16 (by decide) (by decide) (off := k0_off35 i 9216#32 16#32) (k0_off35_inb i 3 16) (off35_eq i 3 16) (hl := View.loadsAt_vmem h_S128x128) _) $$ HR
  iintro HR
  iapply Hk
  iexact HR

set_option maxHeartbeats 8000000 in
theorem part15_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 16
      ⊢ iprop((Rn c A T gv (i 0).val arg4 18 -∗ wp frame (wpE (defs₀ (F := F)) Variants.none (c : Thread nD τ) none) Set.univ (kk (two A T gv (i 0).val 18)) Q)
        -∗ wp frame (wpE (defs₀ (F := F)) Variants.none (c : Thread nD τ) none) Set.univ (k0_part15 i tbM h1 arg2 harg2 hbM h3 arg4 harg4 scM h5 cc0_scratch1 v8 (k0_pay3 gv) (k0_pay4 gv) (k0_pay5 gv) (k0_pay6 gv) (colv A T gv (i 0).val 16) >>= kk) Q) := by
  rw [k0_part15_eq_skeleton]
  unfold k0_part15_skel
  iintro HR Hk
  iapply (step_l4 (Q := Q) c A T gv (i 0).val arg4 16 _ (hl := View.loadsAt_vmem h_S128x128) _) $$ HR
  iintro %_v HR
  iapply (step_st (Q := Q) c A T gv (i 0).val arg4 16 (off := ![0, 2048]) inb_S128x2816_S128x128_0_2048 rfl _ rfl (hx := View.stores_vmem h_S128x128 (harg4.storeExact_slice rfl _ packedbf16_S128x2816_S128x128_0_2048) (fun _ => rfl)) (hm := .inl rfl) _) $$ HR
  iintro HR
  iapply (step_sc (Q := Q) c A T gv (i 0).val arg4 17 0 17 (by decide) (by decide) (off := k0_off35 i 0#32 17#32) (k0_off35_inb i 0 17) (off35_eq i 0 17) (hl := View.loadsAt_vmem h_S128x128) _) $$ HR
  iintro HR
  iapply (step_sc (Q := Q) c A T gv (i 0).val arg4 17 1 17 (by decide) (by decide) (off := k0_off35 i 3072#32 17#32) (k0_off35_inb i 1 17) (off35_eq i 1 17) (hl := View.loadsAt_vmem h_S128x128) _) $$ HR
  iintro HR
  iapply (step_sc (Q := Q) c A T gv (i 0).val arg4 17 2 17 (by decide) (by decide) (off := k0_off35 i 6144#32 17#32) (k0_off35_inb i 2 17) (off35_eq i 2 17) (hl := View.loadsAt_vmem h_S128x128) _) $$ HR
  iintro HR
  iapply (step_sc (Q := Q) c A T gv (i 0).val arg4 17 3 17 (by decide) (by decide) (off := k0_off35 i 9216#32 17#32) (k0_off35_inb i 3 17) (off35_eq i 3 17) (hl := View.loadsAt_vmem h_S128x128) _) $$ HR
  iintro HR
  iapply (step_l4 (Q := Q) c A T gv (i 0).val arg4 17 _ (hl := View.loadsAt_vmem h_S128x128) _) $$ HR
  iintro %_v HR
  iapply (step_st (Q := Q) c A T gv (i 0).val arg4 17 (off := ![0, 2176]) inb_S128x2816_S128x128_0_2176 rfl _ rfl (hx := View.stores_vmem h_S128x128 (harg4.storeExact_slice rfl _ packedbf16_S128x2816_S128x128_0_2176) (fun _ => rfl)) (hm := .inl rfl) _) $$ HR
  iintro HR
  iapply (step_sc (Q := Q) c A T gv (i 0).val arg4 18 0 18 (by decide) (by decide) (off := k0_off35 i 0#32 18#32) (k0_off35_inb i 0 18) (off35_eq i 0 18) (hl := View.loadsAt_vmem h_S128x128) _) $$ HR
  iintro HR
  iapply (step_sc (Q := Q) c A T gv (i 0).val arg4 18 1 18 (by decide) (by decide) (off := k0_off35 i 3072#32 18#32) (k0_off35_inb i 1 18) (off35_eq i 1 18) (hl := View.loadsAt_vmem h_S128x128) _) $$ HR
  iintro HR
  iapply Hk
  iexact HR

set_option maxHeartbeats 8000000 in
theorem part16_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 18
      ⊢ iprop((Rn c A T gv (i 0).val arg4 19 -∗ wp frame (wpE (defs₀ (F := F)) Variants.none (c : Thread nD τ) none) Set.univ (kk (colv A T gv (i 0).val 19)) Q)
        -∗ wp frame (wpE (defs₀ (F := F)) Variants.none (c : Thread nD τ) none) Set.univ (k0_part16 i tbM h1 arg2 harg2 hbM h3 arg4 harg4 scM h5 cc0_scratch1 v8 (k0_pay3 gv) (k0_pay4 gv) (k0_pay5 gv) (k0_pay6 gv) (two A T gv (i 0).val 18) >>= kk) Q) := by
  rw [k0_part16_eq_skeleton]
  unfold k0_part16_skel
  iintro HR Hk
  iapply (step_sc (Q := Q) c A T gv (i 0).val arg4 18 2 18 (by decide) (by decide) (off := k0_off35 i 6144#32 18#32) (k0_off35_inb i 2 18) (off35_eq i 2 18) (hl := View.loadsAt_vmem h_S128x128) _) $$ HR
  iintro HR
  iapply (step_sc (Q := Q) c A T gv (i 0).val arg4 18 3 18 (by decide) (by decide) (off := k0_off35 i 9216#32 18#32) (k0_off35_inb i 3 18) (off35_eq i 3 18) (hl := View.loadsAt_vmem h_S128x128) _) $$ HR
  iintro HR
  iapply (step_l4 (Q := Q) c A T gv (i 0).val arg4 18 _ (hl := View.loadsAt_vmem h_S128x128) _) $$ HR
  iintro %_v HR
  iapply (step_st (Q := Q) c A T gv (i 0).val arg4 18 (off := ![0, 2304]) inb_S128x2816_S128x128_0_2304 rfl _ rfl (hx := View.stores_vmem h_S128x128 (harg4.storeExact_slice rfl _ packedbf16_S128x2816_S128x128_0_2304) (fun _ => rfl)) (hm := .inl rfl) _) $$ HR
  iintro HR
  iapply (step_sc (Q := Q) c A T gv (i 0).val arg4 19 0 19 (by decide) (by decide) (off := k0_off35 i 0#32 19#32) (k0_off35_inb i 0 19) (off35_eq i 0 19) (hl := View.loadsAt_vmem h_S128x128) _) $$ HR
  iintro HR
  iapply (step_sc (Q := Q) c A T gv (i 0).val arg4 19 1 19 (by decide) (by decide) (off := k0_off35 i 3072#32 19#32) (k0_off35_inb i 1 19) (off35_eq i 1 19) (hl := View.loadsAt_vmem h_S128x128) _) $$ HR
  iintro HR
  iapply (step_sc (Q := Q) c A T gv (i 0).val arg4 19 2 19 (by decide) (by decide) (off := k0_off35 i 6144#32 19#32) (k0_off35_inb i 2 19) (off35_eq i 2 19) (hl := View.loadsAt_vmem h_S128x128) _) $$ HR
  iintro HR
  iapply (step_sc (Q := Q) c A T gv (i 0).val arg4 19 3 19 (by decide) (by decide) (off := k0_off35 i 9216#32 19#32) (k0_off35_inb i 3 19) (off35_eq i 3 19) (hl := View.loadsAt_vmem h_S128x128) _) $$ HR
  iintro HR
  iapply Hk
  iexact HR

set_option maxHeartbeats 8000000 in
theorem part17_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 19
      ⊢ iprop((Rn c A T gv (i 0).val arg4 21 -∗ wp frame (wpE (defs₀ (F := F)) Variants.none (c : Thread nD τ) none) Set.univ (kk (two A T gv (i 0).val 21)) Q)
        -∗ wp frame (wpE (defs₀ (F := F)) Variants.none (c : Thread nD τ) none) Set.univ (k0_part17 i tbM h1 arg2 harg2 hbM h3 arg4 harg4 scM h5 cc0_scratch1 v8 (k0_pay3 gv) (k0_pay4 gv) (k0_pay5 gv) (k0_pay6 gv) (colv A T gv (i 0).val 19) >>= kk) Q) := by
  rw [k0_part17_eq_skeleton]
  unfold k0_part17_skel
  iintro HR Hk
  iapply (step_l4 (Q := Q) c A T gv (i 0).val arg4 19 _ (hl := View.loadsAt_vmem h_S128x128) _) $$ HR
  iintro %_v HR
  iapply (step_st (Q := Q) c A T gv (i 0).val arg4 19 (off := ![0, 2432]) inb_S128x2816_S128x128_0_2432 rfl _ rfl (hx := View.stores_vmem h_S128x128 (harg4.storeExact_slice rfl _ packedbf16_S128x2816_S128x128_0_2432) (fun _ => rfl)) (hm := .inl rfl) _) $$ HR
  iintro HR
  iapply (step_sc (Q := Q) c A T gv (i 0).val arg4 20 0 20 (by decide) (by decide) (off := k0_off35 i 0#32 20#32) (k0_off35_inb i 0 20) (off35_eq i 0 20) (hl := View.loadsAt_vmem h_S128x128) _) $$ HR
  iintro HR
  iapply (step_sc (Q := Q) c A T gv (i 0).val arg4 20 1 20 (by decide) (by decide) (off := k0_off35 i 3072#32 20#32) (k0_off35_inb i 1 20) (off35_eq i 1 20) (hl := View.loadsAt_vmem h_S128x128) _) $$ HR
  iintro HR
  iapply (step_sc (Q := Q) c A T gv (i 0).val arg4 20 2 20 (by decide) (by decide) (off := k0_off35 i 6144#32 20#32) (k0_off35_inb i 2 20) (off35_eq i 2 20) (hl := View.loadsAt_vmem h_S128x128) _) $$ HR
  iintro HR
  iapply (step_sc (Q := Q) c A T gv (i 0).val arg4 20 3 20 (by decide) (by decide) (off := k0_off35 i 9216#32 20#32) (k0_off35_inb i 3 20) (off35_eq i 3 20) (hl := View.loadsAt_vmem h_S128x128) _) $$ HR
  iintro HR
  iapply (step_l4 (Q := Q) c A T gv (i 0).val arg4 20 _ (hl := View.loadsAt_vmem h_S128x128) _) $$ HR
  iintro %_v HR
  iapply (step_st (Q := Q) c A T gv (i 0).val arg4 20 (off := ![0, 2560]) inb_S128x2816_S128x128_0_2560 rfl _ rfl (hx := View.stores_vmem h_S128x128 (harg4.storeExact_slice rfl _ packedbf16_S128x2816_S128x128_0_2560) (fun _ => rfl)) (hm := .inl rfl) _) $$ HR
  iintro HR
  iapply (step_sc (Q := Q) c A T gv (i 0).val arg4 21 0 21 (by decide) (by decide) (off := k0_off35 i 0#32 21#32) (k0_off35_inb i 0 21) (off35_eq i 0 21) (hl := View.loadsAt_vmem h_S128x128) _) $$ HR
  iintro HR
  iapply (step_sc (Q := Q) c A T gv (i 0).val arg4 21 1 21 (by decide) (by decide) (off := k0_off35 i 3072#32 21#32) (k0_off35_inb i 1 21) (off35_eq i 1 21) (hl := View.loadsAt_vmem h_S128x128) _) $$ HR
  iintro HR
  iapply Hk
  iexact HR

end Cert.Combine.Hand
-- ==== Proof.CFrame.Body.lean ====
/- The body: the copies issued, the wait, and the compute. -/
module

public import proofs.«01_k».proof.Proof.CFrame.Parts
public import Idealize.ShloMosaic.Lib.Pipeline.FrameBody
public import Idealize.ShloMosaic.Lib.Pipeline.Frame
public import Idealize.ShloMosaic.Lib.Batch
public import Idealize.ShloMosaic.Lib.ViewIndex
public import Idealize.ShloMosaic.Lib.Tactic

@[expose] public section

set_option maxRecDepth 16384

noncomputable section

namespace Cert.Combine.Hand

open Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Shape (pair pair_eta pair_zero pair_one)

variable {F : FTy → Type} [FloatOps F]

variable {α : Type} {Q : α → sProp (MM F)}

/-- The half of step `n` before the step: in flight from the step before, or free at the run's two ends. -/
def Nx (c : Dev nD) (A : ABuf F) (T : TBuf) (n : Nat) : sProp (MM F) :=
  if 0 < n ∧ n < 64 then Fly c A T n else Free c A (half n)

/-- Both halves before step `n`. -/
def St (c : Dev nD) (A : ABuf F) (T : TBuf) (n : Nat) : sProp (MM F) :=
  iprop(Nx c A T n ∗ Free c A (half (n + 1)))

theorem step_lt (i : grid0.Coords) : (i 0).val < 64 := (i 0).isLt

set_option maxHeartbeats 4000000 in
theorem if1 (c : Dev nD) (A : ABuf F) (T : TBuf) (q : PosShare TreeShare) (i : grid0.Coords) (hpos : ∀ k n, k < 4 → n < 8192 → posOf T k n < 36864) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) {β : Type} (K : Prog (TpuEff nD τ sig (Elt F) Λ₀ .tc) β) (kk : β → Prog (TpuEff nD τ sig (Elt F) Λ₀ .tc) α) :
    iprop(tbPt c q T ∗ Nx c A T (i 0).val)
      ⊢ iprop((tbPt c q T ∗ Fly c A T (i 0).val -∗ wp frame (wpE (defs₀ (F := F)) Variants.none (c : Thread nD τ) none) Set.univ (K >>= kk) Q)
        -∗ wp frame (wpE (defs₀ (F := F)) Variants.none (c : Thread nD τ) none) Set.univ ((if h : k0_cond1 i = 1#1 then (Scf.Loop.for k0_t1_loop (k0_t1_ok i h) ⟨⟩ (k0_t1_body i tbM h1 arg2 harg2 hbM h3 arg4 harg4 scM h5 cc0_scratch1 (BitVec.ofNat 32 (i 0).val) h (Scalar.remsi (BitVec.ofNat 32 (i 0).val) 2#32)) >>= fun _ => K : Prog (TpuEff nD τ sig (Elt F) Λ₀ .tc) β)
          else K) >>= kk) Q) := by
  have hlt := step_lt i
  by_cases h : k0_cond1 i = 1#1
  · rw [dif_pos h, bind_assoc]
    have hv := (cond1_iff i).mp h
    rw [show Nx c A T (i 0).val = Free c A (half (i 0).val) from if_neg (by omega)]
    iintro HS Hk
    iapply (loop1 (Q := Q) c A T q i hlt hpos h arg2 harg2 arg4 harg4 (BitVec.ofNat 32 (i 0).val) (Scalar.remsi (BitVec.ofNat 32 (i 0).val) 2#32) 0#32 h1 h3 h5 _) $$ HS
    iintro HS
    iapply Hk
    iexact HS
  · rw [dif_neg h]
    have hv : (i 0).val ≠ 0 := fun e => h ((cond1_iff i).mpr e)
    rw [show Nx c A T (i 0).val = Fly c A T (i 0).val from if_pos ⟨by omega, hlt⟩]
    iintro HS Hk
    iapply Hk
    iexact HS

set_option maxHeartbeats 4000000 in
theorem if2 (c : Dev nD) (A : ABuf F) (T : TBuf) (q : PosShare TreeShare) (i : grid0.Coords) (hpos : ∀ k n, k < 4 → n < 8192 → posOf T k n < 36864) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) {β : Type} (K : Prog (TpuEff nD τ sig (Elt F) Λ₀ .tc) β) (kk : β → Prog (TpuEff nD τ sig (Elt F) Λ₀ .tc) α) :
    iprop(tbPt c q T ∗ Free c A (half ((i 0).val + 1)))
      ⊢ iprop((tbPt c q T ∗ Nx c A T ((i 0).val + 1) -∗ wp frame (wpE (defs₀ (F := F)) Variants.none (c : Thread nD τ) none) Set.univ (K >>= kk) Q)
        -∗ wp frame (wpE (defs₀ (F := F)) Variants.none (c : Thread nD τ) none) Set.univ ((if h : k0_cond2 i = 1#1 then (Scf.Loop.for k0_t2_loop (k0_t2_ok i h) ⟨⟩ (k0_t2_body i tbM h1 arg2 harg2 hbM h3 arg4 harg4 scM h5 cc0_scratch1 h (Scalar.addi (BitVec.ofNat 32 (i 0).val) 1#32) (Scalar.remsi (Scalar.addi (BitVec.ofNat 32 (i 0).val) 1#32) 2#32)) >>= fun _ => K : Prog (TpuEff nD τ sig (Elt F) Λ₀ .tc) β)
          else K) >>= kk) Q) := by
  have hlt := step_lt i
  by_cases h : k0_cond2 i = 1#1
  · rw [dif_pos h, bind_assoc]
    have hv := (cond2_iff i).mp h
    rw [show Nx c A T ((i 0).val + 1) = Fly c A T ((i 0).val + 1) from if_pos ⟨by omega, hv⟩]
    iintro HS Hk
    iapply (loop2 (Q := Q) c A T q i hv hpos h arg2 harg2 arg4 harg4 0#32 (Scalar.addi (BitVec.ofNat 32 (i 0).val) 1#32) (Scalar.remsi (Scalar.addi (BitVec.ofNat 32 (i 0).val) 1#32) 2#32) h1 h3 h5 _) $$ HS
    iintro HS
    iapply Hk
    iexact HS
  · rw [dif_neg h]
    have hv : ¬ (i 0).val + 1 < 64 := fun e => h ((cond2_iff i).mpr e)
    rw [show Nx c A T ((i 0).val + 1) = Free c A (half ((i 0).val + 1)) from if_neg (by omega)]
    iintro HS Hk
    iapply Hk
    iexact HS

theorem gates_eq (arg2 : Memref sig .tc .vmem S8x128 .f32) (f : arg2.view.ty.Contents (Elt F)) :
    arg2.view.readAt (Elt F) (Rect.unit (s := S8x128) ![0, 0] S8x128.size inb_S8x128_S8x128_0_0).toLoadRect f = arg2.view.read (Elt F) f := by
  funext x
  refine congrArg (arg2.view.read (Elt F) f) ?_
  funext a
  match a with
  | ⟨0, _⟩ => exact Fin.ext (by show 0 + 1 * (x 0).val = (x 0).val; omega)
  | ⟨1, _⟩ => exact Fin.ext (by show 0 + 1 * (x 1).val = (x 1).val; omega)

theorem cols_zero (c : Dev nD) (A : ABuf F) (T : TBuf) (gv : Vec F S8x128 .f32) (s : Nat) (arg4 : Memref sig .tc .vmem S128x2816 .bf16) :
    iprop(∃ g, (arg4.view.loc (c : Thread nD τ) ↦[arg4.view.set]{fullShare} g)) ⊢ Cols (F := F) c A T gv s arg4 0 := by
  unfold Cols
  iintro ⟨%g, Hg⟩
  iexists g
  isplitl [Hg]; · iexact Hg
  ipureintro
  intro x hx
  omega

/-- What is held beside the compute. -/
def Aside (c : Dev nD) (A : ABuf F) (T : TBuf) (q : PosShare TreeShare) (n : Nat) (arg2 : Memref sig .tc .vmem S8x128 .f32) (q2 : PosShare TreeShare) (f2 : Buf (Elt F) (arg2.view.loc (c : Thread nD τ))) : sProp (MM F) :=
  iprop(tbPt c q T ∗ Nx c A T (n + 1) ∗ semVal ((c : Thread nD τ), SemLoc.dma (sem2 (half n))) 0 ∗ hbPt c Finset.univ (hq (half n)) A
    ∗ (∃ W', owes (c : Thread nD τ) 0 W') ∗ (arg2.view.loc (c : Thread nD τ) ↦[arg2.view.set]{q2} f2))

set_option maxHeartbeats 8000000 in
theorem part3_wp (c : Dev nD) (A : ABuf F) (T : TBuf) (q : PosShare TreeShare) (i : grid0.Coords) (hpos : ∀ k n, k < 4 → n < 8192 → posOf T k n < 36864) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (q2 : PosShare TreeShare) (f2 : Buf (Elt F) (arg2.view.loc (c : Thread nD τ))) {Wt : Waits sig Unit}
    (kk : (Σ' (v8 : BitVec 32) (v17 : FVec F S128x128 .f32) (v20 : FVec F S128x128 .f32) (v23 : FVec F S128x128 .f32) (v26 : FVec F S128x128 .f32), FVec F S128x128 .f32) → Prog (TpuEff nD τ sig (Elt F) Λ₀ .tc) α) :
    iprop(tbPt c q T ∗ St c A T (i 0).val ∗ owes (c : Thread nD τ) 0 Wt ∗ (arg2.view.loc (c : Thread nD τ) ↦[arg2.view.set]{q2} f2)
        ∗ ∃ g, (arg4.view.loc (c : Thread nD τ) ↦[arg4.view.set]{fullShare} g))
      ⊢ iprop((Aside c A T q (i 0).val arg2 q2 f2 ∗ Rn c A T (arg2.view.read (Elt F) f2) (i 0).val arg4 0
          -∗ wp frame (wpE (defs₀ (F := F)) Variants.none (c : Thread nD τ) none) Set.univ (kk ⟨Scalar.muli (Scalar.remsi (BitVec.ofNat 32 (i 0).val) 2#32) 12288#32, k0_pay3 (arg2.view.read (Elt F) f2), k0_pay4 (arg2.view.read (Elt F) f2), k0_pay5 (arg2.view.read (Elt F) f2), k0_pay6 (arg2.view.read (Elt F) f2), two A T (arg2.view.read (Elt F) f2) (i 0).val 0⟩) Q)
        -∗ wp frame (wpE (defs₀ (F := F)) Variants.none (c : Thread nD τ) none) Set.univ (k0_part3 i tbM h1 arg2 harg2 hbM h3 arg4 harg4 scM h5 cc0_scratch1 >>= kk) Q) := by
  rw [k0_part3_eq_skeleton]
  unfold k0_part3_skel
  dsimp (config := { zeta := true, beta := true }) only
  unfold St
  iintro ⟨HT, ⟨HN, HF⟩, HO, H2, H4⟩ Hk
  iapply (if1 (Q := Q) c A T q i hpos arg2 harg2 arg4 harg4 h1 h3 h5 _ _) $$ [HT HN]
  · isplitl [HT]; · iexact HT
    iexact HN
  iintro ⟨HT, HN⟩
  iapply (if2 (Q := Q) c A T q i hpos arg2 harg2 arg4 harg4 h1 h3 h5 _ _) $$ [HT HF]
  · isplitl [HT]; · iexact HT
    iexact HF
  iintro ⟨HT, HF⟩
  iapply (wait_all (Q := Q) c A T (i 0).val (om := k0_off33 i) (od := k0_off34 i) (k0_off33_inb i) (k0_off34_inb i) inb_S884736x128_S12288x128_0_0 (off33_eq i) _) $$ [HN HO]
  · isplitl [HN]; · iexact HN
    iexact HO
  unfold Down
  iintro ⟨⟨Hd, Hs, Ha⟩, HO⟩
  iapply (wp_load Variants.none (c : Thread nD τ) none Set.univ (m := arg2) (r := (Rect.unit (s := S8x128) ![0, 0] S8x128.size inb_S8x128_S8x128_0_0).toLoadRect) (hl := View.loadsAt_vmem h_S8x128) (View.setOn_subset_set _ _)) $$ H2
  iintro H2
  rw [gates_eq arg2 f2]
  generalize hgv : arg2.view.read (Elt F) f2 = gv
  ihave HC := (cols_zero c A T gv (i 0).val arg4) $$ H4
  ihave HR := (show iprop(scPt c (slotSet (half (i 0).val).val) (landed A T (i 0).val) ∗ Cols c A T gv (i 0).val arg4 0) ⊢ Rn c A T gv (i 0).val arg4 0 from .rfl) $$ [Hs HC]
  · isplitl [Hs]; · iexact Hs
    iexact HC
  iapply (step_sc (Q := Q) c A T gv (i 0).val arg4 0 0 0 (by decide) (by decide) (off := k0_off35 i 0#32 0#32) (k0_off35_inb i 0 0) (off35_eq i 0 0) (hl := View.loadsAt_vmem h_S128x128) _) $$ HR
  iintro HR
  iapply (step_sc (Q := Q) c A T gv (i 0).val arg4 0 1 0 (by decide) (by decide) (off := k0_off35 i 3072#32 0#32) (k0_off35_inb i 1 0) (off35_eq i 1 0) (hl := View.loadsAt_vmem h_S128x128) _) $$ HR
  iintro HR
  iapply Hk
  isplitr [HR]; swap; · iexact HR
  unfold Aside
  isplitl [HT]; · iexact HT
  isplitl [HF]; · iexact HF
  isplitl [Hd]; · iexact Hd
  isplitl [Ha]; · iexact Ha
  isplitl [HO]; · iexact HO
  iexact H2

theorem half_two (n : Nat) : half (n + 1 + 1) = half n := Fin.ext (by show (n + 1 + 1) % 2 = n % 2; omega)

/-- After the compute: both halves as the next step finds them. -/
theorem finish (c : Dev nD) (A : ABuf F) (T : TBuf) (gv : Vec F S8x128 .f32) (q : PosShare TreeShare) (n : Nat) (arg2 : Memref sig .tc .vmem S8x128 .f32) (arg4 : Memref sig .tc .vmem S128x2816 .bf16) (q2 : PosShare TreeShare) (f2 : Buf (Elt F) (arg2.view.loc (c : Thread nD τ))) :
    iprop(Aside c A T q n arg2 q2 f2 ∗ Rn c A T gv n arg4 22)
      ⊢ iprop(tbPt c q T ∗ St c A T (n + 1) ∗ (∃ W', owes (c : Thread nD τ) 0 W') ∗ (arg2.view.loc (c : Thread nD τ) ↦[arg2.view.set]{q2} f2) ∗ Cols c A T gv n arg4 22) := by
  unfold Aside Rn St Free
  rw [half_two]
  iintro ⟨⟨HT, HF, Hd, Ha, HO, H2⟩, Hs, HC⟩
  isplitl [HT]; · iexact HT
  isplitl [HF Hd Ha Hs]
  · isplitl [HF]; · iexact HF
    isplitl [Hd]; · iexact Hd
    isplitl [Hs]; · iexists _; iexact Hs
    iexact Ha
  isplitl [HO]; · iexact HO
  isplitl [H2]; · iexact H2
  iexact HC

set_option maxHeartbeats 8000000 in
/-- The body of a step. -/
theorem body_wp (c : Dev nD) (A : ABuf F) (T : TBuf) (q : PosShare TreeShare) (i : grid0.Coords) (hpos : ∀ k n, k < 4 → n < 8192 → posOf T k n < 36864) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (q2 : PosShare TreeShare) (f2 : Buf (Elt F) (arg2.view.loc (c : Thread nD τ))) {Wt : Waits sig Unit} {Q : PUnit → sProp (MM F)} :
    iprop(tbPt c q T ∗ St c A T (i 0).val ∗ owes (c : Thread nD τ) 0 Wt ∗ (arg2.view.loc (c : Thread nD τ) ↦[arg2.view.set]{q2} f2)
        ∗ ∃ g, (arg4.view.loc (c : Thread nD τ) ↦[arg4.view.set]{fullShare} g))
      ⊢ iprop((tbPt c q T ∗ St c A T ((i 0).val + 1) ∗ (∃ W', owes (c : Thread nD τ) 0 W') ∗ (arg2.view.loc (c : Thread nD τ) ↦[arg2.view.set]{q2} f2) ∗ Cols c A T (arg2.view.read (Elt F) f2) (i 0).val arg4 22
          -∗ Q ⟨⟩)
        -∗ wp frame (wpE (defs₀ (F := F)) Variants.none (c : Thread nD τ) none) Set.univ (cc0_combine i tbM h1 arg2 harg2 hbM h3 arg4 harg4 scM h5 cc0_scratch1) Q) := by
  rw [cc0_combine_eq_skeleton]
  unfold cc0_combine_skel
  iintro HS Hk
  iapply (part3_wp (Q := Q) c A T q i hpos arg2 harg2 arg4 harg4 h1 h3 h5 q2 f2 _) $$ HS
  iintro ⟨HA, HR⟩
  generalize hgv : arg2.view.read (Elt F) f2 = gv
  iapply (part4_wp (Q := Q) c A T gv i arg2 harg2 arg4 harg4 h1 h3 h5 _ _) $$ HR
  iintro HR
  iapply (part5_wp (Q := Q) c A T gv i arg2 harg2 arg4 harg4 h1 h3 h5 _ _) $$ HR
  iintro HR
  iapply (part6_wp (Q := Q) c A T gv i arg2 harg2 arg4 harg4 h1 h3 h5 _ _) $$ HR
  iintro HR
  iapply (part7_wp (Q := Q) c A T gv i arg2 harg2 arg4 harg4 h1 h3 h5 _ _) $$ HR
  iintro HR
  iapply (part8_wp (Q := Q) c A T gv i arg2 harg2 arg4 harg4 h1 h3 h5 _ _) $$ HR
  iintro HR
  iapply (part9_wp (Q := Q) c A T gv i arg2 harg2 arg4 harg4 h1 h3 h5 _ _) $$ HR
  iintro HR
  iapply (part10_wp (Q := Q) c A T gv i arg2 harg2 arg4 harg4 h1 h3 h5 _ _) $$ HR
  iintro HR
  iapply (part11_wp (Q := Q) c A T gv i arg2 harg2 arg4 harg4 h1 h3 h5 _ _) $$ HR
  iintro HR
  iapply (part12_wp (Q := Q) c A T gv i arg2 harg2 arg4 harg4 h1 h3 h5 _ _) $$ HR
  iintro HR
  iapply (part13_wp (Q := Q) c A T gv i arg2 harg2 arg4 harg4 h1 h3 h5 _ _) $$ HR
  iintro HR
  iapply (part14_wp (Q := Q) c A T gv i arg2 harg2 arg4 harg4 h1 h3 h5 _ _) $$ HR
  iintro HR
  iapply (part15_wp (Q := Q) c A T gv i arg2 harg2 arg4 harg4 h1 h3 h5 _ _) $$ HR
  iintro HR
  iapply (part16_wp (Q := Q) c A T gv i arg2 harg2 arg4 harg4 h1 h3 h5 _ _) $$ HR
  iintro HR
  iapply (part17_wp (Q := Q) c A T gv i arg2 harg2 arg4 harg4 h1 h3 h5 _ _) $$ HR
  iintro HR
  iapply (step_sc (Q := Q) c A T gv (i 0).val arg4 21 2 21 (by decide) (by decide) (off := k0_off35 i 6144#32 21#32) (k0_off35_inb i 2 21) (off35_eq i 2 21) (hl := View.loadsAt_vmem h_S128x128) _) $$ HR
  iintro HR
  iapply (step_sc (Q := Q) c A T gv (i 0).val arg4 21 3 21 (by decide) (by decide) (off := k0_off35 i 9216#32 21#32) (k0_off35_inb i 3 21) (off35_eq i 3 21) (hl := View.loadsAt_vmem h_S128x128) _) $$ HR
  iintro HR
  iapply (step_l4 (Q := Q) c A T gv (i 0).val arg4 21 _ (hl := View.loadsAt_vmem h_S128x128) _) $$ HR
  iintro %_v HR
  iapply (step_st (Q := Q) c A T gv (i 0).val arg4 21 (off := ![0, 2688]) inb_S128x2816_S128x128_0_2688 rfl _ rfl (hx := View.stores_vmem h_S128x128 (harg4.storeExact_slice rfl _ packedbf16_S128x2816_S128x128_0_2688) (fun _ => rfl)) (hm := .inl rfl) _) $$ HR
  iintro HR
  simp only [ret_bind']
  sl_step
  iapply Hk
  iapply (finish c A T gv q (i 0).val arg2 arg4 q2 f2)
  isplitl [HA]; · iexact HA
  iexact HR

end Cert.Combine.Hand
-- ==== Proof.CFrame.Frame.lean ====
/- The pipeline's proof data, the body's obligation, the launch and the frame. -/
module

public import proofs.«01_k».proof.Proof.CFrame.Body
public import proofs.«01_k».proof.Proof.Gen.Combine.Launch
public import Idealize.ShloMosaic.Lib.Claim
public import Idealize.ShloMosaic.Lib.Pipeline.FrameBody
public import Idealize.ShloMosaic.Lib.Pipeline.Frame
public import Idealize.ShloMosaic.Lib.Batch
public import Idealize.ShloMosaic.Lib.ViewIndex
public import Idealize.ShloMosaic.Lib.Tactic

@[expose] public section

set_option maxRecDepth 16384

noncomputable section

namespace Cert.Combine.Hand

open Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Shape (pair pair_eta pair_zero pair_one)

open Idealize.ShloMosaic.Pipeline (Dat Cfg Window BodyObligation cellOf)

variable {F : FTy → Type} [FloatOps F]

variable (m : (ℓ : Loc nD τ sig) → Buf (Elt F) ℓ) (ρ : Dev nD → PrngReg)

/-- The result's window is written back at every point. -/
theorem flush0_1 (a : (pcfg0 (F := F)).Adm) : ∀ t : Fin (cfg0 a).N, ((cfg0 a).win 1).flush t = true :=
  (fun t => (Pipeline.Window.flushOf_reads cc0_transform_2 reads0_1 hreads0_1 0 (by decide) (by decide) (Pipeline.Window.sep_of_coord cc0_transform_2 0 0 (fun _ => rfl) (by decide)) (P := 1) (m := 0) (by decide) rfl t).mpr (Nat.mod_one _) : ∀ t : Fin grid0.N, Pipeline.Window.flushOf grid0 true cc0_transform_2 t = true)

/-- The kernel body at point `t`, on what the pipeline calls it with. -/
abbrev bodyAt0 (a : (pcfg0 (F := F)).Adm) (t : Fin (cfg0 a).N) : Prog (TpuEff nD τ sig (Elt F) Λ₀ .tc) PUnit :=
  cc0_combine (grid0.coords t) (Memref.whole main_arg0) (Memref.isWhole_whole _) (spec0_0.stage ((cfg0 a).slots t 0)) (hstage0_0 (((cfg0 a).slots t 0).cast nbuf0_0)) (Memref.whole main_arg2) (Memref.isWhole_whole _) (spec0_1.stage ((cfg0 a).slots t 1)) (hstage0_1 (((cfg0 a).slots t 1).cast nbuf0_1)) (Memref.whole cc0_scratch0) (Memref.isWhole_whole _) cc0_scratch1

/-- Core `c`'s buffers when the region is entered: no host operation comes before it. -/
abbrev V (c : Dev nD) (b : Ref sig .tc) : Buf (Elt F) ((c : Thread nD τ).loc b) := StableHlo.after ([] : List (List (HloOp τ sig (Elt F)))).flatten (fun b => m (c, b)) b

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [] trivial trivial main_chain

theorem V_eq (c : Dev nD) (b : Ref sig .tc) : V m c b = m ((c : Thread nD τ).loc b) := rfl

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
theorem okay : Ok m := by unfold Ok ok0; trivial
abbrev adm : (pcfg0 (F := F)).Adm := ⟨tbl m, okay m⟩
abbrev cfgM : Pipeline.Cfg sig Λ₀ := cfg0 (adm m)

/-- The table and the array of rows the body reads. -/
abbrev Tt : TBuf := tbl m 0
abbrev Aa (c : Dev nD) : ABuf F := V m c main_arg2

/-- Every position of the table is below the number of dispatched rows. -/
def Pos : Prop := ∀ k n, k < 4 → n < 8192 → posOf (Tt m) k n < 36864

theorem PhiT0_eq (c : Dev nD) : (Pipeline.ΦT pre0 (tbl m) c : sProp (MM F)) = iprop(tbPt c fullShare.right (Tt m)) := by
  unfold Pipeline.ΦT Pipeline.prefHeld
  rw [show (Finset.univ : Finset (Fin 1)) = {(0 : Fin 1)} from by decide, bigSep_singleton]
  rfl

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Each window's staging memref at point `t`. -/
abbrev ms0_0 (t : Fin (cfgM m).N) : Memref sig .tc .vmem S8x128 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S128x2816 .bf16 := spec0_1.stage ((cfgM m).slots t 1)
abbrev hs0_1 (t : Fin (cfgM m).N) : (ms0_1 m t).IsWhole := hstage0_1 (((cfgM m).slots t 1).cast nbuf0_1)

theorem frame_of (dats : (p : Fin 1) → (c : Dev nD) → Dat τ (Elt F) Unit ℕ (Pipeline.UD sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_arg0 (by decide : main_arg0 ∈ Pipeline.restRefs sig spec0),
      ((h c).1 0).trans (((dats 0 c).arrAt_in 0 rfl _).trans (hA c 0)),
      (h c).2 main_arg2 (by decide : main_arg2 ∈ Pipeline.restRefs sig spec0)⟩) h

/-! ## The pipeline's proof data -/

/-- The step's number at a point. -/
theorem coords_val : ∀ t : Fin grid0.N, (grid0.coords t 0).val = t.val := by decide +kernel

/-- The invariant before point `n`: the two halves of the scratch as step `n` finds them. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outB (Aa m c) (Tt m) (iblk m c 0 t) (grid0.coords t 0).val
  Φ n := iprop((∃ r, prngReg c r) ∗ tbPt c fullShare.right (Tt m) ∗ St c (Aa m c) (Tt m) n.val)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = outB (Aa m c) (Tt m) (iblk m c 0 t) (grid0.coords t 0).val := by dsimp only [dats]; try rfl

theorem before0_0 (c : Dev nD) (t : Fin (cfgM m).N) (d) : (dats m 0 c).before 0 t d = iblk m c 0 t :=
  before0_0_of m (dats m 0 c) (A_eq m c 0) (after0_0 m c) t d

/-! ## The body obligation -/

def bodyPre (c : Dev nD) (t : Fin (cfgM m).N) : sProp (MM F) :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))

def bodyPost (c : Dev nD) (t : Fin (cfgM m).N) : sProp (MM F) :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

set_option maxHeartbeats 4000000 in
theorem sound_body (hP : Pos m) (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0]
  rw [after0_0, after0_1]
  rw [show (dats m 0 c).Φ t.castSucc = iprop((∃ r, prngReg c r) ∗ tbPt c fullShare.right (Tt m) ∗ St c (Aa m c) (Tt m) (grid0.coords t 0).val) from by
      rw [coords_val]; rfl,
    show (dats m 0 c).Φ t.succ = iprop((∃ r, prngReg c r) ∗ tbPt c fullShare.right (Tt m) ∗ St c (Aa m c) (Tt m) ((grid0.coords t 0).val + 1)) from by
      rw [coords_val]; rfl]
  unfold Dat.owesAt Pipeline.owesWithin owns
  iintro ⟨⟨Hg, HT, HS⟩, ⟨%Wt, %hWt, HO⟩, ⟨%d0, %f0, %hf0, H0⟩, ⟨%d1, %f1, %hf1, H1⟩⟩
  iapply (body_wp c (Aa m c) (Tt m) fullShare.right (grid0.coords t) hP (ms0_0 m t) (hs0_0 m t) (ms0_1 m t) (hs0_1 m t) (Memref.isWhole_whole _) (Memref.isWhole_whole _) (Memref.isWhole_whole _) fullShare f0) $$ [HT HS HO H0 H1]
  · isplitl [HT]; · iexact HT
    isplitl [HS]; · iexact HS
    isplitl [HO]; · iexact HO
    isplitl [H0]; · iexact H0
    iexists f1; iexact H1
  iintro ⟨HT, HS, ⟨%W', HO⟩, H0, HC⟩
  isplitl [Hg HT HS]
  · isplitl [Hg]; · iexact Hg
    isplitl [HT]; · iexact HT
    iexact HS
  isplitl [HO]
  · iexists W'
    isplitr; swap; · iexact HO
    ipureintro; exact fun _ _ => Or.inl trivial
  isplitl [H0]
  · iexists f0
    isplitr; swap; · iexact H0
    ipureintro; exact hf0
  unfold Cols
  icases HC with ⟨%g, Hg, %hg⟩
  iexists g
  isplitr; swap; · iexact Hg
  ipureintro
  funext x
  have hx : (x 1).val < 2816 := (x 1).isLt
  have hgv : iblk m c 0 t = (ms0_0 m t).view.read (Elt F) f0 := hf0.symm
  rw [hgv]
  exact hg x (by omega)

theorem defs₀_row (t : Fin (cfgM m).N) :
    defs₀ (F := F) .tc (cfgM m).body ((cfgM m).bodyArgs t ((cfgM m).slots t)) = bodyAt0 (adm m) t := by
  unfold defs₀; rw [Defs.onTc_tc]

theorem leaves0_1 (c : Dev nD) (t : Fin (cfgM m).N) :
    (dats m 0 c).leavesExact 1 t = owns (c : Thread nD τ) (ms0_1 m t) fullShare ((dats m 0 c).after 1 t) := by
  unfold Dat.leavesExact
  rw [show ((cfgM m).win 1).flush t = true from flush0_1 (adm m) t]
  cases (cfgM m).idle 1 ((cfgM m).grid.coords t) <;> rfl

theorem body_obligation (hP : Pos m) (c : Dev nD) : BodyObligation (dats (F := F) m 0 c) (defs₀ (F := F)) Variants.none () Set.univ := fun t => by
  rw [bigSep_W0, bigSep_W0, defs₀_row m]
  refine triple_restated (sound_body m hP c t) rfl .rfl fun _ => ?_
  exact sep_mono .rfl (sep_mono .rfl (sep_mono .rfl (BIBase.Entails.of_eq (leaves0_1 m c t).symm)))

/-! ## The kernel's own semaphores, its scratch and the array it copies from, handed in and taken back -/

def osem : Fin 2 → SemLoc sig := fun b => .dma (sem2 b)

theorem own_facts : Pipeline.OwnSemFacts spec0 osem := by decide

theorem arg2_rest : ({main_arg2} : Finset (Ref sig .tc)) ⊆ Pipeline.restRefsP sig pre0 spec0 := by decide

theorem sems_eq (c : Dev nD) : (Pipeline.ownSems0 (Ix := Unit) (Name := ℕ) (U := Pipeline.UD sig nD τ) (Lvl := ℕ) (Val := Elt F) (τ := τ) osem c : sProp (MM F))
    = iprop(semVal ((c : Thread nD τ), SemLoc.dma (sem2 0)) 0 ∗ semVal ((c : Thread nD τ), SemLoc.dma (sem2 1)) 0) :=
  bigSep_univ_eq_bigSepL [(0 : Fin 2), (1 : Fin 2)] (by decide) (by decide) _

theorem nx_zero (c : Dev nD) (A : ABuf F) (T : TBuf) : Nx c A T 0 = Free c A 0 := if_neg (by decide)
theorem nx_last (c : Dev nD) (A : ABuf F) (T : TBuf) : Nx c A T 64 = Free c A 0 := if_neg (by decide)

theorem free_of (c : Dev nD) (A : ABuf F) :
    iprop((∃ f, scPt c Finset.univ f) ∗ (semVal ((c : Thread nD τ), SemLoc.dma (sem2 0)) 0 ∗ semVal ((c : Thread nD τ), SemLoc.dma (sem2 1)) 0) ∗ hbPt c Finset.univ fullShare A)
      ⊢ iprop(Free c A 0 ∗ Free c A 1) := by
  unfold Free
  iintro ⟨⟨%f, Hs⟩, ⟨Hd0, Hd1⟩, Ha⟩
  rw [halves]
  ihave Hs := (pointsTo_union halves_disjoint).1 $$ Hs
  icases Hs with ⟨Hs0, Hs1⟩
  ihave Ha := (pointsTo_share (PosShare.mem_left_op_right fullShare)).1 $$ Ha
  icases Ha with ⟨Ha0, Ha1⟩
  isplitl [Hd0 Hs0 Ha0]
  · isplitl [Hd0]; · iexact Hd0
    isplitl [Hs0]; · iexists f; iexact Hs0
    iexact Ha0
  isplitl [Hd1]; · iexact Hd1
  isplitl [Hs1]; · iexists f; iexact Hs1
  iexact Ha1

theorem of_free (c : Dev nD) (A : ABuf F) :
    iprop(Free c A 0 ∗ Free c A 1)
      ⊢ iprop((∃ f, scPt c Finset.univ f) ∗ (semVal ((c : Thread nD τ), SemLoc.dma (sem2 0)) 0 ∗ semVal ((c : Thread nD τ), SemLoc.dma (sem2 1)) 0) ∗ hbPt c Finset.univ fullShare A) := by
  unfold Free
  iintro ⟨⟨Hd0, ⟨%f0, Hs0⟩, Ha0⟩, Hd1, ⟨%f1, Hs1⟩, Ha1⟩
  isplitl [Hs0 Hs1]
  · rw [halves]
    iexists _
    iapply (pointsTo_join halves_disjoint)
    isplitl [Hs0]; · iexact Hs0
    iexact Hs1
  isplitl [Hd0 Hd1]
  · isplitl [Hd0]; · iexact Hd0
    iexact Hd1
  iapply (pointsTo_share (PosShare.mem_left_op_right fullShare)).2
  isplitl [Ha0]; · iexact Ha0
  iexact Ha1

theorem hD (c : Dev nD) : (Pipeline.ΦD osem spec0 {main_arg2} (V m) c : sProp (MM F))
    = iprop((∃ f, scPt c Finset.univ f) ∗ (∃ r, prngReg c r) ∗ (semVal ((c : Thread nD τ), SemLoc.dma (sem2 0)) 0 ∗ semVal ((c : Thread nD τ), SemLoc.dma (sem2 1)) 0) ∗ hbPt c Finset.univ fullShare (Aa m c)) := by
  rw [Pipeline.ΦD_eq, scopedRest0_eq, sems_eq, bigSep_singleton]
  rfl

theorem hin (c : Dev nD) : iprop(Pipeline.ΦD osem spec0 {main_arg2} (V m) c ∗ Pipeline.ΦT pre0 (tbl m) c) ⊢ (dats m 0 c).Φ 0 := by
  rw [hD, PhiT0_eq]
  rw [show (dats m 0 c).Φ 0 = iprop((∃ r, prngReg c r) ∗ tbPt c fullShare.right (Tt m) ∗ Nx c (Aa m c) (Tt m) 0 ∗ Free c (Aa m c) 1) from rfl, nx_zero]
  iintro ⟨⟨Hs, Hg, Hd, Ha⟩, HT⟩
  isplitl [Hg]; · iexact Hg
  isplitl [HT]; · iexact HT
  iapply (free_of c (Aa m c))
  isplitl [Hs]; · iexact Hs
  isplitl [Hd]; · iexact Hd
  iexact Ha

theorem hout (c : Dev nD) : (dats m 0 c).Φ (Fin.last (cfgM m).N) ⊢ Pipeline.ΦD osem spec0 {main_arg2} (V m) c := by
  rw [hD]
  rw [show (dats m 0 c).Φ (Fin.last (cfgM m).N) = iprop((∃ r, prngReg c r) ∗ tbPt c fullShare.right (Tt m) ∗ Nx c (Aa m c) (Tt m) 64 ∗ Free c (Aa m c) 1) from by
    show iprop((∃ r, prngReg c r) ∗ tbPt c fullShare.right (Tt m) ∗ St c (Aa m c) (Tt m) grid0.N) = _
    rw [N_0]; rfl, nx_last]
  iintro ⟨Hg, -, HS⟩
  ihave HS := (of_free c (Aa m c)) $$ HS
  icases HS with ⟨Hs, Hd, Ha⟩
  isplitl [Hs]; · iexact Hs
  isplitl [Hg]; · iexact Hg
  isplitl [Hd]; · iexact Hd
  iexact Ha

/-! ## The run and the frame -/

set_option backward.isDefEq.respectTransparency.types false in
/-- The launch. -/
theorem run_main_quiescent (hP : Pos m) : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP_dma (Q' := _) pcfgs (fun _ => adm m) (dats m) (0 : Fin 1) launch0 osem defs₀ Variants.none own_facts {main_arg2} arg2_rest m ρ main
    (hbody := fun c => (body_obligation m hP c).loose) (hshare := fun c => (dats m 0 c).share_full fun _ => rfl)
    (howed := fun _ _ => rfl) (V := V m) (hmain := hmain m Variants.none) (hA := A_eq m) (hpf := V_pre m)
    (hin := hin m) (hout := hout m)

theorem run_main (hP : Pos m) : θ_run defs (onTc (τ := τ) (main (F := F))) (s₀ m ρ) (Pipeline.FramePost (Pipeline.pin pcfgs fun _ => adm m) (dats m) 0 (V m)) :=
  (θ_run defs _ _).mono (fun _ h => h.1) (run_main_quiescent m ρ hP)

theorem unchanged (hP : Pos m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hP)

/-- The frame: every argument array ends unchanged, and every semaphore counter ends at zero. -/
theorem frame (hP : Pos m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hP) ((θ_run defs _ _).mono (fun _ h => h.2) (run_main_quiescent m ρ hP))

end Cert.Combine.Hand
-- ==== Proof.CIdeal.Slots.lean ====
/- The scratch buffer of the combine kernel in pieces: two halves, each of 512 pieces of 24 rows, one piece per row copy; the
   rows of the array each copy reads; and the contents the copies of a step leave. -/
module

public import proofs.«01_k».proof.Proof.CIdeal.Words
public import Idealize.ShloMosaic.Lib.Pipeline.FrameBody
public import Idealize.ShloMosaic.Lib.Pipeline.Frame
public import Idealize.ShloMosaic.Lib.Batch
public import Idealize.ShloMosaic.Lib.ViewIndex
public import Idealize.ShloMosaic.Lib.Tactic

@[expose] public section

set_option maxRecDepth 16384

noncomputable section

namespace Cert.CombineIdeal.Hand

open Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Shape (pair pair_eta pair_zero pair_one)

variable {F : FTy → Type} [FloatOps F]

/-- The assertions' resource: the launch's, with the transfers' counters. -/
abbrev MM (F : FTy → Type) : Type := MT nD τ sig Unit (Elt F) ℕ (Pipeline.UD sig nD τ) ℕ

/-- The buffers the body addresses itself, whole: the positions table, the array of rows, the scratch buffer. -/
abbrev tbM : Memref sig .tc .smem S4x8192 .i32 := Memref.whole main_arg0
abbrev hbM : Memref sig .tc .hbm S884736x128 .f32 := Memref.whole main_arg2
abbrev scM : Memref sig .tc .vmem S24576x128 .f32 := Memref.whole cc0_scratch0

/-- An entry of a matrix by its two coordinates, taken modulo the extents. -/
def ent {α : Type} {d : Fin 2 → Nat} (h0 : 0 < d 0) (h1 : 0 < d 1) (A : (⟨2, d⟩ : Shape).Idx → α) (r c : Nat) : α :=
  A (pair ⟨r % d 0, Nat.mod_lt _ h0⟩ ⟨c % d 1, Nat.mod_lt _ h1⟩)

theorem ent_eq {α : Type} {d : Fin 2 → Nat} (h0 : 0 < d 0) (h1 : 0 < d 1) (A : (⟨2, d⟩ : Shape).Idx → α) (i : (⟨2, d⟩ : Shape).Idx)
    (r c : Nat) (hr : (i 0).val = r) (hc : (i 1).val = c) : ent h0 h1 A r c = A i := by
  unfold ent
  subst hr hc
  rw [show (⟨(i 0).val % d 0, Nat.mod_lt _ h0⟩ : Fin (d 0)) = i 0 from Fin.ext (Nat.mod_eq_of_lt (i 0).isLt),
    show (⟨(i 1).val % d 1, Nat.mod_lt _ h1⟩ : Fin (d 1)) = i 1 from Fin.ext (Nat.mod_eq_of_lt (i 1).isLt), pair_eta]

abbrev TBuf : Type := S4x8192.Idx → BitVec 32
abbrev ABuf (F : FTy → Type) : Type := S884736x128.Idx → F .f32
abbrev SBuf (F : FTy → Type) : Type := S24576x128.Idx → F .f32

/-- The position the table gives for choice `k` of token `n`. -/
def posOf (T : TBuf) (k n : Nat) : Nat := (ent (d := ![4, 8192]) (by decide) (by decide) T k n).toNat

/-- What the copies of step `s` leave in either half: row `r` of a half belongs to choice `r / 3072` of the step's token
    `r % 3072 / 24`, and is row `r % 24` of that token's 24. -/
def landed (A : ABuf F) (T : TBuf) (s : Nat) : SBuf F := fun i =>
  ent (d := ![884736, 128]) (by decide) (by decide) A
    (posOf T ((i 0).val % 12288 / 3072) (s * 128 + (i 0).val % 3072 / 24) * 24 + (i 0).val % 24) (i 1).val

/-- The piece of 24 rows numbered `q`, the half numbered `b`, and 24 rows of the array. -/
def pieceSet (q : Nat) : Finset S24576x128.Idx := Finset.univ.filter fun i => (i 0).val / 24 = q
def slotSet (b : Nat) : Finset S24576x128.Idx := Finset.univ.filter fun i => (i 0).val / 12288 = b
def srcSet (p : Nat) : Finset S884736x128.Idx := Finset.univ.filter fun i => (i 0).val / 24 = p

/-- The piece copy `j` of a step writes in half `b`: the copies go token by token, four choices each. -/
def blk (b j : Nat) : Nat := b * 512 + (j % 4) * 128 + j / 4

theorem piece_arith {r b a c : Nat} (ha : a < 4) (hc : c < 128) (h : r / 24 = b * 512 + a * 128 + c) :
    r / 12288 = b ∧ r % 12288 / 3072 = a ∧ r % 3072 / 24 = c := by
  have h1 : r = b * 12288 + a * 3072 + c * 24 + r % 24 := by omega
  have h2 : r % 24 < 24 := Nat.mod_lt _ (by decide)
  generalize r % 24 = x at h1 h2
  subst h1
  have e1 : (b * 12288 + a * 3072 + c * 24 + x) % 12288 = a * 3072 + c * 24 + x := by omega
  have e2 : (b * 12288 + a * 3072 + c * 24 + x) % 3072 = c * 24 + x := by omega
  rw [e1, e2]
  refine ⟨by omega, by omega, by omega⟩

theorem mod4 (j : Nat) : j % 4 < 4 := Nat.mod_lt _ (by decide)

theorem mem_piece {q : Nat} {i : S24576x128.Idx} : i ∈ pieceSet q ↔ (i 0).val / 24 = q := by
  unfold pieceSet; rw [Finset.mem_filter]; exact and_iff_right (Finset.mem_univ _)
theorem mem_slot {b : Nat} {i : S24576x128.Idx} : i ∈ slotSet b ↔ (i 0).val / 12288 = b := by
  unfold slotSet; rw [Finset.mem_filter]; exact and_iff_right (Finset.mem_univ _)

theorem blk_arith {r b j : Nat} (hj : j < 512) (h : r / 24 = blk b j) :
    r / 12288 = b ∧ r % 12288 / 3072 = j % 4 ∧ r % 3072 / 24 = j / 4 :=
  piece_arith (mod4 _) (by omega) h

theorem slot_eq (b : Nat) : slotSet b = (Finset.univ : Finset (Fin 512)).biUnion fun j => pieceSet (blk b j.val) := by
  ext i
  rw [mem_slot, Finset.mem_biUnion]
  constructor
  · intro h
    have key : ∀ r : Nat, r / 12288 = b → ∃ j, j < 512 ∧ r / 24 = blk b j := by
      intro r h
      have ha : r % 12288 / 3072 < 4 := by omega
      have hc : r % 3072 / 24 < 128 := by omega
      have hr : r / 24 = b * 512 + r % 12288 / 3072 * 128 + r % 3072 / 24 := by omega
      generalize r % 12288 / 3072 = a at ha hr
      generalize r % 3072 / 24 = c at hc hr
      refine ⟨c * 4 + a, by omega, ?_⟩
      rw [hr]; unfold blk
      have : (c * 4 + a) % 4 = a := by omega
      have : (c * 4 + a) / 4 = c := by omega
      simp only [*]
    obtain ⟨j, hj, hr⟩ := key _ h
    exact ⟨⟨j, hj⟩, Finset.mem_univ _, mem_piece.mpr hr⟩
  · rintro ⟨j, -, hj⟩
    exact (blk_arith j.isLt (mem_piece.mp hj)).1

theorem piece_disjoint (b : Nat) : ∀ j ∈ (Finset.univ : Finset (Fin 512)), ∀ k ∈ (Finset.univ : Finset (Fin 512)), j ≠ k →
    Disjoint (pieceSet (blk b j.val)) (pieceSet (blk b k.val)) := by
  intro j _ k _ hjk
  rw [Finset.disjoint_left]
  intro i h1 h2
  apply hjk; apply Fin.ext
  have a1 := blk_arith j.isLt (mem_piece.mp h1)
  have a2 := blk_arith k.isLt (mem_piece.mp h2)
  have e1 := a1.2.1.symm.trans a2.2.1
  have e2 := a1.2.2.symm.trans a2.2.2
  omega

theorem halves : (Finset.univ : Finset S24576x128.Idx) = slotSet 0 ∪ slotSet 1 := by
  ext i
  have hi : (i 0).val < 24576 := (i 0).isLt
  rw [Finset.mem_union, mem_slot, mem_slot]
  refine iff_of_true (Finset.mem_univ _) ?_
  generalize (i 0).val = r at hi
  omega

theorem halves_disjoint : Disjoint (slotSet 0) (slotSet 1) := by
  rw [Finset.disjoint_left]
  intro i h1 h2
  exact absurd ((mem_slot.mp h1).symm.trans (mem_slot.mp h2)) (by decide)

/-- The rows a copy writes, as its destination's elements; -/
theorem dst_set {off : Fin 2 → Nat} (inb : ∀ a, off a + S24x128.size a ≤ S24576x128.size a) (q : Nat) (h : off = ![q * 24, 0]) :
    (scM.slice (Rect.unit (s := S24576x128) off S24x128.size inb) (fun _ => rfl)).view.set = pieceSet q := by
  subst h
  refine (View.set_slice_whole _ _).trans ?_
  ext i
  have hi : (i 1).val < 128 := (i 1).isLt
  refine Rect.mem_set_unit.trans ?_
  simp only [pieceSet, Finset.mem_filter, Finset.mem_univ, true_and]
  constructor
  · intro h
    have h0 : q * 24 ≤ (i 0).val ∧ (i 0).val < q * 24 + 24 := h 0
    omega
  · intro h
    refine Fin.forall_fin_two.mpr ⟨?_, ?_⟩
    · show q * 24 ≤ (i 0).val ∧ (i 0).val < q * 24 + 24
      omega
    · show 0 ≤ (i 1).val ∧ (i 1).val < 0 + 128
      omega

/-- the rows it reads, as its source's; -/
theorem src_set {off : Fin 2 → Nat} (inb : ∀ a, off a + S24x128.size a ≤ S884736x128.size a) (p : Nat) (h : off = ![p * 24, 0]) :
    (hbM.slice (Rect.unit (s := S884736x128) off S24x128.size inb) (fun _ => rfl)).view.set = srcSet p := by
  subst h
  refine (View.set_slice_whole _ _).trans ?_
  ext i
  have hi : (i 1).val < 128 := (i 1).isLt
  refine Rect.mem_set_unit.trans ?_
  simp only [srcSet, Finset.mem_filter, Finset.mem_univ, true_and]
  constructor
  · intro h
    have h0 : p * 24 ≤ (i 0).val ∧ (i 0).val < p * 24 + 24 := h 0
    omega
  · intro h
    refine Fin.forall_fin_two.mpr ⟨?_, ?_⟩
    · show p * 24 ≤ (i 0).val ∧ (i 0).val < p * 24 + 24
      omega
    · show 0 ≤ (i 1).val ∧ (i 1).val < 0 + 128
      omega

/-- and what it leaves in them: the step's contents. -/
theorem dst_landed (A : ABuf F) (T : TBuf) (s b j : Nat) (hj : j < 512)
    {off off' : Fin 2 → Nat} (inb : ∀ a, off a + S24x128.size a ≤ S24576x128.size a) (inb' : ∀ a, off' a + S24x128.size a ≤ S884736x128.size a)
    (h : off = ![blk b j * 24, 0]) (h' : off' = ![posOf T (j % 4) (s * 128 + j / 4) * 24, 0]) (f : SBuf F) :
    ∀ i ∈ pieceSet (blk b j),
      (scM.slice (Rect.unit (s := S24576x128) off S24x128.size inb) (fun _ => rfl)).view.write (Elt F) f
        (ReadAs.same.apply ((hbM.slice (Rect.unit (s := S884736x128) off' S24x128.size inb') (fun _ => rfl)).view.read (Elt F) A)) Finset.univ i
      = landed A T s i := by
  intro i hi
  rw [← dst_set inb _ h] at hi
  obtain ⟨x, rfl⟩ := View.exists_of_mem_set_slice hi
  subst h h'
  refine (View.write_emb_of_mem (Val := Elt F) (v := (scM.slice (Rect.unit (s := S24576x128) _ S24x128.size inb) (fun _ => rfl)).view) f _ (x := x) (Finset.mem_univ _)).trans ?_
  have hx : (x 0).val < 24 := (x 0).isLt
  have hx1 : (x 1).val < 128 := (x 1).isLt
  refine Eq.symm ?_
  unfold landed
  refine ent_eq _ _ A ((hbM.slice (Rect.unit (s := S884736x128) _ S24x128.size inb') (fun _ => rfl)).view.emb x) _ _ ?_ ?_
  · show posOf T (j % 4) (s * 128 + j / 4) * 24 + 1 * (x 0).val
      = posOf T ((blk b j * 24 + 1 * (x 0).val) % 12288 / 3072) (s * 128 + (blk b j * 24 + 1 * (x 0).val) % 3072 / 24) * 24 + (blk b j * 24 + 1 * (x 0).val) % 24
    have e0 : (blk b j * 24 + 1 * (x 0).val) / 24 = blk b j := by omega
    have e3 : (blk b j * 24 + 1 * (x 0).val) % 24 = (x 0).val := by omega
    obtain ⟨-, e1, e2⟩ := blk_arith hj e0
    rw [e1, e2, e3, Nat.one_mul]
  · show 0 + 1 * (x 1).val = 0 + 1 * (x 1).val
    rfl

end Cert.CombineIdeal.Hand
-- ==== Proof.CIdeal.Issue.lean ====
/- Issuing a step's copies: what is held while the first `n` of the 512 are issued, one more issued, and a trip of either
   loop, which issues four. -/
module

public import proofs.«01_k».proof.Proof.CIdeal.Slots
public import Idealize.ShloMosaic.Lib.Pipeline.FrameBody
public import Idealize.ShloMosaic.Lib.Pipeline.Frame
public import Idealize.ShloMosaic.Lib.Batch
public import Idealize.ShloMosaic.Lib.ViewIndex
public import Idealize.ShloMosaic.Lib.Tactic

@[expose] public section

set_option maxRecDepth 16384

noncomputable section

namespace Cert.CombineIdeal.Hand

open Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Shape (pair pair_eta pair_zero pair_one)

variable {F : FTy → Type} [FloatOps F]

abbrev scPt (c : Dev nD) (S : Finset S24576x128.Idx) (f : SBuf F) : sProp (MM F) :=
  scM.view.loc (c : Thread nD τ) ↦[S]{fullShare} f
abbrev hbPt (c : Dev nD) (S : Finset S884736x128.Idx) (q : PosShare TreeShare) (A : ABuf F) : sProp (MM F) :=
  hbM.view.loc (c : Thread nD τ) ↦[S]{q} A
abbrev tbPt (c : Dev nD) (q : PosShare TreeShare) (T : TBuf) : sProp (MM F) :=
  tbM.view.loc (c : Thread nD τ) ↦{q} T

/-- The two halves' semaphores. -/
def sem2 (b : Fin 2) : DmaSem sig := cc0_scratch1.ix fun | ⟨0, _⟩ => b
def half (s : Nat) : Fin 2 := ⟨s % 2, Nat.mod_lt _ (by decide)⟩

theorem sem_eq {off : Fin 1 → Nat} (inb : ∀ a, off a + S1.size a ≤ S2.size a) (s : Nat) (h : off = ![s % 2]) :
    ((cc0_scratch1.slice (Rect.unit (s := S2) off S1.size inb)).squeeze S_ squeezes_S1_S_).sem = sem2 (half s) := by
  subst h
  refine congrArg cc0_scratch1.ix (funext fun a => ?_)
  match a with
  | ⟨0, _⟩ =>
    refine Fin.ext ?_
    have h0 : ∀ y : Fin 1, s % 2 + 1 * y.val = s % 2 := fun y => by omega
    exact h0 _

/-- The share of the array each half's copies read at. -/
def hq (b : Fin 2) : PosShare TreeShare := if b = 0 then fullShare.left else fullShare.right

/-- What copy `j` of step `s` delivers: its piece of the half at the step's contents, and the rows it read. -/
def Dlv (c : Dev nD) (A : ABuf F) (T : TBuf) (s : Nat) (j : Fin 512) : sProp (MM F) :=
  iprop(scPt c (pieceSet (blk (s % 2) j.val)) (landed A T s)
    ∗ hbPt c (srcSet (posOf T (j.val % 4) (s * 128 + j.val / 4))) (Transfers.shareTok (hq (half s)) 512 j) A)

instance Dlv_storable (c : Dev nD) (A : ABuf F) (T : TBuf) (s : Nat) (j : Fin 512) :
    Storable (upEmb : UEmb _ (MM F)) (Dlv c A T s j) := by unfold Dlv; infer_instance

theorem cred_tile : RefSig.tileCredit S24x128 .f32 = 384 := by decide +kernel

/-- One copy's credit. -/
abbrev cred : Nat := 384

abbrev bat (c : Dev nD) (A : ABuf F) (T : TBuf) (s n : Nat) : sProp (MM F) :=
  Transfers.Batch (countersEmb (U := Pipeline.UD sig nD τ)) (c : Thread nD τ) (.dma (sem2 (half s))) () cred (Dlv c A T s) n 0

/-- What is held for copy `j` when the first `n` are issued. -/
def G (c : Dev nD) (A : ABuf F) (T : TBuf) (s : Nat) (f : SBuf F) (n : Nat) (j : Fin 512) : sProp (MM F) :=
  if j.val < n then hbPt c (Finset.univ \ srcSet (posOf T (j.val % 4) (s * 128 + j.val / 4))) (Transfers.shareTok (hq (half s)) 512 j) A
  else iprop(scPt c (pieceSet (blk (s % 2) j.val)) f ∗ hbPt c Finset.univ (Transfers.shareTok (hq (half s)) 512 j) A)

def Issued (c : Dev nD) (A : ABuf F) (T : TBuf) (s : Nat) (f : SBuf F) (n : Nat) : sProp (MM F) :=
  iprop(bat c A T s n ∗ bigSep Finset.univ (G c A T s f n))

theorem G_step (c : Dev nD) (A : ABuf F) (T : TBuf) (s : Nat) (f : SBuf F) (n : Nat) (hn : n < 512) :
    bigSep Finset.univ (G c A T s f n)
      = iprop((scPt c (pieceSet (blk (s % 2) n)) f ∗ hbPt c Finset.univ (Transfers.shareTok (hq (half s)) 512 ⟨n, hn⟩) A)
        ∗ bigSep (Finset.univ.erase ⟨n, hn⟩) (G c A T s f n)) := by
  rw [bigSep_erase (Finset.mem_univ (⟨n, hn⟩ : Fin 512))]
  congr 1
  exact if_neg (Nat.lt_irrefl n)

theorem G_next (c : Dev nD) (A : ABuf F) (T : TBuf) (s : Nat) (f : SBuf F) (n : Nat) (hn : n < 512) :
    bigSep Finset.univ (G c A T s f (n + 1))
      = iprop(hbPt c (Finset.univ \ srcSet (posOf T (n % 4) (s * 128 + n / 4))) (Transfers.shareTok (hq (half s)) 512 ⟨n, hn⟩) A
        ∗ bigSep (Finset.univ.erase ⟨n, hn⟩) (G c A T s f n)) := by
  rw [bigSep_erase (Finset.mem_univ (⟨n, hn⟩ : Fin 512))]
  congr 1
  · exact if_pos (Nat.lt_succ_self n)
  · refine bigSep_congr fun j hj => ?_
    have hne : j.val ≠ n := fun h => (Finset.mem_erase.mp hj).1 (Fin.ext h)
    unfold G
    by_cases h : j.val < n
    · rw [if_pos h, if_pos (by omega)]
    · rw [if_neg h, if_neg (by omega)]

variable {α : Type} {Q : α → sProp (MM F)}

set_option maxHeartbeats 2000000 in
/-- One more copy issued. -/
theorem issue_one (c : Dev nD) (A : ABuf F) (T : TBuf) (s : Nat) (f : SBuf F) (n : Nat) (hn : n < 512)
    {od os : Fin 2 → Nat} {om : Fin 1 → Nat} (id : ∀ a, od a + S24x128.size a ≤ S24576x128.size a)
    (is : ∀ a, os a + S24x128.size a ≤ S884736x128.size a) (im : ∀ a, om a + S1.size a ≤ S2.size a)
    (hd : od = ![blk (s % 2) n * 24, 0]) (hs : os = ![posOf T (n % 4) (s * 128 + n / 4) * 24, 0]) (hm : om = ![s % 2])
    {h1 h2 h3} (k : PUnit → Prog (TpuEff nD τ sig (Elt F) Λ₀ .tc) α) :
    Issued c A T s f n
      ⊢ iprop((Issued c A T s f (n + 1) -∗ wp frame (wpE (defs₀ (F := F)) Variants.none (c : Thread nD τ) none) Set.univ (k ⟨⟩) Q)
        -∗ wp frame (wpE (defs₀ (F := F)) Variants.none (c : Thread nD τ) none) Set.univ
          (.op (.enqueueDma (hbM.slice (Rect.unit (s := S884736x128) os S24x128.size is) (fun _ => rfl))
            (.here (scM.slice (Rect.unit (s := S24576x128) od S24x128.size id) (fun _ => rfl)))
            (.dma ((cc0_scratch1.slice (Rect.unit (s := S2) om S1.size im)).squeeze S_ squeezes_S1_S_).sem) h1 h2 h3) k) Q) := by
  have hE := sem_eq im s hm
  generalize ((cc0_scratch1.slice (Rect.unit (s := S2) om S1.size im)).squeeze S_ squeezes_S1_S_).sem = sem at *
  subst hE
  unfold Issued
  rw [G_step c A T s f n hn, G_next c A T s f n hn]
  iintro ⟨HB, ⟨Hp, Ha⟩, Hr⟩ Hk
  ihave Ha2 := (pointsTo_split_subset (ℓ := hbM.view.loc (c : Thread nD τ)) (q := Transfers.shareTok (hq (half s)) 512 ⟨n, hn⟩) (f := A)
    (Finset.subset_univ (srcSet (posOf T (n % 4) (s * 128 + n / 4))))).1 $$ Ha
  icases Ha2 with ⟨Hsrc, Hrest⟩
  iapply (Transfers.wp_dmaBatch (countersEmb (U := Pipeline.UD sig nD τ)) Variants.none (c : Thread nD τ) none
    (src := hbM.slice (Rect.unit (s := S884736x128) os S24x128.size is) (fun _ => rfl))
    (dst := scM.slice (Rect.unit (s := S24576x128) od S24x128.size id) (fun _ => rfl)) (q := Transfers.shareTok (hq (half s)) 512 ⟨n, hn⟩) (fs := A)
    (Sd := pieceSet (blk (s % 2) n)) (fd := f)
    () cred (by exact cred_tile) (dst_set id _ hd).subset (D := Dlv c A T s) (j := n) (u := 0) hn (Nat.zero_le _) (by
      unfold Dlv
      rw [src_set is _ hs]
      refine sep_mono (Entails.of_eq ?_) .rfl
      exact pointsTo_congr (dst_landed A T s (s % 2) n hn id is hd hs f))) $$ [HB Hp Hsrc]
  · isplitl [Hsrc]
    · rw [src_set is _ hs]; iexact Hsrc
    isplitl [Hp]; · iexact Hp
    iexact HB
  iintro HB
  iapply Hk
  isplitl [HB]; · iexact HB
  isplitl [Hrest]; · iexact Hrest
  iexact Hr

theorem ret_bind' {E : Type → Type} {α β : Type} (a : α) (k : α → Prog E β) : (Prog.ret a).bind k = k a := rfl

/-- The position a table's entry gives. -/
theorem tb_read (T : TBuf) (k n : Nat) (hk : k < 4) (hn : n < 8192) {off : Fin 2 → Nat} (inb : ∀ a, off a + S1x1.size a ≤ S4x8192.size a) (h : off = ![k, n]) (x : (Rect.unit (s := S4x8192) off S1x1.size inb).shape.Idx) :
    ((tbM.access (Rect.unit (s := S4x8192) off S1x1.size inb)).read (Elt F) T x : BitVec 32).toNat = posOf T k n := by
  subst h
  unfold posOf
  have h0 : (x 0).val < 1 := (x 0).isLt
  have h1 : (x 1).val < 1 := (x 1).isLt
  refine congrArg BitVec.toNat (Eq.symm ?_)
  refine ent_eq _ _ T ((tbM.access (Rect.unit (s := S4x8192) _ S1x1.size inb)).emb x) _ _ ?_ ?_
  · show k + 1 * (x 0).val = k
    omega
  · show n + 1 * (x 1).val = n
    omega

/-- Reading an entry of the table. -/
theorem load_pos (c : Dev nD) (T : TBuf) (q : PosShare TreeShare) (k n : Nat) (hk : k < 4) (hn : n < 8192) {off : Fin 2 → Nat}
    (inb : ∀ a, off a + S1x1.size a ≤ S4x8192.size a) (h : off = ![k, n]) {hw} {x : (Rect.unit (s := S4x8192) off S1x1.size inb).shape.Idx}
    (kk : BitVec 32 → Prog (TpuEff nD τ sig (Elt F) Λ₀ .tc) α) :
    tbPt c q T
      ⊢ iprop((tbPt c q T -∗ ∀ v : BitVec 32, ⌜v.toNat = posOf T k n⌝ -∗ wp frame (wpE (defs₀ (F := F)) Variants.none (c : Thread nD τ) none) Set.univ (kk v) Q)
        -∗ wp frame (wpE (defs₀ (F := F)) Variants.none (c : Thread nD τ) none) Set.univ
          (smemLoadElt tbM (Rect.unit (s := S4x8192) off S1x1.size inb) hw x kk) Q) := by
  iintro Hpt Hk
  iapply (wp_smemLoadElt_named Variants.none (c : Thread nD τ) none Set.univ (m := tbM) (r := Rect.unit (s := S4x8192) off S1x1.size inb) (x := x)) $$ Hpt
  iintro Hpt %w %hw
  iapply Hk $$ Hpt
  ipureintro
  subst hw
  exact tb_read T k n hk hn inb h x

/-- Reading an entry of the table, checking what it gives, and the copy it names. -/
theorem one_trip (c : Dev nD) (A : ABuf F) (T : TBuf) (q : PosShare TreeShare) (s : Nat) (f : SBuf F) (n : Nat) (hn : n < 512) (hs : s < 64)
    (hpos : ∀ k n, k < 4 → n < 8192 → posOf T k n < 36864)
    {ot od : Fin 2 → Nat} {os : BitVec 32 → Fin 2 → Nat} {om : Fin 1 → Nat} (it : ∀ a, ot a + S1x1.size a ≤ S4x8192.size a)
    (id : ∀ a, od a + S24x128.size a ≤ S24576x128.size a) (im : ∀ a, om a + S1.size a ≤ S2.size a)
    (ht : ot = ![n % 4, s * 128 + n / 4]) (hd : od = ![blk (s % 2) n * 24, 0]) (hm : om = ![s % 2])
    (hsr : ∀ v : BitVec 32, v.toNat < 36864 → os v = ![v.toNat * 24, 0])
    (P : BitVec 32 → Prop) (hP : ∀ v : BitVec 32, v.toNat < 36864 → P v)
    (is : ∀ v, P v → ∀ a, os v a + S24x128.size a ≤ S884736x128.size a)
    {hw : (tbM.access (Rect.unit (s := S4x8192) ot S1x1.size it)).Loads} {x : (Rect.unit (s := S4x8192) ot S1x1.size it).shape.Idx} {dec : ∀ v, Decidable (P v)}
    (k : PUnit → Prog (TpuEff nD τ sig (Elt F) Λ₀ .tc) α) :
    iprop(tbPt c q T ∗ Issued c A T s f n)
      ⊢ iprop((tbPt c q T ∗ Issued c A T s f (n + 1) -∗ wp frame (wpE (defs₀ (F := F)) Variants.none (c : Thread nD τ) none) Set.univ (k ⟨⟩) Q)
        -∗ wp frame (wpE (defs₀ (F := F)) Variants.none (c : Thread nD τ) none) Set.univ
          (smemLoadElt tbM (Rect.unit (s := S4x8192) ot S1x1.size it) hw x fun v => .op (.assume (P v) (dec v)) fun hv =>
            .op (.enqueueDma (hbM.slice (Rect.unit (s := S884736x128) (os v) S24x128.size (is v hv.down)) (fun _ => rfl))
            (.here (scM.slice (Rect.unit (s := S24576x128) od S24x128.size id) (fun _ => rfl)))
            (.dma ((cc0_scratch1.slice (Rect.unit (s := S2) om S1.size im)).squeeze S_ squeezes_S1_S_).sem) (View.wordExact_bits rfl) (View.wordExact_bits rfl) ⟨Or.inl rfl, trivial⟩) k) Q) := by
  iintro ⟨HT, HI⟩ Hk
  iapply (load_pos c T q (n % 4) (s * 128 + n / 4) (by omega) (by omega) it ht) $$ HT
  iintro HT %v %hv
  have hv' : v.toNat < 36864 := hv ▸ hpos _ _ (by omega) (by omega)
  iapply (wp_assume Variants.none (c : Thread nD τ) none Set.univ (hP v hv'))
  iapply (issue_one c A T s f n hn id (is v (hP v hv')) im hd (by rw [hsr v hv', hv]) hm) $$ HI
  iintro HI
  iapply Hk
  isplitl [HT]; · iexact HT
  iexact HI

set_option maxHeartbeats 8000000 in
/-- A trip of loop 1: four copies of token `t` of step `s`. -/
theorem trip1 (c : Dev nD) (A : ABuf F) (T : TBuf) (q : PosShare TreeShare) (f : SBuf F) (i : grid0.Coords) (hs : (i 0).val < 64)
    (hpos : ∀ k n, k < 4 → n < 8192 → posOf T k n < 36864) (hc : k0_cond1 i = 1#1) (t : Fin k0_t1_loop.trips) (u : Unit)
    (arg2 : Memref sig .tc .vmem S8x128 .f32) (harg2 : arg2.IsWhole) (arg4 : Memref sig .tc .vmem S128x2816 .bf16) (harg4 : arg4.IsWhole) (arg0 v577 : BitVec 32) (h1 : tbM.IsWhole) (h3 : hbM.IsWhole) (h5 : scM.IsWhole)  :
    iprop(tbPt c q T ∗ Issued c A T (i 0).val f (4 * t.val))
      ⊢ wp frame (wpE (defs₀ (F := F)) Variants.none (c : Thread nD τ) none) Set.univ
          (k0_t1_body i tbM h1 arg2 harg2 hbM h3 arg4 harg4 scM h5 cc0_scratch1 arg0 hc v577 t u)
          (fun _ => iprop(tbPt c q T ∗ Issued c A T (i 0).val f (4 * (t.val + 1)))) := by
  have ht : t.val < 128 := lt_of_lt_of_eq t.isLt trips1
  unfold k0_t1_body
  rw [k0_part1_eq_skeleton]
  unfold k0_part1_skel
  iintro HS
  iapply (one_trip (Q := fun _ => iprop(tbPt c q T ∗ Issued c A T (i 0).val f (4 * (t.val + 1)))) c A T q (i 0).val f (4 * t.val + 0) (by omega) hs hpos
    (ot := k0_off1 i t) (od := k0_off3 i t) (os := k0_off4) (om := k0_off2 i) (hw := View.loads_smem_one rfl numel1_S1x1) (k0_off1_inb i t hc) (k0_off3_inb i t hc) (k0_off2_inb i hc)
    ((off1_eq i t).trans (by rw [show (4 * t.val + 0) % 4 = 0 by omega, show (4 * t.val + 0) / 4 = t.val by omega]))
    ((off3_eq i t).trans (by unfold blk; rw [show (4 * t.val + 0) % 4 = 0 by omega, show (4 * t.val + 0) / 4 = t.val by omega]; congr 1; omega))
    (off2_eq i) (fun v hv => off4_eq v hv) (k0_chk1 i) (fun v hv => chk1_of i v hv) (fun v hw => k0_off4_inb i v hw hc) _) $$ HS
  iintro HS
  iapply (one_trip (Q := fun _ => iprop(tbPt c q T ∗ Issued c A T (i 0).val f (4 * (t.val + 1)))) c A T q (i 0).val f (4 * t.val + 1) (by omega) hs hpos
    (ot := k0_off5 i t) (od := k0_off7 i t) (os := k0_off8) (om := k0_off6 i) (hw := View.loads_smem_one rfl numel1_S1x1) (k0_off5_inb i t hc) (k0_off7_inb i t hc) (k0_off6_inb i hc)
    ((off5_eq i t).trans (by rw [show (4 * t.val + 1) % 4 = 1 by omega, show (4 * t.val + 1) / 4 = t.val by omega]))
    ((off7_eq i t).trans (by unfold blk; rw [show (4 * t.val + 1) % 4 = 1 by omega, show (4 * t.val + 1) / 4 = t.val by omega]; congr 1; omega))
    (off6_eq i) (fun v hv => off8_eq v hv) (k0_chk2 i) (fun v hv => chk2_of i v hv) (fun v hw => k0_off8_inb i v hw hc) _) $$ HS
  iintro HS
  iapply (one_trip (Q := fun _ => iprop(tbPt c q T ∗ Issued c A T (i 0).val f (4 * (t.val + 1)))) c A T q (i 0).val f (4 * t.val + 2) (by omega) hs hpos
    (ot := k0_off9 i t) (od := k0_off11 i t) (os := k0_off12) (om := k0_off10 i) (hw := View.loads_smem_one rfl numel1_S1x1) (k0_off9_inb i t hc) (k0_off11_inb i t hc) (k0_off10_inb i hc)
    ((off9_eq i t).trans (by rw [show (4 * t.val + 2) % 4 = 2 by omega, show (4 * t.val + 2) / 4 = t.val by omega]))
    ((off11_eq i t).trans (by unfold blk; rw [show (4 * t.val + 2) % 4 = 2 by omega, show (4 * t.val + 2) / 4 = t.val by omega]; congr 1; omega))
    (off10_eq i) (fun v hv => off12_eq v hv) (k0_chk3 i) (fun v hv => chk3_of i v hv) (fun v hw => k0_off12_inb i v hw hc) _) $$ HS
  iintro HS
  iapply (one_trip (Q := fun _ => iprop(tbPt c q T ∗ Issued c A T (i 0).val f (4 * (t.val + 1)))) c A T q (i 0).val f (4 * t.val + 3) (by omega) hs hpos
    (ot := k0_off13 i t) (od := k0_off15 i t) (os := k0_off16) (om := k0_off14 i) (hw := View.loads_smem_one rfl numel1_S1x1) (k0_off13_inb i t hc) (k0_off15_inb i t hc) (k0_off14_inb i hc)
    ((off13_eq i t).trans (by rw [show (4 * t.val + 3) % 4 = 3 by omega, show (4 * t.val + 3) / 4 = t.val by omega]))
    ((off15_eq i t).trans (by unfold blk; rw [show (4 * t.val + 3) % 4 = 3 by omega, show (4 * t.val + 3) / 4 = t.val by omega]; congr 1; omega))
    (off14_eq i) (fun v hv => off16_eq v hv) (k0_chk4 i) (fun v hv => chk4_of i v hv) (fun v hw => k0_off16_inb i v hw hc) _) $$ HS
  iintro HS
  simp only [ret_bind']
  sl_step
  iexact HS

set_option maxHeartbeats 8000000 in
/-- A trip of loop 2: four copies of token `t` of step `s`. -/
theorem trip2 (c : Dev nD) (A : ABuf F) (T : TBuf) (q : PosShare TreeShare) (f : SBuf F) (i : grid0.Coords) (hs : ((i 0).val + 1) < 64)
    (hpos : ∀ k n, k < 4 → n < 8192 → posOf T k n < 36864) (hc : k0_cond2 i = 1#1) (t : Fin k0_t2_loop.trips) (u : Unit)
    (arg2 : Memref sig .tc .vmem S8x128 .f32) (harg2 : arg2.IsWhole) (arg4 : Memref sig .tc .vmem S128x2816 .bf16) (harg4 : arg4.IsWhole) (v577 v578 : BitVec 32) (h1 : tbM.IsWhole) (h3 : hbM.IsWhole) (h5 : scM.IsWhole)  :
    iprop(tbPt c q T ∗ Issued c A T ((i 0).val + 1) f (4 * t.val))
      ⊢ wp frame (wpE (defs₀ (F := F)) Variants.none (c : Thread nD τ) none) Set.univ
          (k0_t2_body i tbM h1 arg2 harg2 hbM h3 arg4 harg4 scM h5 cc0_scratch1 hc v577 v578 t u)
          (fun _ => iprop(tbPt c q T ∗ Issued c A T ((i 0).val + 1) f (4 * (t.val + 1)))) := by
  have ht : t.val < 128 := lt_of_lt_of_eq t.isLt trips2
  unfold k0_t2_body
  rw [k0_part2_eq_skeleton]
  unfold k0_part2_skel
  iintro HS
  iapply (one_trip (Q := fun _ => iprop(tbPt c q T ∗ Issued c A T ((i 0).val + 1) f (4 * (t.val + 1)))) c A T q ((i 0).val + 1) f (4 * t.val + 0) (by omega) hs hpos
    (ot := k0_off17 i t) (od := k0_off19 i t) (os := k0_off20) (om := k0_off18 i) (hw := View.loads_smem_one rfl numel1_S1x1) (k0_off17_inb i t hc) (k0_off19_inb i t hc) (k0_off18_inb i hc)
    ((off17_eq i t).trans (by rw [show (4 * t.val + 0) % 4 = 0 by omega, show (4 * t.val + 0) / 4 = t.val by omega]))
    ((off19_eq i t).trans (by unfold blk; rw [show (4 * t.val + 0) % 4 = 0 by omega, show (4 * t.val + 0) / 4 = t.val by omega]; congr 1; omega))
    (off18_eq i) (fun v hv => off20_eq v hv) (k0_chk5 i) (fun v hv => chk5_of i v hv) (fun v hw => k0_off20_inb i v hw hc) _) $$ HS
  iintro HS
  iapply (one_trip (Q := fun _ => iprop(tbPt c q T ∗ Issued c A T ((i 0).val + 1) f (4 * (t.val + 1)))) c A T q ((i 0).val + 1) f (4 * t.val + 1) (by omega) hs hpos
    (ot := k0_off21 i t) (od := k0_off23 i t) (os := k0_off24) (om := k0_off22 i) (hw := View.loads_smem_one rfl numel1_S1x1) (k0_off21_inb i t hc) (k0_off23_inb i t hc) (k0_off22_inb i hc)
    ((off21_eq i t).trans (by rw [show (4 * t.val + 1) % 4 = 1 by omega, show (4 * t.val + 1) / 4 = t.val by omega]))
    ((off23_eq i t).trans (by unfold blk; rw [show (4 * t.val + 1) % 4 = 1 by omega, show (4 * t.val + 1) / 4 = t.val by omega]; congr 1; omega))
    (off22_eq i) (fun v hv => off24_eq v hv) (k0_chk6 i) (fun v hv => chk6_of i v hv) (fun v hw => k0_off24_inb i v hw hc) _) $$ HS
  iintro HS
  iapply (one_trip (Q := fun _ => iprop(tbPt c q T ∗ Issued c A T ((i 0).val + 1) f (4 * (t.val + 1)))) c A T q ((i 0).val + 1) f (4 * t.val + 2) (by omega) hs hpos
    (ot := k0_off25 i t) (od := k0_off27 i t) (os := k0_off28) (om := k0_off26 i) (hw := View.loads_smem_one rfl numel1_S1x1) (k0_off25_inb i t hc) (k0_off27_inb i t hc) (k0_off26_inb i hc)
    ((off25_eq i t).trans (by rw [show (4 * t.val + 2) % 4 = 2 by omega, show (4 * t.val + 2) / 4 = t.val by omega]))
    ((off27_eq i t).trans (by unfold blk; rw [show (4 * t.val + 2) % 4 = 2 by omega, show (4 * t.val + 2) / 4 = t.val by omega]; congr 1; omega))
    (off26_eq i) (fun v hv => off28_eq v hv) (k0_chk7 i) (fun v hv => chk7_of i v hv) (fun v hw => k0_off28_inb i v hw hc) _) $$ HS
  iintro HS
  iapply (one_trip (Q := fun _ => iprop(tbPt c q T ∗ Issued c A T ((i 0).val + 1) f (4 * (t.val + 1)))) c A T q ((i 0).val + 1) f (4 * t.val + 3) (by omega) hs hpos
    (ot := k0_off29 i t) (od := k0_off31 i t) (os := k0_off32) (om := k0_off30 i) (hw := View.loads_smem_one rfl numel1_S1x1) (k0_off29_inb i t hc) (k0_off31_inb i t hc) (k0_off30_inb i hc)
    ((off29_eq i t).trans (by rw [show (4 * t.val + 3) % 4 = 3 by omega, show (4 * t.val + 3) / 4 = t.val by omega]))
    ((off31_eq i t).trans (by unfold blk; rw [show (4 * t.val + 3) % 4 = 3 by omega, show (4 * t.val + 3) / 4 = t.val by omega]; congr 1; omega))
    (off30_eq i) (fun v hv => off32_eq v hv) (k0_chk8 i) (fun v hv => chk8_of i v hv) (fun v hw => k0_off32_inb i v hw hc) _) $$ HS
  iintro HS
  simp only [ret_bind']
  sl_step
  iexact HS

theorem bigSep_sep' {I : Type} (S : Finset I) (Φ Ψ : I → sProp (MM F)) :
    bigSep S (fun i => iprop(Φ i ∗ Ψ i)) = iprop(bigSep S Φ ∗ bigSep S Ψ) := bigSep_sep S Φ Ψ

/-- A half with nothing in flight: its semaphore at zero, its rows at some contents, its share of the array; -/
def Free (c : Dev nD) (A : ABuf F) (b : Fin 2) : sProp (MM F) :=
  iprop(semVal ((c : Thread nD τ), SemLoc.dma (sem2 b)) 0 ∗ (∃ f, scPt c (slotSet b.val) f) ∗ hbPt c Finset.univ (hq b) A)

/-- a half with every copy of step `s` issued; -/
def Fly (c : Dev nD) (A : ABuf F) (T : TBuf) (s : Nat) : sProp (MM F) :=
  iprop(bat c A T s 512
    ∗ bigSep Finset.univ (fun j : Fin 512 => hbPt c (Finset.univ \ srcSet (posOf T (j.val % 4) (s * 128 + j.val / 4))) (Transfers.shareTok (hq (half s)) 512 j) A)
    ∗ hbPt c Finset.univ (Transfers.shareDrop (hq (half s)) 512) A)

/-- and a half with every copy of step `s` landed. -/
def Down (c : Dev nD) (A : ABuf F) (T : TBuf) (s : Nat) : sProp (MM F) :=
  iprop(semVal ((c : Thread nD τ), SemLoc.dma (sem2 (half s))) 0 ∗ scPt c (slotSet (half s).val) (landed A T s) ∗ hbPt c Finset.univ (hq (half s)) A)

theorem down_free (c : Dev nD) (A : ABuf F) (T : TBuf) (s : Nat) : Down c A T s ⊢ Free c A (half s) := by
  unfold Down Free
  iintro ⟨H1, H2, H3⟩
  isplitl [H1]; · iexact H1
  isplitl [H2]; · iexists _; iexact H2
  iexact H3

theorem start (c : Dev nD) (A : ABuf F) (T : TBuf) (s : Nat) :
    Free c A (half s) ⊢ |={Set.univ}=> iprop((∃ f, Issued c A T s f 0) ∗ hbPt c Finset.univ (Transfers.shareDrop (hq (half s)) 512) A) := by
  unfold Free Issued
  iintro ⟨Hd, ⟨%f, Hs⟩, Ha⟩
  imod (Transfers.batch_alloc' (Lvl := ℕ) (countersEmb (U := Pipeline.UD sig nD τ)) (c : Thread nD τ) () cred (Dlv c A T s) (sm := .dma (sem2 (half s))) (E := Set.univ)) $$ Hd with HB
  ihave Ha2 := (Transfers.pointsTo_toks_split (hq (half s)) 512) $$ Ha
  icases Ha2 with ⟨Hdrop, Htoks⟩
  imodintro
  isplitr [Hdrop]; swap; · iexact Hdrop
  iexists f
  isplitl [HB]; · iexact HB
  have e : bigSep Finset.univ (G c A T s f 0)
      = iprop(scPt c (slotSet (half s).val) f ∗ bigSep Finset.univ (fun j : Fin 512 => hbPt c Finset.univ (Transfers.shareTok (hq (half s)) 512 j) A)) := by
    rw [show (half s).val = s % 2 from rfl, slot_eq]
    unfold scPt
    rw [pointsTo_biUnion _ _ (piece_disjoint (s % 2))]
    refine Eq.trans ?_ (bigSep_sep' _ _ _)
    exact bigSep_congr fun j _ => if_neg (Nat.not_lt_zero _)
  rw [e]
  isplitl [Hs]; · iexact Hs
  iexact Htoks

theorem issued_all (c : Dev nD) (A : ABuf F) (T : TBuf) (s : Nat) (f : SBuf F) :
    Issued c A T s f 512 ⊢ iprop(bat c A T s 512
    ∗ bigSep Finset.univ (fun j : Fin 512 => hbPt c (Finset.univ \ srcSet (posOf T (j.val % 4) (s * 128 + j.val / 4))) (Transfers.shareTok (hq (half s)) 512 j) A)) := by
  unfold Issued
  refine sep_mono .rfl (Entails.of_eq (bigSep_congr fun j _ => if_pos j.isLt))

theorem gather (c : Dev nD) (A : ABuf F) (T : TBuf) (s : Nat) :
    iprop(bigSep Finset.univ (Dlv c A T s)
      ∗ bigSep Finset.univ (fun j : Fin 512 => hbPt c (Finset.univ \ srcSet (posOf T (j.val % 4) (s * 128 + j.val / 4))) (Transfers.shareTok (hq (half s)) 512 j) A)
      ∗ hbPt c Finset.univ (Transfers.shareDrop (hq (half s)) 512) A)
    ⊢ iprop(scPt c (slotSet (half s).val) (landed A T s) ∗ hbPt c Finset.univ (hq (half s)) A) := by
  unfold Dlv
  refine (sep_mono (Entails.of_eq (bigSep_sep' _ _ _)) .rfl).trans ?_
  iintro ⟨⟨Hp, Hs⟩, Hr, Hd⟩
  isplitl [Hp]
  · rw [show (half s).val = s % 2 from rfl, slot_eq]
    unfold scPt
    rw [pointsTo_biUnion _ _ (piece_disjoint (s % 2))]
    iexact Hp
  iapply (Transfers.pointsTo_toks_join (hq (half s)) 512)
  isplitl [Hd]; · iexact Hd
  iapply (show iprop(bigSep Finset.univ (fun j : Fin 512 => hbPt c (srcSet (posOf T (j.val % 4) (s * 128 + j.val / 4))) (Transfers.shareTok (hq (half s)) 512 j) A)
      ∗ bigSep Finset.univ (fun j : Fin 512 => hbPt c (Finset.univ \ srcSet (posOf T (j.val % 4) (s * 128 + j.val / 4))) (Transfers.shareTok (hq (half s)) 512 j) A))
      ⊢ bigSep Finset.univ (fun j : Fin 512 => hbPt c Finset.univ (Transfers.shareTok (hq (half s)) 512 j) A) by
    refine (Entails.of_eq (bigSep_sep' _ _ _).symm).trans ?_
    exact bigSep_mono fun j _ => (pointsTo_split_subset (Finset.subset_univ _)).2)
  isplitl [Hs]; · iexact Hs
  iexact Hr

theorem cred_all : RefSig.tileCredit S12288x128 .f32 = 384 * 512 := by decide +kernel

/-- The step's wait: every copy landed. -/
theorem wait_all (c : Dev nD) (A : ABuf F) (T : TBuf) (s : Nat) {om : Fin 1 → Nat} {od : Fin 2 → Nat} (im : ∀ a, om a + S1.size a ≤ S2.size a)
    (id : ∀ a, od a + S12288x128.size a ≤ S24576x128.size a) (is : ∀ a, (![0, 0] : Fin 2 → Nat) a + S12288x128.size a ≤ S884736x128.size a) (hm : om = ![s % 2]) {W : Waits sig Unit}
    (k : PUnit → Prog (TpuEff nD τ sig (Elt F) Λ₀ .tc) α) :
    iprop(Fly c A T s ∗ owes (c : Thread nD τ) 0 W)
      ⊢ iprop((Down c A T s ∗ (∃ W', owes (c : Thread nD τ) 0 W') -∗ wp frame (wpE (defs₀ (F := F)) Variants.none (c : Thread nD τ) none) Set.univ (k ⟨⟩) Q)
        -∗ wp frame (wpE (defs₀ (F := F)) Variants.none (c : Thread nD τ) none) Set.univ
          (.op (.waitDma2 ((cc0_scratch1.slice (Rect.unit (s := S2) om S1.size im)).squeeze S_ squeezes_S1_S_).sem
            (hbM.slice (Rect.unit (s := S884736x128) ![0, 0] S12288x128.size is) (fun _ => rfl))
            (scM.slice (Rect.unit (s := S24576x128) od S12288x128.size id) (fun _ => rfl)) (View.wordExact_bits rfl) (View.wordExact_bits rfl)) k) Q) := by
  have hE := sem_eq im s hm
  generalize ((cc0_scratch1.slice (Rect.unit (s := S2) om S1.size im)).squeeze S_ squeezes_S1_S_).sem = sem at *
  subst hE
  unfold Fly Down
  iintro ⟨⟨HB, Hr, Hd⟩, HO⟩ Hk
  iapply (Transfers.wp_waitBatchAll (countersEmb (U := Pipeline.UD sig nD τ)) Variants.none (c : Thread nD τ) none () (N := cred) (J := 384 * 512)
    (by exact cred_all) (by decide) (D := Dlv c A T s) (u := 0) (Nat.zero_add _)) $$ [HB HO]
  · isplitl [HB] <;> iassumption
  iintro ⟨HD, Hv, HO⟩
  iapply Hk
  isplitr [HO]; swap; · iexists _; iexact HO
  isplitl [Hv]; · iexact Hv
  iapply (gather c A T s)
  isplitl [HD]; · iexact HD
  isplitl [Hr]; · iexact Hr
  iexact Hd

set_option maxHeartbeats 2000000 in
/-- Loop 1 issues every copy of its step. -/
theorem loop1 (c : Dev nD) (A : ABuf F) (T : TBuf) (q : PosShare TreeShare) (i : grid0.Coords) (hs : (i 0).val < 64)
    (hpos : ∀ k n, k < 4 → n < 8192 → posOf T k n < 36864) (hc : k0_cond1 i = 1#1)
    (arg2 : Memref sig .tc .vmem S8x128 .f32) (harg2 : arg2.IsWhole) (arg4 : Memref sig .tc .vmem S128x2816 .bf16) (harg4 : arg4.IsWhole) (arg0 v577 v578 : BitVec 32) (h1 : tbM.IsWhole) (h3 : hbM.IsWhole) (h5 : scM.IsWhole)
    (kk : Unit → Prog (TpuEff nD τ sig (Elt F) Λ₀ .tc) α) :
    iprop(tbPt c q T ∗ Free c A (half (i 0).val))
      ⊢ iprop((tbPt c q T ∗ Fly c A T (i 0).val -∗ wp frame (wpE (defs₀ (F := F)) Variants.none (c : Thread nD τ) none) Set.univ (kk ⟨⟩) Q)
        -∗ wp frame (wpE (defs₀ (F := F)) Variants.none (c : Thread nD τ) none) Set.univ
          (Scf.Loop.for k0_t1_loop (k0_t1_ok i hc) ⟨⟩ (k0_t1_body i tbM h1 arg2 harg2 hbM h3 arg4 harg4 scM h5 cc0_scratch1 arg0 hc v577) >>= kk) Q) := by
  iintro ⟨HT, HF⟩ Hk
  imod (start c A T (i 0).val) $$ HF with ⟨⟨%f, HI⟩, Hd⟩
  iapply (Scf.wp_for_bind frame (wpE (defs₀ (F := F)) Variants.none (c : Thread nD τ) none) Set.univ _ _ _ (k0_t1_ok i hc) ⟨⟩
    (k0_t1_body i tbM h1 arg2 harg2 hbM h3 arg4 harg4 scM h5 cc0_scratch1 arg0 hc v577) (fun n _ => iprop(tbPt c q T ∗ Issued c A T (i 0).val f (4 * n)))
    (fun t u => trip1 c A T q f i hs hpos hc t u arg2 harg2 arg4 harg4 arg0 v577 h1 h3 h5)) $$ [HT HI]
  · isplitl [HT]; · iexact HT
    iexact HI
  iintro %acc ⟨HT, HI⟩
  iapply Hk
  isplitl [HT]; · iexact HT
  unfold Fly
  ihave HI2 := ((Entails.of_eq (congrArg (fun n => Issued c A T (i 0).val f (4 * n)) trips1)).trans (issued_all c A T (i 0).val f)) $$ HI
  icases HI2 with ⟨HB, HG⟩
  isplitl [HB]; · iexact HB
  isplitl [HG]; · iexact HG
  iexact Hd

set_option maxHeartbeats 2000000 in
/-- Loop 2 issues every copy of its step. -/
theorem loop2 (c : Dev nD) (A : ABuf F) (T : TBuf) (q : PosShare TreeShare) (i : grid0.Coords) (hs : ((i 0).val + 1) < 64)
    (hpos : ∀ k n, k < 4 → n < 8192 → posOf T k n < 36864) (hc : k0_cond2 i = 1#1)
    (arg2 : Memref sig .tc .vmem S8x128 .f32) (harg2 : arg2.IsWhole) (arg4 : Memref sig .tc .vmem S128x2816 .bf16) (harg4 : arg4.IsWhole) (arg0 v577 v578 : BitVec 32) (h1 : tbM.IsWhole) (h3 : hbM.IsWhole) (h5 : scM.IsWhole)
    (kk : Unit → Prog (TpuEff nD τ sig (Elt F) Λ₀ .tc) α) :
    iprop(tbPt c q T ∗ Free c A (half ((i 0).val + 1)))
      ⊢ iprop((tbPt c q T ∗ Fly c A T ((i 0).val + 1) -∗ wp frame (wpE (defs₀ (F := F)) Variants.none (c : Thread nD τ) none) Set.univ (kk ⟨⟩) Q)
        -∗ wp frame (wpE (defs₀ (F := F)) Variants.none (c : Thread nD τ) none) Set.univ
          (Scf.Loop.for k0_t2_loop (k0_t2_ok i hc) ⟨⟩ (k0_t2_body i tbM h1 arg2 harg2 hbM h3 arg4 harg4 scM h5 cc0_scratch1 hc v577 v578) >>= kk) Q) := by
  iintro ⟨HT, HF⟩ Hk
  imod (start c A T ((i 0).val + 1)) $$ HF with ⟨⟨%f, HI⟩, Hd⟩
  iapply (Scf.wp_for_bind frame (wpE (defs₀ (F := F)) Variants.none (c : Thread nD τ) none) Set.univ _ _ _ (k0_t2_ok i hc) ⟨⟩
    (k0_t2_body i tbM h1 arg2 harg2 hbM h3 arg4 harg4 scM h5 cc0_scratch1 hc v577 v578) (fun n _ => iprop(tbPt c q T ∗ Issued c A T ((i 0).val + 1) f (4 * n)))
    (fun t u => trip2 c A T q f i hs hpos hc t u arg2 harg2 arg4 harg4 v577 v578 h1 h3 h5)) $$ [HT HI]
  · isplitl [HT]; · iexact HT
    iexact HI
  iintro %acc ⟨HT, HI⟩
  iapply Hk
  isplitl [HT]; · iexact HT
  unfold Fly
  ihave HI2 := ((Entails.of_eq (congrArg (fun n => Issued c A T ((i 0).val + 1) f (4 * n)) trips2)).trans (issued_all c A T ((i 0).val + 1) f)) $$ HI
  icases HI2 with ⟨HB, HG⟩
  isplitl [HB]; · iexact HB
  isplitl [HG]; · iexact HG
  iexact Hd

end Cert.CombineIdeal.Hand
-- ==== Proof.CIdeal.Steps.lean ====
/- The sums of a step: what a strided load of the landed rows reads, the columns it puts together, and the two as steps of the
   body's proof. -/
module

public import proofs.«01_k».proof.Proof.CIdeal.Issue
public import Idealize.ShloMosaic.Lib.Pipeline.FrameBody
public import Idealize.ShloMosaic.Lib.Pipeline.Frame
public import Idealize.ShloMosaic.Lib.Batch
public import Idealize.ShloMosaic.Lib.ViewIndex
public import Idealize.ShloMosaic.Lib.Tactic

@[expose] public section

set_option maxRecDepth 16384

noncomputable section

namespace Cert.CombineIdeal.Hand

open Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Shape (pair pair_eta pair_zero pair_one)

variable {F : FTy → Type} [FloatOps F]

variable {α : Type} {Q : α → sProp (MM F)}

/-- The rows `j` of choice `k` of a step's tokens, as the strided load reads them; -/
def ld (A : ABuf F) (T : TBuf) (s k j : Nat) : FVec F S128x128 .f32 := fun x =>
  ent (d := ![884736, 128]) (by decide) (by decide) A (posOf T k (s * 128 + (x 0).val) * 24 + j) (x 1).val

/-- columns `128 j` to `128 j + 127` of the step's result, from the gates' block `gv`; -/
def colv (A : ABuf F) (T : TBuf) (gv : Vec F S8x128 .f32) (s j : Nat) : FVec F S128x128 .bf16 :=
  k0_pay9 (k0_pay3 gv) (k0_pay4 gv) (k0_pay5 gv) (k0_pay6 gv) (ld A T s 0 j) (ld A T s 1 j) (ld A T s 2 j) (ld A T s 3 j)

/-- the sum of its first two choices; -/
def two (A : ABuf F) (T : TBuf) (gv : Vec F S8x128 .f32) (s j : Nat) : FVec F S128x128 .f32 :=
  k0_pay11 (k0_pay3 gv) (k0_pay4 gv) (ld A T s 0 j) (ld A T s 1 j)

/-- and the step's result. -/
def outB (A : ABuf F) (T : TBuf) (gv : Vec F S8x128 .f32) (s : Nat) : S128x2816.Idx → F .bf16 := fun x =>
  colv A T gv s ((x 1).val / 128) (pair (d := ![128, 128]) (x 0) ⟨(x 1).val % 128, Nat.mod_lt _ (by decide)⟩)

/-- The result's buffer with its first `j` blocks of columns done. -/
def Cols (c : Dev nD) (A : ABuf F) (T : TBuf) (gv : Vec F S8x128 .f32) (s : Nat) (arg4 : Memref sig .tc .vmem S128x2816 .bf16) (j : Nat) : sProp (MM F) :=
  iprop(∃ g, (arg4.view.loc (c : Thread nD τ) ↦[arg4.view.set]{fullShare} g)
    ∗ ⌜∀ x : S128x2816.Idx, (x 1).val < 128 * j → arg4.view.read (Elt F) g x = outB A T gv s x⌝)

/-- What the compute holds. -/
def Rn (c : Dev nD) (A : ABuf F) (T : TBuf) (gv : Vec F S8x128 .f32) (s : Nat) (arg4 : Memref sig .tc .vmem S128x2816 .bf16) (j : Nat) : sProp (MM F) :=
  iprop(scPt c (slotSet (half s).val) (landed A T s) ∗ Cols c A T gv s arg4 j)

theorem ld_eq (A : ABuf F) (T : TBuf) (s k j : Nat) (hk : k < 4) (hj : j < 22) {off : Fin 2 → Nat} (inb : ∀ a, S128x128.size a = 0 ∨ off a + (![24, 1] : Fin 2 → Nat) a * (S128x128.size a - 1) < S24576x128.size a)
    (h : off = ![s % 2 * 12288 + 3072 * k + j, 0]) :
    scM.view.readAt (Elt F) (⟨off, S128x128.size, ![24, 1], inb⟩ : LoadRect S24576x128) (landed A T s) = ld A T s k j := by
  subst h
  funext x
  have h0 : (x 0).val < 128 := (x 0).isLt
  have hr : (s % 2 * 12288 + 3072 * k + j + 24 * (x 0).val) / 24 = blk (s % 2) (4 * (x 0).val + k) := by unfold blk; omega
  have hm : (s % 2 * 12288 + 3072 * k + j + 24 * (x 0).val) % 24 = j := by omega
  obtain ⟨-, e1, e2⟩ := blk_arith (by omega) hr
  have a1 : (4 * (x 0).val + k) % 4 = k := by omega
  have a2 : (4 * (x 0).val + k) / 4 = (x 0).val := by omega
  show ent (by decide) (by decide) A (posOf T ((s % 2 * 12288 + 3072 * k + j + 24 * (x 0).val) % 12288 / 3072) (s * 128 + (s % 2 * 12288 + 3072 * k + j + 24 * (x 0).val) % 3072 / 24) * 24
    + (s % 2 * 12288 + 3072 * k + j + 24 * (x 0).val) % 24) (0 + 1 * (x 1).val) = ent (by decide) (by decide) A _ _
  rw [e1, e2, hm, a1, a2, Nat.zero_add, Nat.one_mul]

theorem ld_sub (s k j : Nat) (hk : k < 4) (hj : j < 22) {off : Fin 2 → Nat} (inb : ∀ a, S128x128.size a = 0 ∨ off a + (![24, 1] : Fin 2 → Nat) a * (S128x128.size a - 1) < S24576x128.size a)
    (h : off = ![s % 2 * 12288 + 3072 * k + j, 0]) :
    scM.view.setOn (⟨off, S128x128.size, ![24, 1], inb⟩ : LoadRect S24576x128).set ⊆ slotSet (half s).val := by
  subst h
  intro i hi
  obtain ⟨y, hy, rfl⟩ := Finset.mem_map.mp hi
  rw [mem_slot]
  obtain ⟨r, hr, he⟩ := LoadRect.mem_set _ |>.mp hy 0
  have hr' : r < 128 := hr
  have he' : (y 0).val = s % 2 * 12288 + 3072 * k + j + 24 * r := he
  show (y 0).val / 12288 = s % 2
  omega

/-- A strided load of the landed rows; -/
theorem step_sc (c : Dev nD) (A : ABuf F) (T : TBuf) (gv : Vec F S8x128 .f32) (s : Nat) (arg4 : Memref sig .tc .vmem S128x2816 .bf16) (n : Nat)
    (k j : Nat) (hk : k < 4) (hj : j < 22) {off : Fin 2 → Nat} (inb : ∀ a, S128x128.size a = 0 ∨ off a + (![24, 1] : Fin 2 → Nat) a * (S128x128.size a - 1) < S24576x128.size a)
    (h : off = ![s % 2 * 12288 + 3072 * k + j, 0]) {hl : scM.view.LoadsAt (⟨off, S128x128.size, ![24, 1], inb⟩ : LoadRect S24576x128)}
    (kk : ((⟨off, S128x128.size, ![24, 1], inb⟩ : LoadRect S24576x128).shape.Idx → Elt F .f32) → Prog (TpuEff nD τ sig (Elt F) Λ₀ .tc) α) :
    Rn c A T gv s arg4 n
      ⊢ iprop((Rn c A T gv s arg4 n -∗ wp frame (wpE (defs₀ (F := F)) Variants.none (c : Thread nD τ) none) Set.univ (kk (ld A T s k j)) Q)
        -∗ wp frame (wpE (defs₀ (F := F)) Variants.none (c : Thread nD τ) none) Set.univ
          (.op (.load scM (⟨off, S128x128.size, ![24, 1], inb⟩ : LoadRect S24576x128) hl) kk) Q) := by
  unfold Rn
  iintro ⟨Hs, Hc⟩ Hk
  iapply (wp_load Variants.none (c : Thread nD τ) none Set.univ (ld_sub s k j hk hj inb h)) $$ Hs
  iintro Hs
  rw [ld_eq A T s k j hk hj inb h]
  iapply Hk
  isplitl [Hs]; · iexact Hs
  iexact Hc

/-- a load of the result's buffer, unused; -/
theorem step_l4 (c : Dev nD) (A : ABuf F) (T : TBuf) (gv : Vec F S8x128 .f32) (s : Nat) (arg4 : Memref sig .tc .vmem S128x2816 .bf16) (n : Nat)
    (r : LoadRect S128x2816) {hl : arg4.view.LoadsAt r} (kk : (r.shape.Idx → Elt F .bf16) → Prog (TpuEff nD τ sig (Elt F) Λ₀ .tc) α) :
    Rn c A T gv s arg4 n
      ⊢ iprop((∀ v, Rn c A T gv s arg4 n -∗ wp frame (wpE (defs₀ (F := F)) Variants.none (c : Thread nD τ) none) Set.univ (kk v) Q)
        -∗ wp frame (wpE (defs₀ (F := F)) Variants.none (c : Thread nD τ) none) Set.univ (.op (.load arg4 r hl) kk) Q) := by
  unfold Rn Cols
  iintro ⟨Hs, ⟨%g, Hg, %hg⟩⟩ Hk
  iapply (wp_load Variants.none (c : Thread nD τ) none Set.univ (View.setOn_subset_set _ _)) $$ Hg
  iintro Hg
  iapply Hk
  isplitl [Hs]; · iexact Hs
  iexists g
  isplitl [Hg]; · iexact Hg
  ipureintro; exact hg

/-- and a store of the next block of columns. -/
theorem step_st (c : Dev nD) (A : ABuf F) (T : TBuf) (gv : Vec F S8x128 .f32) (s : Nat) (arg4 : Memref sig .tc .vmem S128x2816 .bf16) (n : Nat)
    {off : Fin 2 → Nat} (inb : ∀ a, off a + S128x128.size a ≤ S128x2816.size a) (h : off = ![0, 128 * n]) (w : FVec F S128x128 .bf16) (hw : w = colv A T gv s n)
    {hx : (arg4.access (Rect.unit (s := S128x2816) off S128x128.size inb)).Stores Finset.univ} {hm}
    (kk : PUnit → Prog (TpuEff nD τ sig (Elt F) Λ₀ .tc) α) :
    Rn c A T gv s arg4 n
      ⊢ iprop((Rn c A T gv s arg4 (n + 1) -∗ wp frame (wpE (defs₀ (F := F)) Variants.none (c : Thread nD τ) none) Set.univ (kk ⟨⟩) Q)
        -∗ wp frame (wpE (defs₀ (F := F)) Variants.none (c : Thread nD τ) none) Set.univ
          (.op (.store arg4 (Rect.unit (s := S128x2816) off S128x128.size inb) w Finset.univ hx hm) kk) Q) := by
  subst h hw
  unfold Rn Cols
  iintro ⟨Hs, ⟨%g, Hg, %hg⟩⟩ Hk
  iapply (wp_store Variants.none (c : Thread nD τ) none Set.univ (m := arg4) (r := Rect.unit (s := S128x2816) ![0, 128 * n] S128x128.size inb) (hx := hx) (S := arg4.view.set) (f := g)
    ((View.setOn_subset_set _ _).trans (by
      show (arg4.view.slice _).set ⊆ _
      rw [View.set_slice]; exact View.setOn_subset_set _ _))) $$ Hg
  iintro Hg
  iapply Hk
  isplitl [Hs]; · iexact Hs
  iexists _
  isplitl [Hg]; · iexact Hg
  ipureintro
  intro x hx1
  have e0 : (x 0).val < 128 := (x 0).isLt
  by_cases hlt : (x 1).val < 128 * n
  · refine Eq.trans ?_ (hg x hlt)
    refine congrArg (cast _) (View.write_of_not_mem _ _ _ ?_)
    intro hmem
    have hmem : arg4.view.emb x ∈ (arg4.view.slice (Rect.unit (s := S128x2816) ![0, 128 * n] S128x128.size inb)).set := View.setOn_subset_set _ _ hmem
    rw [View.set_slice] at hmem
    have hm2 := (View.mem_setOn _).mp hmem
    have h1 := (Rect.mem_set_unit.mp hm2) 1
    have h1' : 128 * n ≤ (x 1).val := h1.1
    omega
  · have hx1' : (x 1).val < 128 * n + 128 := by omega
    obtain ⟨y, rfl⟩ : ∃ y, (Rect.unit (s := S128x2816) ![0, 128 * n] S128x128.size inb).emb y = x := by
      refine ⟨pair (d := ![128, 128]) (x 0) ⟨(x 1).val - 128 * n, by show _ < 128; omega⟩, ?_⟩
      funext a
      match a with
      | ⟨0, _⟩ => exact Fin.ext (by show 0 + 1 * (x 0).val = (x 0).val; omega)
      | ⟨1, _⟩ => exact Fin.ext (by show 128 * n + 1 * ((x 1).val - 128 * n) = (x 1).val; omega)
    refine (congrFun (View.read_write_univ (v := arg4.access (Rect.unit (s := S128x2816) ![0, 128 * n] S128x128.size inb)) g _) y).trans ?_
    have hy : (y 1).val < 128 := (y 1).isLt
    unfold outB
    have d1 : ((Rect.unit (s := S128x2816) ![0, 128 * n] S128x128.size inb).emb y 1).val = 128 * n + (y 1).val := by
      show 128 * n + 1 * (y 1).val = _; omega
    have d2 : (128 * n + (y 1).val) / 128 = n := by omega
    have key : ∀ (q : Nat) (z : S128x128.Idx), q = n → z = y → colv A T gv s n y = colv A T gv s q z := by rintro _ _ rfl rfl; rfl
    refine key _ _ (by rw [d1, d2]) ?_
    funext a
    match a with
    | ⟨0, _⟩ => exact Fin.ext (by show 0 + 1 * (y 0).val = (y 0).val; omega)
    | ⟨1, _⟩ => exact Fin.ext (by show (128 * n + 1 * (y 1).val) % 128 = (y 1).val; omega)

end Cert.CombineIdeal.Hand
-- ==== Proof.CIdeal.Parts.lean ====
/- The body's compute, part by part. -/
module

public import proofs.«01_k».proof.Proof.CIdeal.Steps
public import Idealize.ShloMosaic.Lib.Pipeline.FrameBody
public import Idealize.ShloMosaic.Lib.Pipeline.Frame
public import Idealize.ShloMosaic.Lib.Batch
public import Idealize.ShloMosaic.Lib.ViewIndex
public import Idealize.ShloMosaic.Lib.Tactic

@[expose] public section

set_option maxRecDepth 16384

noncomputable section

namespace Cert.CombineIdeal.Hand

open Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Shape (pair pair_eta pair_zero pair_one)

variable {F : FTy → Type} [FloatOps F]

variable {α : Type} {Q : α → sProp (MM F)}

set_option maxHeartbeats 8000000 in
theorem part4_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 0
      ⊢ iprop((Rn c A T gv (i 0).val arg4 1 -∗ wp frame (wpE (defs₀ (F := F)) Variants.none (c : Thread nD τ) none) Set.univ (kk (colv A T gv (i 0).val 1)) Q)
        -∗ wp frame (wpE (defs₀ (F := F)) Variants.none (c : Thread nD τ) none) Set.univ (k0_part4 i tbM h1 arg2 harg2 hbM h3 arg4 harg4 scM h5 cc0_scratch1 v8 (k0_pay3 gv) (k0_pay4 gv) (k0_pay5 gv) (k0_pay6 gv) (two A T gv (i 0).val 0) >>= kk) Q) := by
  rw [k0_part4_eq_skeleton]
  unfold k0_part4_skel
  iintro HR Hk
  iapply (step_sc (Q := Q) c A T gv (i 0).val arg4 0 2 0 (by decide) (by decide) (off := k0_off35 i 6144#32 0#32) (k0_off35_inb i 2 0) (off35_eq i 2 0) (hl := View.loadsAt_vmem h_S128x128) _) $$ HR
  iintro HR
  iapply (step_sc (Q := Q) c A T gv (i 0).val arg4 0 3 0 (by decide) (by decide) (off := k0_off35 i 9216#32 0#32) (k0_off35_inb i 3 0) (off35_eq i 3 0) (hl := View.loadsAt_vmem h_S128x128) _) $$ HR
  iintro HR
  iapply (step_l4 (Q := Q) c A T gv (i 0).val arg4 0 _ (hl := View.loadsAt_vmem h_S128x128) _) $$ HR
  iintro %_v HR
  iapply (step_st (Q := Q) c A T gv (i 0).val arg4 0 (off := ![0, 0]) inb_S128x2816_S128x128_0_0 rfl _ rfl (hx := View.stores_vmem h_S128x128 (harg4.storeExact_slice rfl _ packedbf16_S128x2816_S128x128_0_0) (fun _ => rfl)) (hm := .inl rfl) _) $$ HR
  iintro HR
  iapply (step_sc (Q := Q) c A T gv (i 0).val arg4 1 0 1 (by decide) (by decide) (off := k0_off35 i 0#32 1#32) (k0_off35_inb i 0 1) (off35_eq i 0 1) (hl := View.loadsAt_vmem h_S128x128) _) $$ HR
  iintro HR
  iapply (step_sc (Q := Q) c A T gv (i 0).val arg4 1 1 1 (by decide) (by decide) (off := k0_off35 i 3072#32 1#32) (k0_off35_inb i 1 1) (off35_eq i 1 1) (hl := View.loadsAt_vmem h_S128x128) _) $$ HR
  iintro HR
  iapply (step_sc (Q := Q) c A T gv (i 0).val arg4 1 2 1 (by decide) (by decide) (off := k0_off35 i 6144#32 1#32) (k0_off35_inb i 2 1) (off35_eq i 2 1) (hl := View.loadsAt_vmem h_S128x128) _) $$ HR
  iintro HR
  iapply (step_sc (Q := Q) c A T gv (i 0).val arg4 1 3 1 (by decide) (by decide) (off := k0_off35 i 9216#32 1#32) (k0_off35_inb i 3 1) (off35_eq i 3 1) (hl := View.loadsAt_vmem h_S128x128) _) $$ HR
  iintro HR
  iapply Hk
  iexact HR

set_option maxHeartbeats 8000000 in
theorem part5_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 1
      ⊢ iprop((Rn c A T gv (i 0).val arg4 3 -∗ wp frame (wpE (defs₀ (F := F)) Variants.none (c : Thread nD τ) none) Set.univ (kk (two A T gv (i 0).val 3)) Q)
        -∗ wp frame (wpE (defs₀ (F := F)) Variants.none (c : Thread nD τ) none) Set.univ (k0_part5 i tbM h1 arg2 harg2 hbM h3 arg4 harg4 scM h5 cc0_scratch1 v8 (k0_pay3 gv) (k0_pay4 gv) (k0_pay5 gv) (k0_pay6 gv) (colv A T gv (i 0).val 1) >>= kk) Q) := by
  rw [k0_part5_eq_skeleton]
  unfold k0_part5_skel
  iintro HR Hk
  iapply (step_l4 (Q := Q) c A T gv (i 0).val arg4 1 _ (hl := View.loadsAt_vmem h_S128x128) _) $$ HR
  iintro %_v HR
  iapply (step_st (Q := Q) c A T gv (i 0).val arg4 1 (off := ![0, 128]) inb_S128x2816_S128x128_0_128 rfl _ rfl (hx := View.stores_vmem h_S128x128 (harg4.storeExact_slice rfl _ packedbf16_S128x2816_S128x128_0_128) (fun _ => rfl)) (hm := .inl rfl) _) $$ HR
  iintro HR
  iapply (step_sc (Q := Q) c A T gv (i 0).val arg4 2 0 2 (by decide) (by decide) (off := k0_off35 i 0#32 2#32) (k0_off35_inb i 0 2) (off35_eq i 0 2) (hl := View.loadsAt_vmem h_S128x128) _) $$ HR
  iintro HR
  iapply (step_sc (Q := Q) c A T gv (i 0).val arg4 2 1 2 (by decide) (by decide) (off := k0_off35 i 3072#32 2#32) (k0_off35_inb i 1 2) (off35_eq i 1 2) (hl := View.loadsAt_vmem h_S128x128) _) $$ HR
  iintro HR
  iapply (step_sc (Q := Q) c A T gv (i 0).val arg4 2 2 2 (by decide) (by decide) (off := k0_off35 i 6144#32 2#32) (k0_off35_inb i 2 2) (off35_eq i 2 2) (hl := View.loadsAt_vmem h_S128x128) _) $$ HR
  iintro HR
  iapply (step_sc (Q := Q) c A T gv (i 0).val arg4 2 3 2 (by decide) (by decide) (off := k0_off35 i 9216#32 2#32) (k0_off35_inb i 3 2) (off35_eq i 3 2) (hl := View.loadsAt_vmem h_S128x128) _) $$ HR
  iintro HR
  iapply (step_l4 (Q := Q) c A T gv (i 0).val arg4 2 _ (hl := View.loadsAt_vmem h_S128x128) _) $$ HR
  iintro %_v HR
  iapply (step_st (Q := Q) c A T gv (i 0).val arg4 2 (off := ![0, 256]) inb_S128x2816_S128x128_0_256 rfl _ rfl (hx := View.stores_vmem h_S128x128 (harg4.storeExact_slice rfl _ packedbf16_S128x2816_S128x128_0_256) (fun _ => rfl)) (hm := .inl rfl) _) $$ HR
  iintro HR
  iapply (step_sc (Q := Q) c A T gv (i 0).val arg4 3 0 3 (by decide) (by decide) (off := k0_off35 i 0#32 3#32) (k0_off35_inb i 0 3) (off35_eq i 0 3) (hl := View.loadsAt_vmem h_S128x128) _) $$ HR
  iintro HR
  iapply (step_sc (Q := Q) c A T gv (i 0).val arg4 3 1 3 (by decide) (by decide) (off := k0_off35 i 3072#32 3#32) (k0_off35_inb i 1 3) (off35_eq i 1 3) (hl := View.loadsAt_vmem h_S128x128) _) $$ HR
  iintro HR
  iapply Hk
  iexact HR

set_option maxHeartbeats 8000000 in
theorem part6_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 3
      ⊢ iprop((Rn c A T gv (i 0).val arg4 4 -∗ wp frame (wpE (defs₀ (F := F)) Variants.none (c : Thread nD τ) none) Set.univ (kk (colv A T gv (i 0).val 4)) Q)
        -∗ wp frame (wpE (defs₀ (F := F)) Variants.none (c : Thread nD τ) none) Set.univ (k0_part6 i tbM h1 arg2 harg2 hbM h3 arg4 harg4 scM h5 cc0_scratch1 v8 (k0_pay3 gv) (k0_pay4 gv) (k0_pay5 gv) (k0_pay6 gv) (two A T gv (i 0).val 3) >>= kk) Q) := by
  rw [k0_part6_eq_skeleton]
  unfold k0_part6_skel
  iintro HR Hk
  iapply (step_sc (Q := Q) c A T gv (i 0).val arg4 3 2 3 (by decide) (by decide) (off := k0_off35 i 6144#32 3#32) (k0_off35_inb i 2 3) (off35_eq i 2 3) (hl := View.loadsAt_vmem h_S128x128) _) $$ HR
  iintro HR
  iapply (step_sc (Q := Q) c A T gv (i 0).val arg4 3 3 3 (by decide) (by decide) (off := k0_off35 i 9216#32 3#32) (k0_off35_inb i 3 3) (off35_eq i 3 3) (hl := View.loadsAt_vmem h_S128x128) _) $$ HR
  iintro HR
  iapply (step_l4 (Q := Q) c A T gv (i 0).val arg4 3 _ (hl := View.loadsAt_vmem h_S128x128) _) $$ HR
  iintro %_v HR
  iapply (step_st (Q := Q) c A T gv (i 0).val arg4 3 (off := ![0, 384]) inb_S128x2816_S128x128_0_384 rfl _ rfl (hx := View.stores_vmem h_S128x128 (harg4.storeExact_slice rfl _ packedbf16_S128x2816_S128x128_0_384) (fun _ => rfl)) (hm := .inl rfl) _) $$ HR
  iintro HR
  iapply (step_sc (Q := Q) c A T gv (i 0).val arg4 4 0 4 (by decide) (by decide) (off := k0_off35 i 0#32 4#32) (k0_off35_inb i 0 4) (off35_eq i 0 4) (hl := View.loadsAt_vmem h_S128x128) _) $$ HR
  iintro HR
  iapply (step_sc (Q := Q) c A T gv (i 0).val arg4 4 1 4 (by decide) (by decide) (off := k0_off35 i 3072#32 4#32) (k0_off35_inb i 1 4) (off35_eq i 1 4) (hl := View.loadsAt_vmem h_S128x128) _) $$ HR
  iintro HR
  iapply (step_sc (Q := Q) c A T gv (i 0).val arg4 4 2 4 (by decide) (by decide) (off := k0_off35 i 6144#32 4#32) (k0_off35_inb i 2 4) (off35_eq i 2 4) (hl := View.loadsAt_vmem h_S128x128) _) $$ HR
  iintro HR
  iapply (step_sc (Q := Q) c A T gv (i 0).val arg4 4 3 4 (by decide) (by decide) (off := k0_off35 i 9216#32 4#32) (k0_off35_inb i 3 4) (off35_eq i 3 4) (hl := View.loadsAt_vmem h_S128x128) _) $$ HR
  iintro HR
  iapply Hk
  iexact HR

set_option maxHeartbeats 8000000 in
theorem part7_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 4
      ⊢ iprop((Rn c A T gv (i 0).val arg4 6 -∗ wp frame (wpE (defs₀ (F := F)) Variants.none (c : Thread nD τ) none) Set.univ (kk (two A T gv (i 0).val 6)) Q)
        -∗ wp frame (wpE (defs₀ (F := F)) Variants.none (c : Thread nD τ) none) Set.univ (k0_part7 i tbM h1 arg2 harg2 hbM h3 arg4 harg4 scM h5 cc0_scratch1 v8 (k0_pay3 gv) (k0_pay4 gv) (k0_pay5 gv) (k0_pay6 gv) (colv A T gv (i 0).val 4) >>= kk) Q) := by
  rw [k0_part7_eq_skeleton]
  unfold k0_part7_skel
  iintro HR Hk
  iapply (step_l4 (Q := Q) c A T gv (i 0).val arg4 4 _ (hl := View.loadsAt_vmem h_S128x128) _) $$ HR
  iintro %_v HR
  iapply (step_st (Q := Q) c A T gv (i 0).val arg4 4 (off := ![0, 512]) inb_S128x2816_S128x128_0_512 rfl _ rfl (hx := View.stores_vmem h_S128x128 (harg4.storeExact_slice rfl _ packedbf16_S128x2816_S128x128_0_512) (fun _ => rfl)) (hm := .inl rfl) _) $$ HR
  iintro HR
  iapply (step_sc (Q := Q) c A T gv (i 0).val arg4 5 0 5 (by decide) (by decide) (off := k0_off35 i 0#32 5#32) (k0_off35_inb i 0 5) (off35_eq i 0 5) (hl := View.loadsAt_vmem h_S128x128) _) $$ HR
  iintro HR
  iapply (step_sc (Q := Q) c A T gv (i 0).val arg4 5 1 5 (by decide) (by decide) (off := k0_off35 i 3072#32 5#32) (k0_off35_inb i 1 5) (off35_eq i 1 5) (hl := View.loadsAt_vmem h_S128x128) _) $$ HR
  iintro HR
  iapply (step_sc (Q := Q) c A T gv (i 0).val arg4 5 2 5 (by decide) (by decide) (off := k0_off35 i 6144#32 5#32) (k0_off35_inb i 2 5) (off35_eq i 2 5) (hl := View.loadsAt_vmem h_S128x128) _) $$ HR
  iintro HR
  iapply (step_sc (Q := Q) c A T gv (i 0).val arg4 5 3 5 (by decide) (by decide) (off := k0_off35 i 9216#32 5#32) (k0_off35_inb i 3 5) (off35_eq i 3 5) (hl := View.loadsAt_vmem h_S128x128) _) $$ HR
  iintro HR
  iapply (step_l4 (Q := Q) c A T gv (i 0).val arg4 5 _ (hl := View.loadsAt_vmem h_S128x128) _) $$ HR
  iintro %_v HR
  iapply (step_st (Q := Q) c A T gv (i 0).val arg4 5 (off := ![0, 640]) inb_S128x2816_S128x128_0_640 rfl _ rfl (hx := View.stores_vmem h_S128x128 (harg4.storeExact_slice rfl _ packedbf16_S128x2816_S128x128_0_640) (fun _ => rfl)) (hm := .inl rfl) _) $$ HR
  iintro HR
  iapply (step_sc (Q := Q) c A T gv (i 0).val arg4 6 0 6 (by decide) (by decide) (off := k0_off35 i 0#32 6#32) (k0_off35_inb i 0 6) (off35_eq i 0 6) (hl := View.loadsAt_vmem h_S128x128) _) $$ HR
  iintro HR
  iapply (step_sc (Q := Q) c A T gv (i 0).val arg4 6 1 6 (by decide) (by decide) (off := k0_off35 i 3072#32 6#32) (k0_off35_inb i 1 6) (off35_eq i 1 6) (hl := View.loadsAt_vmem h_S128x128) _) $$ HR
  iintro HR
  iapply Hk
  iexact HR

set_option maxHeartbeats 8000000 in
theorem part8_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 6
      ⊢ iprop((Rn c A T gv (i 0).val arg4 7 -∗ wp frame (wpE (defs₀ (F := F)) Variants.none (c : Thread nD τ) none) Set.univ (kk (colv A T gv (i 0).val 7)) Q)
        -∗ wp frame (wpE (defs₀ (F := F)) Variants.none (c : Thread nD τ) none) Set.univ (k0_part8 i tbM h1 arg2 harg2 hbM h3 arg4 harg4 scM h5 cc0_scratch1 v8 (k0_pay3 gv) (k0_pay4 gv) (k0_pay5 gv) (k0_pay6 gv) (two A T gv (i 0).val 6) >>= kk) Q) := by
  rw [k0_part8_eq_skeleton]
  unfold k0_part8_skel
  iintro HR Hk
  iapply (step_sc (Q := Q) c A T gv (i 0).val arg4 6 2 6 (by decide) (by decide) (off := k0_off35 i 6144#32 6#32) (k0_off35_inb i 2 6) (off35_eq i 2 6) (hl := View.loadsAt_vmem h_S128x128) _) $$ HR
  iintro HR
  iapply (step_sc (Q := Q) c A T gv (i 0).val arg4 6 3 6 (by decide) (by decide) (off := k0_off35 i 9216#32 6#32) (k0_off35_inb i 3 6) (off35_eq i 3 6) (hl := View.loadsAt_vmem h_S128x128) _) $$ HR
  iintro HR
  iapply (step_l4 (Q := Q) c A T gv (i 0).val arg4 6 _ (hl := View.loadsAt_vmem h_S128x128) _) $$ HR
  iintro %_v HR
  iapply (step_st (Q := Q) c A T gv (i 0).val arg4 6 (off := ![0, 768]) inb_S128x2816_S128x128_0_768 rfl _ rfl (hx := View.stores_vmem h_S128x128 (harg4.storeExact_slice rfl _ packedbf16_S128x2816_S128x128_0_768) (fun _ => rfl)) (hm := .inl rfl) _) $$ HR
  iintro HR
  iapply (step_sc (Q := Q) c A T gv (i 0).val arg4 7 0 7 (by decide) (by decide) (off := k0_off35 i 0#32 7#32) (k0_off35_inb i 0 7) (off35_eq i 0 7) (hl := View.loadsAt_vmem h_S128x128) _) $$ HR
  iintro HR
  iapply (step_sc (Q := Q) c A T gv (i 0).val arg4 7 1 7 (by decide) (by decide) (off := k0_off35 i 3072#32 7#32) (k0_off35_inb i 1 7) (off35_eq i 1 7) (hl := View.loadsAt_vmem h_S128x128) _) $$ HR
  iintro HR
  iapply (step_sc (Q := Q) c A T gv (i 0).val arg4 7 2 7 (by decide) (by decide) (off := k0_off35 i 6144#32 7#32) (k0_off35_inb i 2 7) (off35_eq i 2 7) (hl := View.loadsAt_vmem h_S128x128) _) $$ HR
  iintro HR
  iapply (step_sc (Q := Q) c A T gv (i 0).val arg4 7 3 7 (by decide) (by decide) (off := k0_off35 i 9216#32 7#32) (k0_off35_inb i 3 7) (off35_eq i 3 7) (hl := View.loadsAt_vmem h_S128x128) _) $$ HR
  iintro HR
  iapply Hk
  iexact HR

set_option maxHeartbeats 8000000 in
theorem part9_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 7
      ⊢ iprop((Rn c A T gv (i 0).val arg4 9 -∗ wp frame (wpE (defs₀ (F := F)) Variants.none (c : Thread nD τ) none) Set.univ (kk (two A T gv (i 0).val 9)) Q)
        -∗ wp frame (wpE (defs₀ (F := F)) Variants.none (c : Thread nD τ) none) Set.univ (k0_part9 i tbM h1 arg2 harg2 hbM h3 arg4 harg4 scM h5 cc0_scratch1 v8 (k0_pay3 gv) (k0_pay4 gv) (k0_pay5 gv) (k0_pay6 gv) (colv A T gv (i 0).val 7) >>= kk) Q) := by
  rw [k0_part9_eq_skeleton]
  unfold k0_part9_skel
  iintro HR Hk
  iapply (step_l4 (Q := Q) c A T gv (i 0).val arg4 7 _ (hl := View.loadsAt_vmem h_S128x128) _) $$ HR
  iintro %_v HR
  iapply (step_st (Q := Q) c A T gv (i 0).val arg4 7 (off := ![0, 896]) inb_S128x2816_S128x128_0_896 rfl _ rfl (hx := View.stores_vmem h_S128x128 (harg4.storeExact_slice rfl _ packedbf16_S128x2816_S128x128_0_896) (fun _ => rfl)) (hm := .inl rfl) _) $$ HR
  iintro HR
  iapply (step_sc (Q := Q) c A T gv (i 0).val arg4 8 0 8 (by decide) (by decide) (off := k0_off35 i 0#32 8#32) (k0_off35_inb i 0 8) (off35_eq i 0 8) (hl := View.loadsAt_vmem h_S128x128) _) $$ HR
  iintro HR
  iapply (step_sc (Q := Q) c A T gv (i 0).val arg4 8 1 8 (by decide) (by decide) (off := k0_off35 i 3072#32 8#32) (k0_off35_inb i 1 8) (off35_eq i 1 8) (hl := View.loadsAt_vmem h_S128x128) _) $$ HR
  iintro HR
  iapply (step_sc (Q := Q) c A T gv (i 0).val arg4 8 2 8 (by decide) (by decide) (off := k0_off35 i 6144#32 8#32) (k0_off35_inb i 2 8) (off35_eq i 2 8) (hl := View.loadsAt_vmem h_S128x128) _) $$ HR
  iintro HR
  iapply (step_sc (Q := Q) c A T gv (i 0).val arg4 8 3 8 (by decide) (by decide) (off := k0_off35 i 9216#32 8#32) (k0_off35_inb i 3 8) (off35_eq i 3 8) (hl := View.loadsAt_vmem h_S128x128) _) $$ HR
  iintro HR
  iapply (step_l4 (Q := Q) c A T gv (i 0).val arg4 8 _ (hl := View.loadsAt_vmem h_S128x128) _) $$ HR
  iintro %_v HR
  iapply (step_st (Q := Q) c A T gv (i 0).val arg4 8 (off := ![0, 1024]) inb_S128x2816_S128x128_0_1024 rfl _ rfl (hx := View.stores_vmem h_S128x128 (harg4.storeExact_slice rfl _ packedbf16_S128x2816_S128x128_0_1024) (fun _ => rfl)) (hm := .inl rfl) _) $$ HR
  iintro HR
  iapply (step_sc (Q := Q) c A T gv (i 0).val arg4 9 0 9 (by decide) (by decide) (off := k0_off35 i 0#32 9#32) (k0_off35_inb i 0 9) (off35_eq i 0 9) (hl := View.loadsAt_vmem h_S128x128) _) $$ HR
  iintro HR
  iapply (step_sc (Q := Q) c A T gv (i 0).val arg4 9 1 9 (by decide) (by decide) (off := k0_off35 i 3072#32 9#32) (k0_off35_inb i 1 9) (off35_eq i 1 9) (hl := View.loadsAt_vmem h_S128x128) _) $$ HR
  iintro HR
  iapply Hk
  iexact HR

set_option maxHeartbeats 8000000 in
theorem part10_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 9
      ⊢ iprop((Rn c A T gv (i 0).val arg4 10 -∗ wp frame (wpE (defs₀ (F := F)) Variants.none (c : Thread nD τ) none) Set.univ (kk (colv A T gv (i 0).val 10)) Q)
        -∗ wp frame (wpE (defs₀ (F := F)) Variants.none (c : Thread nD τ) none) Set.univ (k0_part10 i tbM h1 arg2 harg2 hbM h3 arg4 harg4 scM h5 cc0_scratch1 v8 (k0_pay3 gv) (k0_pay4 gv) (k0_pay5 gv) (k0_pay6 gv) (two A T gv (i 0).val 9) >>= kk) Q) := by
  rw [k0_part10_eq_skeleton]
  unfold k0_part10_skel
  iintro HR Hk
  iapply (step_sc (Q := Q) c A T gv (i 0).val arg4 9 2 9 (by decide) (by decide) (off := k0_off35 i 6144#32 9#32) (k0_off35_inb i 2 9) (off35_eq i 2 9) (hl := View.loadsAt_vmem h_S128x128) _) $$ HR
  iintro HR
  iapply (step_sc (Q := Q) c A T gv (i 0).val arg4 9 3 9 (by decide) (by decide) (off := k0_off35 i 9216#32 9#32) (k0_off35_inb i 3 9) (off35_eq i 3 9) (hl := View.loadsAt_vmem h_S128x128) _) $$ HR
  iintro HR
  iapply (step_l4 (Q := Q) c A T gv (i 0).val arg4 9 _ (hl := View.loadsAt_vmem h_S128x128) _) $$ HR
  iintro %_v HR
  iapply (step_st (Q := Q) c A T gv (i 0).val arg4 9 (off := ![0, 1152]) inb_S128x2816_S128x128_0_1152 rfl _ rfl (hx := View.stores_vmem h_S128x128 (harg4.storeExact_slice rfl _ packedbf16_S128x2816_S128x128_0_1152) (fun _ => rfl)) (hm := .inl rfl) _) $$ HR
  iintro HR
  iapply (step_sc (Q := Q) c A T gv (i 0).val arg4 10 0 10 (by decide) (by decide) (off := k0_off35 i 0#32 10#32) (k0_off35_inb i 0 10) (off35_eq i 0 10) (hl := View.loadsAt_vmem h_S128x128) _) $$ HR
  iintro HR
  iapply (step_sc (Q := Q) c A T gv (i 0).val arg4 10 1 10 (by decide) (by decide) (off := k0_off35 i 3072#32 10#32) (k0_off35_inb i 1 10) (off35_eq i 1 10) (hl := View.loadsAt_vmem h_S128x128) _) $$ HR
  iintro HR
  iapply (step_sc (Q := Q) c A T gv (i 0).val arg4 10 2 10 (by decide) (by decide) (off := k0_off35 i 6144#32 10#32) (k0_off35_inb i 2 10) (off35_eq i 2 10) (hl := View.loadsAt_vmem h_S128x128) _) $$ HR
  iintro HR
  iapply (step_sc (Q := Q) c A T gv (i 0).val arg4 10 3 10 (by decide) (by decide) (off := k0_off35 i 9216#32 10#32) (k0_off35_inb i 3 10) (off35_eq i 3 10) (hl := View.loadsAt_vmem h_S128x128) _) $$ HR
  iintro HR
  iapply Hk
  iexact HR

set_option maxHeartbeats 8000000 in
theorem part11_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 10
      ⊢ iprop((Rn c A T gv (i 0).val arg4 12 -∗ wp frame (wpE (defs₀ (F := F)) Variants.none (c : Thread nD τ) none) Set.univ (kk (two A T gv (i 0).val 12)) Q)
        -∗ wp frame (wpE (defs₀ (F := F)) Variants.none (c : Thread nD τ) none) Set.univ (k0_part11 i tbM h1 arg2 harg2 hbM h3 arg4 harg4 scM h5 cc0_scratch1 v8 (k0_pay3 gv) (k0_pay4 gv) (k0_pay5 gv) (k0_pay6 gv) (colv A T gv (i 0).val 10) >>= kk) Q) := by
  rw [k0_part11_eq_skeleton]
  unfold k0_part11_skel
  iintro HR Hk
  iapply (step_l4 (Q := Q) c A T gv (i 0).val arg4 10 _ (hl := View.loadsAt_vmem h_S128x128) _) $$ HR
  iintro %_v HR
  iapply (step_st (Q := Q) c A T gv (i 0).val arg4 10 (off := ![0, 1280]) inb_S128x2816_S128x128_0_1280 rfl _ rfl (hx := View.stores_vmem h_S128x128 (harg4.storeExact_slice rfl _ packedbf16_S128x2816_S128x128_0_1280) (fun _ => rfl)) (hm := .inl rfl) _) $$ HR
  iintro HR
  iapply (step_sc (Q := Q) c A T gv (i 0).val arg4 11 0 11 (by decide) (by decide) (off := k0_off35 i 0#32 11#32) (k0_off35_inb i 0 11) (off35_eq i 0 11) (hl := View.loadsAt_vmem h_S128x128) _) $$ HR
  iintro HR
  iapply (step_sc (Q := Q) c A T gv (i 0).val arg4 11 1 11 (by decide) (by decide) (off := k0_off35 i 3072#32 11#32) (k0_off35_inb i 1 11) (off35_eq i 1 11) (hl := View.loadsAt_vmem h_S128x128) _) $$ HR
  iintro HR
  iapply (step_sc (Q := Q) c A T gv (i 0).val arg4 11 2 11 (by decide) (by decide) (off := k0_off35 i 6144#32 11#32) (k0_off35_inb i 2 11) (off35_eq i 2 11) (hl := View.loadsAt_vmem h_S128x128) _) $$ HR
  iintro HR
  iapply (step_sc (Q := Q) c A T gv (i 0).val arg4 11 3 11 (by decide) (by decide) (off := k0_off35 i 9216#32 11#32) (k0_off35_inb i 3 11) (off35_eq i 3 11) (hl := View.loadsAt_vmem h_S128x128) _) $$ HR
  iintro HR
  iapply (step_l4 (Q := Q) c A T gv (i 0).val arg4 11 _ (hl := View.loadsAt_vmem h_S128x128) _) $$ HR
  iintro %_v HR
  iapply (step_st (Q := Q) c A T gv (i 0).val arg4 11 (off := ![0, 1408]) inb_S128x2816_S128x128_0_1408 rfl _ rfl (hx := View.stores_vmem h_S128x128 (harg4.storeExact_slice rfl _ packedbf16_S128x2816_S128x128_0_1408) (fun _ => rfl)) (hm := .inl rfl) _) $$ HR
  iintro HR
  iapply (step_sc (Q := Q) c A T gv (i 0).val arg4 12 0 12 (by decide) (by decide) (off := k0_off35 i 0#32 12#32) (k0_off35_inb i 0 12) (off35_eq i 0 12) (hl := View.loadsAt_vmem h_S128x128) _) $$ HR
  iintro HR
  iapply (step_sc (Q := Q) c A T gv (i 0).val arg4 12 1 12 (by decide) (by decide) (off := k0_off35 i 3072#32 12#32) (k0_off35_inb i 1 12) (off35_eq i 1 12) (hl := View.loadsAt_vmem h_S128x128) _) $$ HR
  iintro HR
  iapply Hk
  iexact HR

set_option maxHeartbeats 8000000 in
theorem part12_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 12
      ⊢ iprop((Rn c A T gv (i 0).val arg4 13 -∗ wp frame (wpE (defs₀ (F := F)) Variants.none (c : Thread nD τ) none) Set.univ (kk (colv A T gv (i 0).val 13)) Q)
        -∗ wp frame (wpE (defs₀ (F := F)) Variants.none (c : Thread nD τ) none) Set.univ (k0_part12 i tbM h1 arg2 harg2 hbM h3 arg4 harg4 scM h5 cc0_scratch1 v8 (k0_pay3 gv) (k0_pay4 gv) (k0_pay5 gv) (k0_pay6 gv) (two A T gv (i 0).val 12) >>= kk) Q) := by
  rw [k0_part12_eq_skeleton]
  unfold k0_part12_skel
  iintro HR Hk
  iapply (step_sc (Q := Q) c A T gv (i 0).val arg4 12 2 12 (by decide) (by decide) (off := k0_off35 i 6144#32 12#32) (k0_off35_inb i 2 12) (off35_eq i 2 12) (hl := View.loadsAt_vmem h_S128x128) _) $$ HR
  iintro HR
  iapply (step_sc (Q := Q) c A T gv (i 0).val arg4 12 3 12 (by decide) (by decide) (off := k0_off35 i 9216#32 12#32) (k0_off35_inb i 3 12) (off35_eq i 3 12) (hl := View.loadsAt_vmem h_S128x128) _) $$ HR
  iintro HR
  iapply (step_l4 (Q := Q) c A T gv (i 0).val arg4 12 _ (hl := View.loadsAt_vmem h_S128x128) _) $$ HR
  iintro %_v HR
  iapply (step_st (Q := Q) c A T gv (i 0).val arg4 12 (off := ![0, 1536]) inb_S128x2816_S128x128_0_1536 rfl _ rfl (hx := View.stores_vmem h_S128x128 (harg4.storeExact_slice rfl _ packedbf16_S128x2816_S128x128_0_1536) (fun _ => rfl)) (hm := .inl rfl) _) $$ HR
  iintro HR
  iapply (step_sc (Q := Q) c A T gv (i 0).val arg4 13 0 13 (by decide) (by decide) (off := k0_off35 i 0#32 13#32) (k0_off35_inb i 0 13) (off35_eq i 0 13) (hl := View.loadsAt_vmem h_S128x128) _) $$ HR
  iintro HR
  iapply (step_sc (Q := Q) c A T gv (i 0).val arg4 13 1 13 (by decide) (by decide) (off := k0_off35 i 3072#32 13#32) (k0_off35_inb i 1 13) (off35_eq i 1 13) (hl := View.loadsAt_vmem h_S128x128) _) $$ HR
  iintro HR
  iapply (step_sc (Q := Q) c A T gv (i 0).val arg4 13 2 13 (by decide) (by decide) (off := k0_off35 i 6144#32 13#32) (k0_off35_inb i 2 13) (off35_eq i 2 13) (hl := View.loadsAt_vmem h_S128x128) _) $$ HR
  iintro HR
  iapply (step_sc (Q := Q) c A T gv (i 0).val arg4 13 3 13 (by decide) (by decide) (off := k0_off35 i 9216#32 13#32) (k0_off35_inb i 3 13) (off35_eq i 3 13) (hl := View.loadsAt_vmem h_S128x128) _) $$ HR
  iintro HR
  iapply Hk
  iexact HR

set_option maxHeartbeats 8000000 in
theorem part13_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 13
      ⊢ iprop((Rn c A T gv (i 0).val arg4 15 -∗ wp frame (wpE (defs₀ (F := F)) Variants.none (c : Thread nD τ) none) Set.univ (kk (two A T gv (i 0).val 15)) Q)
        -∗ wp frame (wpE (defs₀ (F := F)) Variants.none (c : Thread nD τ) none) Set.univ (k0_part13 i tbM h1 arg2 harg2 hbM h3 arg4 harg4 scM h5 cc0_scratch1 v8 (k0_pay3 gv) (k0_pay4 gv) (k0_pay5 gv) (k0_pay6 gv) (colv A T gv (i 0).val 13) >>= kk) Q) := by
  rw [k0_part13_eq_skeleton]
  unfold k0_part13_skel
  iintro HR Hk
  iapply (step_l4 (Q := Q) c A T gv (i 0).val arg4 13 _ (hl := View.loadsAt_vmem h_S128x128) _) $$ HR
  iintro %_v HR
  iapply (step_st (Q := Q) c A T gv (i 0).val arg4 13 (off := ![0, 1664]) inb_S128x2816_S128x128_0_1664 rfl _ rfl (hx := View.stores_vmem h_S128x128 (harg4.storeExact_slice rfl _ packedbf16_S128x2816_S128x128_0_1664) (fun _ => rfl)) (hm := .inl rfl) _) $$ HR
  iintro HR
  iapply (step_sc (Q := Q) c A T gv (i 0).val arg4 14 0 14 (by decide) (by decide) (off := k0_off35 i 0#32 14#32) (k0_off35_inb i 0 14) (off35_eq i 0 14) (hl := View.loadsAt_vmem h_S128x128) _) $$ HR
  iintro HR
  iapply (step_sc (Q := Q) c A T gv (i 0).val arg4 14 1 14 (by decide) (by decide) (off := k0_off35 i 3072#32 14#32) (k0_off35_inb i 1 14) (off35_eq i 1 14) (hl := View.loadsAt_vmem h_S128x128) _) $$ HR
  iintro HR
  iapply (step_sc (Q := Q) c A T gv (i 0).val arg4 14 2 14 (by decide) (by decide) (off := k0_off35 i 6144#32 14#32) (k0_off35_inb i 2 14) (off35_eq i 2 14) (hl := View.loadsAt_vmem h_S128x128) _) $$ HR
  iintro HR
  iapply (step_sc (Q := Q) c A T gv (i 0).val arg4 14 3 14 (by decide) (by decide) (off := k0_off35 i 9216#32 14#32) (k0_off35_inb i 3 14) (off35_eq i 3 14) (hl := View.loadsAt_vmem h_S128x128) _) $$ HR
  iintro HR
  iapply (step_l4 (Q := Q) c A T gv (i 0).val arg4 14 _ (hl := View.loadsAt_vmem h_S128x128) _) $$ HR
  iintro %_v HR
  iapply (step_st (Q := Q) c A T gv (i 0).val arg4 14 (off := ![0, 1792]) inb_S128x2816_S128x128_0_1792 rfl _ rfl (hx := View.stores_vmem h_S128x128 (harg4.storeExact_slice rfl _ packedbf16_S128x2816_S128x128_0_1792) (fun _ => rfl)) (hm := .inl rfl) _) $$ HR
  iintro HR
  iapply (step_sc (Q := Q) c A T gv (i 0).val arg4 15 0 15 (by decide) (by decide) (off := k0_off35 i 0#32 15#32) (k0_off35_inb i 0 15) (off35_eq i 0 15) (hl := View.loadsAt_vmem h_S128x128) _) $$ HR
  iintro HR
  iapply (step_sc (Q := Q) c A T gv (i 0).val arg4 15 1 15 (by decide) (by decide) (off := k0_off35 i 3072#32 15#32) (k0_off35_inb i 1 15) (off35_eq i 1 15) (hl := View.loadsAt_vmem h_S128x128) _) $$ HR
  iintro HR
  iapply Hk
  iexact HR

set_option maxHeartbeats 8000000 in
theorem part14_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 15
      ⊢ iprop((Rn c A T gv (i 0).val arg4 16 -∗ wp frame (wpE (defs₀ (F := F)) Variants.none (c : Thread nD τ) none) Set.univ (kk (colv A T gv (i 0).val 16)) Q)
        -∗ wp frame (wpE (defs₀ (F := F)) Variants.none (c : Thread nD τ) none) Set.univ (k0_part14 i tbM h1 arg2 harg2 hbM h3 arg4 harg4 scM h5 cc0_scratch1 v8 (k0_pay3 gv) (k0_pay4 gv) (k0_pay5 gv) (k0_pay6 gv) (two A T gv (i 0).val 15) >>= kk) Q) := by
  rw [k0_part14_eq_skeleton]
  unfold k0_part14_skel
  iintro HR Hk
  iapply (step_sc (Q := Q) c A T gv (i 0).val arg4 15 2 15 (by decide) (by decide) (off := k0_off35 i 6144#32 15#32) (k0_off35_inb i 2 15) (off35_eq i 2 15) (hl := View.loadsAt_vmem h_S128x128) _) $$ HR
  iintro HR
  iapply (step_sc (Q := Q) c A T gv (i 0).val arg4 15 3 15 (by decide) (by decide) (off := k0_off35 i 9216#32 15#32) (k0_off35_inb i 3 15) (off35_eq i 3 15) (hl := View.loadsAt_vmem h_S128x128) _) $$ HR
  iintro HR
  iapply (step_l4 (Q := Q) c A T gv (i 0).val arg4 15 _ (hl := View.loadsAt_vmem h_S128x128) _) $$ HR
  iintro %_v HR
  iapply (step_st (Q := Q) c A T gv (i 0).val arg4 15 (off := ![0, 1920]) inb_S128x2816_S128x128_0_1920 rfl _ rfl (hx := View.stores_vmem h_S128x128 (harg4.storeExact_slice rfl _ packedbf16_S128x2816_S128x128_0_1920) (fun _ => rfl)) (hm := .inl rfl) _) $$ HR
  iintro HR
  iapply (step_sc (Q := Q) c A T gv (i 0).val arg4 16 0 16 (by decide) (by decide) (off := k0_off35 i 0#32 16#32) (k0_off35_inb i 0 16) (off35_eq i 0 16) (hl := View.loadsAt_vmem h_S128x128) _) $$ HR
  iintro HR
  iapply (step_sc (Q := Q) c A T gv (i 0).val arg4 16 1 16 (by decide) (by decide) (off := k0_off35 i 3072#32 16#32) (k0_off35_inb i 1 16) (off35_eq i 1 16) (hl := View.loadsAt_vmem h_S128x128) _) $$ HR
  iintro HR
  iapply (step_sc (Q := Q) c A T gv (i 0).val arg4 16 2 16 (by decide) (by decide) (off := k0_off35 i 6144#32 16#32) (k0_off35_inb i 2 16) (off35_eq i 2 16) (hl := View.loadsAt_vmem h_S128x128) _) $$ HR
  iintro HR
  iapply (step_sc (Q := Q) c A T gv (i 0).val arg4 16 3 16 (by decide) (by decide) (off := k0_off35 i 9216#32 16#32) (k0_off35_inb i 3 16) (off35_eq i 3 16) (hl := View.loadsAt_vmem h_S128x128) _) $$ HR
  iintro HR
  iapply Hk
  iexact HR

set_option maxHeartbeats 8000000 in
theorem part15_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 16
      ⊢ iprop((Rn c A T gv (i 0).val arg4 18 -∗ wp frame (wpE (defs₀ (F := F)) Variants.none (c : Thread nD τ) none) Set.univ (kk (two A T gv (i 0).val 18)) Q)
        -∗ wp frame (wpE (defs₀ (F := F)) Variants.none (c : Thread nD τ) none) Set.univ (k0_part15 i tbM h1 arg2 harg2 hbM h3 arg4 harg4 scM h5 cc0_scratch1 v8 (k0_pay3 gv) (k0_pay4 gv) (k0_pay5 gv) (k0_pay6 gv) (colv A T gv (i 0).val 16) >>= kk) Q) := by
  rw [k0_part15_eq_skeleton]
  unfold k0_part15_skel
  iintro HR Hk
  iapply (step_l4 (Q := Q) c A T gv (i 0).val arg4 16 _ (hl := View.loadsAt_vmem h_S128x128) _) $$ HR
  iintro %_v HR
  iapply (step_st (Q := Q) c A T gv (i 0).val arg4 16 (off := ![0, 2048]) inb_S128x2816_S128x128_0_2048 rfl _ rfl (hx := View.stores_vmem h_S128x128 (harg4.storeExact_slice rfl _ packedbf16_S128x2816_S128x128_0_2048) (fun _ => rfl)) (hm := .inl rfl) _) $$ HR
  iintro HR
  iapply (step_sc (Q := Q) c A T gv (i 0).val arg4 17 0 17 (by decide) (by decide) (off := k0_off35 i 0#32 17#32) (k0_off35_inb i 0 17) (off35_eq i 0 17) (hl := View.loadsAt_vmem h_S128x128) _) $$ HR
  iintro HR
  iapply (step_sc (Q := Q) c A T gv (i 0).val arg4 17 1 17 (by decide) (by decide) (off := k0_off35 i 3072#32 17#32) (k0_off35_inb i 1 17) (off35_eq i 1 17) (hl := View.loadsAt_vmem h_S128x128) _) $$ HR
  iintro HR
  iapply (step_sc (Q := Q) c A T gv (i 0).val arg4 17 2 17 (by decide) (by decide) (off := k0_off35 i 6144#32 17#32) (k0_off35_inb i 2 17) (off35_eq i 2 17) (hl := View.loadsAt_vmem h_S128x128) _) $$ HR
  iintro HR
  iapply (step_sc (Q := Q) c A T gv (i 0).val arg4 17 3 17 (by decide) (by decide) (off := k0_off35 i 9216#32 17#32) (k0_off35_inb i 3 17) (off35_eq i 3 17) (hl := View.loadsAt_vmem h_S128x128) _) $$ HR
  iintro HR
  iapply (step_l4 (Q := Q) c A T gv (i 0).val arg4 17 _ (hl := View.loadsAt_vmem h_S128x128) _) $$ HR
  iintro %_v HR
  iapply (step_st (Q := Q) c A T gv (i 0).val arg4 17 (off := ![0, 2176]) inb_S128x2816_S128x128_0_2176 rfl _ rfl (hx := View.stores_vmem h_S128x128 (harg4.storeExact_slice rfl _ packedbf16_S128x2816_S128x128_0_2176) (fun _ => rfl)) (hm := .inl rfl) _) $$ HR
  iintro HR
  iapply (step_sc (Q := Q) c A T gv (i 0).val arg4 18 0 18 (by decide) (by decide) (off := k0_off35 i 0#32 18#32) (k0_off35_inb i 0 18) (off35_eq i 0 18) (hl := View.loadsAt_vmem h_S128x128) _) $$ HR
  iintro HR
  iapply (step_sc (Q := Q) c A T gv (i 0).val arg4 18 1 18 (by decide) (by decide) (off := k0_off35 i 3072#32 18#32) (k0_off35_inb i 1 18) (off35_eq i 1 18) (hl := View.loadsAt_vmem h_S128x128) _) $$ HR
  iintro HR
  iapply Hk
  iexact HR

set_option maxHeartbeats 8000000 in
theorem part16_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .bf16 → Prog (TpuEff nD τ sig (Elt F) Λ₀ .tc) α) :
    Rn c A T gv (i 0).val arg4 18
      ⊢ iprop((Rn c A T gv (i 0).val arg4 19 -∗ wp frame (wpE (defs₀ (F := F)) Variants.none (c : Thread nD τ) none) Set.univ (kk (colv A T gv (i 0).val 19)) Q)
        -∗ wp frame (wpE (defs₀ (F := F)) Variants.none (c : Thread nD τ) none) Set.univ (k0_part16 i tbM h1 arg2 harg2 hbM h3 arg4 harg4 scM h5 cc0_scratch1 v8 (k0_pay3 gv) (k0_pay4 gv) (k0_pay5 gv) (k0_pay6 gv) (two A T gv (i 0).val 18) >>= kk) Q) := by
  rw [k0_part16_eq_skeleton]
  unfold k0_part16_skel
  iintro HR Hk
  iapply (step_sc (Q := Q) c A T gv (i 0).val arg4 18 2 18 (by decide) (by decide) (off := k0_off35 i 6144#32 18#32) (k0_off35_inb i 2 18) (off35_eq i 2 18) (hl := View.loadsAt_vmem h_S128x128) _) $$ HR
  iintro HR
  iapply (step_sc (Q := Q) c A T gv (i 0).val arg4 18 3 18 (by decide) (by decide) (off := k0_off35 i 9216#32 18#32) (k0_off35_inb i 3 18) (off35_eq i 3 18) (hl := View.loadsAt_vmem h_S128x128) _) $$ HR
  iintro HR
  iapply (step_l4 (Q := Q) c A T gv (i 0).val arg4 18 _ (hl := View.loadsAt_vmem h_S128x128) _) $$ HR
  iintro %_v HR
  iapply (step_st (Q := Q) c A T gv (i 0).val arg4 18 (off := ![0, 2304]) inb_S128x2816_S128x128_0_2304 rfl _ rfl (hx := View.stores_vmem h_S128x128 (harg4.storeExact_slice rfl _ packedbf16_S128x2816_S128x128_0_2304) (fun _ => rfl)) (hm := .inl rfl) _) $$ HR
  iintro HR
  iapply (step_sc (Q := Q) c A T gv (i 0).val arg4 19 0 19 (by decide) (by decide) (off := k0_off35 i 0#32 19#32) (k0_off35_inb i 0 19) (off35_eq i 0 19) (hl := View.loadsAt_vmem h_S128x128) _) $$ HR
  iintro HR
  iapply (step_sc (Q := Q) c A T gv (i 0).val arg4 19 1 19 (by decide) (by decide) (off := k0_off35 i 3072#32 19#32) (k0_off35_inb i 1 19) (off35_eq i 1 19) (hl := View.loadsAt_vmem h_S128x128) _) $$ HR
  iintro HR
  iapply (step_sc (Q := Q) c A T gv (i 0).val arg4 19 2 19 (by decide) (by decide) (off := k0_off35 i 6144#32 19#32) (k0_off35_inb i 2 19) (off35_eq i 2 19) (hl := View.loadsAt_vmem h_S128x128) _) $$ HR
  iintro HR
  iapply (step_sc (Q := Q) c A T gv (i 0).val arg4 19 3 19 (by decide) (by decide) (off := k0_off35 i 9216#32 19#32) (k0_off35_inb i 3 19) (off35_eq i 3 19) (hl := View.loadsAt_vmem h_S128x128) _) $$ HR
  iintro HR
  iapply Hk
  iexact HR

set_option maxHeartbeats 8000000 in
theorem part17_wp (c : Dev nD) (A : ABuf F) (T : TBuf) (gv : Vec F S8x128 .f32) (i : grid0.Coords) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (v8 : BitVec 32)
    (kk : FVec F S128x128 .f32 → Prog (TpuEff nD τ sig (Elt F) Λ₀ .tc) α) :
    Rn c A T gv (i 0).val arg4 19
      ⊢ iprop((Rn c A T gv (i 0).val arg4 21 -∗ wp frame (wpE (defs₀ (F := F)) Variants.none (c : Thread nD τ) none) Set.univ (kk (two A T gv (i 0).val 21)) Q)
        -∗ wp frame (wpE (defs₀ (F := F)) Variants.none (c : Thread nD τ) none) Set.univ (k0_part17 i tbM h1 arg2 harg2 hbM h3 arg4 harg4 scM h5 cc0_scratch1 v8 (k0_pay3 gv) (k0_pay4 gv) (k0_pay5 gv) (k0_pay6 gv) (colv A T gv (i 0).val 19) >>= kk) Q) := by
  rw [k0_part17_eq_skeleton]
  unfold k0_part17_skel
  iintro HR Hk
  iapply (step_l4 (Q := Q) c A T gv (i 0).val arg4 19 _ (hl := View.loadsAt_vmem h_S128x128) _) $$ HR
  iintro %_v HR
  iapply (step_st (Q := Q) c A T gv (i 0).val arg4 19 (off := ![0, 2432]) inb_S128x2816_S128x128_0_2432 rfl _ rfl (hx := View.stores_vmem h_S128x128 (harg4.storeExact_slice rfl _ packedbf16_S128x2816_S128x128_0_2432) (fun _ => rfl)) (hm := .inl rfl) _) $$ HR
  iintro HR
  iapply (step_sc (Q := Q) c A T gv (i 0).val arg4 20 0 20 (by decide) (by decide) (off := k0_off35 i 0#32 20#32) (k0_off35_inb i 0 20) (off35_eq i 0 20) (hl := View.loadsAt_vmem h_S128x128) _) $$ HR
  iintro HR
  iapply (step_sc (Q := Q) c A T gv (i 0).val arg4 20 1 20 (by decide) (by decide) (off := k0_off35 i 3072#32 20#32) (k0_off35_inb i 1 20) (off35_eq i 1 20) (hl := View.loadsAt_vmem h_S128x128) _) $$ HR
  iintro HR
  iapply (step_sc (Q := Q) c A T gv (i 0).val arg4 20 2 20 (by decide) (by decide) (off := k0_off35 i 6144#32 20#32) (k0_off35_inb i 2 20) (off35_eq i 2 20) (hl := View.loadsAt_vmem h_S128x128) _) $$ HR
  iintro HR
  iapply (step_sc (Q := Q) c A T gv (i 0).val arg4 20 3 20 (by decide) (by decide) (off := k0_off35 i 9216#32 20#32) (k0_off35_inb i 3 20) (off35_eq i 3 20) (hl := View.loadsAt_vmem h_S128x128) _) $$ HR
  iintro HR
  iapply (step_l4 (Q := Q) c A T gv (i 0).val arg4 20 _ (hl := View.loadsAt_vmem h_S128x128) _) $$ HR
  iintro %_v HR
  iapply (step_st (Q := Q) c A T gv (i 0).val arg4 20 (off := ![0, 2560]) inb_S128x2816_S128x128_0_2560 rfl _ rfl (hx := View.stores_vmem h_S128x128 (harg4.storeExact_slice rfl _ packedbf16_S128x2816_S128x128_0_2560) (fun _ => rfl)) (hm := .inl rfl) _) $$ HR
  iintro HR
  iapply (step_sc (Q := Q) c A T gv (i 0).val arg4 21 0 21 (by decide) (by decide) (off := k0_off35 i 0#32 21#32) (k0_off35_inb i 0 21) (off35_eq i 0 21) (hl := View.loadsAt_vmem h_S128x128) _) $$ HR
  iintro HR
  iapply (step_sc (Q := Q) c A T gv (i 0).val arg4 21 1 21 (by decide) (by decide) (off := k0_off35 i 3072#32 21#32) (k0_off35_inb i 1 21) (off35_eq i 1 21) (hl := View.loadsAt_vmem h_S128x128) _) $$ HR
  iintro HR
  iapply Hk
  iexact HR

end Cert.CombineIdeal.Hand
-- ==== Proof.CIdeal.Body.lean ====
/- The body: the copies issued, the wait, and the compute. -/
module

public import proofs.«01_k».proof.Proof.CIdeal.Parts
public import Idealize.ShloMosaic.Lib.Pipeline.FrameBody
public import Idealize.ShloMosaic.Lib.Pipeline.Frame
public import Idealize.ShloMosaic.Lib.Batch
public import Idealize.ShloMosaic.Lib.ViewIndex
public import Idealize.ShloMosaic.Lib.Tactic

@[expose] public section

set_option maxRecDepth 16384

noncomputable section

namespace Cert.CombineIdeal.Hand

open Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Shape (pair pair_eta pair_zero pair_one)

variable {F : FTy → Type} [FloatOps F]

variable {α : Type} {Q : α → sProp (MM F)}

/-- The half of step `n` before the step: in flight from the step before, or free at the run's two ends. -/
def Nx (c : Dev nD) (A : ABuf F) (T : TBuf) (n : Nat) : sProp (MM F) :=
  if 0 < n ∧ n < 64 then Fly c A T n else Free c A (half n)

/-- Both halves before step `n`. -/
def St (c : Dev nD) (A : ABuf F) (T : TBuf) (n : Nat) : sProp (MM F) :=
  iprop(Nx c A T n ∗ Free c A (half (n + 1)))

theorem step_lt (i : grid0.Coords) : (i 0).val < 64 := (i 0).isLt

set_option maxHeartbeats 4000000 in
theorem if1 (c : Dev nD) (A : ABuf F) (T : TBuf) (q : PosShare TreeShare) (i : grid0.Coords) (hpos : ∀ k n, k < 4 → n < 8192 → posOf T k n < 36864) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) {β : Type} (K : Prog (TpuEff nD τ sig (Elt F) Λ₀ .tc) β) (kk : β → Prog (TpuEff nD τ sig (Elt F) Λ₀ .tc) α) :
    iprop(tbPt c q T ∗ Nx c A T (i 0).val)
      ⊢ iprop((tbPt c q T ∗ Fly c A T (i 0).val -∗ wp frame (wpE (defs₀ (F := F)) Variants.none (c : Thread nD τ) none) Set.univ (K >>= kk) Q)
        -∗ wp frame (wpE (defs₀ (F := F)) Variants.none (c : Thread nD τ) none) Set.univ ((if h : k0_cond1 i = 1#1 then (Scf.Loop.for k0_t1_loop (k0_t1_ok i h) ⟨⟩ (k0_t1_body i tbM h1 arg2 harg2 hbM h3 arg4 harg4 scM h5 cc0_scratch1 (BitVec.ofNat 32 (i 0).val) h (Scalar.remsi (BitVec.ofNat 32 (i 0).val) 2#32)) >>= fun _ => K : Prog (TpuEff nD τ sig (Elt F) Λ₀ .tc) β)
          else K) >>= kk) Q) := by
  have hlt := step_lt i
  by_cases h : k0_cond1 i = 1#1
  · rw [dif_pos h, bind_assoc]
    have hv := (cond1_iff i).mp h
    rw [show Nx c A T (i 0).val = Free c A (half (i 0).val) from if_neg (by omega)]
    iintro HS Hk
    iapply (loop1 (Q := Q) c A T q i hlt hpos h arg2 harg2 arg4 harg4 (BitVec.ofNat 32 (i 0).val) (Scalar.remsi (BitVec.ofNat 32 (i 0).val) 2#32) 0#32 h1 h3 h5 _) $$ HS
    iintro HS
    iapply Hk
    iexact HS
  · rw [dif_neg h]
    have hv : (i 0).val ≠ 0 := fun e => h ((cond1_iff i).mpr e)
    rw [show Nx c A T (i 0).val = Fly c A T (i 0).val from if_pos ⟨by omega, hlt⟩]
    iintro HS Hk
    iapply Hk
    iexact HS

set_option maxHeartbeats 4000000 in
theorem if2 (c : Dev nD) (A : ABuf F) (T : TBuf) (q : PosShare TreeShare) (i : grid0.Coords) (hpos : ∀ k n, k < 4 → n < 8192 → posOf T k n < 36864) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) {β : Type} (K : Prog (TpuEff nD τ sig (Elt F) Λ₀ .tc) β) (kk : β → Prog (TpuEff nD τ sig (Elt F) Λ₀ .tc) α) :
    iprop(tbPt c q T ∗ Free c A (half ((i 0).val + 1)))
      ⊢ iprop((tbPt c q T ∗ Nx c A T ((i 0).val + 1) -∗ wp frame (wpE (defs₀ (F := F)) Variants.none (c : Thread nD τ) none) Set.univ (K >>= kk) Q)
        -∗ wp frame (wpE (defs₀ (F := F)) Variants.none (c : Thread nD τ) none) Set.univ ((if h : k0_cond2 i = 1#1 then (Scf.Loop.for k0_t2_loop (k0_t2_ok i h) ⟨⟩ (k0_t2_body i tbM h1 arg2 harg2 hbM h3 arg4 harg4 scM h5 cc0_scratch1 h (Scalar.addi (BitVec.ofNat 32 (i 0).val) 1#32) (Scalar.remsi (Scalar.addi (BitVec.ofNat 32 (i 0).val) 1#32) 2#32)) >>= fun _ => K : Prog (TpuEff nD τ sig (Elt F) Λ₀ .tc) β)
          else K) >>= kk) Q) := by
  have hlt := step_lt i
  by_cases h : k0_cond2 i = 1#1
  · rw [dif_pos h, bind_assoc]
    have hv := (cond2_iff i).mp h
    rw [show Nx c A T ((i 0).val + 1) = Fly c A T ((i 0).val + 1) from if_pos ⟨by omega, hv⟩]
    iintro HS Hk
    iapply (loop2 (Q := Q) c A T q i hv hpos h arg2 harg2 arg4 harg4 0#32 (Scalar.addi (BitVec.ofNat 32 (i 0).val) 1#32) (Scalar.remsi (Scalar.addi (BitVec.ofNat 32 (i 0).val) 1#32) 2#32) h1 h3 h5 _) $$ HS
    iintro HS
    iapply Hk
    iexact HS
  · rw [dif_neg h]
    have hv : ¬ (i 0).val + 1 < 64 := fun e => h ((cond2_iff i).mpr e)
    rw [show Nx c A T ((i 0).val + 1) = Free c A (half ((i 0).val + 1)) from if_neg (by omega)]
    iintro HS Hk
    iapply Hk
    iexact HS

theorem gates_eq (arg2 : Memref sig .tc .vmem S8x128 .f32) (f : arg2.view.ty.Contents (Elt F)) :
    arg2.view.readAt (Elt F) (Rect.unit (s := S8x128) ![0, 0] S8x128.size inb_S8x128_S8x128_0_0).toLoadRect f = arg2.view.read (Elt F) f := by
  funext x
  refine congrArg (arg2.view.read (Elt F) f) ?_
  funext a
  match a with
  | ⟨0, _⟩ => exact Fin.ext (by show 0 + 1 * (x 0).val = (x 0).val; omega)
  | ⟨1, _⟩ => exact Fin.ext (by show 0 + 1 * (x 1).val = (x 1).val; omega)

theorem cols_zero (c : Dev nD) (A : ABuf F) (T : TBuf) (gv : Vec F S8x128 .f32) (s : Nat) (arg4 : Memref sig .tc .vmem S128x2816 .bf16) :
    iprop(∃ g, (arg4.view.loc (c : Thread nD τ) ↦[arg4.view.set]{fullShare} g)) ⊢ Cols (F := F) c A T gv s arg4 0 := by
  unfold Cols
  iintro ⟨%g, Hg⟩
  iexists g
  isplitl [Hg]; · iexact Hg
  ipureintro
  intro x hx
  omega

/-- What is held beside the compute. -/
def Aside (c : Dev nD) (A : ABuf F) (T : TBuf) (q : PosShare TreeShare) (n : Nat) (arg2 : Memref sig .tc .vmem S8x128 .f32) (q2 : PosShare TreeShare) (f2 : Buf (Elt F) (arg2.view.loc (c : Thread nD τ))) : sProp (MM F) :=
  iprop(tbPt c q T ∗ Nx c A T (n + 1) ∗ semVal ((c : Thread nD τ), SemLoc.dma (sem2 (half n))) 0 ∗ hbPt c Finset.univ (hq (half n)) A
    ∗ (∃ W', owes (c : Thread nD τ) 0 W') ∗ (arg2.view.loc (c : Thread nD τ) ↦[arg2.view.set]{q2} f2))

set_option maxHeartbeats 8000000 in
theorem part3_wp (c : Dev nD) (A : ABuf F) (T : TBuf) (q : PosShare TreeShare) (i : grid0.Coords) (hpos : ∀ k n, k < 4 → n < 8192 → posOf T k n < 36864) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (q2 : PosShare TreeShare) (f2 : Buf (Elt F) (arg2.view.loc (c : Thread nD τ))) {Wt : Waits sig Unit}
    (kk : (Σ' (v8 : BitVec 32) (v17 : FVec F S128x128 .f32) (v20 : FVec F S128x128 .f32) (v23 : FVec F S128x128 .f32) (v26 : FVec F S128x128 .f32), FVec F S128x128 .f32) → Prog (TpuEff nD τ sig (Elt F) Λ₀ .tc) α) :
    iprop(tbPt c q T ∗ St c A T (i 0).val ∗ owes (c : Thread nD τ) 0 Wt ∗ (arg2.view.loc (c : Thread nD τ) ↦[arg2.view.set]{q2} f2)
        ∗ ∃ g, (arg4.view.loc (c : Thread nD τ) ↦[arg4.view.set]{fullShare} g))
      ⊢ iprop((Aside c A T q (i 0).val arg2 q2 f2 ∗ Rn c A T (arg2.view.read (Elt F) f2) (i 0).val arg4 0
          -∗ wp frame (wpE (defs₀ (F := F)) Variants.none (c : Thread nD τ) none) Set.univ (kk ⟨Scalar.muli (Scalar.remsi (BitVec.ofNat 32 (i 0).val) 2#32) 12288#32, k0_pay3 (arg2.view.read (Elt F) f2), k0_pay4 (arg2.view.read (Elt F) f2), k0_pay5 (arg2.view.read (Elt F) f2), k0_pay6 (arg2.view.read (Elt F) f2), two A T (arg2.view.read (Elt F) f2) (i 0).val 0⟩) Q)
        -∗ wp frame (wpE (defs₀ (F := F)) Variants.none (c : Thread nD τ) none) Set.univ (k0_part3 i tbM h1 arg2 harg2 hbM h3 arg4 harg4 scM h5 cc0_scratch1 >>= kk) Q) := by
  rw [k0_part3_eq_skeleton]
  unfold k0_part3_skel
  dsimp (config := { zeta := true, beta := true }) only
  unfold St
  iintro ⟨HT, ⟨HN, HF⟩, HO, H2, H4⟩ Hk
  iapply (if1 (Q := Q) c A T q i hpos arg2 harg2 arg4 harg4 h1 h3 h5 _ _) $$ [HT HN]
  · isplitl [HT]; · iexact HT
    iexact HN
  iintro ⟨HT, HN⟩
  iapply (if2 (Q := Q) c A T q i hpos arg2 harg2 arg4 harg4 h1 h3 h5 _ _) $$ [HT HF]
  · isplitl [HT]; · iexact HT
    iexact HF
  iintro ⟨HT, HF⟩
  iapply (wait_all (Q := Q) c A T (i 0).val (om := k0_off33 i) (od := k0_off34 i) (k0_off33_inb i) (k0_off34_inb i) inb_S884736x128_S12288x128_0_0 (off33_eq i) _) $$ [HN HO]
  · isplitl [HN]; · iexact HN
    iexact HO
  unfold Down
  iintro ⟨⟨Hd, Hs, Ha⟩, HO⟩
  iapply (wp_load Variants.none (c : Thread nD τ) none Set.univ (m := arg2) (r := (Rect.unit (s := S8x128) ![0, 0] S8x128.size inb_S8x128_S8x128_0_0).toLoadRect) (hl := View.loadsAt_vmem h_S8x128) (View.setOn_subset_set _ _)) $$ H2
  iintro H2
  rw [gates_eq arg2 f2]
  generalize hgv : arg2.view.read (Elt F) f2 = gv
  ihave HC := (cols_zero c A T gv (i 0).val arg4) $$ H4
  ihave HR := (show iprop(scPt c (slotSet (half (i 0).val).val) (landed A T (i 0).val) ∗ Cols c A T gv (i 0).val arg4 0) ⊢ Rn c A T gv (i 0).val arg4 0 from .rfl) $$ [Hs HC]
  · isplitl [Hs]; · iexact Hs
    iexact HC
  iapply (step_sc (Q := Q) c A T gv (i 0).val arg4 0 0 0 (by decide) (by decide) (off := k0_off35 i 0#32 0#32) (k0_off35_inb i 0 0) (off35_eq i 0 0) (hl := View.loadsAt_vmem h_S128x128) _) $$ HR
  iintro HR
  iapply (step_sc (Q := Q) c A T gv (i 0).val arg4 0 1 0 (by decide) (by decide) (off := k0_off35 i 3072#32 0#32) (k0_off35_inb i 1 0) (off35_eq i 1 0) (hl := View.loadsAt_vmem h_S128x128) _) $$ HR
  iintro HR
  iapply Hk
  isplitr [HR]; swap; · iexact HR
  unfold Aside
  isplitl [HT]; · iexact HT
  isplitl [HF]; · iexact HF
  isplitl [Hd]; · iexact Hd
  isplitl [Ha]; · iexact Ha
  isplitl [HO]; · iexact HO
  iexact H2

theorem half_two (n : Nat) : half (n + 1 + 1) = half n := Fin.ext (by show (n + 1 + 1) % 2 = n % 2; omega)

/-- After the compute: both halves as the next step finds them. -/
theorem finish (c : Dev nD) (A : ABuf F) (T : TBuf) (gv : Vec F S8x128 .f32) (q : PosShare TreeShare) (n : Nat) (arg2 : Memref sig .tc .vmem S8x128 .f32) (arg4 : Memref sig .tc .vmem S128x2816 .bf16) (q2 : PosShare TreeShare) (f2 : Buf (Elt F) (arg2.view.loc (c : Thread nD τ))) :
    iprop(Aside c A T q n arg2 q2 f2 ∗ Rn c A T gv n arg4 22)
      ⊢ iprop(tbPt c q T ∗ St c A T (n + 1) ∗ (∃ W', owes (c : Thread nD τ) 0 W') ∗ (arg2.view.loc (c : Thread nD τ) ↦[arg2.view.set]{q2} f2) ∗ Cols c A T gv n arg4 22) := by
  unfold Aside Rn St Free
  rw [half_two]
  iintro ⟨⟨HT, HF, Hd, Ha, HO, H2⟩, Hs, HC⟩
  isplitl [HT]; · iexact HT
  isplitl [HF Hd Ha Hs]
  · isplitl [HF]; · iexact HF
    isplitl [Hd]; · iexact Hd
    isplitl [Hs]; · iexists _; iexact Hs
    iexact Ha
  isplitl [HO]; · iexact HO
  isplitl [H2]; · iexact H2
  iexact HC

set_option maxHeartbeats 8000000 in
/-- The body of a step. -/
theorem body_wp (c : Dev nD) (A : ABuf F) (T : TBuf) (q : PosShare TreeShare) (i : grid0.Coords) (hpos : ∀ k n, k < 4 → n < 8192 → posOf T k n < 36864) (arg2 : Memref sig .tc .vmem S8x128 .f32) (harg2 : arg2.IsWhole) (arg4 : Memref sig .tc .vmem S128x2816 .bf16) (harg4 : arg4.IsWhole) (h1 : tbM.IsWhole) (h3 : hbM.IsWhole) (h5 : scM.IsWhole) (q2 : PosShare TreeShare) (f2 : Buf (Elt F) (arg2.view.loc (c : Thread nD τ))) {Wt : Waits sig Unit} {Q : PUnit → sProp (MM F)} :
    iprop(tbPt c q T ∗ St c A T (i 0).val ∗ owes (c : Thread nD τ) 0 Wt ∗ (arg2.view.loc (c : Thread nD τ) ↦[arg2.view.set]{q2} f2)
        ∗ ∃ g, (arg4.view.loc (c : Thread nD τ) ↦[arg4.view.set]{fullShare} g))
      ⊢ iprop((tbPt c q T ∗ St c A T ((i 0).val + 1) ∗ (∃ W', owes (c : Thread nD τ) 0 W') ∗ (arg2.view.loc (c : Thread nD τ) ↦[arg2.view.set]{q2} f2) ∗ Cols c A T (arg2.view.read (Elt F) f2) (i 0).val arg4 22
          -∗ Q ⟨⟩)
        -∗ wp frame (wpE (defs₀ (F := F)) Variants.none (c : Thread nD τ) none) Set.univ (cc0_combine i tbM h1 arg2 harg2 hbM h3 arg4 harg4 scM h5 cc0_scratch1) Q) := by
  rw [cc0_combine_eq_skeleton]
  unfold cc0_combine_skel
  iintro HS Hk
  iapply (part3_wp (Q := Q) c A T q i hpos arg2 harg2 arg4 harg4 h1 h3 h5 q2 f2 _) $$ HS
  iintro ⟨HA, HR⟩
  generalize hgv : arg2.view.read (Elt F) f2 = gv
  iapply (part4_wp (Q := Q) c A T gv i arg2 harg2 arg4 harg4 h1 h3 h5 _ _) $$ HR
  iintro HR
  iapply (part5_wp (Q := Q) c A T gv i arg2 harg2 arg4 harg4 h1 h3 h5 _ _) $$ HR
  iintro HR
  iapply (part6_wp (Q := Q) c A T gv i arg2 harg2 arg4 harg4 h1 h3 h5 _ _) $$ HR
  iintro HR
  iapply (part7_wp (Q := Q) c A T gv i arg2 harg2 arg4 harg4 h1 h3 h5 _ _) $$ HR
  iintro HR
  iapply (part8_wp (Q := Q) c A T gv i arg2 harg2 arg4 harg4 h1 h3 h5 _ _) $$ HR
  iintro HR
  iapply (part9_wp (Q := Q) c A T gv i arg2 harg2 arg4 harg4 h1 h3 h5 _ _) $$ HR
  iintro HR
  iapply (part10_wp (Q := Q) c A T gv i arg2 harg2 arg4 harg4 h1 h3 h5 _ _) $$ HR
  iintro HR
  iapply (part11_wp (Q := Q) c A T gv i arg2 harg2 arg4 harg4 h1 h3 h5 _ _) $$ HR
  iintro HR
  iapply (part12_wp (Q := Q) c A T gv i arg2 harg2 arg4 harg4 h1 h3 h5 _ _) $$ HR
  iintro HR
  iapply (part13_wp (Q := Q) c A T gv i arg2 harg2 arg4 harg4 h1 h3 h5 _ _) $$ HR
  iintro HR
  iapply (part14_wp (Q := Q) c A T gv i arg2 harg2 arg4 harg4 h1 h3 h5 _ _) $$ HR
  iintro HR
  iapply (part15_wp (Q := Q) c A T gv i arg2 harg2 arg4 harg4 h1 h3 h5 _ _) $$ HR
  iintro HR
  iapply (part16_wp (Q := Q) c A T gv i arg2 harg2 arg4 harg4 h1 h3 h5 _ _) $$ HR
  iintro HR
  iapply (part17_wp (Q := Q) c A T gv i arg2 harg2 arg4 harg4 h1 h3 h5 _ _) $$ HR
  iintro HR
  iapply (step_sc (Q := Q) c A T gv (i 0).val arg4 21 2 21 (by decide) (by decide) (off := k0_off35 i 6144#32 21#32) (k0_off35_inb i 2 21) (off35_eq i 2 21) (hl := View.loadsAt_vmem h_S128x128) _) $$ HR
  iintro HR
  iapply (step_sc (Q := Q) c A T gv (i 0).val arg4 21 3 21 (by decide) (by decide) (off := k0_off35 i 9216#32 21#32) (k0_off35_inb i 3 21) (off35_eq i 3 21) (hl := View.loadsAt_vmem h_S128x128) _) $$ HR
  iintro HR
  iapply (step_l4 (Q := Q) c A T gv (i 0).val arg4 21 _ (hl := View.loadsAt_vmem h_S128x128) _) $$ HR
  iintro %_v HR
  iapply (step_st (Q := Q) c A T gv (i 0).val arg4 21 (off := ![0, 2688]) inb_S128x2816_S128x128_0_2688 rfl _ rfl (hx := View.stores_vmem h_S128x128 (harg4.storeExact_slice rfl _ packedbf16_S128x2816_S128x128_0_2688) (fun _ => rfl)) (hm := .inl rfl) _) $$ HR
  iintro HR
  simp only [ret_bind']
  sl_step
  iapply Hk
  iapply (finish c A T gv q (i 0).val arg2 arg4 q2 f2)
  isplitl [HA]; · iexact HA
  iexact HR

end Cert.CombineIdeal.Hand
-- ==== Proof.CIdeal.Frame.lean ====
/- The pipeline's proof data, the body's obligation, the launch and the frame. -/
module

public import proofs.«01_k».proof.Proof.CIdeal.Body
public import proofs.«01_k».proof.Proof.Gen.CombineIdeal.Launch
public import Idealize.ShloMosaic.Lib.Claim
public import Idealize.ShloMosaic.Lib.Pipeline.FrameBody
public import Idealize.ShloMosaic.Lib.Pipeline.Frame
public import Idealize.ShloMosaic.Lib.Batch
public import Idealize.ShloMosaic.Lib.ViewIndex
public import Idealize.ShloMosaic.Lib.Tactic

@[expose] public section

set_option maxRecDepth 16384

noncomputable section

namespace Cert.CombineIdeal.Hand

open Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Shape (pair pair_eta pair_zero pair_one)

open Idealize.ShloMosaic.Pipeline (Dat Cfg Window BodyObligation cellOf)

variable {F : FTy → Type} [FloatOps F]

variable (m : (ℓ : Loc nD τ sig) → Buf (Elt F) ℓ) (ρ : Dev nD → PrngReg)

/-- The result's window is written back at every point. -/
theorem flush0_1 (a : (pcfg0 (F := F)).Adm) : ∀ t : Fin (cfg0 a).N, ((cfg0 a).win 1).flush t = true :=
  (fun t => (Pipeline.Window.flushOf_reads cc0_transform_2 reads0_1 hreads0_1 0 (by decide) (by decide) (Pipeline.Window.sep_of_coord cc0_transform_2 0 0 (fun _ => rfl) (by decide)) (P := 1) (m := 0) (by decide) rfl t).mpr (Nat.mod_one _) : ∀ t : Fin grid0.N, Pipeline.Window.flushOf grid0 true cc0_transform_2 t = true)

/-- The kernel body at point `t`, on what the pipeline calls it with. -/
abbrev bodyAt0 (a : (pcfg0 (F := F)).Adm) (t : Fin (cfg0 a).N) : Prog (TpuEff nD τ sig (Elt F) Λ₀ .tc) PUnit :=
  cc0_combine (grid0.coords t) (Memref.whole main_arg0) (Memref.isWhole_whole _) (spec0_0.stage ((cfg0 a).slots t 0)) (hstage0_0 (((cfg0 a).slots t 0).cast nbuf0_0)) (Memref.whole main_arg2) (Memref.isWhole_whole _) (spec0_1.stage ((cfg0 a).slots t 1)) (hstage0_1 (((cfg0 a).slots t 1).cast nbuf0_1)) (Memref.whole cc0_scratch0) (Memref.isWhole_whole _) cc0_scratch1

/-- Core `c`'s buffers when the region is entered: no host operation comes before it. -/
abbrev V (c : Dev nD) (b : Ref sig .tc) : Buf (Elt F) ((c : Thread nD τ).loc b) := StableHlo.after ([] : List (List (HloOp τ sig (Elt F)))).flatten (fun b => m (c, b)) b

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [] trivial trivial main_chain

theorem V_eq (c : Dev nD) (b : Ref sig .tc) : V m c b = m ((c : Thread nD τ).loc b) := rfl

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
theorem okay : Ok m := by unfold Ok ok0; trivial
abbrev adm : (pcfg0 (F := F)).Adm := ⟨tbl m, okay m⟩
abbrev cfgM : Pipeline.Cfg sig Λ₀ := cfg0 (adm m)

/-- The table and the array of rows the body reads. -/
abbrev Tt : TBuf := tbl m 0
abbrev Aa (c : Dev nD) : ABuf F := V m c main_arg2

/-- Every position of the table is below the number of dispatched rows. -/
def Pos : Prop := ∀ k n, k < 4 → n < 8192 → posOf (Tt m) k n < 36864

theorem PhiT0_eq (c : Dev nD) : (Pipeline.ΦT pre0 (tbl m) c : sProp (MM F)) = iprop(tbPt c fullShare.right (Tt m)) := by
  unfold Pipeline.ΦT Pipeline.prefHeld
  rw [show (Finset.univ : Finset (Fin 1)) = {(0 : Fin 1)} from by decide, bigSep_singleton]
  rfl

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Each window's staging memref at point `t`. -/
abbrev ms0_0 (t : Fin (cfgM m).N) : Memref sig .tc .vmem S8x128 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S128x2816 .bf16 := spec0_1.stage ((cfgM m).slots t 1)
abbrev hs0_1 (t : Fin (cfgM m).N) : (ms0_1 m t).IsWhole := hstage0_1 (((cfgM m).slots t 1).cast nbuf0_1)

theorem frame_of (dats : (p : Fin 1) → (c : Dev nD) → Dat τ (Elt F) Unit ℕ (Pipeline.UD sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_arg0 (by decide : main_arg0 ∈ Pipeline.restRefs sig spec0),
      ((h c).1 0).trans (((dats 0 c).arrAt_in 0 rfl _).trans (hA c 0)),
      (h c).2 main_arg2 (by decide : main_arg2 ∈ Pipeline.restRefs sig spec0)⟩) h

/-! ## The pipeline's proof data -/

/-- The step's number at a point. -/
theorem coords_val : ∀ t : Fin grid0.N, (grid0.coords t 0).val = t.val := by decide +kernel

/-- The invariant before point `n`: the two halves of the scratch as step `n` finds them. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outB (Aa m c) (Tt m) (iblk m c 0 t) (grid0.coords t 0).val
  Φ n := iprop((∃ r, prngReg c r) ∗ tbPt c fullShare.right (Tt m) ∗ St c (Aa m c) (Tt m) n.val)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = outB (Aa m c) (Tt m) (iblk m c 0 t) (grid0.coords t 0).val := by dsimp only [dats]; try rfl

theorem before0_0 (c : Dev nD) (t : Fin (cfgM m).N) (d) : (dats m 0 c).before 0 t d = iblk m c 0 t :=
  before0_0_of m (dats m 0 c) (A_eq m c 0) (after0_0 m c) t d

/-! ## The body obligation -/

def bodyPre (c : Dev nD) (t : Fin (cfgM m).N) : sProp (MM F) :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))

def bodyPost (c : Dev nD) (t : Fin (cfgM m).N) : sProp (MM F) :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

set_option maxHeartbeats 4000000 in
theorem sound_body (hP : Pos m) (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0]
  rw [after0_0, after0_1]
  rw [show (dats m 0 c).Φ t.castSucc = iprop((∃ r, prngReg c r) ∗ tbPt c fullShare.right (Tt m) ∗ St c (Aa m c) (Tt m) (grid0.coords t 0).val) from by
      rw [coords_val]; rfl,
    show (dats m 0 c).Φ t.succ = iprop((∃ r, prngReg c r) ∗ tbPt c fullShare.right (Tt m) ∗ St c (Aa m c) (Tt m) ((grid0.coords t 0).val + 1)) from by
      rw [coords_val]; rfl]
  unfold Dat.owesAt Pipeline.owesWithin owns
  iintro ⟨⟨Hg, HT, HS⟩, ⟨%Wt, %hWt, HO⟩, ⟨%d0, %f0, %hf0, H0⟩, ⟨%d1, %f1, %hf1, H1⟩⟩
  iapply (body_wp c (Aa m c) (Tt m) fullShare.right (grid0.coords t) hP (ms0_0 m t) (hs0_0 m t) (ms0_1 m t) (hs0_1 m t) (Memref.isWhole_whole _) (Memref.isWhole_whole _) (Memref.isWhole_whole _) fullShare f0) $$ [HT HS HO H0 H1]
  · isplitl [HT]; · iexact HT
    isplitl [HS]; · iexact HS
    isplitl [HO]; · iexact HO
    isplitl [H0]; · iexact H0
    iexists f1; iexact H1
  iintro ⟨HT, HS, ⟨%W', HO⟩, H0, HC⟩
  isplitl [Hg HT HS]
  · isplitl [Hg]; · iexact Hg
    isplitl [HT]; · iexact HT
    iexact HS
  isplitl [HO]
  · iexists W'
    isplitr; swap; · iexact HO
    ipureintro; exact fun _ _ => Or.inl trivial
  isplitl [H0]
  · iexists f0
    isplitr; swap; · iexact H0
    ipureintro; exact hf0
  unfold Cols
  icases HC with ⟨%g, Hg, %hg⟩
  iexists g
  isplitr; swap; · iexact Hg
  ipureintro
  funext x
  have hx : (x 1).val < 2816 := (x 1).isLt
  have hgv : iblk m c 0 t = (ms0_0 m t).view.read (Elt F) f0 := hf0.symm
  rw [hgv]
  exact hg x (by omega)

theorem defs₀_row (t : Fin (cfgM m).N) :
    defs₀ (F := F) .tc (cfgM m).body ((cfgM m).bodyArgs t ((cfgM m).slots t)) = bodyAt0 (adm m) t := by
  unfold defs₀; rw [Defs.onTc_tc]

theorem leaves0_1 (c : Dev nD) (t : Fin (cfgM m).N) :
    (dats m 0 c).leavesExact 1 t = owns (c : Thread nD τ) (ms0_1 m t) fullShare ((dats m 0 c).after 1 t) := by
  unfold Dat.leavesExact
  rw [show ((cfgM m).win 1).flush t = true from flush0_1 (adm m) t]
  cases (cfgM m).idle 1 ((cfgM m).grid.coords t) <;> rfl

theorem body_obligation (hP : Pos m) (c : Dev nD) : BodyObligation (dats (F := F) m 0 c) (defs₀ (F := F)) Variants.none () Set.univ := fun t => by
  rw [bigSep_W0, bigSep_W0, defs₀_row m]
  refine triple_restated (sound_body m hP c t) rfl .rfl fun _ => ?_
  exact sep_mono .rfl (sep_mono .rfl (sep_mono .rfl (BIBase.Entails.of_eq (leaves0_1 m c t).symm)))

/-! ## The kernel's own semaphores, its scratch and the array it copies from, handed in and taken back -/

def osem : Fin 2 → SemLoc sig := fun b => .dma (sem2 b)

theorem own_facts : Pipeline.OwnSemFacts spec0 osem := by decide

theorem arg2_rest : ({main_arg2} : Finset (Ref sig .tc)) ⊆ Pipeline.restRefsP sig pre0 spec0 := by decide

theorem sems_eq (c : Dev nD) : (Pipeline.ownSems0 (Ix := Unit) (Name := ℕ) (U := Pipeline.UD sig nD τ) (Lvl := ℕ) (Val := Elt F) (τ := τ) osem c : sProp (MM F))
    = iprop(semVal ((c : Thread nD τ), SemLoc.dma (sem2 0)) 0 ∗ semVal ((c : Thread nD τ), SemLoc.dma (sem2 1)) 0) :=
  bigSep_univ_eq_bigSepL [(0 : Fin 2), (1 : Fin 2)] (by decide) (by decide) _

theorem nx_zero (c : Dev nD) (A : ABuf F) (T : TBuf) : Nx c A T 0 = Free c A 0 := if_neg (by decide)
theorem nx_last (c : Dev nD) (A : ABuf F) (T : TBuf) : Nx c A T 64 = Free c A 0 := if_neg (by decide)

theorem free_of (c : Dev nD) (A : ABuf F) :
    iprop((∃ f, scPt c Finset.univ f) ∗ (semVal ((c : Thread nD τ), SemLoc.dma (sem2 0)) 0 ∗ semVal ((c : Thread nD τ), SemLoc.dma (sem2 1)) 0) ∗ hbPt c Finset.univ fullShare A)
      ⊢ iprop(Free c A 0 ∗ Free c A 1) := by
  unfold Free
  iintro ⟨⟨%f, Hs⟩, ⟨Hd0, Hd1⟩, Ha⟩
  rw [halves]
  ihave Hs := (pointsTo_union halves_disjoint).1 $$ Hs
  icases Hs with ⟨Hs0, Hs1⟩
  ihave Ha := (pointsTo_share (PosShare.mem_left_op_right fullShare)).1 $$ Ha
  icases Ha with ⟨Ha0, Ha1⟩
  isplitl [Hd0 Hs0 Ha0]
  · isplitl [Hd0]; · iexact Hd0
    isplitl [Hs0]; · iexists f; iexact Hs0
    iexact Ha0
  isplitl [Hd1]; · iexact Hd1
  isplitl [Hs1]; · iexists f; iexact Hs1
  iexact Ha1

theorem of_free (c : Dev nD) (A : ABuf F) :
    iprop(Free c A 0 ∗ Free c A 1)
      ⊢ iprop((∃ f, scPt c Finset.univ f) ∗ (semVal ((c : Thread nD τ), SemLoc.dma (sem2 0)) 0 ∗ semVal ((c : Thread nD τ), SemLoc.dma (sem2 1)) 0) ∗ hbPt c Finset.univ fullShare A) := by
  unfold Free
  iintro ⟨⟨Hd0, ⟨%f0, Hs0⟩, Ha0⟩, Hd1, ⟨%f1, Hs1⟩, Ha1⟩
  isplitl [Hs0 Hs1]
  · rw [halves]
    iexists _
    iapply (pointsTo_join halves_disjoint)
    isplitl [Hs0]; · iexact Hs0
    iexact Hs1
  isplitl [Hd0 Hd1]
  · isplitl [Hd0]; · iexact Hd0
    iexact Hd1
  iapply (pointsTo_share (PosShare.mem_left_op_right fullShare)).2
  isplitl [Ha0]; · iexact Ha0
  iexact Ha1

theorem hD (c : Dev nD) : (Pipeline.ΦD osem spec0 {main_arg2} (V m) c : sProp (MM F))
    = iprop((∃ f, scPt c Finset.univ f) ∗ (∃ r, prngReg c r) ∗ (semVal ((c : Thread nD τ), SemLoc.dma (sem2 0)) 0 ∗ semVal ((c : Thread nD τ), SemLoc.dma (sem2 1)) 0) ∗ hbPt c Finset.univ fullShare (Aa m c)) := by
  rw [Pipeline.ΦD_eq, scopedRest0_eq, sems_eq, bigSep_singleton]
  rfl

theorem hin (c : Dev nD) : iprop(Pipeline.ΦD osem spec0 {main_arg2} (V m) c ∗ Pipeline.ΦT pre0 (tbl m) c) ⊢ (dats m 0 c).Φ 0 := by
  rw [hD, PhiT0_eq]
  rw [show (dats m 0 c).Φ 0 = iprop((∃ r, prngReg c r) ∗ tbPt c fullShare.right (Tt m) ∗ Nx c (Aa m c) (Tt m) 0 ∗ Free c (Aa m c) 1) from rfl, nx_zero]
  iintro ⟨⟨Hs, Hg, Hd, Ha⟩, HT⟩
  isplitl [Hg]; · iexact Hg
  isplitl [HT]; · iexact HT
  iapply (free_of c (Aa m c))
  isplitl [Hs]; · iexact Hs
  isplitl [Hd]; · iexact Hd
  iexact Ha

theorem hout (c : Dev nD) : (dats m 0 c).Φ (Fin.last (cfgM m).N) ⊢ Pipeline.ΦD osem spec0 {main_arg2} (V m) c := by
  rw [hD]
  rw [show (dats m 0 c).Φ (Fin.last (cfgM m).N) = iprop((∃ r, prngReg c r) ∗ tbPt c fullShare.right (Tt m) ∗ Nx c (Aa m c) (Tt m) 64 ∗ Free c (Aa m c) 1) from by
    show iprop((∃ r, prngReg c r) ∗ tbPt c fullShare.right (Tt m) ∗ St c (Aa m c) (Tt m) grid0.N) = _
    rw [N_0]; rfl, nx_last]
  iintro ⟨Hg, -, HS⟩
  ihave HS := (of_free c (Aa m c)) $$ HS
  icases HS with ⟨Hs, Hd, Ha⟩
  isplitl [Hs]; · iexact Hs
  isplitl [Hg]; · iexact Hg
  isplitl [Hd]; · iexact Hd
  iexact Ha

/-! ## The run and the frame -/

set_option backward.isDefEq.respectTransparency.types false in
/-- The launch. -/
theorem run_main_quiescent (hP : Pos m) : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP_dma (Q' := _) pcfgs (fun _ => adm m) (dats m) (0 : Fin 1) launch0 osem defs₀ Variants.none own_facts {main_arg2} arg2_rest m ρ main
    (hbody := fun c => (body_obligation m hP c).loose) (hshare := fun c => (dats m 0 c).share_full fun _ => rfl)
    (howed := fun _ _ => rfl) (V := V m) (hmain := hmain m Variants.none) (hA := A_eq m) (hpf := V_pre m)
    (hin := hin m) (hout := hout m)

theorem run_main (hP : Pos m) : θ_run defs (onTc (τ := τ) (main (F := F))) (s₀ m ρ) (Pipeline.FramePost (Pipeline.pin pcfgs fun _ => adm m) (dats m) 0 (V m)) :=
  (θ_run defs _ _).mono (fun _ h => h.1) (run_main_quiescent m ρ hP)

theorem unchanged (hP : Pos m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hP)

/-- The frame: every argument array ends unchanged, and every semaphore counter ends at zero. -/
theorem frame (hP : Pos m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hP) ((θ_run defs _ _).mono (fun _ h => h.2) (run_main_quiescent m ρ hP))

end Cert.CombineIdeal.Hand
-- ==== Proof.GSum.lean ====
/- The gated sum, entry by entry: for a token and a column, the four rows its positions name, each times its gate. And what
   the precondition `in_rows` says of the positions. -/
module

public import proofs.«01_k».proof.Proof.Gen.Pre_in_rows
public import proofs.«01_k».proof.Proof.Row
public import proofs.«01_k».proof.Proof.Routed

@[expose] public section

noncomputable section

namespace Cert.GSum

open Idealize.ShloMosaic Cert.Row

/-- Choice `k` of token `n` in column `c`: the row is 24 lines of 128 lanes of the array, and the word in the table names it. -/
def term (T : Nat → Nat → BitVec 32) (g A : Nat → Nat → EReal) (n c k : Nat) : EReal :=
  A ((T k n).toNat * 24 + c / 128) (c % 128) * g k n

/-- The sum of the four choices. -/
def gsum (T : Nat → Nat → BitVec 32) (g A : Nat → Nat → EReal) (n c : Nat) : EReal :=
  term T g A n c 0 + term T g A n c 1 + term T g A n c 2 + term T g A n c 3

open Cert.Pre_in_rows Cert.Pre_in_rows.Gen in
/-- The precondition: each position is the number of a row there is. -/
theorem in_rows {F : FTy → Type} [FloatOps F] (w : IVec Cert.Pre_in_rows.S4x8192 32) (a1 : FVec F S8x8192 .f32) (a2 : FVec F S884736x128 .f32)
    (h : Cert.Pre_in_rows.fn (F := F) w a1 a2 = fun _ => 1#1) (i : Cert.Pre_in_rows.S4x8192.Idx) : (w i).toNat < 36864 := by
  have e := congrFun h i
  simp only [Cert.Pre_in_rows.fn] at e
  exact Cert.Routed.range _ 36864 (by decide) e

end Cert.GSum

end
-- ==== Proof.CIdeal.Final.lean ====
/- The combine kernel's run, with its result array named entry by entry. -/
module

public import proofs.«01_k».proof.Proof.CIdeal.Frame
public import proofs.«01_k».proof.Proof.GSum
public import Idealize.ShloMosaic.Lib.Pointwise
public import Idealize.ShloMosaic.Lib.StableHlo.ReadAt

@[expose] public section

set_option maxRecDepth 16384

noncomputable section

namespace Cert.CombineIdeal.Hand

open Cert.CombineIdeal.Gen Idealize.ShloMosaic Idealize.ShloMosaic.TcCoe Idealize.SL.Sem Cert.Row
open Idealize.ShloMosaic.Pipeline (Dat)
open Idealize.ShloMosaic.Shape (pair)

/-- One entry of a block of columns: the four rows' entries, each times its gate. -/
theorem colv_apply (A : ABuf Ideal) (T : TBuf) (gv : Vec Ideal S8x128 .f32) (s j : Nat) (r l : Fin 128) :
    (colv A T gv s j (ix2 r l) : EReal) = (ld A T s 0 j (ix2 r l) : EReal) * gv (ix2 0 r) + (ld A T s 1 j (ix2 r l) : EReal) * gv (ix2 1 r)
      + (ld A T s 2 j (ix2 r l) : EReal) * gv (ix2 2 r) + (ld A T s 3 j (ix2 r l) : EReal) * gv (ix2 3 r) := by
  unfold colv k0_pay9 k0_pay6 k0_pay5 k0_pay4 k0_pay3 k0_pay2
  generalize ld A T s 0 j = a
  generalize ld A T s 1 j = b
  generalize ld A T s 2 j = d
  generalize ld A T s 3 j = e
  pointwise []

variable (m : (ℓ : Loc nD τ sig) → Buf (Elt Ideal) ℓ)

/-- The positions, the gates and the rows, by their numbers. -/
abbrev tn (c : Dev nD) : Nat → Nat → BitVec 32 := a2 (α := BitVec 32) (n := 4) (m := 8192) (m ((c.tc : Thread nD τ).loc main_arg0))
abbrev gn (c : Dev nD) : Nat → Nat → EReal := a2 (α := EReal) (n := 8) (m := 8192) (m ((c.tc : Thread nD τ).loc main_arg1))
abbrev an (c : Dev nD) : Nat → Nat → EReal := a2 (α := EReal) (n := 884736) (m := 128) (m ((c.tc : Thread nD τ).loc main_arg2))

/-- Row `n`, column `k` of the result of the argument arrays. -/
def Res (c : Dev nD) : Nat → Nat → EReal := Cert.GSum.gsum (tn m c) (gn m c) (an m c)

theorem posOf_eq (c : Dev nD) (k n : Nat) (hk : k < 4) (hn : n < 8192) : posOf (Tt m) k n = (tn m c k n).toNat := by
  obtain rfl : c = 0 := Subsingleton.elim _ _
  unfold posOf
  refine congrArg BitVec.toNat ?_
  refine (ent_eq (d := ![4, 8192]) (by decide) (by decide) (Tt m) (ix2 (⟨k, hk⟩ : Fin 4) (⟨n, hn⟩ : Fin 8192)) k n rfl rfl).trans ?_
  exact a2_eq (α := BitVec 32) (n := 4) (m := 8192) (m (((0 : Dev nD).tc : Thread nD τ).loc main_arg0)) (⟨k, hk⟩ : Fin 4) (⟨n, hn⟩ : Fin 8192)

theorem ld_apply (hP : Pos m) (c : Dev nD) (s k j : Nat) (hs : s < 64) (hk : k < 4) (hj : j < 22) (r l : Fin 128) :
    (ld (Aa m c) (Tt m) s k j (ix2 r l) : EReal) = an m c ((tn m c k (s * 128 + r.val)).toNat * 24 + j) l.val := by
  have hr := r.isLt
  have hp := hP k (s * 128 + r.val) hk (by omega)
  have hq := posOf_eq m c k (s * 128 + r.val) hk (by omega)
  rw [← hq]
  show ent (d := ![884736, 128]) _ _ (Aa m c) (posOf (Tt m) k (s * 128 + r.val) * 24 + j) l.val = _
  refine (ent_eq (d := ![884736, 128]) (by decide) (by decide) (Aa m c) (ix2 (⟨posOf (Tt m) k (s * 128 + r.val) * 24 + j, by omega⟩ : Fin 884736) l) _ _ rfl rfl).trans ?_
  exact a2_eq (α := EReal) (n := 884736) (m := 128) (m ((c.tc : Thread nD τ).loc main_arg2)) (⟨posOf (Tt m) k (s * 128 + r.val) * 24 + j, by omega⟩ : Fin 884736) l

theorem index0 (t : Fin (cfgM m).N) : ((cfgM m).win 0).index t = ![0, t.val] :=
  (by decide +kernel : ∀ t : Fin grid0.N, cc0_transform_0 (grid0.coords t) = ![0, t.val]) t
theorem index1 (t : Fin (cfgM m).N) : ((cfgM m).win 1).index t = ![t.val, 0] :=
  (by decide +kernel : ∀ t : Fin grid0.N, cc0_transform_2 (grid0.coords t) = ![t.val, 0]) t

theorem iblk0_apply (c : Dev nD) (t : Fin (cfgM m).N) (ht : t.val < 64) (i : Fin 8) (j : Fin 128) :
    (iblk m c 0 t : S8x128.Idx → EReal) (ix2 i j) = gn m c i.val (t.val * 128 + j.val) := by
  have e : (((cfgM m).win 0).rect t).emb (ix2 i j) = (ix2 i (⟨t.val * 128 + j.val, by omega⟩ : Fin 8192) : S8x8192.Idx) := by
    refine Shape.idx_ext₂ ?_ ?_
    · exact (Pipeline.Window.rect_emb_val ((cfgM m).win 0) t _ (0 : Fin 2)).trans
        ((congrArg (fun x : Nat => x * 8 + i.val) (congrFun (index0 m t) (0 : Fin 2))).trans (by show 0 * 8 + i.val = i.val; omega))
    · exact (Pipeline.Window.rect_emb_val ((cfgM m).win 0) t _ (1 : Fin 2)).trans
        (congrArg (fun x : Nat => x * 128 + j.val) (congrFun (index0 m t) (1 : Fin 2)))
  refine Eq.trans ?_ (a2_eq (α := EReal) (n := 8) (m := 8192) (m ((c.tc : Thread nD τ).loc main_arg1)) i (⟨t.val * 128 + j.val, by omega⟩ : Fin 8192))
  exact congrArg (V m c main_arg1) e

/-- One entry of a step's result, from the gates' block. -/
theorem outB_of (hP : Pos m) (c : Dev nD) (gv : Vec Ideal S8x128 .f32) (s : Nat) (hs : s < 64) (y : Fin 128) (l : Fin 2816)
    (hg : ∀ i : Fin 8, (gv (ix2 i y) : EReal) = gn m c i.val (s * 128 + y.val)) :
    (outB (Aa m c) (Tt m) gv s (ix2 y l) : EReal) = Res m c (s * 128 + y.val) l.val := by
  have hl := l.isLt
  have h1 : (outB (Aa m c) (Tt m) gv s (ix2 y l) : EReal)
      = colv (Aa m c) (Tt m) gv s (l.val / 128) (ix2 y (⟨l.val % 128, Nat.mod_lt _ (by decide)⟩ : Fin 128)) :=
    congrArg (colv (Aa m c) (Tt m) gv s (l.val / 128)) (Shape.idx_ext₂ rfl rfl)
  rw [h1, colv_apply]
  rw [ld_apply m hP c s 0 (l.val / 128) hs (by decide) (by omega), ld_apply m hP c s 1 (l.val / 128) hs (by decide) (by omega),
    ld_apply m hP c s 2 (l.val / 128) hs (by decide) (by omega), ld_apply m hP c s 3 (l.val / 128) hs (by decide) (by omega)]
  rw [hg 0, hg 1, hg 2, hg 3]
  rfl

/-- One entry of a step's result. -/
theorem outB_apply (hP : Pos m) (c : Dev nD) (t : Fin (cfgM m).N) (ht : t.val < 64) (y : Fin 128) (l : Fin 2816) :
    (outB (Aa m c) (Tt m) (iblk m c 0 t) (grid0.coords t 0).val (ix2 y l) : EReal) = Res m c (t.val * 128 + y.val) l.val := by
  rw [coords_val t]
  exact outB_of m hP c (iblk m c 0 t) t.val ht y l (fun i => iblk0_apply m c t ht i y)

theorem disjoint1 (t t' : Fin (cfgM m).N) (_ : ((cfgM m).win 1).flush t = true) (_ : ((cfgM m).win 1).flush t' = true) (hne : t ≠ t') :
    Disjoint (((cfgM m).win 1).blk t).view.set (((cfgM m).win 1).blk t').view.set :=
  ((cfgM m).win 1).disjoint_blk fun h => hne (Fin.ext (by
    rw [index1, index1] at h
    exact congrFun h (0 : Fin 2)))

/-- The result array after the run. -/
theorem array1 (hP : Pos m) (c : Dev nD) (Y : Fin 8192) (l : Fin 2816) :
    ((dats m 0 c).arrAt 1 (cfgM m).N : S8192x2816.Idx → EReal) (ix2 Y l) = Res m c Y.val l.val := by
  have hY := Y.isLt
  let t : Fin (cfgM m).N := (⟨Y.val / 128, by show Y.val / 128 < 64; omega⟩ : Fin 64)
  let y : Fin 128 := ⟨Y.val % 128, Nat.mod_lt _ (by decide)⟩
  have htv : t.val = Y.val / 128 := rfl
  have hyv : y.val = Y.val % 128 := rfl
  have e : (((cfgM m).win 1).rect t).emb (ix2 y l) = (ix2 Y l : S8192x2816.Idx) := by
    refine Shape.idx_ext₂ ?_ ?_
    · exact (Pipeline.Window.rect_emb_val ((cfgM m).win 1) t _ (0 : Fin 2)).trans
        ((congrArg (fun x : Nat => x * 128 + y.val) (congrFun (index1 m t) (0 : Fin 2))).trans (by show t.val * 128 + y.val = Y.val; omega))
    · exact (Pipeline.Window.rect_emb_val ((cfgM m).win 1) t _ (1 : Fin 2)).trans
        ((congrArg (fun x : Nat => x * 2816 + l.val) (congrFun (index1 m t) (1 : Fin 2))).trans (by show 0 * 2816 + l.val = l.val; omega))
  have h := (dats m 0 c).arrAt_emb_eq_flushed 1 (disjoint1 m) t (flush0_1 (adm m) t) (ix2 y l)
  have h2 : (dats m 0 c).arrAt 1 (cfgM m).N ((((cfgM m).win 1).rect t).emb (ix2 y l)) = (outB (Aa m c) (Tt m) (iblk m c 0 t) (grid0.coords t 0).val : S128x2816.Idx → EReal) (ix2 y l) := by
    exact h.trans ((cast_eq _ _).trans (congrFun (after0_1 m c t) (ix2 y l)))
  rw [e] at h2
  refine h2.trans ((outB_apply m hP c t (by omega) y l).trans ?_)
  rw [show t.val * 128 + y.val = Y.val by omega]

variable (ρ : Dev nD → PrngReg)

/-- The run leaves the result at `Res` and the arguments as they were. -/
theorem run_value (hP : Pos m) : θ_run defs (onTc (τ := τ) (main (F := Ideal))) ⟨m, fun _ => 0, ρ⟩ (fun r => ∀ c : Dev nD,
      (∀ (Y : Fin 8192) (l : Fin 2816), (r.2.mem ((c.tc : Thread nD τ).loc main_v0) : S8192x2816.Idx → EReal) (ix2 Y l) = Res m c Y.val l.val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨fun Y l => (congrFun ((h c).1 1) (ix2 Y l)).trans (array1 m hP c Y l),
      (h c).2 main_arg0 (by decide : main_arg0 ∈ Pipeline.restRefs sig spec0),
      ((h c).1 0).trans (((dats m 0 c).arrAt_in 0 rfl _).trans (A_eq m c 0)),
      (h c).2 main_arg2 (by decide : main_arg2 ∈ Pipeline.restRefs sig spec0)⟩) (run_main m ρ hP)

end Cert.CombineIdeal.Hand

end
-- ==== Proof.GIdeal.Final.lean ====
/- The gated sum's run, with its result array named entry by entry. -/
module

public import proofs.«01_k».proof.Proof.Gen.GatedSumIdeal.Run
public import proofs.«01_k».proof.Proof.GSum
public import Idealize.ShloMosaic.Lib.Pointwise
public import Idealize.ShloMosaic.Lib.Pipeline.Value
public import Idealize.ShloMosaic.Lib.ValueLayout
public import Idealize.ShloMosaic.Lib.WordCmp
public import Idealize.ShloMosaic.Lib.Quiescent

@[expose] public section

set_option maxRecDepth 16384

noncomputable section

namespace Cert.GatedSumIdeal.Hand

open Cert.GatedSumIdeal.Gen Idealize.ShloMosaic Idealize.ShloMosaic.TcCoe Idealize.SL.Sem Cert.Row

/-- The run leaves the arguments as they were and every semaphore counter at zero: the program has no semaphore. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems rfl r.2⟩) (Cert.GatedSumIdeal.Value.run m ρ)

/-- The rows gathered, read at an entry whose position is in range: the row the position names. -/
theorem gather_apply {α : Type} (X : S36864x2816.Idx → α) (ix : IVec S8192x1 32) (n : Fin 8192) (l : Fin 2816) (p : Nat)
    (hp : p < 36864) (h : (ix (ix2 n 0)).toNat = p) :
    Host.gather gather_S36864x2816_S8192x1_S8192x2816_1_0_n_n_0_1_12816 X ix (ix2 n l) = X (ix2 ⟨p, hp⟩ l) := by
  unfold Host.gather
  congr 1
  funext a
  refine Fin.ext ?_
  show (gather_S36864x2816_S8192x1_S8192x2816_1_0_n_n_0_1_12816).start (ix2 n l) ix a
    + (gather_S36864x2816_S8192x1_S8192x2816_1_0_n_n_0_1_12816).batchCoord (ix2 n l) a
    + (gather_S36864x2816_S8192x1_S8192x2816_1_0_n_n_0_1_12816).offCoord (ix2 n l) a = _
  have hw : (ix (ix2 n 0)).toInt.toNat = p := by
    rw [WordCmp.toInt_eq_toNat_of_lt_half (by omega)]
    omega
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · show _ = p
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S36864x2816_S8192x1_S8192x2816_1_0_n_n_0_1_12816.startIndexMap from List.mem_singleton.mpr rfl)]
    have hsi : gather_S36864x2816_S8192x1_S8192x2816_1_0_n_n_0_1_12816.siIdx (ix2 n l) ⟨List.idxOf (0 : Fin 2) gather_S36864x2816_S8192x1_S8192x2816_1_0_n_n_0_1_12816.startIndexMap,
        List.idxOf_lt_length_iff.2 (List.mem_singleton.mpr rfl)⟩ = (ix2 n 0 : S8192x1.Idx) := by
      refine Shape.idx_ext₂ ?_ ?_
      · rfl
      · rfl
    rw [hsi]
    show min (ix (ix2 n 0)).toInt.toNat 36863 = p
    omega
  · show _ = l.val
    have h0 : (gather_S36864x2816_S8192x1_S8192x2816_1_0_n_n_0_1_12816).start (ix2 n l) ix 1 = 0 := by
      unfold GatherDims.start
      rw [dif_neg (by decide)]
    show (gather_S36864x2816_S8192x1_S8192x2816_1_0_n_n_0_1_12816).start (ix2 n l) ix 1 + 0 + _ = l.val
    rw [h0, Nat.zero_add]
    rfl

/-- The word of choice `k` of token `n`, as the gather reads it. -/
theorem word_apply (T : IVec S4x8192 32) (o : Fin 2 → ℕ) (k : Fin 4) (hk : o 0 = k.val) (h1 : o 1 = 0) (h : S4x8192.Slices o S1x8192) (n : Fin 8192) :
    broadcastInDim S8192x1 ![0] bcast_S8192_S8192x1_0 (shapeCast S8192 (extractStridedSlice S1x8192 o T h) shapeCasts_S1x8192_S8192) (ix2 n 0) = T (ix2 k n) := by
  refine (broadcastInDim_apply _ _ _ _ (ValueIdx.ix1 n) fun a => ?_).trans
    ((ValueIdx.shapeCast_1a_a_apply _ _ n).trans (extractStridedSlice_apply _ _ _ _ _ fun a => ?_))
  · match a with
    | ⟨0, _⟩ => rfl
  · match a with
    | ⟨0, _⟩ => exact (by rw [hk]; rfl : k.val = o 0 + 0)
    | ⟨1, _⟩ => exact (by rw [h1]; omega : n.val = o 1 + n.val)

/-- The gate of choice `k` of token `n`, along the row. -/
theorem gate_apply (g : FVec Ideal S8x8192 .f32) (o : Fin 2 → ℕ) (k : Fin 8) (hk : o 0 = k.val) (h1 : o 1 = 0) (h : S8x8192.Slices o S1x8192) (n : Fin 8192) (l : Fin 2816) :
    broadcastInDim S8192x2816 ![0, 1] bcast_S8192x1_S8192x2816_0_1
      (broadcastInDim S8192x1 ![0] bcast_S8192_S8192x1_0 (shapeCast S8192 (extractStridedSlice S1x8192 o g h) shapeCasts_S1x8192_S8192)) (ix2 n l) = g (ix2 k n) := by
  refine (broadcastInDim_apply _ _ _ _ (ix2 n (0 : Fin 1)) fun a => ?_).trans
    ((broadcastInDim_apply _ _ _ _ (ValueIdx.ix1 n) fun a => ?_).trans
    ((ValueIdx.shapeCast_1a_a_apply _ _ n).trans (extractStridedSlice_apply _ _ _ _ _ fun a => ?_)))
  · match a with
    | ⟨0, _⟩ => rfl
    | ⟨1, _⟩ => rfl
  · match a with
    | ⟨0, _⟩ => rfl
  · match a with
    | ⟨0, _⟩ => exact (by rw [hk]; rfl : k.val = o 0 + 0)
    | ⟨1, _⟩ => exact (by rw [h1]; omega : n.val = o 1 + n.val)

/-- Column `l` of row `p` of the rows, in the array of lines of 128 lanes. -/
theorem rows_apply (A : FVec Ideal S884736x128 .f32) (p : Nat) (hp : p < 36864) (l : Fin 2816) :
    extractStridedSlice S36864x2816 ![0, 0] (shapeCast S36864x3072 A shapeCasts_S884736x128_S36864x3072) slices_S36864x3072_S36864x2816_0_0 (ix2 (⟨p, hp⟩ : Fin 36864) l)
      = a2 (α := EReal) (n := 884736) (m := 128) A (p * 24 + l.val / 128) (l.val % 128) := by
  have hl := l.isLt
  refine (extractStridedSlice_apply _ _ _ _ (ix2 (⟨p, hp⟩ : Fin 36864) (⟨l.val, by omega⟩ : Fin 3072)) fun a => ?_).trans
    ((shapeCast_apply _ _ _ (ix2 (⟨p * 24 + l.val / 128, by omega⟩ : Fin 884736) (⟨l.val % 128, Nat.mod_lt _ (by decide)⟩ : Fin 128)) ?_).trans
      (a2_eq (α := EReal) (n := 884736) (m := 128) A _ _))
  · match a with
    | ⟨0, _⟩ => exact (Nat.zero_add p).symm
    | ⟨1, _⟩ => exact (Nat.zero_add l.val).symm
  · rw [Shape.rowMajor_val_two, Shape.rowMajor_val_two]
    show (p * 24 + l.val / 128) * 128 + l.val % 128 = p * 3072 + l.val
    omega

/-- Choice `k`'s row of token `n`, as gathered. -/
theorem row_apply (T : IVec S4x8192 32) (A : FVec Ideal S884736x128 .f32) (o : Fin 2 → ℕ) (k : Fin 4) (hk : o 0 = k.val) (h1 : o 1 = 0) (h : S4x8192.Slices o S1x8192)
    (n : Fin 8192) (l : Fin 2816) (hp : (T (ix2 k n)).toNat < 36864) :
    Host.gather gather_S36864x2816_S8192x1_S8192x2816_1_0_n_n_0_1_12816
      (extractStridedSlice S36864x2816 ![0, 0] (shapeCast S36864x3072 A shapeCasts_S884736x128_S36864x3072) slices_S36864x3072_S36864x2816_0_0)
      (broadcastInDim S8192x1 ![0] bcast_S8192_S8192x1_0 (shapeCast S8192 (extractStridedSlice S1x8192 o T h) shapeCasts_S1x8192_S8192)) (ix2 n l)
      = a2 (α := EReal) (n := 884736) (m := 128) A ((a2 (α := BitVec 32) (n := 4) (m := 8192) T k.val n.val).toNat * 24 + l.val / 128) (l.val % 128) := by
  rw [← a2_eq (α := BitVec 32) (n := 4) (m := 8192) T k n]
  exact (gather_apply _ _ n l _ hp (congrArg BitVec.toNat (word_apply T o k hk h1 h n))).trans (rows_apply A _ hp l)

/-- The sum of products, entry by entry. -/
theorem sum_apply (g0 g1 g2 g3 r0 r1 r2 r3 : FVec Ideal S8192x2816 .f32) (i : S8192x2816.Idx) :
    (truncf .bf16 (addf (addf (addf (addf (broadcastInDim S8192x2816 ![] bcast_S_S8192x2816 (constant S_ .f32 0x00000000#32)) (mulf g0 r0)) (mulf g1 r1)) (mulf g2 r2)) (mulf g3 r3)) bitsLt_bf16_f32 i : EReal)
      = (r0 i : EReal) * g0 i + (r1 i : EReal) * g1 i + (r2 i : EReal) * g2 i + (r3 i : EReal) * g3 i := by
  have hz : (Ideal.ofBits .f32 0x00000000#32 : EReal) = 0 := by pointwise []
  rw [mul_comm (r0 i : EReal), mul_comm (r1 i : EReal), mul_comm (r2 i : EReal), mul_comm (r3 i : EReal)]
  show (Ideal.ofBits .f32 0x00000000#32 : EReal) + (g0 i : EReal) * r0 i + (g1 i : EReal) * r1 i + (g2 i : EReal) * r2 i + (g3 i : EReal) * r3 i = _
  rw [hz, zero_add]

variable (m : (ℓ : Loc nD τ sig) → Buf (Elt Ideal) ℓ) (ρ : Dev nD → PrngReg)

/-- Row `n`, column `k` of the result of the argument arrays. -/
def Res (c : Dev nD) : Nat → Nat → EReal :=
  Cert.GSum.gsum (a2 (α := BitVec 32) (n := 4) (m := 8192) (m ((c.tc : Thread nD τ).loc main_arg0)))
    (a2 (α := EReal) (n := 8) (m := 8192) (m ((c.tc : Thread nD τ).loc main_arg1)))
    (a2 (α := EReal) (n := 884736) (m := 128) (m ((c.tc : Thread nD τ).loc main_arg2)))

/-- The run leaves the result at `Res` and the arguments as they were. -/
theorem run_value (hP : ∀ (c : Dev nD) (i : S4x8192.Idx), ((m ((c.tc : Thread nD τ).loc main_arg0) : IVec S4x8192 32) i).toNat < 36864) :
    θ_run defs (onTc (τ := τ) (main (F := Ideal))) ⟨m, fun _ => 0, ρ⟩ (fun r => ∀ c : Dev nD,
      (∀ (n : Fin 8192) (l : Fin 2816), (r.2.mem ((c.tc : Thread nD τ).loc main_v39) : S8192x2816.Idx → EReal) (ix2 n l) = Res m c n.val l.val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨fun n l => (congrFun (h c).1 (ix2 n l)).trans ?_, (h c).2⟩) (Cert.GatedSumIdeal.Value.run m ρ)
  refine (sum_apply _ _ _ _ _ _ _ _ (ix2 n l)).trans ?_
  rw [row_apply (m ((c.tc : Thread nD τ).loc main_arg0)) (m ((c.tc : Thread nD τ).loc main_arg2)) ![0, 0] 0 rfl rfl _ n l (hP c _),
    row_apply (m ((c.tc : Thread nD τ).loc main_arg0)) (m ((c.tc : Thread nD τ).loc main_arg2)) ![1, 0] 1 rfl rfl _ n l (hP c _),
    row_apply (m ((c.tc : Thread nD τ).loc main_arg0)) (m ((c.tc : Thread nD τ).loc main_arg2)) ![2, 0] 2 rfl rfl _ n l (hP c _),
    row_apply (m ((c.tc : Thread nD τ).loc main_arg0)) (m ((c.tc : Thread nD τ).loc main_arg2)) ![3, 0] 3 rfl rfl _ n l (hP c _)]
  rw [gate_apply (m ((c.tc : Thread nD τ).loc main_arg1)) ![0, 0] 0 rfl rfl _ n l, gate_apply (m ((c.tc : Thread nD τ).loc main_arg1)) ![1, 0] 1 rfl rfl _ n l,
    gate_apply (m ((c.tc : Thread nD τ).loc main_arg1)) ![2, 0] 2 rfl rfl _ n l, gate_apply (m ((c.tc : Thread nD τ).loc main_arg1)) ![3, 0] 3 rfl rfl _ n l]
  rw [a2_eq (α := EReal) (n := 8) (m := 8192) (m ((c.tc : Thread nD τ).loc main_arg1)) 0 n, a2_eq (α := EReal) (n := 8) (m := 8192) (m ((c.tc : Thread nD τ).loc main_arg1)) 1 n,
    a2_eq (α := EReal) (n := 8) (m := 8192) (m ((c.tc : Thread nD τ).loc main_arg1)) 2 n, a2_eq (α := EReal) (n := 8) (m := 8192) (m ((c.tc : Thread nD τ).loc main_arg1)) 3 n]
  rfl

end Cert.GatedSumIdeal.Hand

end
-- ==== Proof.lean ====
/- The proof of the certificate's claims. The programs' stated facts are the generated instances; the two kernels' frames
   are proved in Proof/KFrame and Proof/KIdeal, under the table's side condition, which either precondition gives. The
   kernel's result array is read entry by entry in Proof/KIdeal/Final, the reference's in Proof/RIdeal/Final: both are
   `Cert.Row.result` of the same arguments. The combine kernel's frames are in Proof/CFrame and Proof/CIdeal, its result in
   Proof/CIdeal/Final, the gated sum's in Proof/GIdeal/Final: both are `Cert.GSum.gsum` of the same arguments. -/
module

public import proofs.«01_k».proof.Defs
public import proofs.«01_k».proof.Proof.KFrame.Frame
public import proofs.«01_k».proof.Proof.KFrame.Words
public import proofs.«01_k».proof.Proof.KIdeal.Frame
public import proofs.«01_k».proof.Proof.KIdeal.Words
public import proofs.«01_k».proof.Proof.KIdeal.Final
public import proofs.«01_k».proof.Proof.RIdeal.Final
public import proofs.«01_k».proof.Proof.CFrame.Frame
public import proofs.«01_k».proof.Proof.CIdeal.Final
public import proofs.«01_k».proof.Proof.GIdeal.Final
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_in_range
public import proofs.«01_k».proof.Proof.Gen.Pre_in_rows
public import proofs.«01_k».proof.Proof.Gen.Combine
public import proofs.«01_k».proof.Proof.Gen.CombineIdeal
public import proofs.«01_k».proof.Proof.Gen.GatedSumIdeal
public import proofs.«01_k».proof.Proof.Gen.GatedSumIdeal.Run
public import proofs.«01_k».proof.Proof.Gen.Pre_routed
public import Idealize.ShloMosaic.Adequacy
public import Idealize.ShloMosaic.Init

@[expose] public section

noncomputable section

namespace Cert.Proof

open Idealize.ShloMosaic Idealize.SL.Sem Cert.Kernel

/-- The precondition gives the side condition of the table's contents: every block it names lies in its array. -/
theorem ok_kernel (m : (ℓ : Loc Cert.Kernel.nD Cert.Kernel.τ Cert.Kernel.sig) → Buf (Elt Bits) ℓ) (h : Cert.Pre_Kernel m) :
    Cert.Kernel.Hand.Ok m :=
  Cert.Kernel.Hand.ok_of_decoded _ (by
    rw [Cert.Kernel.Hand.tbl_eq]; exact Cert.Routed.in_range (F := Bits) _ _ _ _ _ _ (h 0))

theorem ok_ideal (m : (ℓ : Loc Cert.KernelIdeal.nD Cert.KernelIdeal.τ Cert.KernelIdeal.sig) → Buf (Elt Ideal) ℓ) (h : Cert.Pre_KernelIdeal m) :
    Cert.KernelIdeal.Hand.Ok m :=
  Cert.KernelIdeal.Hand.ok_of_decoded _ (by
    rw [Cert.KernelIdeal.Hand.tbl_eq]; exact Cert.Routed.in_range (F := Ideal) _ _ _ _ _ _ (h 0))

theorem decoded_ideal (m : (ℓ : Loc Cert.KernelIdeal.nD Cert.KernelIdeal.τ Cert.KernelIdeal.sig) → Buf (Elt Ideal) ℓ) (h : Cert.Pre_KernelIdeal_routed m) :
    Cert.Routed.Decoded (Cert.KernelIdeal.Hand.tbl m 0) := by
  rw [Cert.KernelIdeal.Hand.tbl_eq]; exact Cert.Routed.decoded (F := Ideal) _ _ _ _ _ _ (h 0)

theorem ok_routed (m : (ℓ : Loc Cert.KernelIdeal.nD Cert.KernelIdeal.τ Cert.KernelIdeal.sig) → Buf (Elt Ideal) ℓ) (h : Cert.Pre_KernelIdeal_routed m) :
    Cert.KernelIdeal.Hand.Ok m :=
  Cert.KernelIdeal.Hand.ok_of_decoded _ (decoded_ideal m h).toInRange

/-- Every expert the table names is one of the sixteen. -/
theorem expert_ideal (m : (ℓ : Loc Cert.KernelIdeal.nD Cert.KernelIdeal.τ Cert.KernelIdeal.sig) → Buf (Elt Ideal) ℓ) (h : Cert.Pre_KernelIdeal_routed m)
    (c : Dev Cert.KernelIdeal.nD) (t : Nat) (ht : t < 144) :
    (Cert.Row.a2 (α := BitVec 32) (n := 8) (m := 144) (m ((c.tc : Thread Cert.KernelIdeal.nD Cert.KernelIdeal.τ).loc Cert.KernelIdeal.main_arg0)) 0 t).toNat < 16 := by
  have hd := Cert.Routed.decoded (F := Ideal) _ _ _ _ _ _ (h c)
  have e := Cert.Row.a2_eq (α := BitVec 32) (n := 8) (m := 144) (m ((c.tc : Thread Cert.KernelIdeal.nD Cert.KernelIdeal.τ).loc Cert.KernelIdeal.main_arg0)) (0 : Fin 8) (⟨t, ht⟩ : Fin 144)
  exact lt_of_eq_of_lt (congrArg BitVec.toNat e.symm) (hd.expert ⟨t, ht⟩)

/-- The two results are one array of the arguments. -/
theorem algebraic : Cert.algebraic_KernelIdeal_ReferenceIdeal_pre_routed (hKernelIdeal := Cert.KernelIdeal.Gen.facts) (hReferenceIdeal := Cert.ReferenceIdeal.Gen.facts)
    (hPre_routed := Cert.Pre_routed.Gen.facts) := by
  intro m g m' g' hP hA
  refine ⟨fun c => fun i : Cert.KernelIdeal.S884736x128.Idx => Cert.KernelIdeal.Hand.G m c (i 0).val (i 1).val, ?_, ?_⟩
  · refine (θ_run _ _ _).mono (fun r h c => ⟨?_, (h c).2⟩) (Cert.KernelIdeal.Hand.run_value m g (ok_routed m hP) (decoded_ideal m hP))
    refine funext fun i : Cert.KernelIdeal.S884736x128.Idx => ?_
    idx_vars i
    exact (h c).1 _ _
  · refine (θ_run _ _ _).mono (fun r h c => ⟨?_, (h c).2⟩) (Cert.ReferenceIdeal.Value.run_blocks m' g')
    obtain ⟨h0, h1, h2, h3, h4, h5⟩ := hA c
    refine (h c).1.trans ?_
    refine funext fun i : Cert.ReferenceIdeal.S884736x128.Idx => ?_
    idx_vars i
    refine (Cert.ReferenceIdeal.Hand.array7_result m' c (fun t ht => by rw [h0]; exact expert_ideal m hP c t ht) _ _).trans ?_
    rw [h0, h1, h2, h3, h4, h5]
    rfl

/-- The precondition says every position of the combine's table names a row. -/
theorem pos_combine (m : (ℓ : Loc Cert.Combine.nD Cert.Combine.τ Cert.Combine.sig) → Buf (Elt Bits) ℓ)
    (h : Cert.Pre_Combine (hPre_in_rows := Cert.Pre_in_rows.Gen.facts) m) : Cert.Combine.Hand.Pos m :=
  fun _ _ _ _ => Cert.GSum.in_rows (F := Bits) _ _ _ (h 0) _

theorem pos_combineIdeal (m : (ℓ : Loc Cert.CombineIdeal.nD Cert.CombineIdeal.τ Cert.CombineIdeal.sig) → Buf (Elt Ideal) ℓ)
    (h : Cert.Pre_CombineIdeal (hPre_in_rows := Cert.Pre_in_rows.Gen.facts) m) : Cert.CombineIdeal.Hand.Pos m :=
  fun _ _ _ _ => Cert.GSum.in_rows (F := Ideal) _ _ _ (h 0) _

/-- The combine's result and the gated sum are one array of the arguments. -/
theorem algebraic_combine : Cert.algebraic_CombineIdeal_GatedSumIdeal (hCombineIdeal := Cert.CombineIdeal.Gen.facts) (hGatedSumIdeal := Cert.GatedSumIdeal.Gen.facts)
    (hPre_in_rows := Cert.Pre_in_rows.Gen.facts) := by
  intro m g m' g' hP hA
  refine ⟨fun c => fun i : Cert.CombineIdeal.S8192x2816.Idx => Cert.CombineIdeal.Hand.Res m c (i 0).val (i 1).val, ?_, ?_⟩
  · refine (θ_run _ _ _).mono (fun r h c => ⟨?_, (h c).2⟩) (Cert.CombineIdeal.Hand.run_value m g (pos_combineIdeal m hP))
    refine funext fun i : Cert.CombineIdeal.S8192x2816.Idx => ?_
    idx_vars i
    exact (h c).1 _ _
  · refine (θ_run _ _ _).mono (fun r h c => ⟨?_, (h c).2⟩) (Cert.GatedSumIdeal.Hand.run_value m' g' (fun c i => by
      rw [(hA c).1]; exact Cert.GSum.in_rows (F := Ideal) _ _ _ (hP c) i))
    obtain ⟨h0, h1, h2⟩ := hA c
    refine funext fun i : Cert.GatedSumIdeal.S8192x2816.Idx => ?_
    idx_vars i
    refine ((h c).1 _ _).trans ?_
    unfold Cert.GatedSumIdeal.Hand.Res
    rw [h0, h1, h2]
    rfl

theorem claim : Cert.Claim := ⟨Cert.Kernel.Gen.facts, Cert.KernelIdeal.Gen.facts, Cert.ReferenceIdeal.Gen.facts, Cert.Combine.Gen.facts,
  Cert.CombineIdeal.Gen.facts, Cert.GatedSumIdeal.Gen.facts, Cert.Pre_in_range.Gen.facts, Cert.Pre_routed.Gen.facts, Cert.Pre_in_rows.Gen.facts,
  fun m ρ h => Cert.Kernel.Hand.frame m ρ (ok_kernel m h),
  fun m ρ h => Cert.KernelIdeal.Hand.frame m ρ (ok_ideal m h),
  fun m ρ h => Cert.KernelIdeal.Hand.frame m ρ (ok_routed m h),
  fun m ρ _ => Cert.ReferenceIdeal.Gen.frame m ρ,
  fun m ρ _ => Cert.ReferenceIdeal.Gen.frame m ρ,
  fun m ρ h => Cert.Combine.Hand.frame m ρ (pos_combine m h),
  fun m ρ h => Cert.CombineIdeal.Hand.frame m ρ (pos_combineIdeal m h),
  fun m ρ _ => Cert.GatedSumIdeal.Hand.frame m ρ,
  fun m ρ _ => Cert.GatedSumIdeal.Hand.frame m ρ,
  trivial,
  algebraic,
  trivial,
  algebraic_combine⟩

end Cert.Proof

end
